-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_Stack (m : (ℓ : Loc Cert.Stack.nD Cert.Stack.τ Cert.Stack.sig) → Buf (Elt Bits) ℓ) : Prop :=
  True

def Pre_StackIdeal (m : (ℓ : Loc Cert.StackIdeal.nD Cert.StackIdeal.τ Cert.StackIdeal.sig) → Buf (Elt Ideal) ℓ) : Prop :=
  True

def Pre_StackRefIdeal (m : (ℓ : Loc Cert.StackRefIdeal.nD Cert.StackRefIdeal.τ Cert.StackRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def Pre_Adamw [hPre_me_on_mesh : Cert.Pre_me_on_mesh.Facts] (m : (ℓ : Loc Cert.Adamw.nD Cert.Adamw.τ Cert.Adamw.sig) → Buf (Elt Bits) ℓ) : Prop :=
  ∀ c : Dev Cert.Adamw.nD,
    (Cert.Pre_me_on_mesh.fn (F := Bits) (m ((c.tc : Thread Cert.Adamw.nD Cert.Adamw.τ).loc Cert.Adamw.main_arg0)) (m ((c.tc : Thread Cert.Adamw.nD Cert.Adamw.τ).loc Cert.Adamw.main_arg1)) (m ((c.tc : Thread Cert.Adamw.nD Cert.Adamw.τ).loc Cert.Adamw.main_arg2)) (m ((c.tc : Thread Cert.Adamw.nD Cert.Adamw.τ).loc Cert.Adamw.main_arg3)) (m ((c.tc : Thread Cert.Adamw.nD Cert.Adamw.τ).loc Cert.Adamw.main_arg4)) (m ((c.tc : Thread Cert.Adamw.nD Cert.Adamw.τ).loc Cert.Adamw.main_arg5))) = (fun _ => 1#1)

def Pre_AdamwIdeal [hPre_me_on_mesh : Cert.Pre_me_on_mesh.Facts] (m : (ℓ : Loc Cert.AdamwIdeal.nD Cert.AdamwIdeal.τ Cert.AdamwIdeal.sig) → Buf (Elt Ideal) ℓ) : Prop :=
  ∀ c : Dev Cert.AdamwIdeal.nD,
    (Cert.Pre_me_on_mesh.fn (F := Ideal) (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg3)) (m ((c.tc : Thread Cert.AdamwIdeal.nD Cert.AdamwIdeal.τ).loc Cert.AdamwIdeal.main_arg4)) (m ((c.tc : Thread Cert.AdamwIdeal.nD Cert.AdamwIdeal.τ).loc Cert.AdamwIdeal.main_arg5))) = (fun _ => 1#1)

def Pre_AdamwRefIdeal (m : (ℓ : Loc Cert.AdamwRefIdeal.nD Cert.AdamwRefIdeal.τ Cert.AdamwRefIdeal.sig) → Buf (Elt Ideal) ℓ) : Prop :=
  True

def Pre_AdamwRefIdeal_me_on_mesh [hPre_me_on_mesh : Cert.Pre_me_on_mesh.Facts] (m : (ℓ : Loc Cert.AdamwRefIdeal.nD Cert.AdamwRefIdeal.τ Cert.AdamwRefIdeal.sig) → Buf (Elt Ideal) ℓ) : Prop :=
  ∀ c : Dev Cert.AdamwRefIdeal.nD,
    (Cert.Pre_me_on_mesh.fn (F := Ideal) (m ((c.tc : Thread Cert.AdamwRefIdeal.nD Cert.AdamwRefIdeal.τ).loc Cert.AdamwRefIdeal.main_arg0)) (m ((c.tc : Thread Cert.AdamwRefIdeal.nD Cert.AdamwRefIdeal.τ).loc Cert.AdamwRefIdeal.main_arg1)) (m ((c.tc : Thread Cert.AdamwRefIdeal.nD Cert.AdamwRefIdeal.τ).loc Cert.AdamwRefIdeal.main_arg2)) (m ((c.tc : Thread Cert.AdamwRefIdeal.nD Cert.AdamwRefIdeal.τ).loc Cert.AdamwRefIdeal.main_arg3)) (m ((c.tc : Thread Cert.AdamwRefIdeal.nD Cert.AdamwRefIdeal.τ).loc Cert.AdamwRefIdeal.main_arg4)) (m ((c.tc : Thread Cert.AdamwRefIdeal.nD Cert.AdamwRefIdeal.τ).loc Cert.AdamwRefIdeal.main_arg5))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_Stack [hStack : Cert.Stack.Facts] : Prop :=
  ∀ (m : (ℓ : Loc Cert.Stack.nD Cert.Stack.τ Cert.Stack.sig) → Buf (Elt Bits) ℓ) (g : Dev Cert.Stack.nD → PrngReg), Pre_Stack m →
    θ_run (Cert.Stack.defs (F := Bits)) (onTc (τ := Cert.Stack.τ) (Cert.Stack.main (F := Bits))) ⟨m, fun _ => 0, g⟩ (fun r => (∀ c : Dev Cert.Stack.nD,
      r.2.mem ((c.tc : Thread Cert.Stack.nD Cert.Stack.τ).loc Cert.Stack.main_arg0) = m ((c.tc : Thread Cert.Stack.nD Cert.Stack.τ).loc Cert.Stack.main_arg0)
      ∧ r.2.mem ((c.tc : Thread Cert.Stack.nD Cert.Stack.τ).loc Cert.Stack.main_arg1) = m ((c.tc : Thread Cert.Stack.nD Cert.Stack.τ).loc Cert.Stack.main_arg1))
      ∧ r.2.sem = fun _ => 0)

def quiescent_StackIdeal [hStackIdeal : Cert.StackIdeal.Facts] : Prop :=
  ∀ (m : (ℓ : Loc Cert.StackIdeal.nD Cert.StackIdeal.τ Cert.StackIdeal.sig) → Buf (Elt Ideal) ℓ) (g : Dev Cert.StackIdeal.nD → PrngReg), Pre_StackIdeal m →
    θ_run (Cert.StackIdeal.defs (F := Ideal)) (onTc (τ := Cert.StackIdeal.τ) (Cert.StackIdeal.main (F := Ideal))) ⟨m, fun _ => 0, g⟩ (fun r => (∀ c : Dev Cert.StackIdeal.nD,
      r.2.mem ((c.tc : Thread Cert.StackIdeal.nD Cert.StackIdeal.τ).loc Cert.StackIdeal.main_arg0) = m ((c.tc : Thread Cert.StackIdeal.nD Cert.StackIdeal.τ).loc Cert.StackIdeal.main_arg0)
      ∧ r.2.mem ((c.tc : Thread Cert.StackIdeal.nD Cert.StackIdeal.τ).loc Cert.StackIdeal.main_arg1) = m ((c.tc : Thread Cert.StackIdeal.nD Cert.StackIdeal.τ).loc Cert.StackIdeal.main_arg1))
      ∧ r.2.sem = fun _ => 0)

def quiescent_StackRefIdeal [hStackRefIdeal : Cert.StackRefIdeal.Facts] : Prop :=
  ∀ (m : (ℓ : Loc Cert.StackRefIdeal.nD Cert.StackRefIdeal.τ Cert.StackRefIdeal.sig) → Buf (Elt Ideal) ℓ) (g : Dev Cert.StackRefIdeal.nD → PrngReg), Pre_StackRefIdeal m →
    θ_run (Cert.StackRefIdeal.defs (F := Ideal)) (onTc (τ := Cert.StackRefIdeal.τ) (Cert.StackRefIdeal.main (F := Ideal))) ⟨m, fun _ => 0, g⟩ (fun r => (∀ c : Dev Cert.StackRefIdeal.nD,
      r.2.mem ((c.tc : Thread Cert.StackRefIdeal.nD Cert.StackRefIdeal.τ).loc Cert.StackRefIdeal.main_arg0) = m ((c.tc : Thread Cert.StackRefIdeal.nD Cert.StackRefIdeal.τ).loc Cert.StackRefIdeal.main_arg0)
      ∧ r.2.mem ((c.tc : Thread Cert.StackRefIdeal.nD Cert.StackRefIdeal.τ).loc Cert.StackRefIdeal.main_arg1) = m ((c.tc : Thread Cert.StackRefIdeal.nD Cert.StackRefIdeal.τ).loc Cert.StackRefIdeal.main_arg1))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4))
      ∧ r.2.sem = fun _ => 0)

def quiescent_Adamw [hAdamw : Cert.Adamw.Facts] [hPre_me_on_mesh : Cert.Pre_me_on_mesh.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5))
      ∧ r.2.sem = fun _ => 0)

def quiescent_AdamwIdeal [hAdamwIdeal : Cert.AdamwIdeal.Facts] [hPre_me_on_mesh : Cert.Pre_me_on_mesh.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5))
      ∧ r.2.sem = fun _ => 0)

def quiescent_AdamwRefIdeal_pre_me_on_mesh [hAdamwRefIdeal : Cert.AdamwRefIdeal.Facts] [hPre_me_on_mesh : Cert.Pre_me_on_mesh.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal_me_on_mesh m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5))
      ∧ r.2.sem = fun _ => 0)

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v43) = v0 c
          ∧ r.2.mem ((c.tc : Thread Cert.InProjRefIdeal.nD Cert.InProjRefIdeal.τ).loc Cert.InProjRefIdeal.main_v45) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)) (v2 : (c : Dev Cert.FfnIdeal.nD) → Buf (Elt Ideal) ((c.tc : Thread Cert.FfnIdeal.nD Cert.FfnIdeal.τ).loc Cert.FfnIdeal.main_v7_2)) (v3 : (c : Dev Cert.FfnIdeal.nD) → Buf (Elt Ideal) ((c.tc : Thread Cert.FfnIdeal.nD Cert.FfnIdeal.τ).loc Cert.FfnIdeal.main_v7_3)) (v4 : (c : Dev Cert.FfnIdeal.nD) → Buf (Elt Ideal) ((c.tc : Thread Cert.FfnIdeal.nD Cert.FfnIdeal.τ).loc Cert.FfnIdeal.main_v7_4)) (v5 : (c : Dev Cert.FfnIdeal.nD) → Buf (Elt Ideal) ((c.tc : Thread Cert.FfnIdeal.nD Cert.FfnIdeal.τ).loc Cert.FfnIdeal.main_v7_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_v7_2) = v2 c
          ∧ r.2.mem ((c.tc : Thread Cert.FfnIdeal.nD Cert.FfnIdeal.τ).loc Cert.FfnIdeal.main_v7_3) = v3 c
          ∧ r.2.mem ((c.tc : Thread Cert.FfnIdeal.nD Cert.FfnIdeal.τ).loc Cert.FfnIdeal.main_v7_4) = v4 c
          ∧ r.2.mem ((c.tc : Thread Cert.FfnIdeal.nD Cert.FfnIdeal.τ).loc Cert.FfnIdeal.main_v7_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v119) = v0 c
          ∧ r.2.mem ((c.tc : Thread Cert.FfnRefIdeal.nD Cert.FfnRefIdeal.τ).loc Cert.FfnRefIdeal.main_v121) = v1 c
          ∧ r.2.mem ((c.tc : Thread Cert.FfnRefIdeal.nD Cert.FfnRefIdeal.τ).loc Cert.FfnRefIdeal.main_v123) = v2 c
          ∧ r.2.mem ((c.tc : Thread Cert.FfnRefIdeal.nD Cert.FfnRefIdeal.τ).loc Cert.FfnRefIdeal.main_v125) = v3 c
          ∧ r.2.mem ((c.tc : Thread Cert.FfnRefIdeal.nD Cert.FfnRefIdeal.τ).loc Cert.FfnRefIdeal.main_v126) = v4 c
          ∧ r.2.mem ((c.tc : Thread Cert.FfnRefIdeal.nD Cert.FfnRefIdeal.τ).loc Cert.FfnRefIdeal.main_v117) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  IdealRules.named_const.Statement Cert.MixIdeal.κ "sqrt_half" .f32 0x3F3504F3#32 ((Real.sqrt (1 / 2) : ℝ) : EReal)
  ∧ IdealRules.named_const.Statement Cert.MixIdeal.κ "pdf_scale" .f32 0xBF38AA3B#32 ((-((2 * (Real.log 2))⁻¹) : ℝ) : EReal)
  ∧ IdealRules.named_const.Statement Cert.MixIdeal.κ "pdf_shift" .f32 0xBFA9B21D#32 ((-((Real.log (2 * Real.pi)) * (2 * (Real.log 2))⁻¹) : ℝ) : EReal)

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v106_0)) (v1 : (c : Dev Cert.MixIdeal.nD) → Buf (Elt Ideal) ((c.tc : Thread Cert.MixIdeal.nD Cert.MixIdeal.τ).loc Cert.MixIdeal.main_v106_1)) (v2 : (c : Dev Cert.MixIdeal.nD) → Buf (Elt Ideal) ((c.tc : Thread Cert.MixIdeal.nD Cert.MixIdeal.τ).loc Cert.MixIdeal.main_v106_2)) (v3 : (c : Dev Cert.MixIdeal.nD) → Buf (Elt Ideal) ((c.tc : Thread Cert.MixIdeal.nD Cert.MixIdeal.τ).loc Cert.MixIdeal.main_v106_3)) (v4 : (c : Dev Cert.MixIdeal.nD) → Buf (Elt Ideal) ((c.tc : Thread Cert.MixIdeal.nD Cert.MixIdeal.τ).loc Cert.MixIdeal.main_v106_4)) (v5 : (c : Dev Cert.MixIdeal.nD) → Buf (Elt Ideal) ((c.tc : Thread Cert.MixIdeal.nD Cert.MixIdeal.τ).loc Cert.MixIdeal.main_v106_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v106_0) = v0 c
          ∧ r.2.mem ((c.tc : Thread Cert.MixIdeal.nD Cert.MixIdeal.τ).loc Cert.MixIdeal.main_v106_1) = v1 c
          ∧ r.2.mem ((c.tc : Thread Cert.MixIdeal.nD Cert.MixIdeal.τ).loc Cert.MixIdeal.main_v106_2) = v2 c
          ∧ r.2.mem ((c.tc : Thread Cert.MixIdeal.nD Cert.MixIdeal.τ).loc Cert.MixIdeal.main_v106_3) = v3 c
          ∧ r.2.mem ((c.tc : Thread Cert.MixIdeal.nD Cert.MixIdeal.τ).loc Cert.MixIdeal.main_v106_4) = v4 c
          ∧ r.2.mem ((c.tc : Thread Cert.MixIdeal.nD Cert.MixIdeal.τ).loc Cert.MixIdeal.main_v106_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v256) = v0 c
          ∧ r.2.mem ((c.tc : Thread Cert.MixRefIdeal.nD Cert.MixRefIdeal.τ).loc Cert.MixRefIdeal.main_v261) = v1 c
          ∧ r.2.mem ((c.tc : Thread Cert.MixRefIdeal.nD Cert.MixRefIdeal.τ).loc Cert.MixRefIdeal.main_v264) = v2 c
          ∧ r.2.mem ((c.tc : Thread Cert.MixRefIdeal.nD Cert.MixRefIdeal.τ).loc Cert.MixRefIdeal.main_v266) = v3 c
          ∧ r.2.mem ((c.tc : Thread Cert.MixRefIdeal.nD Cert.MixRefIdeal.τ).loc Cert.MixRefIdeal.main_v199) = v4 c
          ∧ r.2.mem ((c.tc : Thread Cert.MixRefIdeal.nD Cert.MixRefIdeal.τ).loc Cert.MixRefIdeal.main_v268) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Mixer_MixerIdeal : Prop :=
  IdealRules.named_const.Statement Cert.MixerIdeal.κ "sqrt_half" .f32 0x3F3504F3#32 ((Real.sqrt (1 / 2) : ℝ) : EReal)

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v14_0)) (v1 : (c : Dev Cert.MixerIdeal.nD) → Buf (Elt Ideal) ((c.tc : Thread Cert.MixerIdeal.nD Cert.MixerIdeal.τ).loc Cert.MixerIdeal.main_v14_1)) (v2 : (c : Dev Cert.MixerIdeal.nD) → Buf (Elt Ideal) ((c.tc : Thread Cert.MixerIdeal.nD Cert.MixerIdeal.τ).loc Cert.MixerIdeal.main_v14_2)) (v3 : (c : Dev Cert.MixerIdeal.nD) → Buf (Elt Ideal) ((c.tc : Thread Cert.MixerIdeal.nD Cert.MixerIdeal.τ).loc Cert.MixerIdeal.main_v14_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v14_0) = v0 c
          ∧ r.2.mem ((c.tc : Thread Cert.MixerIdeal.nD Cert.MixerIdeal.τ).loc Cert.MixerIdeal.main_v14_1) = v1 c
          ∧ r.2.mem ((c.tc : Thread Cert.MixerIdeal.nD Cert.MixerIdeal.τ).loc Cert.MixerIdeal.main_v14_2) = v2 c
          ∧ r.2.mem ((c.tc : Thread Cert.MixerIdeal.nD Cert.MixerIdeal.τ).loc Cert.MixerIdeal.main_v14_3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v118) = v0 c
          ∧ r.2.mem ((c.tc : Thread Cert.MixerRefIdeal.nD Cert.MixerRefIdeal.τ).loc Cert.MixerRefIdeal.main_v120) = v1 c
          ∧ r.2.mem ((c.tc : Thread Cert.MixerRefIdeal.nD Cert.MixerRefIdeal.τ).loc Cert.MixerRefIdeal.main_v122) = v2 c
          ∧ r.2.mem ((c.tc : Thread Cert.MixerRefIdeal.nD Cert.MixerRefIdeal.τ).loc Cert.MixerRefIdeal.main_v123) = v3 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v4)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v4) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v4) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_Stack_StackIdeal : Prop :=
  True

def algebraic_StackIdeal_StackRefIdeal [hStackIdeal : Cert.StackIdeal.Facts] [hStackRefIdeal : Cert.StackRefIdeal.Facts] : Prop :=
  ∀ (m : (ℓ : Loc Cert.StackIdeal.nD Cert.StackIdeal.τ Cert.StackIdeal.sig) → Buf (Elt Ideal) ℓ) (g : Dev Cert.StackIdeal.nD → PrngReg)
    (m' : (ℓ : Loc Cert.StackRefIdeal.nD Cert.StackRefIdeal.τ Cert.StackRefIdeal.sig) → Buf (Elt Ideal) ℓ) (g' : Dev Cert.StackRefIdeal.nD → PrngReg), Pre_StackIdeal m →
    (∀ c : Dev Cert.StackIdeal.nD,
      m' ((c.tc : Thread Cert.StackRefIdeal.nD Cert.StackRefIdeal.τ).loc Cert.StackRefIdeal.main_arg0) = m ((c.tc : Thread Cert.StackIdeal.nD Cert.StackIdeal.τ).loc Cert.StackIdeal.main_arg0)
      ∧ m' ((c.tc : Thread Cert.StackRefIdeal.nD Cert.StackRefIdeal.τ).loc Cert.StackRefIdeal.main_arg1) = m ((c.tc : Thread Cert.StackIdeal.nD Cert.StackIdeal.τ).loc Cert.StackIdeal.main_arg1)) →
    ∃ (v0 : (c : Dev Cert.StackIdeal.nD) → Buf (Elt Ideal) ((c.tc : Thread Cert.StackIdeal.nD Cert.StackIdeal.τ).loc Cert.StackIdeal.main_v4)),
      θ_run (Cert.StackIdeal.defs (F := Ideal)) (onTc (τ := Cert.StackIdeal.τ) (Cert.StackIdeal.main (F := Ideal))) ⟨m, fun _ => 0, g⟩ (fun r => ∀ c : Dev Cert.StackIdeal.nD,
          r.2.mem ((c.tc : Thread Cert.StackIdeal.nD Cert.StackIdeal.τ).loc Cert.StackIdeal.main_v4) = v0 c
          ∧ r.2.mem ((c.tc : Thread Cert.StackIdeal.nD Cert.StackIdeal.τ).loc Cert.StackIdeal.main_arg0) = m ((c.tc : Thread Cert.StackIdeal.nD Cert.StackIdeal.τ).loc Cert.StackIdeal.main_arg0)
          ∧ r.2.mem ((c.tc : Thread Cert.StackIdeal.nD Cert.StackIdeal.τ).loc Cert.StackIdeal.main_arg1) = m ((c.tc : Thread Cert.StackIdeal.nD Cert.StackIdeal.τ).loc Cert.StackIdeal.main_arg1))
      ∧ θ_run (Cert.StackRefIdeal.defs (F := Ideal)) (onTc (τ := Cert.StackRefIdeal.τ) (Cert.StackRefIdeal.main (F := Ideal))) ⟨m', fun _ => 0, g'⟩ (fun r => ∀ c : Dev Cert.StackRefIdeal.nD,
          r.2.mem ((c.tc : Thread Cert.StackRefIdeal.nD Cert.StackRefIdeal.τ).loc Cert.StackRefIdeal.main_v20) = v0 c
          ∧ r.2.mem ((c.tc : Thread Cert.StackRefIdeal.nD Cert.StackRefIdeal.τ).loc Cert.StackRefIdeal.main_arg0) = m' ((c.tc : Thread Cert.StackRefIdeal.nD Cert.StackRefIdeal.τ).loc Cert.StackRefIdeal.main_arg0)
          ∧ r.2.mem ((c.tc : Thread Cert.StackRefIdeal.nD Cert.StackRefIdeal.τ).loc Cert.StackRefIdeal.main_arg1) = m' ((c.tc : Thread Cert.StackRefIdeal.nD Cert.StackRefIdeal.τ).loc Cert.StackRefIdeal.main_arg1))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)) →
    ∃ (v0 : (c : Dev Cert.PackIdeal.nD) → Buf (Elt Ideal) ((c.tc : Thread Cert.PackIdeal.nD Cert.PackIdeal.τ).loc Cert.PackIdeal.main_v0_0)) (v1 : (c : Dev Cert.PackIdeal.nD) → Buf (Elt Ideal) ((c.tc : Thread Cert.PackIdeal.nD Cert.PackIdeal.τ).loc Cert.PackIdeal.main_v0_1)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0_0) = v0 c
          ∧ r.2.mem ((c.tc : Thread Cert.PackIdeal.nD Cert.PackIdeal.τ).loc Cert.PackIdeal.main_v0_1) = v1 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v10) = v0 c
          ∧ r.2.mem ((c.tc : Thread Cert.PackRefIdeal.nD Cert.PackRefIdeal.τ).loc Cert.PackRefIdeal.main_v15) = v1 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] [hPre_me_on_mesh : Cert.Pre_me_on_mesh.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v11) = v0 c
          ∧ r.2.mem ((c.tc : Thread Cert.AdamwRefIdeal.nD Cert.AdamwRefIdeal.τ).loc Cert.AdamwRefIdeal.main_v35) = v1 c
          ∧ r.2.mem ((c.tc : Thread Cert.AdamwRefIdeal.nD Cert.AdamwRefIdeal.τ).loc Cert.AdamwRefIdeal.main_v16) = v2 c
          ∧ r.2.mem ((c.tc : Thread Cert.AdamwRefIdeal.nD Cert.AdamwRefIdeal.τ).loc Cert.AdamwRefIdeal.main_v22) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5))

def Claim : Prop :=
  ∃ (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hMixer : Cert.Mixer.Facts) (hMixerIdeal : Cert.MixerIdeal.Facts) (hMixerRefIdeal : Cert.MixerRefIdeal.Facts) (hWeight : Cert.Weight.Facts) (hWeightIdeal : Cert.WeightIdeal.Facts) (hWeightRefIdeal : Cert.WeightRefIdeal.Facts) (hStack : Cert.Stack.Facts) (hStackIdeal : Cert.StackIdeal.Facts) (hStackRefIdeal : Cert.StackRefIdeal.Facts) (hPack : Cert.Pack.Facts) (hPackIdeal : Cert.PackIdeal.Facts) (hPackRefIdeal : Cert.PackRefIdeal.Facts) (hAdamw : Cert.Adamw.Facts) (hAdamwIdeal : Cert.AdamwIdeal.Facts) (hAdamwRefIdeal : Cert.AdamwRefIdeal.Facts) (hPre_in_proj_finite : Cert.Pre_in_proj_finite.Facts) (hPre_ffn_finite : Cert.Pre_ffn_finite.Facts) (hPre_mix_finite : Cert.Pre_mix_finite.Facts) (hPre_me_on_mesh : Cert.Pre_me_on_mesh.Facts),
    quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Mixer (hMixer := hMixer)
    ∧ quiescent_MixerIdeal (hMixerIdeal := hMixerIdeal)
    ∧ quiescent_MixerRefIdeal (hMixerRefIdeal := hMixerRefIdeal)
    ∧ quiescent_Weight (hWeight := hWeight)
    ∧ quiescent_WeightIdeal (hWeightIdeal := hWeightIdeal)
    ∧ quiescent_WeightRefIdeal (hWeightRefIdeal := hWeightRefIdeal)
    ∧ quiescent_Stack (hStack := hStack)
    ∧ quiescent_StackIdeal (hStackIdeal := hStackIdeal)
    ∧ quiescent_StackRefIdeal (hStackRefIdeal := hStackRefIdeal)
    ∧ quiescent_Pack (hPack := hPack)
    ∧ quiescent_PackIdeal (hPackIdeal := hPackIdeal)
    ∧ quiescent_PackRefIdeal (hPackRefIdeal := hPackRefIdeal)
    ∧ quiescent_Adamw (hAdamw := hAdamw) (hPre_me_on_mesh := hPre_me_on_mesh)
    ∧ quiescent_AdamwIdeal (hAdamwIdeal := hAdamwIdeal) (hPre_me_on_mesh := hPre_me_on_mesh)
    ∧ quiescent_AdamwRefIdeal (hAdamwRefIdeal := hAdamwRefIdeal)
    ∧ quiescent_AdamwRefIdeal_pre_me_on_mesh (hAdamwRefIdeal := hAdamwRefIdeal) (hPre_me_on_mesh := hPre_me_on_mesh)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Mixer_MixerIdeal
    ∧ algebraic_MixerIdeal_MixerRefIdeal (hMixerIdeal := hMixerIdeal) (hMixerRefIdeal := hMixerRefIdeal)
    ∧ preserves_Weight_WeightIdeal
    ∧ algebraic_WeightIdeal_WeightRefIdeal (hWeightIdeal := hWeightIdeal) (hWeightRefIdeal := hWeightRefIdeal)
    ∧ preserves_Stack_StackIdeal
    ∧ algebraic_StackIdeal_StackRefIdeal (hStackIdeal := hStackIdeal) (hStackRefIdeal := hStackRefIdeal)
    ∧ preserves_Pack_PackIdeal
    ∧ algebraic_PackIdeal_PackRefIdeal (hPackIdeal := hPackIdeal) (hPackRefIdeal := hPackRefIdeal)
    ∧ preserves_Adamw_AdamwIdeal
    ∧ algebraic_AdamwIdeal_AdamwRefIdeal (hAdamwIdeal := hAdamwIdeal) (hAdamwRefIdeal := hAdamwRefIdeal) (hPre_me_on_mesh := hPre_me_on_mesh)
-- ==== Pre_ffn_finite.lean ====
abbrev S1x16384x1024 : Shape := ⟨3, ![1, 16384, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x1024x4096 .f32) (main_arg5 : FVec F S1x4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x16384x1024 .f32) (main_arg1 : FVec F S1x16384x1024 .f32) (main_arg2 : FVec F S1x1024 .f32) (main_arg3 : FVec F S1024 .f32) (main_arg4 : FVec F S1x1024x4096 .f32) (main_arg5 : FVec F S1x4096x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_in_proj_finite.lean ====
abbrev S1x16384x1024 : Shape := ⟨3, ![1, 16384, 1024]⟩
abbrev S1x1024 : Shape := ⟨2, ![1, 1024]⟩
abbrev S1x1024x7168 : Shape := ⟨3, ![1, 1024, 7168]⟩
abbrev S1x16384x7168 : Shape := ⟨3, ![1, 16384, 7168]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x7168 : S_.BroadcastsInDim S1x1024x7168 (![] : Fin 0 → Fin S1x1024x7168.rank)
  reducesTo_S1x1024x7168_S_d0_1_2 : S1x1024x7168.ReducesTo [0, 1, 2] S_
  bcast_S_S1x16384x7168 : S_.BroadcastsInDim S1x16384x7168 (![] : Fin 0 → Fin S1x16384x7168.rank)
  reducesTo_S1x16384x7168_S_d0_1_2 : S1x16384x7168.ReducesTo [0, 1, 2] S_

variable [Facts]

def fn_part1 {F : FTy → Type} [FloatOps F] (main_v13 : IVec S_ 1) (main_v16 : IVec S1x16384x7168 1) : IVec S_ 1 :=
  let main_c_5 : IVec S_ 1 := constantI S_ 1 1#1
  let main_v17 : IVec S_ 1 := (fun x v => Host.reduce IntOp.andi x v reducesTo_S1x16384x7168_S_d0_1_2 h_S_) main_v16 main_c_5
  let main_v18 : IVec S_ 1 := andi main_v13 main_v17
  main_v18

def fn {F : FTy → Type} [FloatOps F] (main_arg0 : FVec F S1x16384x1024 .f32) (main_arg1 : FVec F S1x1024 .f32) (main_arg2 : FVec F S1x1024x7168 .f32) (main_arg3 : FVec F S1x16384x1024 .f32) (main_arg4 : FVec F S1x16384x7168 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x7168 .f32 := Host.absf main_arg2
  let main_cst_2 : FVec F S_ .f32 := constant S_ .f32 0x7F800000#32
  let main_v10 : FVec F S1x1024x7168 .f32 := broadcastInDim S1x1024x7168 ![] bcast_S_S1x1024x7168 main_cst_2
  let main_v11 : IVec S1x1024x7168 1 := cmpf .olt main_v9 main_v10
  let main_c_3 : IVec S_ 1 := constantI S_ 1 1#1
  let main_v12 : IVec S_ 1 := (fun x v => Host.reduce IntOp.andi x v reducesTo_S1x1024x7168_S_d0_1_2 h_S_) main_v11 main_c_3
  let main_v13 : IVec S_ 1 := andi main_v8 main_v12
  let main_v14 : FVec F S1x16384x7168 .f32 := Host.absf main_arg4
  let main_cst_4 : FVec F S_ .f32 := constant S_ .f32 0x7F800000#32
  let main_v15 : FVec F S1x16384x7168 .f32 := broadcastInDim S1x16384x7168 ![] bcast_S_S1x16384x7168 main_cst_4
  let main_v16 : IVec S1x16384x7168 1 := cmpf .olt main_v14 main_v15
  fn_part1 (F := F) main_v13 main_v16
-- ==== Pre_me_on_mesh.lean ====
abbrev S1 : Shape := ⟨1, ![1]⟩
abbrev S1024x7168 : Shape := ⟨2, ![1024, 7168]⟩
abbrev S7x1024x896 : Shape := ⟨3, ![7, 1024, 896]⟩
abbrev S1024x896 : Shape := ⟨2, ![1024, 896]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S1024x7168 .bf16) (main_arg2 : FVec F S7x1024x896 .bf16) (main_arg3 : FVec F S1024x896 .f32) (main_arg4 : FVec F S1024x896 .f32) (main_arg5 : FVec F S1024x896 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_mix_finite.lean ====
abbrev S1x16384x7168 : Shape := ⟨3, ![1, 16384, 7168]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x3x1024 : Shape := ⟨3, ![1, 3, 1024]⟩
abbrev S1x1024x1024 : Shape := ⟨3, ![1, 1024, 1024]⟩
abbrev S1x16384x1024 : Shape := ⟨3, ![1, 16384, 1024]⟩
abbrev S_ : Shape := ⟨0, ![]⟩

class Facts : Prop where
  bcast_S_S1x16384x7168 : S_.BroadcastsInDim S1x16384x7168 (![] : Fin 0 → Fin S1x16384x7168.rank)
  reducesTo_S1x16384x7168_S_d0_1_2 : S1x16384x7168.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x3x1024 : S_.BroadcastsInDim S1x3x1024 (![] : Fin 0 → Fin S1x3x1024.rank)
  reducesTo_S1x3x1024_S_d0_1_2 : S1x3x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x16384x1024 : S_.BroadcastsInDim S1x16384x1024 (![] : Fin 0 → Fin S1x16384x1024.rank)
  reducesTo_S1x16384x1024_S_d0_1_2 : S1x16384x1024.ReducesTo [0, 1, 2] S_

variable [Facts]

def fn_part2 {F : FTy → Type} [FloatOps F] (main_arg7 : FVec F S1x1024x1024 .f32) (main_arg8 : FVec F S1x1024x1024 .f32) (main_arg9 : FVec F S1x16384x1024 .f32) (main_v33 : IVec S_ 1) : IVec S_ 1 :=
  let main_v34 : FVec F S1x1024x1024 .f32 := Host.absf main_arg7
  let main_cst_12 : FVec F S_ .f32 := constant S_ .f32 0x7F800000#32
  let main_v35 : FVec F S1x1024x1024 .f32 := broadcastInDim S1x1024x1024 ![] bcast_S_S1x1024x1024 main_cst_12
  let main_v36 : IVec S1x1024x1024 1 := cmpf .olt main_v34 main_v35
  let main_c_13 : IVec S_ 1 := constantI S_ 1 1#1
  let main_v37 : IVec S_ 1 := (fun x v => Host.reduce IntOp.andi x v reducesTo_S1x1024x1024_S_d0_1_2 h_S_) main_v36 main_c_13
  let main_v38 : IVec S_ 1 := andi main_v33 main_v37
  let main_v39 : FVec F S1x1024x1024 .f32 := Host.absf main_arg8
  let main_cst_14 : FVec F S_ .f32 := constant S_ .f32 0x7F800000#32
  let main_v40 : FVec F S1x1024x1024 .f32 := broadcastInDim S1x1024x1024 ![] bcast_S_S1x1024x1024 main_cst_14
  let main_v41 : IVec S1x1024x1024 1 := cmpf .olt main_v39 main_v40
  let main_c_15 : IVec S_ 1 := constantI S_ 1 1#1
  let main_v42 : IVec S_ 1 := (fun x v => Host.reduce IntOp.andi x v reducesTo_S1x1024x1024_S_d0_1_2 h_S_) main_v41 main_c_15
  let main_v43 : IVec S_ 1 := andi main_v38 main_v42
  let main_v44 : FVec F S1x16384x1024 .f32 := Host.absf main_arg9
  let main_cst_16 : FVec F S_ .f32 := constant S_ .f32 0x7F800000#32
  let main_v45 : FVec F S1x16384x1024 .f32 := broadcastInDim S1x16384x1024 ![] bcast_S_S1x16384x1024 main_cst_16
  let main_v46 : IVec S1x16384x1024 1 := cmpf .olt main_v44 main_v45
  let main_c_17 : IVec S_ 1 := constantI S_ 1 1#1
  let main_v47 : IVec S_ 1 := (fun x v => Host.reduce IntOp.andi x v reducesTo_S1x16384x1024_S_d0_1_2 h_S_) main_v46 main_c_17
  let main_v48 : IVec S_ 1 := andi main_v43 main_v47
  main_v48

def fn_part1 {F : FTy → Type} [FloatOps F] (main_arg4 : FVec F S1x8x128 .f32) (main_arg5 : FVec F S1x3x1024 .f32) (main_arg6 : FVec F S1x1024x1024 .f32) (main_arg7 : FVec F S1x1024x1024 .f32) (main_arg8 : FVec F S1x1024x1024 .f32) (main_arg9 : FVec F S1x16384x1024 .f32) (main_v13 : IVec S_ 1) (main_v16 : IVec S1x8x128x128 1) : IVec S_ 1 :=
  let main_c_5 : IVec S_ 1 := constantI S_ 1 1#1
  let main_v17 : IVec S_ 1 := (fun x v => Host.reduce IntOp.andi x v reducesTo_S1x8x128x128_S_d0_1_2_3 h_S_) main_v16 main_c_5
  let main_v18 : IVec S_ 1 := andi main_v13 main_v17
  let main_v19 : FVec F S1x8x128 .f32 := Host.absf main_arg4
  let main_cst_6 : FVec F S_ .f32 := constant S_ .f32 0x7F800000#32
  let main_v20 : FVec F S1x8x128 .f32 := broadcastInDim S1x8x128 ![] bcast_S_S1x8x128 main_cst_6
  let main_v21 : IVec S1x8x128 1 := cmpf .olt main_v19 main_v20
  let main_c_7 : IVec S_ 1 := constantI S_ 1 1#1
  let main_v22 : IVec S_ 1 := (fun x v => Host.reduce IntOp.andi x v reducesTo_S1x8x128_S_d0_1_2 h_S_) main_v21 main_c_7
  let main_v23 : IVec S_ 1 := andi main_v18 main_v22
  let main_v24 : FVec F S1x3x1024 .f32 := Host.absf main_arg5
  let main_cst_8 : FVec F S_ .f32 := constant S_ .f32 0x7F800000#32
  let main_v25 : FVec F S1x3x1024 .f32 := broadcastInDim S1x3x1024 ![] bcast_S_S1x3x1024 main_cst_8
  let main_v26 : IVec S1x3x1024 1 := cmpf .olt main_v24 main_v25
  let main_c_9 : IVec S_ 1 := constantI S_ 1 1#1
  let main_v27 : IVec S_ 1 := (fun x v => Host.reduce IntOp.andi x v reducesTo_S1x3x1024_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S1x16384x7168 .f32) (main_arg1 : FVec F S1x2048 .f32) (main_arg2 : FVec F S1x1024 .f32) (main_arg3 : FVec F S1x8x128x128 .f32) (main_arg4 : FVec F S1x8x128 .f32) (main_arg5 : FVec F S1x3x1024 .f32) (main_arg6 : FVec F S1x1024x1024 .f32) (main_arg7 : FVec F S1x1024x1024 .f32) (main_arg8 : FVec F S1x1024x1024 .f32) (main_arg9 : FVec F S1x16384x1024 .f32) : IVec S_ 1 :=
  let main_v0 : FVec F S1x16384x7168 .f32 := Host.absf main_arg0
  let main_cst : FVec F S_ .f32 := constant S_ .f32 0x7F800000#32
  let main_v1 : FVec F S1x16384x7168 .f32 := broadcastInDim S1x16384x7168 ![] bcast_S_S1x16384x7168 main_cst
  let main_v2 : IVec S1x16384x7168 1 := cmpf .olt main_v0 main_v1
  let main_c : IVec S_ 1 := constantI S_ 1 1#1
  let main_v3 : IVec S_ 1 := (fun x v => Host.reduce IntOp.andi x v reducesTo_S1x16384x7168_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x8x128x128 .f32 := Host.absf main_arg3
  let main_cst_4 : FVec F S_ .f32 := constant S_ .f32 0x7F800000#32
  let main_v15 : FVec F S1x8x128x128 .f32 := broadcastInDim S1x8x128x128 ![] bcast_S_S1x8x128x128 main_cst_4
  let main_v16 : IVec S1x8x128x128 1 := cmpf .olt main_v14 main_v15
  fn_part1 (F := F) main_arg4 main_arg5 main_arg6 main_arg7 main_arg8 main_arg9 main_v13 main_v16
-- ==== InProj.lean ====
abbrev S1x16384x1024 : Shape := ⟨3, ![1, 16384, 1024]⟩
abbrev S1x1024 : Shape := ⟨2, ![1, 1024]⟩
abbrev S1x1024x7168 : Shape := ⟨3, ![1, 1024, 7168]⟩
abbrev S1x16384x7168 : Shape := ⟨3, ![1, 16384, 7168]⟩
abbrev S16384x7168 : Shape := ⟨2, ![16384, 7168]⟩
abbrev S16384x1024 : Shape := ⟨2, ![16384, 1024]⟩
abbrev S1024x7168 : Shape := ⟨2, ![1024, 7168]⟩
abbrev S8x1024 : Shape := ⟨2, ![8, 1024]⟩
abbrev S512x7168 : Shape := ⟨2, ![512, 7168]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x7168, .f32⟩
  | .hbm, ⟨3, _⟩ => ⟨S1x16384x1024, .f32⟩
  | .hbm, ⟨4, _⟩ => ⟨S1x16384x7168, .f32⟩
  | .hbm, ⟨5, _⟩ => ⟨S16384x7168, .f32⟩
  | .hbm, ⟨6, _⟩ => ⟨S16384x7168, .bf16⟩
  | .hbm, ⟨7, _⟩ => ⟨S16384x1024, .f32⟩
  | .hbm, ⟨8, _⟩ => ⟨S16384x1024, .f32⟩
  | .hbm, ⟨9, _⟩ => ⟨S1024x7168, .f32⟩
  | .hbm, ⟨10, _⟩ => ⟨S1024x7168, .bf16⟩
  | .hbm, ⟨11, _⟩ => ⟨S16384x1024, .f32⟩
  | .hbm, ⟨12, _⟩ => ⟨S8x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x7168, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjRefIdeal.lean ====
abbrev S1x16384x1024 : Shape := ⟨3, ![1, 16384, 1024]⟩
abbrev S1x1024 : Shape := ⟨2, ![1, 1024]⟩
abbrev S1x1024x7168 : Shape := ⟨3, ![1, 1024, 7168]⟩
abbrev S1x16384x7168 : Shape := ⟨3, ![1, 16384, 7168]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x7168 : Shape := ⟨2, ![1024, 7168]⟩
abbrev S16384 : Shape := ⟨1, ![16384]⟩
abbrev S16384x1024 : Shape := ⟨2, ![16384, 1024]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x7168, .f32⟩
  | .hbm, ⟨3, _⟩ => ⟨S1x16384x1024, .f32⟩
  | .hbm, ⟨4, _⟩ => ⟨S1x16384x7168, .f32⟩
  | .hbm, ⟨5, _⟩ => ⟨S1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S1024x7168, .f32⟩
  | .hbm, ⟨27, _⟩ => ⟨S1x16384x7168, .f32⟩
  | .hbm, ⟨28, _⟩ => ⟨S1x16384x1024, .f32⟩
  | .hbm, ⟨29, _⟩ => ⟨S1x16384x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x16384x1024, .f32⟩
  | .hbm, ⟨34, _⟩ => ⟨S1x16384x1024, .f32⟩
  | .hbm, ⟨35, _⟩ => ⟨S_, .f32⟩
  | .hbm, ⟨36, _⟩ => ⟨S1024, .f32⟩
  | .hbm, ⟨37, _⟩ => ⟨S1x16384x1024, .f32⟩
  | .hbm, ⟨38, _⟩ => ⟨S_, .f32⟩
  | .hbm, ⟨39, _⟩ => ⟨S1x16384, .f32⟩
  | .hbm, ⟨40, _⟩ => ⟨S1x16384x1, .f32⟩
  | .hbm, ⟨41, _⟩ => ⟨S1x16384x1024, .f32⟩
  | .hbm, ⟨42, _⟩ => ⟨S1x16384x1024, .f32⟩
  | .hbm, ⟨43, _⟩ => ⟨S1x16384x1024, .f32⟩
  | .hbm, ⟨44, _⟩ => ⟨S1x16384x1, .f32⟩
  | .hbm, ⟨45, _⟩ => ⟨S_, .f32⟩
  | .hbm, ⟨46, _⟩ => ⟨S1x16384x1, .f32⟩
  | .hbm, ⟨47, _⟩ => ⟨S1x16384x1, .f32⟩
  | .hbm, ⟨48, _⟩ => ⟨S_, .f32⟩
  | .hbm, ⟨49, _⟩ => ⟨S16384, .f32⟩
  | .hbm, ⟨50, _⟩ => ⟨S1x16384, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x1024, .f32⟩
  | .hbm, ⟨57, _⟩ => ⟨S16384x1024, .f32⟩
  | .hbm, ⟨58, _⟩ => ⟨S_, .f32⟩
  | .hbm, ⟨59, _⟩ => ⟨S7x1024, .f32⟩
  | .hbm, ⟨60, _⟩ => ⟨S8x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Ffn.lean ====
abbrev S1x16384x1024 : Shape := ⟨3, ![1, 16384, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S8x1024 : Shape := ⟨2, ![8, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 19
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x1024, .f32⟩
  | .hbm, ⟨3, _⟩ => ⟨S1024, .f32⟩
  | .hbm, ⟨4, _⟩ => ⟨S1x1024x4096, .f32⟩
  | .hbm, ⟨5, _⟩ => ⟨S1x4096x1024, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S1024x4096, .f32⟩
  | .hbm, ⟨10, _⟩ => ⟨S1024x4096, .bf16⟩
  | .hbm, ⟨11, _⟩ => ⟨S4096x1024, .f32⟩
  | .hbm, ⟨12, _⟩ => ⟨S4096x1024, .bf16⟩
  | .hbm, ⟨13, _⟩ => ⟨S16384x1024, .bf16⟩
  | .hbm, ⟨14, _⟩ => ⟨S16384x4096, .bf16⟩
  | .hbm, ⟨15, _⟩ => ⟨S16384x4096, .bf16⟩
  | .hbm, ⟨16, _⟩ => ⟨S16384x1024, .bf16⟩
  | .hbm, ⟨17, _⟩ => ⟨S16384x1024, .f32⟩
  | .hbm, ⟨18, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S512x4096, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S1x16384x1024 : Shape := ⟨3, ![1, 16384, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩
abbrev S1x16384x4096 : Shape := ⟨3, ![1, 16384, 4096]⟩
abbrev S1x16384 : Shape := ⟨2, ![1, 16384]⟩
abbrev S1x16384x1 : Shape := ⟨3, ![1, 16384, 1]⟩
abbrev S1x1x1024 : Shape := ⟨3, ![1, 1, 1024]⟩
abbrev S1024x4096 : Shape := ⟨2, ![1024, 4096]⟩
abbrev S4096x1024 : Shape := ⟨2, ![4096, 1024]⟩
abbrev S16384 : Shape := ⟨1, ![16384]⟩
abbrev S5x1024 : Shape := ⟨2, ![5, 1024]⟩
abbrev S8x1024 : Shape := ⟨2, ![8, 1024]⟩
abbrev S16384x1024 : Shape := ⟨2, ![16384, 1024]⟩
abbrev S16384x4096 : Shape := ⟨2, ![16384, 4096]⟩

abbrev nBuf : Space → Nat
  | .hbm => 168
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1x1024, .f32⟩
  | 3 => ⟨S1024, .f32⟩
  | 4 => ⟨S1x1024x4096, .f32⟩
  | 5 => ⟨S1x4096x1024, .f32⟩
  | 6 => ⟨S_, .f32⟩
  | 7 => ⟨S1x16384x4096, .f32⟩
  | 8 => ⟨S_, .f32⟩
  | 9 => ⟨S1x16384x1024, .f32⟩
  | 10 => ⟨S1024, .f32⟩
  | 11 => ⟨S1x16384x1024, .f32⟩
  | 12 => ⟨S_, .f32⟩
  | 13 => ⟨S1x16384, .f32⟩
  | 14 => ⟨S1x16384x1, .f32⟩
  | 15 => ⟨S_, .f32⟩
  | 16 => ⟨S1x16384x1, .f32⟩
  | 17 => ⟨S1x16384x1, .f32⟩
  | 18 => ⟨S_, .f32⟩
  | 19 => ⟨S1x16384x1, .f32⟩
  | 20 => ⟨S1x16384x1, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x16384x1024, .f32⟩
  | 27 => ⟨S1x16384x1024, .f32⟩
  | 28 => ⟨S1x1x1024, .f32⟩
  | 29 => ⟨S1x16384x1024, .f32⟩
  | 30 => ⟨S1x16384x1024, .f32⟩
  | 31 => ⟨S1024x4096, .f32⟩
  | 32 => ⟨S1x16384x4096, .f32⟩
  | 33 => ⟨S1x16384x4096, .f32⟩
  | 34 => ⟨S_, .f32⟩
  | 35 => ⟨S1x16384x4096, .f32⟩
  | 36 => ⟨S1x16384x4096, .f32⟩
  | 37 => ⟨S_, .f32⟩
  | 38 => ⟨S1x16384x4096, .f32⟩
  | 39 => ⟨S1x16384x4096, .i1⟩
  | 40 => ⟨S_, .f32⟩
  | 41 => ⟨S1x16384x4096, .f32⟩
  | 42 => ⟨S1x16384x4096, .f32⟩
  | 43 => ⟨S4096x1024, .f32⟩
  | 44 => ⟨S1x16384x1024, .f32⟩
  | 45 => ⟨S1x16384x1024, .f32⟩
  | 46 => ⟨S1x16384x1024, .f32⟩
  | 47 => ⟨S1x16384x1024, .f32⟩
  | 48 => ⟨S_, .f32⟩
  | 49 => ⟨S1x16384, .f32⟩
  | 50 => ⟨S1x16384x1, .f32⟩
  | 51 => ⟨S_, .f32⟩
  | 52 => ⟨S1x16384x1, .f32⟩
  | 53 => ⟨S1x16384x1, .f32⟩
  | 54 => ⟨S_, .f32⟩
  | 55 => ⟨S1x16384x1, .f32⟩
  | 56 => ⟨S1x16384x1, .f32⟩
  | 57 => ⟨S1x16384x1, .f32⟩
  | 58 => ⟨S1x16384x1, .f32⟩
  | 59 => ⟨S_, .f32⟩
  | 60 => ⟨S1x16384x1, .f32⟩
  | 61 => ⟨S1x16384x1, .f32⟩
  | 62 => ⟨S1x16384x1024, .f32⟩
  | 63 => ⟨S1x16384x1024, .f32⟩
  | 64 => ⟨S1x1x1024, .f32⟩
  | 65 => ⟨S1x16384x1024, .f32⟩
  | 66 => ⟨S1x16384x1024, .f32⟩
  | 67 => ⟨S1x16384x1024, .f32⟩
  | 68 => ⟨S1x16384x1024, .f32⟩
  | 69 => ⟨S_, .f32⟩
  | 70 => ⟨S1x16384x1024, .f32⟩
  | 71 => ⟨S1x16384x1024, .f32⟩
  | 72 => ⟨S_, .f32⟩
  | 73 => ⟨S1x16384, .f32⟩
  | 74 => ⟨S_, .f32⟩
  | 75 => ⟨S1x16384, .f32⟩
  | 76 => ⟨S1x16384, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x16384, .f32⟩
  | 85 => ⟨S_, .f32⟩
  | 86 => ⟨S1x16384, .f32⟩
  | 87 => ⟨S1x16384, .f32⟩
  | 88 => ⟨S1x16384x1024, .f32⟩
  | 89 => ⟨S1x16384x1024, .f32⟩
  | 90 => ⟨S1x16384x1024, .f32⟩
  | 91 => ⟨S_, .f32⟩
  | 92 => ⟨S1x1024, .f32⟩
  | 93 => ⟨S1x1x1024, .f32⟩
  | 94 => ⟨S1x16384x1024, .f32⟩
  | 95 => ⟨S1x16384x1024, .f32⟩
  | 96 => ⟨S_, .f32⟩
  | 97 => ⟨S1024, .f32⟩
  | 98 => ⟨S1x16384x1024, .f32⟩
  | 99 => ⟨S_, .f32⟩
  | 100 => ⟨S1x16384, .f32⟩
  | 101 => ⟨S1x16384x1, .f32⟩
  | 102 => ⟨S1x16384x1024, .f32⟩
  | 103 => ⟨S1x16384x1024, .f32⟩
  | 104 => ⟨S1x16384x1, .f32⟩
  | 105 => ⟨S_, .f32⟩
  | 106 => ⟨S1x16384x1, .f32⟩
  | 107 => ⟨S1x16384x1, .f32⟩
  | 108 => ⟨S_, .f32⟩
  | 109 => ⟨S16384, .f32⟩
  | 110 => ⟨S1x16384, .f32⟩
  | 111 => ⟨S1x16384x1024, .f32⟩
  | 112 => ⟨S1x16384x1024, .f32⟩
  | 113 => ⟨S1x16384x1024, .f32⟩
  | 114 => ⟨S1x16384x1024, .f32⟩
  | 115 => ⟨S1x16384x1024, .f32⟩
  | 116 => ⟨S1x16384x4096, .f32⟩
  | 117 => ⟨S1x16384x4096, .f32⟩
  | 118 => ⟨S1x16384x4096, .f32⟩
  | 119 => ⟨S1x16384x4096, .f32⟩
  | 120 => ⟨S_, .f32⟩
  | 121 => ⟨S1x16384x4096, .f32⟩
  | 122 => ⟨S1x16384x4096, .f32⟩
  | 123 => ⟨S1x16384x1024, .f32⟩
  | 124 => ⟨S1x16384x1024, .f32⟩
  | 125 => ⟨S_, .f32⟩
  | 126 => ⟨S1x1024, .f32⟩
  | 127 => ⟨S1x1x1024, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S_, .f32⟩
  | 3 => ⟨S1024, .f32⟩
  | 4 => ⟨S1x16384x1024, .f32⟩
  | 5 => ⟨S_, .f32⟩
  | 6 => ⟨S1x16384, .f32⟩
  | 7 => ⟨S1x16384x1, .f32⟩
  | 8 => ⟨S1x16384x1024, .f32⟩
  | 9 => ⟨S1x16384x1024, .f32⟩
  | 10 => ⟨S1x16384x1024, .f32⟩
  | 11 => ⟨S1x16384x1, .f32⟩
  | 12 => ⟨S_, .f32⟩
  | 13 => ⟨S1x16384x1, .f32⟩
  | 14 => ⟨S1x16384x1, .f32⟩
  | 15 => ⟨S_, .f32⟩
  | 16 => ⟨S16384, .f32⟩
  | 17 => ⟨S1x16384, .f32⟩
  | 18 => ⟨S1x16384x1024, .f32⟩
  | 19 => ⟨S1x16384x1024, .f32⟩
  | 20 => ⟨S1x16384x1024, .f32⟩
  | 21 => ⟨S1x16384x1024, .f32⟩
  | 22 => ⟨S1x16384x1024, .f32⟩
  | 23 => ⟨S1x1024, .f32⟩
  | 24 => ⟨S1x1024, .f32⟩
  | 25 => ⟨S_, .f32⟩
  | 26 => ⟨S1024, .f32⟩
  | 27 => ⟨S1x1024, .f32⟩
  | 28 => ⟨S_, .f32⟩
  | 29 => ⟨S5x1024, .f32⟩
  | 30 => ⟨S8x1024, .f32⟩
  | 31 => ⟨S16384x1024, .f32⟩
  | 32 => ⟨S16384x1024, .bf16⟩
  | 33 => ⟨S16384x4096, .f32⟩
  | 34 => ⟨S16384x4096, .bf16⟩
  | 35 => ⟨S16384x4096, .f32⟩
  | 36 => ⟨S16384x4096, .bf16⟩
  | 37 => ⟨S16384x1024, .f32⟩
  | 38 => ⟨S16384x1024, .bf16⟩
  | 39 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_cst_16 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_cst_21 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_cst_23 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_28 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_30 : Ref sig .tc := ⟨.hbm, 153, rfl⟩
abbrev main_v114 : Ref sig .tc := ⟨.hbm, 154, rfl⟩
abbrev main_v115 : Ref sig .tc := ⟨.hbm, 155, rfl⟩
abbrev main_cst_31 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩

abbrev nD : Nat := 1
abbrev τ : Topo := Topo.v7x

variable {F : FTy → Type} [FloatOps F]
-- ==== Mix.lean ====
abbrev S1x16384x7168 : Shape := ⟨3, ![1, 16384, 7168]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x3x1024 : Shape := ⟨3, ![1, 3, 1024]⟩
abbrev S1x1024x1024 : Shape := ⟨3, ![1, 1024, 1024]⟩
abbrev S1x16384x1024 : Shape := ⟨3, ![1, 16384, 1024]⟩
abbrev S1024 : Shape := ⟨1, ![1024]⟩
abbrev S8x128x128 : Shape := ⟨3, ![8, 128, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1x1x128x8x128 : Shape := ⟨5, ![1, 1, 128, 8, 128]⟩
abbrev S1x16384 : Shape := ⟨2, ![1, 16384]⟩
abbrev S1x16384x1 : Shape := ⟨3, ![1, 16384, 1]⟩
abbrev S1x1x1024 : Shape := ⟨3, ![1, 1, 1024]⟩
abbrev S1x128x128x8x128 : Shape := ⟨5, ![1, 128, 128, 8, 128]⟩
abbrev S8x1x128x128x128 : Shape := ⟨5, ![8, 1, 128, 128, 128]⟩
abbrev S3x1024 : Shape := ⟨2, ![3, 1024]⟩
abbrev S1x2x1024 : Shape := ⟨3, ![1, 2, 1024]⟩
abbrev S1x16386x1024 : Shape := ⟨3, ![1, 16386, 1024]⟩
abbrev S1024x1024 : Shape := ⟨2, ![1024, 1024]⟩
abbrev S5x1024 : Shape := ⟨2, ![5, 1024]⟩
abbrev S8x1024 : Shape := ⟨2, ![8, 1024]⟩
abbrev S16384x1024 : Shape := ⟨2, ![16384, 1024]⟩
abbrev S16384x7168 : Shape := ⟨2, ![16384, 7168]⟩
abbrev S8x128x1 : Shape := ⟨3, ![8, 128, 1]⟩
abbrev S16384x3072 : Shape := ⟨2, ![16384, 3072]⟩
abbrev S8x2048 : Shape := ⟨2, ![8, 2048]⟩
abbrev S256x1024 : Shape := ⟨2, ![256, 1024]⟩
abbrev S256x7168 : Shape := ⟨2, ![256, 7168]⟩
abbrev S16x1024 : Shape := ⟨2, ![16, 1024]⟩
abbrev S256x3072 : Shape := ⟨2, ![256, 3072]⟩
abbrev S256 : Shape := ⟨1, ![256]⟩
abbrev S256x1 : Shape := ⟨2, ![256, 1]⟩
abbrev S1x128x1 : Shape := ⟨3, ![1, 128, 1]⟩
abbrev S272x1024 : Shape := ⟨2, ![272, 1024]⟩
abbrev S264x1024 : Shape := ⟨2, ![264, 1024]⟩

abbrev nBuf : Space → Nat
  | .hbm => 150
  | .vmem => 31
  | .smem => 0
  | _ => 0

abbrev hbmTy0_0 (i : Nat) : BufTy := match i % 128 with
  | 0 => ⟨S1x16384x7168, .f32⟩
  | 1 => ⟨S1x2048, .f32⟩
  | 2 => ⟨S1x1024, .f32⟩
  | 3 => ⟨S1x8x128x128, .f32⟩
  | 4 => ⟨S1x8x128, .f32⟩
  | 5 => ⟨S1x3x1024, .f32⟩
  | 6 => ⟨S1x1024x1024, .f32⟩
  | 7 => ⟨S1x1024x1024, .f32⟩
  | 8 => ⟨S1x1024x1024, .f32⟩
  | 9 => ⟨S1x16384x1024, .f32⟩
  | 10 => ⟨S1x16384x1024, .f32⟩
  | 11 => ⟨S1x16384x1024, .f32⟩
  | 12 => ⟨S1x16384x1024, .f32⟩
  | 13 => ⟨S1x16384x1024, .f32⟩
  | 14 => ⟨S1x16384x1024, .f32⟩
  | 15 => ⟨S1x16384x1024, .f32⟩
  | 16 => ⟨S1x16384x1024, .f32⟩
  | 17 => ⟨S1024, .f32⟩
  | 18 => ⟨S8x128x128, .f32⟩
  | 19 => ⟨S128, .i32⟩
  | 20 => ⟨S_, .i32⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i1⟩
  | 28 => ⟨S128, .i32⟩
  | 29 => ⟨S128, .i32⟩
  | 30 => ⟨S_, .i32⟩
  | 31 => ⟨S128, .i32⟩
  | 32 => ⟨S128, .i1⟩
  | 33 => ⟨S128, .i1⟩
  | 34 => ⟨S_, .i32⟩
  | 35 => ⟨S128, .i32⟩
  | 36 => ⟨S128, .i32⟩
  | 37 => ⟨S128, .i32⟩
  | 38 => ⟨S1x128, .i32⟩
  | 39 => ⟨S128x1, .i32⟩
  | 40 => ⟨S128x128, .i32⟩
  | 41 => ⟨S128x128, .i32⟩
  | 42 => ⟨S128x128, .i1⟩
  | 43 => ⟨S1x128x128, .i1⟩
  | 44 => ⟨S_, .f32⟩
  | 45 => ⟨S8x128x128, .f32⟩
  | 46 => ⟨S8x128x128, .i1⟩
  | 47 => ⟨S8x128x128, .f32⟩
  | 48 => ⟨S8x128, .f32⟩
  | 49 => ⟨S128x8, .f32⟩
  | 50 => ⟨S1x1x128x8x1, .f32⟩
  | 51 => ⟨S1x1x128x8x128, .f32⟩
  | 52 => ⟨S_, .f32⟩
  | 53 => ⟨S1x16384x1024, .f32⟩
  | 54 => ⟨S1x16384x1024, .f32⟩
  | 55 => ⟨S1x16384x1024, .f32⟩
  | 56 => ⟨S_, .f32⟩
  | 57 => ⟨S_, .f32⟩
  | 58 => ⟨S1x16384x1024, .f32⟩
  | 59 => ⟨S1x16384x1024, .f32⟩
  | 60 => ⟨S1x16384x1024, .f32⟩
  | 61 => ⟨S1x16384x1024, .f32⟩
  | 62 => ⟨S_, .f32⟩
  | 63 => ⟨S1x16384x1024, .f32⟩
  | 64 => ⟨S1x16384x1024, .f32⟩
  | 65 => ⟨S1x16384x1024, .f32⟩
  | 66 => ⟨S_, .f32⟩
  | 67 => ⟨S_, .f32⟩
  | 68 => ⟨S1x16384x1024, .f32⟩
  | 69 => ⟨S1x16384x1024, .f32⟩
  | 70 => ⟨S1x16384x1024, .f32⟩
  | 71 => ⟨S1x16384x1024, .f32⟩
  | 72 => ⟨S1x16384x1024, .f32⟩
  | 73 => ⟨S_, .f32⟩
  | 74 => ⟨S1x16384, .f32⟩
  | 75 => ⟨S1x16384x1, .f32⟩
  | 76 => ⟨S_, .f32⟩
  | 77 => ⟨S1x16384x1, .f32⟩
  | 78 => ⟨S1x16384x1, .f32⟩
  | 79 => ⟨S_, .f32⟩
  | 80 => ⟨S1x16384x1, .f32⟩
  | 81 => ⟨S1x16384x1, .f32⟩
  | 82 => ⟨S1x16384x1, .f32⟩
  | 83 => ⟨S1x16384x1024, .f32⟩
  | 84 => ⟨S1x16384x1024, .f32⟩
  | 85 => ⟨S1x1x1024, .f32⟩
  | 86 => ⟨S1x16384x1024, .f32⟩
  | 87 => ⟨S1x16384x1024, .f32⟩
  | 88 => ⟨S1x128x128x8x128, .f32⟩
  | 89 => ⟨S8x1x128x128x128, .f32⟩
  | 90 => ⟨S1x128x128x8x128, .f32⟩
  | 91 => ⟨S1x128x128x8x128, .f32⟩
  | 92 => ⟨S1x128x128x8x128, .f32⟩
  | 93 => ⟨S1x16384x1024, .f32⟩
  | 94 => ⟨S1x16384x1024, .f32⟩
  | 95 => ⟨S1x16384x1024, .f32⟩
  | 96 => ⟨S3x1024, .f32⟩
  | 97 => ⟨S_, .f32⟩
  | 98 => ⟨S1x2x1024, .f32⟩
  | 99 => ⟨S1x16386x1024, .f32⟩
  | 100 => ⟨S1x1024, .f32⟩
  | 101 => ⟨S1024, .f32⟩
  | 102 => ⟨S1x16384x1024, .f32⟩
  | 103 => ⟨S1x1x1024, .f32⟩
  | 104 => ⟨S1x16384x1024, .f32⟩
  | 105 => ⟨S1x16384x1024, .f32⟩
  | 106 => ⟨S1x1024, .f32⟩
  | 107 => ⟨S1024, .f32⟩
  | 108 => ⟨S1x16384x1024, .f32⟩
  | 109 => ⟨S1x1x1024, .f32⟩
  | 110 => ⟨S1x16384x1024, .f32⟩
  | 111 => ⟨S1x16384x1024, .f32⟩
  | 112 => ⟨S1x16384x1024, .f32⟩
  | 113 => ⟨S1x1024, .f32⟩
  | 114 => ⟨S1024, .f32⟩
  | 115 => ⟨S1x16384x1024, .f32⟩
  | 116 => ⟨S1x1x1024, .f32⟩
  | 117 => ⟨S1x16384x1024, .f32⟩
  | 118 => ⟨S1x16384x1024, .f32⟩
  | 119 => ⟨S1x16384x1024, .f32⟩
  | 120 => ⟨S1x16384x1024, .f32⟩
  | 121 => ⟨S1024x1024, .f32⟩
  | 122 => ⟨S1x16384x1024, .f32⟩
  | 123 => ⟨S1024x1024, .f32⟩
  | 124 => ⟨S1x16384x1024, .f32⟩
  | 125 => ⟨S3x1024, .f32⟩
  | 126 => ⟨S_, .f32⟩
  | 127 => ⟨S5x1024, .f32⟩
  | _ => ⟨S1x16384x7168, .f32⟩

abbrev hbmTy0_1 (i : Nat) : BufTy := match i % 128 with
  | 0 => ⟨S8x1024, .f32⟩
  | 1 => ⟨S16384x1024, .f32⟩
  | 2 => ⟨S16384x7168, .f32⟩
  | 3 => ⟨S16384x7168, .bf16⟩
  | 4 => ⟨S16384x1024, .f32⟩
  | 5 => ⟨S16384x1024, .bf16⟩
  | 6 => ⟨S16384x1024, .f32⟩
  | 7 => ⟨S16384x1024, .bf16⟩
  | 8 => ⟨S8x128x128, .f32⟩
  | 9 => ⟨S8x128x1, .f32⟩
  | 10 => ⟨S1024x1024, .f32⟩
  | 11 => ⟨S1024x1024, .bf16⟩
  | 12 => ⟨S1024x1024, .f32⟩
  | 13 => ⟨S1024x1024, .bf16⟩
  | 14 => ⟨S1024x1024, .f32⟩
  | 15 => ⟨S1024x1024, .bf16⟩
  | 16 => ⟨S16384x7168, .bf16⟩
  | 17 => ⟨S16384x3072, .bf16⟩
  | 18 => ⟨S8x1024, .f32⟩
  | 19 => ⟨S8x2048, .f32⟩
  | 20 => ⟨S8x128x128, .f32⟩
  | 21 => ⟨S8x128x128, .f32⟩
  | _ => ⟨S1x16384x7168, .f32⟩

abbrev hbmTy (i : Nat) : BufTy := match i / 128 with
  | 0 => hbmTy0_0 i
  | 1 => hbmTy0_1 i
  | _ => ⟨S1x16384x7168, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x7168, .bf16⟩
  | .local _ .vmem, ⟨3, _⟩ => ⟨S256x7168, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x2048, .f32⟩
  | .local _ .vmem, ⟨13, _⟩ => ⟨S1x1024, .f32⟩
  | .local _ .vmem, ⟨14, _⟩ => ⟨S8x128x128, .f32⟩
  | .local _ .vmem, ⟨15, _⟩ => ⟨S8x128x1, .f32⟩
  | .local _ .vmem, ⟨16, _⟩ => ⟨S8x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S256x7168, .bf16⟩
  | .local _ .vmem, ⟨21, _⟩ => ⟨S256x7168, .bf16⟩
  | .local _ .vmem, ⟨22, _⟩ => ⟨S256x3072, .bf16⟩
  | .local _ .vmem, ⟨23, _⟩ => ⟨S256x3072, .bf16⟩
  | .local _ .vmem, ⟨24, _⟩ => ⟨S8x1024, .f32⟩
  | .local _ .vmem, ⟨25, _⟩ => ⟨S8x2048, .f32⟩
  | .local _ .vmem, ⟨26, _⟩ => ⟨S8x128x128, .f32⟩
  | .local _ .vmem, ⟨27, _⟩ => ⟨S8x128x128, .f32⟩
  | .local _ .vmem, ⟨28, _⟩ => ⟨S8x1024, .f32⟩
  | .local _ .vmem, ⟨29, _⟩ => ⟨S256x1024, .f32⟩
  | .local _ .vmem, ⟨30, _⟩ => ⟨S256x1024, .f32⟩
  | _, _ => ⟨S1x16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_call1_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_8 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106_0 : Ref sig .tc := ⟨.hbm, 144, rfl⟩
abbrev main_v106_1 : Ref sig .tc := ⟨.hbm, 145, rfl⟩
abbrev main_v106_2 : Ref sig .tc := ⟨.hbm, 146, rfl⟩
abbrev main_v106_3 : Ref sig .tc := ⟨.hbm, 147, rfl⟩
abbrev main_v106_4 : Ref sig .tc := ⟨.hbm, 148, rfl⟩
abbrev main_v106_5 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x7168 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixIdeal.lean ====
variable {F : FTy → Type} [FloatOps F] [Named F]
def κ : String → Option EReal := fun
  | "pdf_scale" => some ((-((2 * (Real.log 2))⁻¹) : ℝ) : EReal)
  | "pdf_shift" => some ((-((Real.log (2 * Real.pi)) * (2 * (Real.log 2))⁻¹) : ℝ) : EReal)
  | "sqrt_half" => some ((Real.sqrt (1 / 2) : ℝ) : EReal)
  | _ => none
-- ==== MixRefIdeal.lean ====
abbrev S1x16384x7168 : Shape := ⟨3, ![1, 16384, 7168]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x3x1024 : Shape := ⟨3, ![1, 3, 1024]⟩
abbrev S1x1024x1024 : Shape := ⟨3, ![1, 1024, 1024]⟩
abbrev S1x16384x1024 : Shape := ⟨3, ![1, 16384, 1024]⟩
abbrev S_ : Shape := ⟨0, ![]⟩
abbrev S8x128x128 : Shape := ⟨3, ![8, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1x1x128x8x128 : Shape := ⟨5, ![1, 1, 128, 8, 128]⟩
abbrev S1024 : Shape := ⟨1, ![1024]⟩
abbrev S1x1x1024 : Shape := ⟨3, ![1, 1, 1024]⟩
abbrev S1x16384 : Shape := ⟨2, ![1, 16384]⟩
abbrev S1x16384x1 : Shape := ⟨3, ![1, 16384, 1]⟩
abbrev S1x128x128x8x128 : Shape := ⟨5, ![1, 128, 128, 8, 128]⟩
abbrev S8x1x128x128x128 : Shape := ⟨5, ![8, 1, 128, 128, 128]⟩
abbrev S3x1024 : Shape := ⟨2, ![3, 1024]⟩
abbrev S1x2x1024 : Shape := ⟨3, ![1, 2, 1024]⟩
abbrev S1x16386x1024 : Shape := ⟨3, ![1, 16386, 1024]⟩
abbrev S1024x1024 : Shape := ⟨2, ![1024, 1024]⟩
abbrev S1x128x8x128 : Shape := ⟨4, ![1, 128, 8, 128]⟩
abbrev S16384 : Shape := ⟨1, ![16384]⟩
abbrev S16384x7168 : Shape := ⟨2, ![16384, 7168]⟩
abbrev S16384x1024 : Shape := ⟨2, ![16384, 1024]⟩
abbrev S16384x3072 : Shape := ⟨2, ![16384, 3072]⟩
abbrev S4x1024 : Shape := ⟨2, ![4, 1024]⟩
abbrev S8x1024 : Shape := ⟨2, ![8, 1024]⟩
abbrev S7x2048 : Shape := ⟨2, ![7, 2048]⟩
abbrev S8x2048 : Shape := ⟨2, ![8, 2048]⟩
abbrev S128x8x128 : Shape := ⟨3, ![128, 8, 128]⟩

abbrev nBuf : Space → Nat
  | .hbm => 349
  | .vmem => 0
  | .smem => 0
  | _ => 0

abbrev hbmTy0_0 (i : Nat) : BufTy := match i % 128 with
  | 0 => ⟨S1x16384x7168, .f32⟩
  | 1 => ⟨S1x2048, .f32⟩
  | 2 => ⟨S1x1024, .f32⟩
  | 3 => ⟨S1x8x128x128, .f32⟩
  | 4 => ⟨S1x8x128, .f32⟩
  | 5 => ⟨S1x3x1024, .f32⟩
  | 6 => ⟨S1x1024x1024, .f32⟩
  | 7 => ⟨S1x1024x1024, .f32⟩
  | 8 => ⟨S1x1024x1024, .f32⟩
  | 9 => ⟨S1x16384x1024, .f32⟩
  | 10 => ⟨S_, .f32⟩
  | 11 => ⟨S1x16384x1024, .f32⟩
  | 12 => ⟨S8x128x128, .f32⟩
  | 13 => ⟨S128, .i32⟩
  | 14 => ⟨S_, .i32⟩
  | 15 => ⟨S_, .i32⟩
  | 16 => ⟨S128, .i32⟩
  | 17 => ⟨S128, .i32⟩
  | 18 => ⟨S128, .i32⟩
  | 19 => ⟨S_, .i32⟩
  | 20 => ⟨S128, .i32⟩
  | 21 => ⟨S128, .i1⟩
  | 22 => ⟨S128, .i32⟩
  | 23 => ⟨S128, .i32⟩
  | 24 => ⟨S_, .i32⟩
  | 25 => ⟨S128, .i32⟩
  | 26 => ⟨S128, .i1⟩
  | 27 => ⟨S128, .i1⟩
  | 28 => ⟨S_, .i32⟩
  | 29 => ⟨S128, .i32⟩
  | 30 => ⟨S128, .i32⟩
  | 31 => ⟨S128, .i32⟩
  | 32 => ⟨S1x128, .i32⟩
  | 33 => ⟨S128x1, .i32⟩
  | 34 => ⟨S128x128, .i32⟩
  | 35 => ⟨S128x128, .i32⟩
  | 36 => ⟨S128x128, .i1⟩
  | 37 => ⟨S1x128x128, .i1⟩
  | 38 => ⟨S_, .f32⟩
  | 39 => ⟨S8x128x128, .f32⟩
  | 40 => ⟨S8x128x128, .i1⟩
  | 41 => ⟨S8x128x128, .f32⟩
  | 42 => ⟨S8x128, .f32⟩
  | 43 => ⟨S128x8, .f32⟩
  | 44 => ⟨S1x1x128x8x1, .f32⟩
  | 45 => ⟨S1x1x128x8x128, .f32⟩
  | 46 => ⟨S1x16384x1024, .f32⟩
  | 47 => ⟨S1x16384x1024, .f32⟩
  | 48 => ⟨S1x16384x1024, .f32⟩
  | 49 => ⟨S1x16384x1024, .f32⟩
  | 50 => ⟨S1x16384x1024, .f32⟩
  | 51 => ⟨S1x16384x1024, .f32⟩
  | 52 => ⟨S1x16384x1024, .f32⟩
  | 53 => ⟨S1x1024, .f32⟩
  | 54 => ⟨S1024, .f32⟩
  | 55 => ⟨S1x1x1024, .f32⟩
  | 56 => ⟨S1x16384x1024, .f32⟩
  | 57 => ⟨S1x16384x1024, .f32⟩
  | 58 => ⟨S1x1024, .f32⟩
  | 59 => ⟨S1024, .f32⟩
  | 60 => ⟨S1x1x1024, .f32⟩
  | 61 => ⟨S1x16384x1024, .f32⟩
  | 62 => ⟨S1x16384x1024, .f32⟩
  | 63 => ⟨S1024, .f32⟩
  | 64 => ⟨S_, .f32⟩
  | 65 => ⟨S1x16384x1024, .f32⟩
  | 66 => ⟨S1x16384x1024, .f32⟩
  | 67 => ⟨S1x16384x1024, .f32⟩
  | 68 => ⟨S_, .f32⟩
  | 69 => ⟨S_, .f32⟩
  | 70 => ⟨S1x16384x1024, .f32⟩
  | 71 => ⟨S1x16384x1024, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1x16384x1024, .f32⟩
  | 80 => ⟨S1x16384x1024, .f32⟩
  | 81 => ⟨S1x16384x1024, .f32⟩
  | 82 => ⟨S1x16384x1024, .f32⟩
  | 83 => ⟨S1x16384x1024, .f32⟩
  | 84 => ⟨S1x16384x1024, .f32⟩
  | 85 => ⟨S1x16384x1024, .f32⟩
  | 86 => ⟨S_, .f32⟩
  | 87 => ⟨S1x16384x1024, .f32⟩
  | 88 => ⟨S1x16384x1024, .f32⟩
  | 89 => ⟨S1x16384x1024, .f32⟩
  | 90 => ⟨S_, .f32⟩
  | 91 => ⟨S_, .f32⟩
  | 92 => ⟨S1x16384x1024, .f32⟩
  | 93 => ⟨S1x16384x1024, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1x16384x1024, .f32⟩
  | 102 => ⟨S1x16384x1024, .f32⟩
  | 103 => ⟨S1x16384x1024, .f32⟩
  | 104 => ⟨S1x16384x1024, .f32⟩
  | 105 => ⟨S1x16384x1024, .f32⟩
  | 106 => ⟨S1x16384x1024, .f32⟩
  | 107 => ⟨S1x16384x1024, .f32⟩
  | 108 => ⟨S1x16384x1024, .f32⟩
  | 109 => ⟨S_, .f32⟩
  | 110 => ⟨S1x16384, .f32⟩
  | 111 => ⟨S1x16384x1, .f32⟩
  | 112 => ⟨S_, .f32⟩
  | 113 => ⟨S1x16384x1, .f32⟩
  | 114 => ⟨S1x16384x1, .f32⟩
  | 115 => ⟨S_, .f32⟩
  | 116 => ⟨S1x16384x1, .f32⟩
  | 117 => ⟨S1x16384x1, .f32⟩
  | 118 => ⟨S1x16384x1, .f32⟩
  | 119 => ⟨S1x16384x1, .f32⟩
  | 120 => ⟨S_, .f32⟩
  | 121 => ⟨S1x16384x1, .f32⟩
  | 122 => ⟨S1x16384x1, .f32⟩
  | 123 => ⟨S1x16384x1024, .f32⟩
  | 124 => ⟨S1x16384x1024, .f32⟩
  | 125 => ⟨S1x1x1024, .f32⟩
  | 126 => ⟨S1x16384x1024, .f32⟩
  | 127 => ⟨S1x16384x1024, .f32⟩
  | _ => ⟨S1x16384x7168, .f32⟩

abbrev hbmTy0_1 (i : Nat) : BufTy := match i % 128 with
  | 0 => ⟨S1x128x128x8x128, .f32⟩
  | 1 => ⟨S8x1x128x128x128, .f32⟩
  | 2 => ⟨S1x128x128x8x128, .f32⟩
  | 3 => ⟨S1x128x128x8x128, .f32⟩
  | 4 => ⟨S1x128x128x8x128, .f32⟩
  | 5 => ⟨S1x16384x1024, .f32⟩
  | 6 => ⟨S1x16384x1024, .f32⟩
  | 7 => ⟨S1x16384x1024, .f32⟩
  | 8 => ⟨S3x1024, .f32⟩
  | 9 => ⟨S_, .f32⟩
  | 10 => ⟨S1x2x1024, .f32⟩
  | 11 => ⟨S1x16386x1024, .f32⟩
  | 12 => ⟨S_, .f32⟩
  | 13 => ⟨S1x2x1024, .f32⟩
  | 14 => ⟨S1x1024, .f32⟩
  | 15 => ⟨S1024, .f32⟩
  | 16 => ⟨S1x16384x1024, .f32⟩
  | 17 => ⟨S1x1x1024, .f32⟩
  | 18 => ⟨S1x16384x1024, .f32⟩
  | 19 => ⟨S1x16384x1024, .f32⟩
  | 20 => ⟨S1x1024, .f32⟩
  | 21 => ⟨S1024, .f32⟩
  | 22 => ⟨S1x16384x1024, .f32⟩
  | 23 => ⟨S1x1x1024, .f32⟩
  | 24 => ⟨S1x16384x1024, .f32⟩
  | 25 => ⟨S1x16384x1024, .f32⟩
  | 26 => ⟨S1x16384x1024, .f32⟩
  | 27 => ⟨S1x1024, .f32⟩
  | 28 => ⟨S1024, .f32⟩
  | 29 => ⟨S1x16384x1024, .f32⟩
  | 30 => ⟨S1x1x1024, .f32⟩
  | 31 => ⟨S1x16384x1024, .f32⟩
  | 32 => ⟨S1x16384x1024, .f32⟩
  | 33 => ⟨S1x16384x1024, .f32⟩
  | 34 => ⟨S1x16384x1024, .f32⟩
  | 35 => ⟨S1x16384x1024, .f32⟩
  | 36 => ⟨S1x16384x1024, .f32⟩
  | 37 => ⟨S_, .f32⟩
  | 38 => ⟨S1x16384x1024, .f32⟩
  | 39 => ⟨S1x16384x1024, .f32⟩
  | 40 => ⟨S_, .f32⟩
  | 41 => ⟨S1x16384x1024, .f32⟩
  | 42 => ⟨S1x16384x1024, .f32⟩
  | 43 => ⟨S_, .f32⟩
  | 44 => ⟨S1x16384x1024, .f32⟩
  | 45 => ⟨S1x16384x1024, .f32⟩
  | 46 => ⟨S1x16384x1024, .f32⟩
  | 47 => ⟨S1024x1024, .f32⟩
  | 48 => ⟨S1x16384x1024, .f32⟩
  | 49 => ⟨S1x16384x1024, .f32⟩
  | 50 => ⟨S1x16384x1024, .f32⟩
  | 51 => ⟨S1x16384x1024, .f32⟩
  | 52 => ⟨S1x16384x1024, .f32⟩
  | 53 => ⟨S_, .f32⟩
  | 54 => ⟨S1x16384x1024, .f32⟩
  | 55 => ⟨S1x16384x1024, .f32⟩
  | 56 => ⟨S_, .f32⟩
  | 57 => ⟨S1x16384x1024, .f32⟩
  | 58 => ⟨S1x16384x1024, .f32⟩
  | 59 => ⟨S_, .f32⟩
  | 60 => ⟨S1x16384x1024, .f32⟩
  | 61 => ⟨S1x16384x1024, .f32⟩
  | 62 => ⟨S1x16384x1024, .f32⟩
  | 63 => ⟨S1024x1024, .f32⟩
  | 64 => ⟨S1x16384x1024, .f32⟩
  | 65 => ⟨S1x16384x1024, .f32⟩
  | 66 => ⟨S1x16384x1024, .f32⟩
  | 67 => ⟨S1x16384x1024, .f32⟩
  | 68 => ⟨S1024x1024, .f32⟩
  | 69 => ⟨S1x16384x1024, .f32⟩
  | 70 => ⟨S1x16384x1024, .f32⟩
  | 71 => ⟨S1x16384x1024, .f32⟩
  | 72 => ⟨S1x16384x1024, .f32⟩
  | 73 => ⟨S1x16384x1024, .f32⟩
  | 74 => ⟨S1x16384x1024, .f32⟩
  | 75 => ⟨S1x16384x1024, .f32⟩
  | 76 => ⟨S1x16384x1024, .f32⟩
  | 77 => ⟨S1x16384x1024, .f32⟩
  | 78 => ⟨S1x16384x1024, .f32⟩
  | 79 => ⟨S1x16384x1024, .f32⟩
  | 80 => ⟨S1x16384x1024, .f32⟩
  | 81 => ⟨S1x16384x1024, .f32⟩
  | 82 => ⟨S1x16384x1024, .f32⟩
  | 83 => ⟨S1x16384x1024, .f32⟩
  | 84 => ⟨S_, .f32⟩
  | 85 => ⟨S1x1024, .f32⟩
  | 86 => ⟨S1x1x1024, .f32⟩
  | 87 => ⟨S_, .f32⟩
  | 88 => ⟨S1024, .f32⟩
  | 89 => ⟨S_, .f32⟩
  | 90 => ⟨S1x16386x1024, .f32⟩
  | 91 => ⟨S1x1024, .f32⟩
  | 92 => ⟨S_, .f32⟩
  | 93 => ⟨S3x1024, .f32⟩
  | 94 => ⟨S1x16384x1024, .f32⟩
  | 95 => ⟨S1x16384x1024, .f32⟩
  | 96 => ⟨S1x16384x1024, .f32⟩
  | 97 => ⟨S_, .f32⟩
  | 98 => ⟨S1x1024, .f32⟩
  | 99 => ⟨S1x1x1024, .f32⟩
  | 100 => ⟨S_, .f32⟩
  | 101 => ⟨S1024, .f32⟩
  | 102 => ⟨S_, .f32⟩
  | 103 => ⟨S1x16386x1024, .f32⟩
  | 104 => ⟨S1x16386x1024, .f32⟩
  | 105 => ⟨S1x1024, .f32⟩
  | 106 => ⟨S_, .f32⟩
  | 107 => ⟨S3x1024, .f32⟩
  | 108 => ⟨S3x1024, .f32⟩
  | 109 => ⟨S1x16384x1024, .f32⟩
  | 110 => ⟨S1x16384x1024, .f32⟩
  | 111 => ⟨S1x16384x1024, .f32⟩
  | 112 => ⟨S_, .f32⟩
  | 113 => ⟨S1x1024, .f32⟩
  | 114 => ⟨S1x1x1024, .f32⟩
  | 115 => ⟨S_, .f32⟩
  | 116 => ⟨S1024, .f32⟩
  | 117 => ⟨S_, .f32⟩
  | 118 => ⟨S1x16386x1024, .f32⟩
  | 119 => ⟨S1x16386x1024, .f32⟩
  | 120 => ⟨S1x1024, .f32⟩
  | 121 => ⟨S_, .f32⟩
  | 122 => ⟨S3x1024, .f32⟩
  | 123 => ⟨S3x1024, .f32⟩
  | 124 => ⟨S1x2x1024, .f32⟩
  | 125 => ⟨S1x16384x1024, .f32⟩
  | 126 => ⟨S1x3x1024, .f32⟩
  | 127 => ⟨S1x16384x1024, .f32⟩
  | _ => ⟨S1x16384x7168, .f32⟩

abbrev hbmTy0_2 (i : Nat) : BufTy := match i % 128 with
  | 0 => ⟨S1x16384x1024, .f32⟩
  | 1 => ⟨S1x16384x1024, .f32⟩
  | 2 => ⟨S1x16384x1024, .f32⟩
  | 3 => ⟨S1x128x128x8x128, .f32⟩
  | 4 => ⟨S_, .f32⟩
  | 5 => ⟨S1x128x8x128, .f32⟩
  | 6 => ⟨S1x1x128x8x128, .f32⟩
  | 7 => ⟨S8x1x128x128x128, .f32⟩
  | 8 => ⟨S8x128x128, .f32⟩
  | 9 => ⟨S8x1x128x128x128, .f32⟩
  | 10 => ⟨S1x128x128x8x128, .f32⟩
  | 11 => ⟨S1x16384x1024, .f32⟩
  | 12 => ⟨S1x16384x1024, .f32⟩
  | 13 => ⟨S_, .f32⟩
  | 14 => ⟨S1x1024, .f32⟩
  | 15 => ⟨S1x1x1024, .f32⟩
  | 16 => ⟨S1x16384x1024, .f32⟩
  | 17 => ⟨S1x16384x1024, .f32⟩
  | 18 => ⟨S_, .f32⟩
  | 19 => ⟨S1024, .f32⟩
  | 20 => ⟨S1x16384x1024, .f32⟩
  | 21 => ⟨S_, .f32⟩
  | 22 => ⟨S1x16384, .f32⟩
  | 23 => ⟨S1x16384x1, .f32⟩
  | 24 => ⟨S1x16384x1024, .f32⟩
  | 25 => ⟨S1x16384x1024, .f32⟩
  | 26 => ⟨S1x16384x1, .f32⟩
  | 27 => ⟨S_, .f32⟩
  | 28 => ⟨S1x16384x1, .f32⟩
  | 29 => ⟨S1x16384x1, .f32⟩
  | 30 => ⟨S_, .f32⟩
  | 31 => ⟨S16384, .f32⟩
  | 32 => ⟨S1x16384, .f32⟩
  | 33 => ⟨S1x16384x1024, .f32⟩
  | 34 => ⟨S1x16384x1024, .f32⟩
  | 35 => ⟨S1x16384x1024, .f32⟩
  | 36 => ⟨S1x16384x1024, .f32⟩
  | 37 => ⟨S1x16384x1024, .f32⟩
  | 38 => ⟨S1x16384x1024, .f32⟩
  | 39 => ⟨S1x16384x1024, .f32⟩
  | 40 => ⟨S1x16384x1024, .f32⟩
  | 41 => ⟨S1x16384x1024, .f32⟩
  | 42 => ⟨S1x16384x1024, .f32⟩
  | 43 => ⟨S1x16384x1024, .f32⟩
  | 44 => ⟨S_, .f32⟩
  | 45 => ⟨S1x16384x1024, .f32⟩
  | 46 => ⟨S1x16384x1024, .f32⟩
  | 47 => ⟨S1x16384x1024, .f32⟩
  | 48 => ⟨S1x16384x1024, .f32⟩
  | 49 => ⟨S1x16384x1024, .f32⟩
  | 50 => ⟨S1x16384x1024, .f32⟩
  | 51 => ⟨S1x16384x1024, .f32⟩
  | 52 => ⟨S1x16384x1024, .f32⟩
  | 53 => ⟨S1x16384x1024, .f32⟩
  | 54 => ⟨S_, .f32⟩
  | 55 => ⟨S1x16384x1024, .f32⟩
  | 56 => ⟨S1x16384x1024, .f32⟩
  | 57 => ⟨S1x16384x1024, .f32⟩
  | 58 => ⟨S1x1024, .f32⟩
  | 59 => ⟨S_, .f32⟩
  | 60 => ⟨S1x1024, .f32⟩
  | 61 => ⟨S1x1x1024, .f32⟩
  | 62 => ⟨S_, .f32⟩
  | 63 => ⟨S1024, .f32⟩
  | 64 => ⟨S1x1024, .f32⟩
  | 65 => ⟨S_, .f32⟩
  | 66 => ⟨S1x2048, .f32⟩
  | 67 => ⟨S_, .f32⟩
  | 68 => ⟨S1x1024, .f32⟩
  | 69 => ⟨S1x1x1024, .f32⟩
  | 70 => ⟨S_, .f32⟩
  | 71 => ⟨S1024, .f32⟩
  | 72 => ⟨S1x1024, .f32⟩
  | 73 => ⟨S_, .f32⟩
  | 74 => ⟨S1x2048, .f32⟩
  | 75 => ⟨S1x2048, .f32⟩
  | 76 => ⟨S1x16384x7168, .f32⟩
  | 77 => ⟨S16384x7168, .f32⟩
  | 78 => ⟨S16384x7168, .bf16⟩
  | 79 => ⟨S16384x1024, .f32⟩
  | 80 => ⟨S16384x1024, .f32⟩
  | 81 => ⟨S16384x1024, .f32⟩
  | 82 => ⟨S16384x3072, .f32⟩
  | 83 => ⟨S16384x3072, .bf16⟩
  | 84 => ⟨S3x1024, .f32⟩
  | 85 => ⟨S_, .f32⟩
  | 86 => ⟨S4x1024, .f32⟩
  | 87 => ⟨S8x1024, .f32⟩
  | 88 => ⟨S_, .f32⟩
  | 89 => ⟨S7x2048, .f32⟩
  | 90 => ⟨S8x2048, .f32⟩
  | 91 => ⟨S128x8x128, .f32⟩
  | 92 => ⟨S8x128x128, .f32⟩
  | _ => ⟨S1x16384x7168, .f32⟩

abbrev hbmTy (i : Nat) : BufTy := match i / 128 with
  | 0 => hbmTy0_0 i
  | 1 => hbmTy0_1 i
  | 2 => hbmTy0_2 i
  | _ => ⟨S1x16384x7168, .f32⟩

abbrev bufTy : (tb : Table) → Fin (tcTables nBuf tb) → BufTy
  | .hbm, ⟨i, _⟩ => hbmTy i
  | _, _ => ⟨S1x16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_call1_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_1 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_2 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_cst_9 : Ref sig .tc := ⟨.hbm, 96, rfl⟩
abbrev main_v58 : Ref sig .tc := ⟨.hbm, 97, rfl⟩
abbrev main_v59 : Ref sig .tc := ⟨.hbm, 98, rfl⟩
abbrev main_cst_10 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_11 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_cst_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_v94 : Ref sig .tc := ⟨.hbm, 139, rfl⟩
abbrev main_cst_16 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_17 : Ref sig .tc := ⟨.hbm, 165, rfl⟩
abbrev main_v119 : Ref sig .tc := ⟨.hbm, 166, rfl⟩
abbrev main_v120 : Ref sig .tc := ⟨.hbm, 167, rfl⟩
abbrev main_cst_18 : Ref sig .tc := ⟨.hbm, 168, rfl⟩
abbrev main_v121 : Ref sig .tc := ⟨.hbm, 169, rfl⟩
abbrev main_v122 : Ref sig .tc := ⟨.hbm, 170, rfl⟩
abbrev main_cst_19 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_20 : Ref sig .tc := ⟨.hbm, 181, rfl⟩
abbrev main_v132 : Ref sig .tc := ⟨.hbm, 182, rfl⟩
abbrev main_v133 : Ref sig .tc := ⟨.hbm, 183, rfl⟩
abbrev main_cst_21 : Ref sig .tc := ⟨.hbm, 184, rfl⟩
abbrev main_v134 : Ref sig .tc := ⟨.hbm, 185, rfl⟩
abbrev main_v135 : Ref sig .tc := ⟨.hbm, 186, rfl⟩
abbrev main_cst_22 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_23 : Ref sig .tc := ⟨.hbm, 212, rfl⟩
abbrev main_v160 : Ref sig .tc := ⟨.hbm, 213, rfl⟩
abbrev main_v161 : Ref sig .tc := ⟨.hbm, 214, rfl⟩
abbrev main_cst_24 : Ref sig .tc := ⟨.hbm, 215, rfl⟩
abbrev main_v162 : Ref sig .tc := ⟨.hbm, 216, rfl⟩
abbrev main_cst_25 : Ref sig .tc := ⟨.hbm, 217, rfl⟩
abbrev main_v163 : Ref sig .tc := ⟨.hbm, 218, rfl⟩
abbrev main_v164 : Ref sig .tc := ⟨.hbm, 219, rfl⟩
abbrev main_cst_26 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_27 : Ref sig .tc := ⟨.hbm, 225, rfl⟩
abbrev main_v169 : Ref sig .tc := ⟨.hbm, 226, rfl⟩
abbrev main_v170 : Ref sig .tc := ⟨.hbm, 227, rfl⟩
abbrev main_cst_28 : Ref sig .tc := ⟨.hbm, 228, rfl⟩
abbrev main_v171 : Ref sig .tc := ⟨.hbm, 229, rfl⟩
abbrev main_cst_29 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_cst_30 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_31 : Ref sig .tc := ⟨.hbm, 240, rfl⟩
abbrev main_v180 : Ref sig .tc := ⟨.hbm, 241, rfl⟩
abbrev main_v181 : Ref sig .tc := ⟨.hbm, 242, rfl⟩
abbrev main_cst_32 : Ref sig .tc := ⟨.hbm, 243, rfl⟩
abbrev main_v182 : Ref sig .tc := ⟨.hbm, 244, rfl⟩
abbrev main_cst_33 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_34 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_35 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_cst_36 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_37 : Ref sig .tc := ⟨.hbm, 274, rfl⟩
abbrev main_v208 : Ref sig .tc := ⟨.hbm, 275, rfl⟩
abbrev main_v209 : Ref sig .tc := ⟨.hbm, 276, rfl⟩
abbrev main_cst_38 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_39 : Ref sig .tc := ⟨.hbm, 283, rfl⟩
abbrev main_v215 : Ref sig .tc := ⟨.hbm, 284, rfl⟩
abbrev main_v216 : Ref sig .tc := ⟨.hbm, 285, rfl⟩
abbrev main_cst_40 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_cst_41 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_42 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_cst_43 : Ref sig .tc := ⟨.hbm, 315, rfl⟩
abbrev main_v243 : Ref sig .tc := ⟨.hbm, 316, rfl⟩
abbrev main_v244 : Ref sig .tc := ⟨.hbm, 317, rfl⟩
abbrev main_cst_44 : Ref sig .tc := ⟨.hbm, 318, rfl⟩
abbrev main_v245 : Ref sig .tc := ⟨.hbm, 319, rfl⟩
abbrev main_v246 : Ref sig .tc := ⟨.hbm, 320, rfl⟩
abbrev main_cst_45 : Ref sig .tc := ⟨.hbm, 321, rfl⟩
abbrev main_v247 : Ref sig .tc := ⟨.hbm, 322, rfl⟩
abbrev main_cst_46 : Ref sig .tc := ⟨.hbm, 323, rfl⟩
abbrev main_v248 : Ref sig .tc := ⟨.hbm, 324, rfl⟩
abbrev main_v249 : Ref sig .tc := ⟨.hbm, 325, rfl⟩
abbrev main_cst_47 : Ref sig .tc := ⟨.hbm, 326, rfl⟩
abbrev main_v250 : Ref sig .tc := ⟨.hbm, 327, rfl⟩
abbrev main_v251 : Ref sig .tc := ⟨.hbm, 328, rfl⟩
abbrev main_cst_48 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_cst_49 : Ref sig .tc := ⟨.hbm, 341, rfl⟩
abbrev main_v263 : Ref sig .tc := ⟨.hbm, 342, rfl⟩
abbrev main_v264 : Ref sig .tc := ⟨.hbm, 343, rfl⟩
abbrev main_cst_50 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩

abbrev nD : Nat := 1
abbrev τ : Topo := Topo.v7x

variable {F : FTy → Type} [FloatOps F]
-- ==== Mixer.lean ====
abbrev S1x16384x1024 : Shape := ⟨3, ![1, 16384, 1024]⟩
abbrev S1x16384x7168 : Shape := ⟨3, ![1, 16384, 7168]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x3x1024 : Shape := ⟨3, ![1, 3, 1024]⟩
abbrev S1x1024x1024 : Shape := ⟨3, ![1, 1024, 1024]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S16384x1024 : Shape := ⟨2, ![16384, 1024]⟩
abbrev S16384x7168 : Shape := ⟨2, ![16384, 7168]⟩
abbrev S8x128x128 : Shape := ⟨3, ![8, 128, 128]⟩
abbrev S8x128x1 : Shape := ⟨3, ![8, 128, 1]⟩
abbrev S1024x1024 : Shape := ⟨2, ![1024, 1024]⟩
abbrev S16384x3072 : Shape := ⟨2, ![16384, 3072]⟩
abbrev S512x1024 : Shape := ⟨2, ![512, 1024]⟩
abbrev S512x7168 : Shape := ⟨2, ![512, 7168]⟩
abbrev S512x3072 : Shape := ⟨2, ![512, 3072]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S520x1024 : Shape := ⟨2, ![520, 1024]⟩

abbrev nBuf : Space → Nat
  | .hbm => 29
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1x16384x7168, .f32⟩
  | .hbm, ⟨2, _⟩ => ⟨S1x2048, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x3x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S3x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S16384x1024, .f32⟩
  | .hbm, ⟨15, _⟩ => ⟨S16384x7168, .f32⟩
  | .hbm, ⟨16, _⟩ => ⟨S16384x7168, .bf16⟩
  | .hbm, ⟨17, _⟩ => ⟨S8x128x128, .f32⟩
  | .hbm, ⟨18, _⟩ => ⟨S8x128x1, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S16384x3072, .bf16⟩
  | .hbm, ⟨26, _⟩ => ⟨S16384x1024, .bf16⟩
  | .hbm, ⟨27, _⟩ => ⟨S16384x1024, .bf16⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x7168, .bf16⟩
  | .local _ .vmem, ⟨3, _⟩ => ⟨S512x7168, .bf16⟩
  | .local _ .vmem, ⟨4, _⟩ => ⟨S1x2048, .f32⟩
  | .local _ .vmem, ⟨5, _⟩ => ⟨S1x1024, .f32⟩
  | .local _ .vmem, ⟨6, _⟩ => ⟨S8x128x128, .f32⟩
  | .local _ .vmem, ⟨7, _⟩ => ⟨S8x128x1, .f32⟩
  | .local _ .vmem, ⟨8, _⟩ => ⟨S8x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x3072, .bf16⟩
  | .local _ .vmem, ⟨13, _⟩ => ⟨S512x3072, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixerIdeal.lean ====
variable {F : FTy → Type} [FloatOps F] [Named F]
def κ : String → Option EReal := fun
  | "sqrt_half" => some ((Real.sqrt (1 / 2) : ℝ) : EReal)
  | _ => none
-- ==== MixerRefIdeal.lean ====
abbrev S1x16384x1024 : Shape := ⟨3, ![1, 16384, 1024]⟩
abbrev S1x16384x7168 : Shape := ⟨3, ![1, 16384, 7168]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x3x1024 : Shape := ⟨3, ![1, 3, 1024]⟩
abbrev S1x1024x1024 : Shape := ⟨3, ![1, 1024, 1024]⟩
abbrev S1024 : Shape := ⟨1, ![1024]⟩
abbrev S1x1x1024 : Shape := ⟨3, ![1, 1, 1024]⟩
abbrev S8x128x128 : Shape := ⟨3, ![8, 128, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1x1x128x8x128 : Shape := ⟨5, ![1, 1, 128, 8, 128]⟩
abbrev S1x16384 : Shape := ⟨2, ![1, 16384]⟩
abbrev S1x16384x1 : Shape := ⟨3, ![1, 16384, 1]⟩
abbrev S1x128x128x8x128 : Shape := ⟨5, ![1, 128, 128, 8, 128]⟩
abbrev S8x1x128x128x128 : Shape := ⟨5, ![8, 1, 128, 128, 128]⟩
abbrev S3x1024 : Shape := ⟨2, ![3, 1024]⟩
abbrev S1x2x1024 : Shape := ⟨3, ![1, 2, 1024]⟩
abbrev S1x16386x1024 : Shape := ⟨3, ![1, 16386, 1024]⟩
abbrev S1024x1024 : Shape := ⟨2, ![1024, 1024]⟩
abbrev S1x16384x3072 : Shape := ⟨3, ![1, 16384, 3072]⟩
abbrev S16384x3072 : Shape := ⟨2, ![16384, 3072]⟩
abbrev S16384x1024 : Shape := ⟨2, ![16384, 1024]⟩

abbrev nBuf : Space → Nat
  | .hbm => 165
  | .vmem => 0
  | .smem => 0
  | _ => 0

abbrev hbmTy0_0 (i : Nat) : BufTy := match i % 128 with
  | 0 => ⟨S1x16384x1024, .f32⟩
  | 1 => ⟨S1x16384x7168, .f32⟩
  | 2 => ⟨S1x2048, .f32⟩
  | 3 => ⟨S1x1024, .f32⟩
  | 4 => ⟨S1x8x128x128, .f32⟩
  | 5 => ⟨S1x8x128, .f32⟩
  | 6 => ⟨S1x3x1024, .f32⟩
  | 7 => ⟨S1x1024x1024, .f32⟩
  | 8 => ⟨S1x1024x1024, .f32⟩
  | 9 => ⟨S1x1024x1024, .f32⟩
  | 10 => ⟨S1x16384x1024, .f32⟩
  | 11 => ⟨S1x16384x1024, .f32⟩
  | 12 => ⟨S1x16384x1024, .f32⟩
  | 13 => ⟨S1x16384x1024, .f32⟩
  | 14 => ⟨S1x16384x1024, .f32⟩
  | 15 => ⟨S1x16384x1024, .f32⟩
  | 16 => ⟨S1x16384x1024, .f32⟩
  | 17 => ⟨S1x1024, .f32⟩
  | 18 => ⟨S1024, .f32⟩
  | 19 => ⟨S1x1x1024, .f32⟩
  | 20 => ⟨S1x16384x1024, .f32⟩
  | 21 => ⟨S1x16384x1024, .f32⟩
  | 22 => ⟨S1x1024, .f32⟩
  | 23 => ⟨S1024, .f32⟩
  | 24 => ⟨S1x1x1024, .f32⟩
  | 25 => ⟨S1x16384x1024, .f32⟩
  | 26 => ⟨S1x16384x1024, .f32⟩
  | 27 => ⟨S1024, .f32⟩
  | 28 => ⟨S8x128x128, .f32⟩
  | 29 => ⟨S128, .i32⟩
  | 30 => ⟨S_, .i32⟩
  | 31 => ⟨S_, .i32⟩
  | 32 => ⟨S128, .i32⟩
  | 33 => ⟨S128, .i32⟩
  | 34 => ⟨S128, .i32⟩
  | 35 => ⟨S_, .i32⟩
  | 36 => ⟨S128, .i32⟩
  | 37 => ⟨S128, .i1⟩
  | 38 => ⟨S128, .i32⟩
  | 39 => ⟨S128, .i32⟩
  | 40 => ⟨S_, .i32⟩
  | 41 => ⟨S128, .i32⟩
  | 42 => ⟨S128, .i1⟩
  | 43 => ⟨S128, .i1⟩
  | 44 => ⟨S_, .i32⟩
  | 45 => ⟨S128, .i32⟩
  | 46 => ⟨S128, .i32⟩
  | 47 => ⟨S128, .i32⟩
  | 48 => ⟨S1x128, .i32⟩
  | 49 => ⟨S128x1, .i32⟩
  | 50 => ⟨S128x128, .i32⟩
  | 51 => ⟨S128x128, .i32⟩
  | 52 => ⟨S128x128, .i1⟩
  | 53 => ⟨S1x128x128, .i1⟩
  | 54 => ⟨S_, .f32⟩
  | 55 => ⟨S8x128x128, .f32⟩
  | 56 => ⟨S8x128x128, .i1⟩
  | 57 => ⟨S8x128x128, .f32⟩
  | 58 => ⟨S8x128, .f32⟩
  | 59 => ⟨S128x8, .f32⟩
  | 60 => ⟨S1x1x128x8x1, .f32⟩
  | 61 => ⟨S1x1x128x8x128, .f32⟩
  | 62 => ⟨S_, .f32⟩
  | 63 => ⟨S1x16384x1024, .f32⟩
  | 64 => ⟨S1x16384x1024, .f32⟩
  | 65 => ⟨S1x16384x1024, .f32⟩
  | 66 => ⟨S_, .f32⟩
  | 67 => ⟨S_, .f32⟩
  | 68 => ⟨S1x16384x1024, .f32⟩
  | 69 => ⟨S1x16384x1024, .f32⟩
  | 70 => ⟨S1x16384x1024, .f32⟩
  | 71 => ⟨S1x16384x1024, .f32⟩
  | 72 => ⟨S_, .f32⟩
  | 73 => ⟨S1x16384x1024, .f32⟩
  | 74 => ⟨S1x16384x1024, .f32⟩
  | 75 => ⟨S1x16384x1024, .f32⟩
  | 76 => ⟨S_, .f32⟩
  | 77 => ⟨S_, .f32⟩
  | 78 => ⟨S1x16384x1024, .f32⟩
  | 79 => ⟨S1x16384x1024, .f32⟩
  | 80 => ⟨S1x16384x1024, .f32⟩
  | 81 => ⟨S1x16384x1024, .f32⟩
  | 82 => ⟨S1x16384x1024, .f32⟩
  | 83 => ⟨S_, .f32⟩
  | 84 => ⟨S1x16384, .f32⟩
  | 85 => ⟨S1x16384x1, .f32⟩
  | 86 => ⟨S_, .f32⟩
  | 87 => ⟨S1x16384x1, .f32⟩
  | 88 => ⟨S1x16384x1, .f32⟩
  | 89 => ⟨S_, .f32⟩
  | 90 => ⟨S1x16384x1, .f32⟩
  | 91 => ⟨S1x16384x1, .f32⟩
  | 92 => ⟨S1x16384x1, .f32⟩
  | 93 => ⟨S1x16384x1024, .f32⟩
  | 94 => ⟨S1x16384x1024, .f32⟩
  | 95 => ⟨S1x1x1024, .f32⟩
  | 96 => ⟨S1x16384x1024, .f32⟩
  | 97 => ⟨S1x16384x1024, .f32⟩
  | 98 => ⟨S1x128x128x8x128, .f32⟩
  | 99 => ⟨S8x1x128x128x128, .f32⟩
  | 100 => ⟨S1x128x128x8x128, .f32⟩
  | 101 => ⟨S1x128x128x8x128, .f32⟩
  | 102 => ⟨S1x128x128x8x128, .f32⟩
  | 103 => ⟨S1x16384x1024, .f32⟩
  | 104 => ⟨S1x16384x1024, .f32⟩
  | 105 => ⟨S1x16384x1024, .f32⟩
  | 106 => ⟨S3x1024, .f32⟩
  | 107 => ⟨S_, .f32⟩
  | 108 => ⟨S1x2x1024, .f32⟩
  | 109 => ⟨S1x16386x1024, .f32⟩
  | 110 => ⟨S1x1024, .f32⟩
  | 111 => ⟨S1024, .f32⟩
  | 112 => ⟨S1x16384x1024, .f32⟩
  | 113 => ⟨S1x1x1024, .f32⟩
  | 114 => ⟨S1x16384x1024, .f32⟩
  | 115 => ⟨S1x16384x1024, .f32⟩
  | 116 => ⟨S1x1024, .f32⟩
  | 117 => ⟨S1024, .f32⟩
  | 118 => ⟨S1x16384x1024, .f32⟩
  | 119 => ⟨S1x1x1024, .f32⟩
  | 120 => ⟨S1x16384x1024, .f32⟩
  | 121 => ⟨S1x16384x1024, .f32⟩
  | 122 => ⟨S1x16384x1024, .f32⟩
  | 123 => ⟨S1x1024, .f32⟩
  | 124 => ⟨S1024, .f32⟩
  | 125 => ⟨S1x16384x1024, .f32⟩
  | 126 => ⟨S1x1x1024, .f32⟩
  | 127 => ⟨S1x16384x1024, .f32⟩
  | _ => ⟨S1x16384x1024, .f32⟩

abbrev hbmTy0_1 (i : Nat) : BufTy := match i % 128 with
  | 0 => ⟨S1x16384x1024, .f32⟩
  | 1 => ⟨S1x16384x1024, .f32⟩
  | 2 => ⟨S1x16384x1024, .f32⟩
  | 3 => ⟨S1024x1024, .f32⟩
  | 4 => ⟨S1x16384x1024, .f32⟩
  | 5 => ⟨S1024x1024, .f32⟩
  | 6 => ⟨S1x16384x1024, .f32⟩
  | 7 => ⟨S1x16384x1024, .f32⟩
  | 8 => ⟨S1x16384x1024, .f32⟩
  | 9 => ⟨S_, .f32⟩
  | 10 => ⟨S1x16384x1024, .f32⟩
  | 11 => ⟨S1x16384x1024, .f32⟩
  | 12 => ⟨S_, .f32⟩
  | 13 => ⟨S1x16384x1024, .f32⟩
  | 14 => ⟨S1x16384x1024, .f32⟩
  | 15 => ⟨S1x16384x1024, .f32⟩
  | 16 => ⟨S1x16384x1024, .f32⟩
  | 17 => ⟨S1x16384x1024, .f32⟩
  | 18 => ⟨S_, .f32⟩
  | 19 => ⟨S1x16384x1024, .f32⟩
  | 20 => ⟨S1x16384x1024, .f32⟩
  | 21 => ⟨S_, .f32⟩
  | 22 => ⟨S1x16384x1024, .f32⟩
  | 23 => ⟨S1x16384x1024, .f32⟩
  | 24 => ⟨S1x16384x1024, .f32⟩
  | 25 => ⟨S1x16384x1024, .f32⟩
  | 26 => ⟨S1024x1024, .f32⟩
  | 27 => ⟨S1x16384x1024, .f32⟩
  | 28 => ⟨S1x16384x1024, .f32⟩
  | 29 => ⟨S1x16384x3072, .f32⟩
  | 30 => ⟨S16384x3072, .f32⟩
  | 31 => ⟨S16384x3072, .bf16⟩
  | 32 => ⟨S16384x1024, .f32⟩
  | 33 => ⟨S16384x1024, .bf16⟩
  | 34 => ⟨S16384x1024, .f32⟩
  | 35 => ⟨S16384x1024, .bf16⟩
  | 36 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_call1_v0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_4 : Ref sig .tc := ⟨.hbm, 83, rfl⟩
abbrev main_v50 : Ref sig .tc := ⟨.hbm, 84, rfl⟩
abbrev main_v51 : Ref sig .tc := ⟨.hbm, 85, rfl⟩
abbrev main_cst_5 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_7 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_8 : Ref sig .tc := ⟨.hbm, 137, rfl⟩
abbrev main_v100 : Ref sig .tc := ⟨.hbm, 138, rfl⟩
abbrev main_v101 : Ref sig .tc := ⟨.hbm, 139, rfl⟩
abbrev main_cst_9 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_10 : Ref sig .tc := ⟨.hbm, 146, rfl⟩
abbrev main_v107 : Ref sig .tc := ⟨.hbm, 147, rfl⟩
abbrev main_v108 : Ref sig .tc := ⟨.hbm, 148, rfl⟩
abbrev main_cst_11 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== Weight.lean ====
abbrev S1x16384x1024 : Shape := ⟨3, ![1, 16384, 1024]⟩
abbrev S1x16384x7168 : Shape := ⟨3, ![1, 16384, 7168]⟩
abbrev S16384x1024 : Shape := ⟨2, ![16384, 1024]⟩
abbrev S16384x7168 : Shape := ⟨2, ![16384, 7168]⟩
abbrev S1024x7168 : Shape := ⟨2, ![1024, 7168]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1x16384x7168, .f32⟩
  | .hbm, ⟨2, _⟩ => ⟨S16384x1024, .f32⟩
  | .hbm, ⟨3, _⟩ => ⟨S16384x1024, .bf16⟩
  | .hbm, ⟨4, _⟩ => ⟨S16384x7168, .f32⟩
  | .hbm, ⟨5, _⟩ => ⟨S16384x7168, .bf16⟩
  | .hbm, ⟨6, _⟩ => ⟨S1024x7168, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightRefIdeal.lean ====
abbrev S1x16384x1024 : Shape := ⟨3, ![1, 16384, 1024]⟩
abbrev S1x16384x7168 : Shape := ⟨3, ![1, 16384, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x7168, .f32⟩
  | .hbm, ⟨2, _⟩ => ⟨S_, .f32⟩
  | .hbm, ⟨3, _⟩ => ⟨S1024x7168, .f32⟩
  | .hbm, ⟨4, _⟩ => ⟨S1x16384x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Stack.lean ====
abbrev S1x16384x3072 : Shape := ⟨3, ![1, 16384, 3072]⟩
abbrev S16384x3072 : Shape := ⟨2, ![16384, 3072]⟩
abbrev S3x1024x1024 : Shape := ⟨3, ![3, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x16384x3072, .f32⟩
  | .hbm, ⟨1, _⟩ => ⟨S1x16384x3072, .f32⟩
  | .hbm, ⟨2, _⟩ => ⟨S16384x3072, .f32⟩
  | .hbm, ⟨3, _⟩ => ⟨S16384x3072, .bf16⟩
  | .hbm, ⟨4, _⟩ => ⟨S16384x3072, .f32⟩
  | .hbm, ⟨5, _⟩ => ⟨S16384x3072, .bf16⟩
  | .hbm, ⟨6, _⟩ => ⟨S3x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S1x16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== StackRefIdeal.lean ====
abbrev S1x16384x3072 : Shape := ⟨3, ![1, 16384, 3072]⟩
abbrev S1x16384x1024 : Shape := ⟨3, ![1, 16384, 1024]⟩
abbrev S_ : Shape := ⟨0, ![]⟩
abbrev S1024x1024 : Shape := ⟨2, ![1024, 1024]⟩
abbrev S1x1024x1024 : Shape := ⟨3, ![1, 1024, 1024]⟩
abbrev S3x1024x1024 : Shape := ⟨3, ![3, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x16384x3072, .f32⟩
  | .hbm, ⟨1, _⟩ => ⟨S1x16384x3072, .f32⟩
  | .hbm, ⟨2, _⟩ => ⟨S1x16384x1024, .f32⟩
  | .hbm, ⟨3, _⟩ => ⟨S1x16384x1024, .f32⟩
  | .hbm, ⟨4, _⟩ => ⟨S1x16384x1024, .f32⟩
  | .hbm, ⟨5, _⟩ => ⟨S1x16384x1024, .f32⟩
  | .hbm, ⟨6, _⟩ => ⟨S1x16384x1024, .f32⟩
  | .hbm, ⟨7, _⟩ => ⟨S1x16384x1024, .f32⟩
  | .hbm, ⟨8, _⟩ => ⟨S_, .f32⟩
  | .hbm, ⟨9, _⟩ => ⟨S1024x1024, .f32⟩
  | .hbm, ⟨10, _⟩ => ⟨S1x16384x1024, .f32⟩
  | .hbm, ⟨11, _⟩ => ⟨S1x16384x1024, .f32⟩
  | .hbm, ⟨12, _⟩ => ⟨S1x16384x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1x1024x1024, .f32⟩
  | .hbm, ⟨21, _⟩ => ⟨S1x1024x1024, .f32⟩
  | .hbm, ⟨22, _⟩ => ⟨S3x1024x1024, .f32⟩
  | .hbm, ⟨23, _⟩ => ⟨S3x1024x1024, .bf16⟩
  | _, _ => ⟨S1x16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Pack.lean ====
abbrev S8x1024 : Shape := ⟨2, ![8, 1024]⟩
abbrev S8x2048 : Shape := ⟨2, ![8, 2048]⟩
abbrev S8x128x128 : Shape := ⟨3, ![8, 128, 128]⟩
abbrev S8x8x128 : Shape := ⟨3, ![8, 8, 128]⟩
abbrev S1x1024 : Shape := ⟨2, ![1, 1024]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S3x128 : Shape := ⟨2, ![3, 128]⟩
abbrev S1x3x128 : Shape := ⟨3, ![1, 3, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x2048, .f32⟩
  | .hbm, ⟨4, _⟩ => ⟨S8x128x128, .f32⟩
  | .hbm, ⟨5, _⟩ => ⟨S8x1024, .f32⟩
  | .hbm, ⟨6, _⟩ => ⟨S8x8x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x2048, .f32⟩
  | .local _ .vmem, ⟨4, _⟩ => ⟨S8x128x128, .f32⟩
  | .local _ .vmem, ⟨5, _⟩ => ⟨S8x1024, .f32⟩
  | .local _ .vmem, ⟨6, _⟩ => ⟨S8x8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PackRefIdeal.lean ====
abbrev S8x1024 : Shape := ⟨2, ![8, 1024]⟩
abbrev S8x2048 : Shape := ⟨2, ![8, 2048]⟩
abbrev S8x128x128 : Shape := ⟨3, ![8, 128, 128]⟩
abbrev S1x1024 : Shape := ⟨2, ![1, 1024]⟩
abbrev S1x2048 : Shape := ⟨2, ![1, 2048]⟩
abbrev S2048 : Shape := ⟨1, ![2048]⟩
abbrev S2x1024 : Shape := ⟨2, ![2, 1024]⟩
abbrev S_ : Shape := ⟨0, ![]⟩
abbrev S8x128 : Shape := ⟨2, ![8, 128]⟩
abbrev S3x1024 : Shape := ⟨2, ![3, 1024]⟩
abbrev S3x8x128 : Shape := ⟨3, ![3, 8, 128]⟩
abbrev S8x3x128 : Shape := ⟨3, ![8, 3, 128]⟩
abbrev S8x5x128 : Shape := ⟨3, ![8, 5, 128]⟩
abbrev S8x8x128 : Shape := ⟨3, ![8, 8, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x2048, .f32⟩
  | .hbm, ⟨4, _⟩ => ⟨S8x128x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x2048, .f32⟩
  | .hbm, ⟨11, _⟩ => ⟨S2048, .f32⟩
  | .hbm, ⟨12, _⟩ => ⟨S2x1024, .f32⟩
  | .hbm, ⟨13, _⟩ => ⟨S_, .f32⟩
  | .hbm, ⟨14, _⟩ => ⟨S8x128, .f32⟩
  | .hbm, ⟨15, _⟩ => ⟨S1x1024, .f32⟩
  | .hbm, ⟨16, _⟩ => ⟨S8x1024, .f32⟩
  | .hbm, ⟨17, _⟩ => ⟨S3x1024, .f32⟩
  | .hbm, ⟨18, _⟩ => ⟨S3x8x128, .f32⟩
  | .hbm, ⟨19, _⟩ => ⟨S8x3x128, .f32⟩
  | .hbm, ⟨20, _⟩ => ⟨S_, .f32⟩
  | .hbm, ⟨21, _⟩ => ⟨S8x5x128, .f32⟩
  | .hbm, ⟨22, _⟩ => ⟨S8x8x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Adamw.lean ====
abbrev S1 : Shape := ⟨1, ![1]⟩
abbrev S1024x7168 : Shape := ⟨2, ![1024, 7168]⟩
abbrev S7x1024x896 : Shape := ⟨3, ![7, 1024, 896]⟩
abbrev S1024x896 : Shape := ⟨2, ![1024, 896]⟩
abbrev S128x896 : Shape := ⟨2, ![128, 896]⟩
abbrev S7x128x896 : Shape := ⟨3, ![7, 128, 896]⟩
abbrev S1x128x896 : Shape := ⟨3, ![1, 128, 896]⟩

abbrev nBuf : Space → Nat
  | .hbm => 9
  | .vmem => 18
  | .smem => 1
  | _ => 0

abbrev bufTy : (tb : Table) → Fin (tcTables nBuf tb) → BufTy
  | .hbm, ⟨0, _⟩ => ⟨S1024x7168, .bf16⟩
  | .hbm, ⟨1, _⟩ => ⟨S7x1024x896, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S128x896, .bf16⟩
  | .local _ .vmem, ⟨1, _⟩ => ⟨S128x896, .bf16⟩
  | .local _ .vmem, ⟨2, _⟩ => ⟨S7x128x896, .bf16⟩
  | .local _ .vmem, ⟨3, _⟩ => ⟨S7x128x896, .bf16⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | .local _ .vmem, ⟨16, _⟩ => ⟨S128x896, .f32⟩
  | .local _ .vmem, ⟨17, _⟩ => ⟨S128x896, .f32⟩
  | .local _ .smem, ⟨0, _⟩ => ⟨S1, .i32⟩
  | _, _ => ⟨S1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwRefIdeal.lean ====
abbrev S1 : Shape := ⟨1, ![1]⟩
abbrev S1024x7168 : Shape := ⟨2, ![1024, 7168]⟩
abbrev S7x1024x896 : Shape := ⟨3, ![7, 1024, 896]⟩
abbrev S1024x896 : Shape := ⟨2, ![1024, 896]⟩
abbrev S1024x8x896 : Shape := ⟨3, ![1024, 8, 896]⟩
abbrev S8 : Shape := ⟨1, ![8]⟩
abbrev S8x1 : Shape := ⟨2, ![8, 1]⟩
abbrev S1x1 : Shape := ⟨2, ![1, 1]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x7168, .bf16⟩
  | .hbm, ⟨2, _⟩ => ⟨S7x1024x896, .bf16⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x7168, .f32⟩
  | .hbm, ⟨7, _⟩ => ⟨S1024x8x896, .f32⟩
  | .hbm, ⟨8, _⟩ => ⟨S8, .i32⟩
  | .hbm, ⟨9, _⟩ => ⟨S8x1, .i32⟩
  | .hbm, ⟨10, _⟩ => ⟨S1x1, .i32⟩
  | .hbm, ⟨11, _⟩ => ⟨S8x1, .i32⟩
  | .hbm, ⟨12, _⟩ => ⟨S8x1, .i1⟩
  | .hbm, ⟨13, _⟩ => ⟨S_, .f32⟩
  | .hbm, ⟨14, _⟩ => ⟨S_, .f32⟩
  | .hbm, ⟨15, _⟩ => ⟨S1024x8x896, .i1⟩
  | .hbm, ⟨16, _⟩ => ⟨S1024x8x896, .f32⟩
  | .hbm, ⟨17, _⟩ => ⟨S1024x8x896, .f32⟩
  | .hbm, ⟨18, _⟩ => ⟨S_, .f32⟩
  | .hbm, ⟨19, _⟩ => ⟨S1024x896, .f32⟩
  | .hbm, ⟨20, _⟩ => ⟨S7x1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S_, .f32⟩
  | .hbm, ⟨28, _⟩ => ⟨S1024x896, .f32⟩
  | .hbm, ⟨29, _⟩ => ⟨S1024x896, .f32⟩
  | .hbm, ⟨30, _⟩ => ⟨S1024x896, .f32⟩
  | .hbm, ⟨31, _⟩ => ⟨S_, .f32⟩
  | .hbm, ⟨32, _⟩ => ⟨S1024x896, .f32⟩
  | .hbm, ⟨33, _⟩ => ⟨S1024x896, .f32⟩
  | .hbm, ⟨34, _⟩ => ⟨S1024x896, .f32⟩
  | .hbm, ⟨35, _⟩ => ⟨S_, .f32⟩
  | .hbm, ⟨36, _⟩ => ⟨S1024x896, .f32⟩
  | .hbm, ⟨37, _⟩ => ⟨S1024x896, .f32⟩
  | .hbm, ⟨38, _⟩ => ⟨S1024x896, .f32⟩
  | .hbm, ⟨39, _⟩ => ⟨S_, .f32⟩
  | .hbm, ⟨40, _⟩ => ⟨S1024x896, .f32⟩
  | .hbm, ⟨41, _⟩ => ⟨S1024x896, .f32⟩
  | .hbm, ⟨42, _⟩ => ⟨S_, .f32⟩
  | .hbm, ⟨43, _⟩ => ⟨S1024x896, .f32⟩
  | .hbm, ⟨44, _⟩ => ⟨S1024x896, .f32⟩
  | .hbm, ⟨45, _⟩ => ⟨S1024x896, .f32⟩
  | .hbm, ⟨46, _⟩ => ⟨S_, .f32⟩
  | .hbm, ⟨47, _⟩ => ⟨S1024x896, .f32⟩
  | .hbm, ⟨48, _⟩ => ⟨S1024x896, .f32⟩
  | .hbm, ⟨49, _⟩ => ⟨S1024x896, .f32⟩
  | .hbm, ⟨50, _⟩ => ⟨S_, .f32⟩
  | .hbm, ⟨51, _⟩ => ⟨S1024x896, .f32⟩
  | .hbm, ⟨52, _⟩ => ⟨S1024x896, .f32⟩
  | .hbm, ⟨53, _⟩ => ⟨S1024x896, .f32⟩
  | .hbm, ⟨54, _⟩ => ⟨S_, .f32⟩
  | .hbm, ⟨55, _⟩ => ⟨S1024x896, .f32⟩
  | .hbm, ⟨56, _⟩ => ⟨S1024x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.Reals.lean ====
/-
  Real numbers among the extended reals. The claims about gradients assume that the arguments are finite; under that
  assumption each element that a program computes is a real number, and the programs are compared as functions into
  the reals. This module has what every pair uses: the precondition read as "each element is a real number", the
  operations of the ideal instance on real numbers, the literals, and two sums over several axes.
-/
module

public import Idealize.ShloMosaic.Lib.Pointwise
public import Idealize.ShloMosaic.Lib.IdealHost
public import Idealize.ShloMosaic.Lib.ReduceAll

@[expose] public section

set_option maxRecDepth 16384

noncomputable section

namespace Cert.Reals

open Idealize.ShloMosaic

/-! ## Real arrays -/

/-- The element of an array as a real number. -/
def re {s : Shape} (v : s.Idx → EReal) (i : s.Idx) : ℝ := (v i).toReal

/-- Each element of the array is a real number. -/
def IsReal {s : Shape} (v : s.Idx → EReal) : Prop := ∀ i, v i = ((re v i : ℝ) : EReal)

theorem ne_bot_top_of_abs_lt {a : EReal} (h : max a (-a) < ⊤) : a = (a.toReal : EReal) := by
  induction a with
  | bot => simp at h
  | top => simp at h
  | coe r => simp

theorem ofBits_inf : Ideal.ofBits .f32 0x7F800000#32 = (⊤ : EReal) := by
  simp [Ideal.ofBits, Ideal.ieee]

/-- `jnp.all(jnp.abs(v) < inf)` is one exactly where each element of `v` is real: the direction that the proofs use. -/
theorem isReal_of_all {s t u w : Shape} {axes : List (Fin s.rank)} [Subsingleton t.Idx] (v : FVec Ideal s .f32)
    (d : Fin w.rank → Fin s.rank) (hb : w.BroadcastsInDim s d) (init : u.Idx → BitVec 1) (h : s.ReducesTo axes t)
    (hu : 0 < u.numel) (j : t.Idx)
    (e : Host.reduce IntOp.andi (cmpf .olt (Host.absf v) (broadcastInDim s d hb (constant w .f32 0x7F800000#32))) init h hu j = 1#1) :
    IsReal v := fun i => by
  have h1 := Host.reduce_andi_all _ _ _ _ _ e i
  have h2 : BitVec.ofBool (decide (max (v i) (-(v i)) < Ideal.ofBits .f32 0x7F800000#32)) = 1#1 := h1
  rw [ofBits_inf] at h2
  refine ne_bot_top_of_abs_lt ?_
  by_contra hn
  rw [decide_eq_false hn] at h2
  exact absurd h2 (by decide)

theorem and_split {s : Shape} {x y : IVec s 1} (h : andi x y = fun _ => 1#1) :
    x = (fun _ => 1#1) ∧ y = fun _ => 1#1 := by
  have h1 (a b : BitVec 1) : a &&& b = 1#1 → a = 1#1 ∧ b = 1#1 := by revert a b; decide
  exact ⟨funext fun i => (h1 _ _ (congrFun h i)).1, funext fun i => (h1 _ _ (congrFun h i)).2⟩

/-! ## The operations on real numbers -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_mul' (a b : ℝ) : (a : EReal) * (b : EReal) = ((a * b : ℝ) : EReal) := (EReal.coe_mul a b).symm
theorem coe_add' (a b : ℝ) : (a : EReal) + (b : EReal) = ((a + b : ℝ) : EReal) := (EReal.coe_add a b).symm
theorem coe_sub' (a b : ℝ) : (a : EReal) - (b : EReal) = ((a - b : ℝ) : EReal) := (EReal.coe_sub a b).symm
theorem coe_neg' (a : ℝ) : -(a : EReal) = ((-a : ℝ) : EReal) := (EReal.coe_neg a).symm
theorem coe_max' (a b : ℝ) : max (a : EReal) (b : EReal) = ((max a b : ℝ) : EReal) :=
  (EReal.coe_strictMono.monotone.map_max).symm

theorem div_real (a : ℝ) {b : ℝ} (hb : b ≠ 0) : Ideal.div (a : EReal) (b : EReal) = ((a / b : ℝ) : EReal) := by
  rw [Ideal.div_coe hb, coe_mul', mul_one_div]

theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-! ## The literals -/

/-- The norms' epsilon, as the programs' literal has it: the binary32 number nearest to 10⁻⁶. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, -EReal.coe_mul, eps]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  rw [Ideal.ofBits_one_f32]; simp

theorem ofBits_two : Ideal.ofBits .f32 0x40000000#32 = ((2 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; simp

/-! ## Sums over the first axis, of extent one, and another -/

theorem drop_one_mid {n k : ℕ} (h : (⟨3, ![1, n, k]⟩ : Shape).ReducesTo [0, 1] ⟨1, ![k]⟩) (c : Fin k)
    (i : (⟨3, ![1, n, k]⟩ : Shape).Idx) : h.drop i = ix1 c ↔ ∃ a : Fin n, ix3 (0 : Fin 1) a c = i := by
  constructor
  · intro e
    refine ⟨i 1, funext fun a => Fin.ext ?_⟩
    match a with
    | ⟨0, _⟩ => exact (Nat.lt_one_iff.1 (i 0).isLt).symm
    | ⟨1, _⟩ => rfl
    | ⟨2, _⟩ => exact (congrArg Fin.val (congrFun e 0)).symm
  · rintro ⟨a, rfl⟩
    exact funext fun b => Fin.ext (by match b with | ⟨0, _⟩ => rfl)

/-- A sum over the first two axes, the first of extent one. -/
theorem reduceAdd_one_mid {n k : ℕ} (h : (⟨3, ![1, n, k]⟩ : Shape).ReducesTo [0, 1] ⟨1, ![k]⟩)
    (v : (⟨3, ![1, n, k]⟩ : Shape).Idx → EReal) (init : EReal) (c : Fin k) :
    Ideal.hostReduceAdd h v init (ix1 c) = init + ∑ a : Fin n, v (ix3 (0 : Fin 1) a c) :=
  congrArg (init + ·) (Finset.sum_filter_eq_sum_of_fiber _ (fun a : Fin n => ix3 (0 : Fin 1) a c)
    (fun _ _ e => congrFun e 1) (drop_one_mid h c) v)

theorem drop_one_one {n : ℕ} (h : (⟨3, ![1, n, 1]⟩ : Shape).ReducesTo [0, 2] ⟨1, ![n]⟩) (c : Fin n)
    (i : (⟨3, ![1, n, 1]⟩ : Shape).Idx) : h.drop i = ix1 c ↔ ∃ a : Fin 1, ix3 (0 : Fin 1) c a = i := by
  constructor
  · intro e
    refine ⟨i 2, funext fun a => Fin.ext ?_⟩
    match a with
    | ⟨0, _⟩ => exact (Nat.lt_one_iff.1 (i 0).isLt).symm
    | ⟨1, _⟩ => exact (congrArg Fin.val (congrFun e 0)).symm
    | ⟨2, _⟩ => rfl
  · rintro ⟨a, rfl⟩
    exact funext fun b => Fin.ext (by match b with | ⟨0, _⟩ => rfl)

/-- A sum over the first and the last of three axes, both of extent one. -/
theorem reduceAdd_one_one {n : ℕ} (h : (⟨3, ![1, n, 1]⟩ : Shape).ReducesTo [0, 2] ⟨1, ![n]⟩)
    (v : (⟨3, ![1, n, 1]⟩ : Shape).Idx → EReal) (init : EReal) (c : Fin n) :
    Ideal.hostReduceAdd h v init (ix1 c) = init + v (ix3 (0 : Fin 1) c (0 : Fin 1)) :=
  congrArg (init + ·) ((Finset.sum_filter_eq_sum_of_fiber _ (fun a : Fin 1 => ix3 (0 : Fin 1) c a)
    (fun _ _ _ => Subsingleton.elim _ _) (drop_one_one h c) v).trans (Fin.sum_univ_one _))

/-! ## Root-mean-square norms of rows of 1024 real numbers -/

/-- The reciprocal root mean square of a row. -/
def rinv (x : Fin 1024 → ℝ) : ℝ := (Real.sqrt ((∑ k, x k * x k) / 1024 + eps))⁻¹

theorem ms_pos (x : Fin 1024 → ℝ) : 0 < (∑ k, x k * x k) / 1024 + eps :=
  add_pos_of_nonneg_of_pos (div_nonneg (Finset.sum_nonneg fun k _ => mul_self_nonneg (x k)) (by norm_num)) eps_pos

theorem ms_rsqrt (x : Fin 1024 → ℝ) :
    Ideal.rsqrt (((∑ k, x k * x k) / 1024 + eps : ℝ) : EReal) = ((rinv x : ℝ) : EReal) := rsqrt_real (ms_pos x)

/-- What the gradient of the reciprocal root contributes: a cube. -/
theorem rinv_div (x : Fin 1024 → ℝ) : rinv x / ((∑ k, x k * x k) / 1024 + eps) = rinv x * (rinv x * rinv x) := by
  have h := ms_pos x
  unfold rinv
  rw [← mul_inv, Real.mul_self_sqrt h.le, div_eq_mul_inv]

/-- The gradient of a row's norm at a cotangent `d`, written with the normalized row, as the kernels write it. -/
def rmsBack (x d : Fin 1024 → ℝ) (c : Fin 1024) : ℝ :=
  rinv x * (d c - x c * rinv x * ((∑ k, d k * (x k * rinv x)) / 1024))

/-- The same gradient, as the chain rule through the mean and the reciprocal root writes it. -/
theorem rmsBack_eq (x d : Fin 1024 → ℝ) (c : Fin 1024) :
    d c * rinv x + x c * ((∑ k, x k * d k) * (-(1 / 2) * (rinv x / ((∑ k, x k * x k) / 1024 + eps))) / 1024)
      + (∑ k, x k * d k) * (-(1 / 2) * (rinv x / ((∑ k, x k * x k) / 1024 + eps))) / 1024 * x c = rmsBack x d c := by
  have h : ∑ k, d k * (x k * rinv x) = (∑ k, x k * d k) * rinv x := by
    rw [Finset.sum_mul]; exact Finset.sum_congr rfl fun k _ => by ring
  rw [rinv_div, rmsBack, h]
  ring

end Cert.Reals

end
-- ==== Proof.InProjReference.lean ====
/-
  What the reference of the projection's backward call computes, on real arguments, element by element.
-/
module

public import proofs.«01_k».proof.Proof.Reals
public import proofs.«01_k».proof.Proof.Gen.InProjRefIdeal.Run
public import proofs.«01_k».proof.Proof.Gen.InProjRefIdeal.Read

@[expose] public section

set_option maxRecDepth 16384

noncomputable section

namespace Cert.InProjValue

open Idealize.ShloMosaic Cert.Reals Cert.InProjRefIdeal Cert.InProjRefIdeal.Read

variable (x0 : FVec Ideal S1x16384x1024 .f32) (x1 : FVec Ideal S1x1024 .f32) (x2 : FVec Ideal S1x1024x7168 .f32)
  (x3 : FVec Ideal S1x16384x1024 .f32) (x4 : FVec Ideal S1x16384x7168 .f32)

/-- Row `t` of the block's input. -/
def row (t : Fin 16384) (k : Fin 1024) : ℝ := re x0 (ix3 (0 : Fin 1) t k)

/-- The cotangent of the normalized input: the projection's cotangent times the transposed matrix. -/
def dy (t : Fin 16384) (k : Fin 1024) : ℝ :=
  ∑ j : Fin 7168, re x4 (ix3 (0 : Fin 1) t j) * re x2 (ix3 (0 : Fin 1) k j)

/-- … scaled by the norm's gain. -/
def dyg (t : Fin 16384) (k : Fin 1024) : ℝ := dy x2 x4 t k * re x1 (ix2 (0 : Fin 1) k)

variable {x0 x1 x2 x3 x4}

theorem ref_rinv (h0 : IsReal x0) (t : Fin 16384) :
    val_main_v8 (F := Ideal) x0 (ix3 (0 : Fin 1) t (0 : Fin 1)) = ((rinv (row x0 t) : ℝ) : EReal) := by
  have hx (k : Fin 1024) : x0 (ix3 (0 : Fin 1) t k) = ((row x0 t k : ℝ) : EReal) := h0 _
  pointwise [val_main_v8, val_main_v7, val_main_v6, val_main_v5, val_main_v4, val_main_v3, val_main_v2, val_main_v1,
    val_main_cst, val_main_cst_0, val_main_cst_1]
  simp only [hx, ofBits_1024, ofBits_eps, coe_mul', coe_sum, coe_add', div_real _ (by norm_num : (1024 : ℝ) ≠ 0)]
  exact ms_rsqrt _

theorem ref_rinv_div (h0 : IsReal x0) (t : Fin 16384) :
    val_main_v11 (F := Ideal) x0 (ix3 (0 : Fin 1) t (0 : Fin 1))
      = ((-(1 / 2) * (rinv (row x0 t) / ((∑ k, row x0 t k * row x0 t k) / 1024 + eps)) : ℝ) : EReal) := by
  have hx (k : Fin 1024) : x0 (ix3 (0 : Fin 1) t k) = ((row x0 t k : ℝ) : EReal) := h0 _
  have h7 : val_main_v7 (F := Ideal) x0 (ix3 (0 : Fin 1) t (0 : Fin 1))
      = (((∑ k, row x0 t k * row x0 t k) / 1024 + eps : ℝ) : EReal) := by
    pointwise [val_main_v7, val_main_v6, val_main_v5, val_main_v4, val_main_v3, val_main_v2, val_main_v1,
      val_main_cst, val_main_cst_0, val_main_cst_1]
    simp only [hx, ofBits_1024, ofBits_eps, coe_mul', coe_sum, coe_add', div_real _ (by norm_num : (1024 : ℝ) ≠ 0)]
  pointwise [val_main_v11, val_main_v10, val_main_v9, val_main_cst_2]
  rw [ref_rinv h0, h7, div_real _ (ms_pos _).ne', ofBits_neg_half, coe_mul']

theorem ref_dyg (h1 : IsReal x1) (h2 : IsReal x2) (h4 : IsReal x4) (t : Fin 16384) (k : Fin 1024) :
    val_main_v24 (F := Ideal) x1 x2 x4 (ix3 (0 : Fin 1) t k) = ((dyg x1 x2 x4 t k : ℝ) : EReal) := by
  pointwise [val_main_v24, val_main_v19, val_main_v17, val_main_v23, val_main_v14, val_main_v0]
  simp only [h1 _, h2 _, h4 _, coe_mul', coe_sum]
  rfl

/-- The first result: what came down the residual path, and the gradient through the norm. -/
theorem ref_dx (h0 : IsReal x0) (h1 : IsReal x1) (h2 : IsReal x2) (h4 : IsReal x4) (t : Fin 16384) (c : Fin 1024) :
    val_main_v43 (F := Ideal) x0 x1 x2 x3 x4 (ix2 t c)
      = x3 (ix3 (0 : Fin 1) t c) + ((rmsBack (row x0 t) (dyg x1 x2 x4 t) c : ℝ) : EReal) := by
  have hx (k : Fin 1024) : x0 (ix3 (0 : Fin 1) t k) = ((row x0 t k : ℝ) : EReal) := h0 _
  have hq : val_main_v35 (F := Ideal) x0 x1 x2 x4 (ix1 t)
      = (((∑ k, row x0 t k * dyg x1 x2 x4 t k)
          * (-(1 / 2) * (rinv (row x0 t) / ((∑ k, row x0 t k * row x0 t k) / 1024 + eps))) / 1024 : ℝ) : EReal) := by
    pointwise [val_main_v35, val_main_cst_7, reduceAdd_one_one, val_main_v34, val_main_v33, val_main_cst_6, val_main_v32,
      val_main_v28, val_main_v27, val_main_cst_5, val_main_v26]
    simp only [hx, ref_dyg h1 h2 h4, ref_rinv_div h0, ofBits_1024, coe_mul', coe_sum,
      div_real _ (by norm_num : (1024 : ℝ) ≠ 0)]
  pointwise [val_main_v43, val_main_v41, val_main_v40, val_main_v39, val_main_v38, val_main_v37, val_main_v36, val_main_v31,
    val_main_v30, val_main_v29]
  rw [hq, hx, ref_dyg h1 h2 h4, ref_rinv h0, coe_mul', coe_mul', coe_mul', add_assoc, add_assoc, coe_add', coe_add',
    ← rmsBack_eq, add_assoc]

/-- The second result, row 0: the gradient of the gain. -/
theorem ref_dg (h0 : IsReal x0) (h2 : IsReal x2) (h4 : IsReal x4) (c : Fin 1024) :
    val_main_v25 (F := Ideal) x0 x2 x4 (ix1 c)
      = ((∑ t, row x0 t c * rinv (row x0 t) * dy x2 x4 t c : ℝ) : EReal) := by
  have hx (t : Fin 16384) (k : Fin 1024) : x0 (ix3 (0 : Fin 1) t k) = ((row x0 t k : ℝ) : EReal) := h0 _
  pointwise [val_main_v25, val_main_cst_4, reduceAdd_one_mid, val_main_v22, val_main_v21, val_main_cst_3, val_main_v20,
    val_main_v19, val_main_v17, val_main_v13, val_main_v12]
  simp only [hx, h2 _, h4 _, ref_rinv h0, coe_mul', coe_sum]
  simp only [dy, Fin.sum_univ_one]

/-- … and zero in the other rows. -/
theorem ref_st (h0 : IsReal x0) (h2 : IsReal x2) (h4 : IsReal x4) (r : Fin 8) (c : Fin 1024) :
    val_main_v45 (F := Ideal) x0 x2 x4 (ix2 r c)
      = if r.val < 1 then ((∑ t, row x0 t c * rinv (row x0 t) * dy x2 x4 t c : ℝ) : EReal) else 0 := by
  pointwise [val_main_v45, val_main_v44, val_main_cst_8, val_main_v42]
  rw [ref_dg h0 h2 h4]
  split <;> rfl

end Cert.InProjValue

end
-- ==== Proof.Rows.lean ====
/-
  A load or a store of one row of a rank-2 buffer, read at an index.
-/
module

public import Idealize.ShloMosaic.Lib.Pipeline.ValueKit
public import Idealize.ShloMosaic.Lib.Pipeline.ReadBack
public import Idealize.ShloMosaic.Lib.WritesUnit

@[expose] public section

noncomputable section

namespace Cert.Rows

open Idealize.ShloMosaic Idealize.SL.Sem

variable {sig : RefSig} {κ : Kind} {sp : Space} {e : EltTy} {Val : EltTy → Type} {n k : ℕ}

/-- Where row `r` was stored last, the store is read at row `r` and what was there before elsewhere. -/
theorem read_row (v : View sig κ sp (⟨2, ![n, k]⟩ : Shape) e) (f : v.ty.Contents Val) (r : ℕ)
    (inb : ∀ a, (![r, 0] : Fin 2 → ℕ) a + (![1, k] : Fin 2 → ℕ) a ≤ (⟨2, ![n, k]⟩ : Shape).size a)
    (w : (Rect.unit (s := ⟨2, ![n, k]⟩) ![r, 0] ![1, k] inb).shape.Idx → Val e)
    (L : List (View.Piece Val (⟨2, ![n, k]⟩ : Shape) e)) (p : Fin n) (c : Fin k) :
    v.read Val (v.writes Val f (⟨Rect.unit (s := ⟨2, ![n, k]⟩) ![r, 0] ![1, k] inb, w⟩ :: L)) (ix2 p c)
      = if p.val = r then w (ix2 (0 : Fin 1) c) else v.read Val (v.writes Val f L) (ix2 p c) := by
  split
  next h =>
    exact View.read_writes_cons_rows_of_mem v f inb w L (ix2 p c) (ix2 (0 : Fin 1) c) rfl (by simpa using h) rfl
  next h =>
    exact View.read_writes_cons_rows_of_not_mem v f inb w L (ix2 p c) rfl (W := 1) rfl
      (by show p.val < r ∨ r + 1 ≤ p.val; omega)

/-- The same for stores that cover the buffer. -/
theorem canon_row [∀ e, Nonempty (Val e)] (r : ℕ)
    (inb : ∀ a, (![r, 0] : Fin 2 → ℕ) a + (![1, k] : Fin 2 → ℕ) a ≤ (⟨2, ![n, k]⟩ : Shape).size a)
    (w : (Rect.unit (s := ⟨2, ![n, k]⟩) ![r, 0] ![1, k] inb).shape.Idx → Val e)
    (L : List (View.Piece Val (⟨2, ![n, k]⟩ : Shape) e)) (p : Fin n) (c : Fin k) :
    View.canon (⟨Rect.unit (s := ⟨2, ![n, k]⟩) ![r, 0] ![1, k] inb, w⟩ :: L) (ix2 p c)
      = if p.val = r then w (ix2 (0 : Fin 1) c) else View.canon L (ix2 p c) := by
  split
  next h =>
    have : ix2 p c = (Rect.unit (s := ⟨2, ![n, k]⟩) ![r, 0] ![1, k] inb).emb (ix2 (0 : Fin 1) c) := by
      funext a
      refine Fin.ext ?_
      rw [Rect.emb_apply]
      match a with
      | 0 => simpa using h
      | 1 => simp [Rect.unit]
    rw [this]
    exact View.canon_cons_emb _ _ _ _
  next h =>
    refine View.canon_cons_of_not_mem _ _ fun hm => h ?_
    have := (Rect.mem_set_unit (inb := inb) |>.mp hm) 0
    have h1 : r ≤ p.val ∧ p.val < r + 1 := this
    omega

theorem canon_fill [∀ e, Nonempty (Val e)]
    (inb : ∀ a, (![0, 0] : Fin 2 → ℕ) a + (![n, k] : Fin 2 → ℕ) a ≤ (⟨2, ![n, k]⟩ : Shape).size a)
    (w : (Rect.unit (s := ⟨2, ![n, k]⟩) ![0, 0] ![n, k] inb).shape.Idx → Val e)
    (L : List (View.Piece Val (⟨2, ![n, k]⟩ : Shape) e)) (p : Fin n) (c : Fin k) :
    View.canon (⟨Rect.unit (s := ⟨2, ![n, k]⟩) ![0, 0] ![n, k] inb, w⟩ :: L) (ix2 p c) = w (ix2 p c) := by
  have : ix2 p c = (Rect.unit (s := ⟨2, ![n, k]⟩) ![0, 0] ![n, k] inb).emb (ix2 p c) := by
    funext a
    refine Fin.ext ?_
    rw [Rect.emb_apply]
    match a with
    | 0 => simp [Rect.unit]
    | 1 => simp [Rect.unit]
  conv_lhs => rw [this]
  exact View.canon_cons_emb _ _ _ _

/-- A load of row `r` reads the buffer there. -/
theorem ld_row (X : (⟨2, ![n, k]⟩ : Shape).Idx → Val e) (r : ℕ) (hr : r < n)
    (inb : ∀ a, (![r, 0] : Fin 2 → ℕ) a + (![1, k] : Fin 2 → ℕ) a ≤ (⟨2, ![n, k]⟩ : Shape).size a) (c : Fin k) :
    View.ld X (Rect.unit (s := ⟨2, ![n, k]⟩) ![r, 0] ![1, k] inb) (ix2 (0 : Fin 1) c) = X (ix2 ⟨r, hr⟩ c) := by
  refine congrArg X (funext fun a => Fin.ext ?_)
  match a with
  | 0 => show r + 1 * 0 = r; omega
  | 1 => show 0 + 1 * c.val = c.val; omega

/-- The elements of an axis, tile by tile. -/
theorem sum_tiles {M : Type*} [AddCommMonoid M] {N n L : ℕ} (hL : L = N * n) (f : Fin L → M)
    (g : Fin N → Fin n → Fin L) (hg : ∀ s k, (g s k).val = n * s.val + k.val) :
    ∑ s, ∑ k, f (g s k) = ∑ l, f l := by
  subst hL
  exact Fin.sum_mul_add_congr (fun s k hl => congrArg f (Fin.ext (by rw [hg, Nat.mul_comm]))) rfl

end Cert.Rows

end
-- ==== Proof.InProjKernel.lean ====
/-
  What the kernel of the projection's backward call leaves in its two results, on real arguments, element by element.
-/
module

public import proofs.«01_k».proof.Proof.InProjReference
public import proofs.«01_k».proof.Proof.Gen.InProjIdeal.Value
public import proofs.«01_k».proof.Proof.Rows

@[expose] public section

set_option maxRecDepth 16384

noncomputable section

namespace Cert.InProjValue

open Cert.Rows Idealize.ShloMosaic Idealize.ShloMosaic.TcCoe Idealize.SL.Sem Cert.Reals Cert.InProjIdeal Cert.InProjIdeal.Gen

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

/-- The five arguments. -/
def a0 : FVec Ideal S1x16384x1024 .f32 := m ((c.tc : Thread nD τ).loc main_arg0)
def a1 : FVec Ideal S1x1024 .f32 := m ((c.tc : Thread nD τ).loc main_arg1)
def a2 : FVec Ideal S1x1024x7168 .f32 := m ((c.tc : Thread nD τ).loc main_arg2)
def a3 : FVec Ideal S1x16384x1024 .f32 := m ((c.tc : Thread nD τ).loc main_arg3)
def a4 : FVec Ideal S1x16384x7168 .f32 := m ((c.tc : Thread nD τ).loc main_arg4)

/-- The token that row `p` of the tile at grid point `t` holds. -/
def tok (t : Fin cfg0.N) (p : Fin 512) : Fin 16384 :=
  ⟨512 * t.val + p.val, by have := lt_of_lt_of_eq t.isLt N_0; omega⟩

theorem blk0 (t : Fin cfg0.N) (p : Fin 512) (k : Fin 7168) : iblk m c 0 t (ix2 p k) = a4 m c (ix3 0 (tok t p) k) := by
  blk_ext! [iblk, V, idx0 t, tok, a4]

theorem blk1 (t : Fin cfg0.N) (p : Fin 512) (k : Fin 1024) : iblk m c 1 t (ix2 p k) = a0 m c (ix3 0 (tok t p) k) := by
  blk_ext! [iblk, V, idx1 t, tok, a0]

theorem blk2 (t : Fin cfg0.N) (p : Fin 512) (k : Fin 1024) : iblk m c 2 t (ix2 p k) = a3 m c (ix3 0 (tok t p) k) := by
  blk_ext! [iblk, V, idx2 t, tok, a3]

theorem blk3 (t : Fin cfg0.N) (k : Fin 1024) : iblk m c 3 t (ix2 0 k) = a1 m c (ix2 0 k) := by
  blk_ext! [iblk, V, idx3 t, a1]

theorem blk4 (t : Fin cfg0.N) (k : Fin 1024) (j : Fin 7168) : iblk m c 4 t (ix2 k j) = a2 m c (ix3 0 k j) := by
  blk_ext! [iblk, V, idx4 t, a2]

/-- What token `s` adds to the gradient of the gain at column `k`. -/
def term (s : Fin 16384) (k : Fin 1024) : ℝ :=
  row (a0 m c) s k * rinv (row (a0 m c) s) * dy (a2 m c) (a4 m c) s k

variable {m c}

theorem outA6 (h0 : IsReal (a0 m c)) (h2 : IsReal (a2 m c)) (h4 : IsReal (a4 m c)) (t : Fin cfg0.N)
    (h : t.val % 32 = 0) (p : Fin 8) (k : Fin 1024) :
    (outsAt0 m c t.val t.isLt).2 (ix2 p k)
      = 0 + if p.val < 1 then ((∑ q, term m c (tok t q) k : ℝ) : EReal) else 0 := by
  have hx (q : Fin 512) (j : Fin 1024) : a0 m c (ix3 0 (tok t q) j) = ((row (a0 m c) (tok t q) j : ℝ) : EReal) := h0 _
  rw [outsAt0_A m c t h]
  frame_out
  simp only [canon_row, canon_fill]
  rw [View.readCov_fill _ _ _ _ _ (by decide)]
  unfold_payloads
  simp only [show p.val = 0 ↔ p.val < 1 by omega]
  split
  · pointwise [ld_row]
    simp only [blk0, blk1, blk4, hx, h2 _, h4 _, ofBits_1024, ofBits_eps, coe_mul', coe_sum, coe_add',
      div_real _ (by norm_num : (1024 : ℝ) ≠ 0), ms_rsqrt]
    simp only [term, dy, mul_comm]
  · pointwise

theorem outB6 (h0 : IsReal (a0 m c)) (h2 : IsReal (a2 m c)) (h4 : IsReal (a4 m c)) (t : Fin cfg0.N)
    (h : ¬ t.val % 32 = 0) (p : Fin 8) (k : Fin 1024) :
    (outsAt0 m c t.val t.isLt).2 (ix2 p k)
      = (outsAt0 m c (t.val - 1) (Nat.lt_of_le_of_lt (Nat.sub_le _ _) t.isLt)).2 (ix2 p k)
        + if p.val < 1 then ((∑ q, term m c (tok t q) k : ℝ) : EReal) else (0 : EReal) := by
  have hx (q : Fin 512) (j : Fin 1024) : a0 m c (ix3 0 (tok t q) j) = ((row (a0 m c) (tok t q) j : ℝ) : EReal) := h0 _
  rw [outsAt0_B m c t h]
  frame_out
  rw [read_row]
  unfold_payloads
  simp only [show p.val = 0 ↔ p.val < 1 by omega]
  split
  · pointwise [ld_row]
    simp only [blk0, blk1, blk4, hx, h2 _, h4 _, ofBits_1024, ofBits_eps, coe_mul', coe_sum, coe_add',
      div_real _ (by norm_num : (1024 : ℝ) ≠ 0), ms_rsqrt]
    obtain rfl : p = 0 := Fin.ext (by omega)
    simp only [term, dy, mul_comm]
  · rw [View.writes_nil, Memref.IsWhole.read_unread, add_zero]

theorem point5 (h0 : IsReal (a0 m c)) (h1 : IsReal (a1 m c)) (h2 : IsReal (a2 m c)) (h4 : IsReal (a4 m c))
    (t : Fin cfg0.N) (p : Fin 512) (k : Fin 1024) :
    (outsAt0 m c t.val t.isLt).1 (ix2 p k)
      = a3 m c (ix3 0 (tok t p) k)
        + ((rmsBack (row (a0 m c) (tok t p)) (dyg (a1 m c) (a2 m c) (a4 m c) (tok t p)) k : ℝ) : EReal) := by
  have hx (j : Fin 1024) : a0 m c (ix3 0 (tok t p) j) = ((row (a0 m c) (tok t p) j : ℝ) : EReal) := h0 _
  by_cases h : t.val % 32 = 0
  all_goals
    first
      | rw [outsAt0_A m c t h]
      | rw [outsAt0_B m c t h]
    frame_out
    unfold_payloads
    pointwise
    simp only [blk0, blk1, blk2, blk3, blk4, hx, h1 _, h2 _, h4 _, ofBits_1024, ofBits_eps, coe_mul', coe_sum,
      coe_add', coe_sub', div_real _ (by norm_num : (1024 : ℝ) ≠ 0), ms_rsqrt]
    rfl

/-- The first result, as an array. -/
theorem arr5 (h0 : IsReal (a0 m c)) (h1 : IsReal (a1 m c)) (h2 : IsReal (a2 m c)) (h4 : IsReal (a4 m c)) :
    (dats m 0 c).arrAt 5 cfg0.N = (fun i : S16384x1024.Idx => a3 m c (ix3 0 (i 0) (i 1))
        + ((rmsBack (row (a0 m c) (i 0)) (dyg (a1 m c) (a2 m c) (a4 m c) (i 0)) (i 1) : ℝ) : EReal)) := by
  refine (dats m 0 c).arrAt_eq_of_covers 5 _ (by decide +kernel) fun t hf y => ?_
  blk_simp
  rw [after0_5]
  idx_vars y
  have e : ((View.whole main_v6_0).slice (win0_5.rect t)).emb (ix2 y0 y1) = ix2 (tok t y0) y1 := by
    blk_ext [idx5 t, tok]
  rw [e]
  exact point5 h0 h1 h2 h4 t y0 y1

/-- The grid's last point. -/
def last : Fin cfg0.N := ⟨31, lt_of_lt_of_eq (by decide) N_0.symm⟩

/-- The second result, as an array: the gradient of the gain in row 0, zeros below. -/
theorem arr6 (h0 : IsReal (a0 m c)) (h2 : IsReal (a2 m c)) (h4 : IsReal (a4 m c)) :
    (dats m 0 c).arrAt 6 cfg0.N = (fun i : S8x1024.Idx =>
      if (i 0).val < 1 then ((∑ s, term m c s (i 1) : ℝ) : EReal) else 0) := by
  refine (dats m 0 c).arrAt_eq_of_after_last 6 last (by decide +kernel) _ fun j => ?_
  rw [after0_6]
  idx_vars j
  have key := Pipeline.eq_sum_fin_of_reset_step_apply_last (fun n h => (outsAt0 m c n h).2) 32 (fun _ => (0 : EReal))
    (fun t i => if (i 0).val < 1 then ((∑ q, term m c (tok t q) (i 1) : ℝ) : EReal) else 0)
    (fun t h i => by idx_vars i; exact outA6 h0 h2 h4 t h _ _)
    (fun t h i => by idx_vars i; exact outB6 h0 h2 h4 t h _ _)
    (le_of_eq N_0) last N_0.symm (ix2 j0 j1)
  have e : ∑ t, ∑ q, term m c (tok t q) j1 = ∑ s, term m c s j1 :=
    sum_tiles (congrArg (· * 512) N_0.symm) (fun s => term m c s j1) tok fun _ _ => rfl
  have hsum : (∑ t, if j0.val < 1 then ((∑ q, term m c (tok t q) j1 : ℝ) : EReal) else 0)
      = if j0.val < 1 then ((∑ s, term m c s j1 : ℝ) : EReal) else 0 := by
    split
    · rw [coe_sum, e]
    · exact Finset.sum_const_zero
  exact (key.trans (zero_add _)).trans hsum

end Cert.InProjValue

end
-- ==== Proof.InProj.lean ====
/-
  The projection's backward call and reference.py's lines leave the same two arrays.
-/
module

public import proofs.«01_k».proof.Proof.InProjKernel
public import proofs.«01_k».proof.Defs
public import proofs.«01_k».proof.Proof.Gen.Pre_in_proj_finite
public import Idealize.ShloMosaic.Lib.Claim

@[expose] public section

set_option maxRecDepth 16384

noncomputable section

namespace Cert.InProjValue

open Idealize.ShloMosaic Idealize.ShloMosaic.TcCoe Idealize.SL.Sem Cert.Reals

/-- What the precondition says: the four arrays are real. -/
theorem reals_of_pre (m : (ℓ : Loc Cert.InProjIdeal.nD Cert.InProjIdeal.τ Cert.InProjIdeal.sig) → Buf (Elt Ideal) ℓ)
    (h : Pre_InProjIdeal_in_proj_finite (hPre_in_proj_finite := Cert.Pre_in_proj_finite.Gen.facts) m) (c) :
    IsReal (a0 m c) ∧ IsReal (a1 m c) ∧ IsReal (a2 m c) ∧ IsReal (a4 m c) := by
  obtain ⟨h3, h4⟩ := and_split (h c)
  obtain ⟨h2, h3⟩ := and_split h3
  obtain ⟨h1, h2⟩ := and_split h2
  have i : Cert.Pre_in_proj_finite.S_.Idx := fun a => a.elim0
  have : Subsingleton Cert.Pre_in_proj_finite.S_.Idx := ⟨fun a b => funext fun x => x.elim0⟩
  exact ⟨isReal_of_all _ _ _ _ _ _ i (congrFun h1 i), isReal_of_all _ _ _ _ _ _ i (congrFun h2 i),
    isReal_of_all _ _ _ _ _ _ i (congrFun h3 i), isReal_of_all _ _ _ _ _ _ i (congrFun h4 i)⟩

/-- The two programs' results are equal. -/
theorem algebraic : algebraic_InProjIdeal_InProjRefIdeal_pre_in_proj_finite (hInProjIdeal := Cert.InProjIdeal.Gen.facts)
    (hInProjRefIdeal := Cert.InProjRefIdeal.Gen.facts) (hPre_in_proj_finite := Cert.Pre_in_proj_finite.Gen.facts) := by
  pair_intro
  · run_from Cert.InProjIdeal.Value.run_blocks m g
  · run_from Cert.InProjRefIdeal.Value.run m' g'
    all_goals
      obtain ⟨h0, h1, h2, h4⟩ := reals_of_pre m hpre c
      obtain ⟨e0, e1, e2, e3, e4⟩ := hagree c
    · rw [arr5 h0 h1 h2 h4, Cert.InProjRefIdeal.Read.val_main_v43_eq, e0, e1, e2, e3, e4]
      funext i
      idx_vars i
      exact ref_dx h0 h1 h2 h4 _ _
    · rw [arr6 h0 h2 h4, Cert.InProjRefIdeal.Read.val_main_v45_eq]
      simp only [e0, e2, e4]
      funext i
      idx_vars i
      exact ref_st h0 h2 h4 _ _

end Cert.InProjValue

end
-- ==== Proof.FfnReference.lean ====
/-
  The feed-forward call on real numbers, element by element, and what its reference computes on real arguments: the
  block's forward pass, the loss, and the gradients that come back through both.
-/
module

public import proofs.«01_k».proof.Proof.Reals
public import proofs.«01_k».proof.Proof.Gen.FfnRefIdeal.Run
public import proofs.«01_k».proof.Proof.Gen.FfnRefIdeal.Read

@[expose] public section

set_option maxRecDepth 16384

noncomputable section

namespace Cert.FfnValue

open Idealize.ShloMosaic Cert.Reals

/-- The call's arguments: the block's input, the targets, the two gains and the two matrices. -/
structure Args where
  x : Fin 16384 → Fin 1024 → ℝ
  tgt : Fin 16384 → Fin 1024 → ℝ
  gff : Fin 1024 → ℝ
  gfin : Fin 1024 → ℝ
  w1 : Fin 1024 → Fin 4096 → ℝ
  w2 : Fin 4096 → Fin 1024 → ℝ

namespace Args

variable (A : Args) (t : Fin 16384)

/-- A token's normalized input … -/
def xh (k : Fin 1024) : ℝ := A.x t k * rinv (A.x t)
/-- … and with the gain. -/
def hf (k : Fin 1024) : ℝ := A.xh t k * A.gff k
/-- The hidden layer: the positive part of a product, … -/
def z (f : Fin 4096) : ℝ := max (∑ k, A.hf t k * A.w1 k f) 0
/-- … squared. -/
def s (f : Fin 4096) : ℝ := A.z t f * A.z t f
/-- The block's output, … -/
def x2 (k : Fin 1024) : ℝ := A.x t k + ∑ f, A.s t f * A.w2 f k
/-- … normalized, … -/
def xh2 (k : Fin 1024) : ℝ := A.x2 t k * rinv (A.x2 t)
/-- … and its distance from the target. -/
def diff (k : Fin 1024) : ℝ := A.xh2 t k * A.gfin k - A.tgt t k
/-- The gradient of the loss at the last norm's output, … -/
def dy (k : Fin 1024) : ℝ := A.diff t k * (1 / 1024)
/-- … at the block's output, … -/
def dx2 (k : Fin 1024) : ℝ := rmsBack (A.x2 t) (fun j => A.dy t j * A.gfin j) k
/-- … at the hidden layer before its positive part, … -/
def dpre (f : Fin 4096) : ℝ := (∑ k, A.dx2 t k * A.w2 f k) * (2 * A.z t f)
/-- … at the first norm's output … -/
def dhf (k : Fin 1024) : ℝ := ∑ f, A.dpre t f * A.w1 k f
/-- … and at the block's input. -/
def dx (k : Fin 1024) : ℝ := A.dx2 t k + rmsBack (A.x t) (fun j => A.dhf t j * A.gff j) k

/-- What a token adds to row `r` of the sums: to the gradients of the last norm's gain and of the first norm's gain, and
to the squared distance. -/
def row (r : ℕ) (k : Fin 1024) : ℝ :=
  if r = 0 then A.dy t k * A.xh2 t k else if r = 1 then A.dhf t k * A.xh t k
  else if r = 2 then A.diff t k * A.diff t k else 0

end Args

open Cert.FfnRefIdeal Cert.FfnRefIdeal.Read

/-- The arguments, read from the programs' arrays. -/
def args (x0 x1 : FVec Ideal S1x16384x1024 .f32) (x2 : FVec Ideal S1x1024 .f32) (x3 : FVec Ideal S1024 .f32)
    (x4 : FVec Ideal S1x1024x4096 .f32) (x5 : FVec Ideal S1x4096x1024 .f32) : Args where
  x t k := re x0 (ix3 (0 : Fin 1) t k)
  tgt t k := re x1 (ix3 (0 : Fin 1) t k)
  gff k := re x2 (ix2 (0 : Fin 1) k)
  gfin k := re x3 (ix1 k)
  w1 k f := re x4 (ix3 (0 : Fin 1) k f)
  w2 f k := re x5 (ix3 (0 : Fin 1) f k)

variable {x0 x1 : FVec Ideal S1x16384x1024 .f32} {x2 : FVec Ideal S1x1024 .f32} {x3 : FVec Ideal S1024 .f32}
  {x4 : FVec Ideal S1x1024x4096 .f32} {x5 : FVec Ideal S1x4096x1024 .f32}

/-- The programs' arrays hold the real numbers `A`. -/
structure Holds (A : Args) (x0 x1 : FVec Ideal S1x16384x1024 .f32) (x2 : FVec Ideal S1x1024 .f32)
    (x3 : FVec Ideal S1024 .f32) (x4 : FVec Ideal S1x1024x4096 .f32) (x5 : FVec Ideal S1x4096x1024 .f32) : Prop where
  x t k : x0 (ix3 (0 : Fin 1) t k) = ((A.x t k : ℝ) : EReal)
  tgt t k : x1 (ix3 (0 : Fin 1) t k) = ((A.tgt t k : ℝ) : EReal)
  gff k : x2 (ix2 (0 : Fin 1) k) = ((A.gff k : ℝ) : EReal)
  gfin k : x3 (ix1 k) = ((A.gfin k : ℝ) : EReal)
  w1 k f : x4 (ix3 (0 : Fin 1) k f) = ((A.w1 k f : ℝ) : EReal)
  w2 f k : x5 (ix3 (0 : Fin 1) f k) = ((A.w2 f k : ℝ) : EReal)

theorem holds (h0 : IsReal x0) (h1 : IsReal x1) (h2 : IsReal x2) (h3 : IsReal x3) (h4 : IsReal x4) (h5 : IsReal x5) :
    Holds (args x0 x1 x2 x3 x4 x5) x0 x1 x2 x3 x4 x5 :=
  ⟨fun _ _ => h0 _, fun _ _ => h1 _, fun _ => h2 _, fun _ => h3 _, fun _ _ => h4 _, fun _ _ => h5 _⟩

theorem n1024 : (1024 : ℝ) ≠ 0 := by norm_num

variable {A : Args} (H : Holds A x0 x1 x2 x3 x4 x5) (t : Fin 16384)

include H

/-! ## The first norm and the hidden layer -/

theorem ref_ms : val_main_v9 (F := Ideal) x0 (ix3 (0 : Fin 1) t (0 : Fin 1))
    = (((∑ k, A.x t k * A.x t k) / 1024 + eps : ℝ) : EReal) := by
  pointwise [val_main_v9, val_main_v8, val_main_v7, val_main_v6, val_main_v5, val_main_v4, val_main_v3, val_main_cst_1,
    val_main_cst_2, val_main_cst_3]
  simp only [H.x, ofBits_1024, ofBits_eps, coe_mul', coe_sum, coe_add', div_real _ n1024]

theorem ref_rinv : val_main_v10 (F := Ideal) x0 (ix3 (0 : Fin 1) t (0 : Fin 1)) = ((rinv (A.x t) : ℝ) : EReal) := by
  pointwise [val_main_v10]
  rw [ref_ms H]
  exact ms_rsqrt _

theorem ref_rdiv : val_main_v13 (F := Ideal) x0 (ix3 (0 : Fin 1) t (0 : Fin 1))
    = ((-(1 / 2) * (rinv (A.x t) / ((∑ k, A.x t k * A.x t k) / 1024 + eps)) : ℝ) : EReal) := by
  pointwise [val_main_v13, val_main_v12, val_main_v11, val_main_cst_4]
  rw [ref_rinv H, ref_ms H, div_real _ (ms_pos _).ne', ofBits_neg_half, coe_mul']

theorem ref_xh (k : Fin 1024) : val_main_v15 (F := Ideal) x0 (ix3 (0 : Fin 1) t k) = ((A.xh t k : ℝ) : EReal) := by
  pointwise [val_main_v15, val_main_v14]
  rw [H.x, ref_rinv H, coe_mul']
  rfl

theorem ref_hf (k : Fin 1024) : val_main_v18 (F := Ideal) x0 x2 (ix3 (0 : Fin 1) t k) = ((A.hf t k : ℝ) : EReal) := by
  pointwise [val_main_v18, val_main_v17, val_main_v16, val_main_v2]
  rw [ref_xh H, H.gff, coe_mul']
  rfl

theorem ref_pre (f : Fin 4096) : val_main_v21 (F := Ideal) x0 x2 x4 (ix3 (0 : Fin 1) t f)
    = ((∑ k, A.hf t k * A.w1 k f : ℝ) : EReal) := by
  pointwise [val_main_v21, val_main_v20, val_main_v19, val_main_v0, val_main_cst]
  simp only [ref_hf H, H.w1, coe_mul', coe_sum, ofBits_zero, coe_add', add_zero, zero_add]

theorem ref_z (f : Fin 4096) : val_main_v22 (F := Ideal) x0 x2 x4 (ix3 (0 : Fin 1) t f) = ((A.z t f : ℝ) : EReal) := by
  pointwise [val_main_v22, val_main_call0_v0, val_main_call0_cst]
  rw [ref_pre H, ← EReal.coe_zero, coe_max']
  rfl

theorem ref_s (f : Fin 4096) : val_main_v26 (F := Ideal) x0 x2 x4 (ix3 (0 : Fin 1) t f) = ((A.s t f : ℝ) : EReal) := by
  pointwise [val_main_v26]
  rw [ref_z H, coe_mul']
  rfl

/-! ## The block's output, its norm, and the loss -/

theorem ref_x2 (k : Fin 1024) :
    val_main_v30 (F := Ideal) x0 x2 x4 x5 (ix3 (0 : Fin 1) t k) = ((A.x2 t k : ℝ) : EReal) := by
  pointwise [val_main_v30, val_main_v29, val_main_v28, val_main_v27, val_main_v1, val_main_cst_0]
  simp only [ref_s H, H.w2, H.x, coe_mul', coe_sum, ofBits_zero, coe_add', add_zero, zero_add]
  rfl

theorem ref_ms2 : val_main_v37 (F := Ideal) x0 x2 x4 x5 (ix3 (0 : Fin 1) t (0 : Fin 1))
    = (((∑ k, A.x2 t k * A.x2 t k) / 1024 + eps : ℝ) : EReal) := by
  pointwise [val_main_v37, val_main_v36, val_main_v35, val_main_v34, val_main_v33, val_main_v32, val_main_v31,
    val_main_cst_7, val_main_cst_8, val_main_cst_9]
  simp only [ref_x2 H, ofBits_1024, ofBits_eps, coe_mul', coe_sum, coe_add', div_real _ n1024]

theorem ref_rinv2 : val_main_v38 (F := Ideal) x0 x2 x4 x5 (ix3 (0 : Fin 1) t (0 : Fin 1)) = ((rinv (A.x2 t) : ℝ) : EReal) := by
  pointwise [val_main_v38]
  rw [ref_ms2 H]
  exact ms_rsqrt _

theorem ref_rdiv2 : val_main_v41 (F := Ideal) x0 x2 x4 x5 (ix3 (0 : Fin 1) t (0 : Fin 1))
    = ((-(1 / 2) * (rinv (A.x2 t) / ((∑ k, A.x2 t k * A.x2 t k) / 1024 + eps)) : ℝ) : EReal) := by
  pointwise [val_main_v41, val_main_v40, val_main_v39, val_main_cst_10]
  rw [ref_rinv2 H, ref_ms2 H, div_real _ (ms_pos _).ne', ofBits_neg_half, coe_mul']

theorem ref_xh2 (k : Fin 1024) :
    val_main_v43 (F := Ideal) x0 x2 x4 x5 (ix3 (0 : Fin 1) t k) = ((A.xh2 t k : ℝ) : EReal) := by
  pointwise [val_main_v43, val_main_v42]
  rw [ref_x2 H, ref_rinv2 H, coe_mul']
  rfl

theorem ref_diff (k : Fin 1024) :
    val_main_v47 (F := Ideal) x0 x1 x2 x3 x4 x5 (ix3 (0 : Fin 1) t k) = ((A.diff t k : ℝ) : EReal) := by
  pointwise [val_main_v47, val_main_v46, val_main_v45, val_main_v44]
  rw [ref_xh2 H, H.gfin, H.tgt, coe_mul', coe_sub']
  rfl

/-! ## The gradients -/

theorem ref_dy (k : Fin 1024) :
    val_main_v61 (F := Ideal) x0 x1 x2 x3 x4 x5 (ix3 (0 : Fin 1) t k) = ((A.dy t k : ℝ) : EReal) := by
  pointwise [val_main_v61, val_main_v60, val_main_v59, val_main_v58, val_main_v57, val_main_v56, val_main_v50, val_main_v49,
    val_main_cst_11, val_main_cst_16, val_main_cst_17, val_main_cst_18]
  rw [ref_diff H, ofBits_half, ofBits_two, ofBits_1024]
  simp only [mul_one, div_real _ n1024, coe_mul', Args.dy]
  exact congrArg _ (by ring)

theorem ref_dyg (k : Fin 1024) :
    val_main_v66 (F := Ideal) x0 x1 x2 x3 x4 x5 (ix3 (0 : Fin 1) t k) = ((A.dy t k * A.gfin k : ℝ) : EReal) := by
  pointwise [val_main_v66, val_main_v65, val_main_v44]
  rw [ref_dy H, H.gfin, coe_mul']

theorem ref_dx2 (k : Fin 1024) :
    val_main_v82 (F := Ideal) x0 x1 x2 x3 x4 x5 (ix3 (0 : Fin 1) t k) = ((A.dx2 t k : ℝ) : EReal) := by
  have hq : val_main_v76 (F := Ideal) x0 x1 x2 x3 x4 x5 (ix1 t)
      = (((∑ k, A.x2 t k * (A.dy t k * A.gfin k))
          * (-(1 / 2) * (rinv (A.x2 t) / ((∑ k, A.x2 t k * A.x2 t k) / 1024 + eps))) / 1024 : ℝ) : EReal) := by
    pointwise [val_main_v76, val_main_cst_23, reduceAdd_one_one, val_main_v75, val_main_v74, val_main_cst_22, val_main_v73,
      val_main_v70, val_main_v69, val_main_cst_21, val_main_v68]
    simp only [ref_x2 H, ref_dyg H, ref_rdiv2 H, ofBits_1024, coe_mul', coe_sum, div_real _ n1024]
  pointwise [val_main_v82, val_main_v81, val_main_v80, val_main_v79, val_main_v78, val_main_v77, val_main_v72, val_main_v71]
  rw [hq, ref_x2 H, ref_dyg H, ref_rinv2 H, coe_mul', coe_mul', coe_mul', coe_add', coe_add', Args.dx2, ← rmsBack_eq]

theorem ref_dpre (f : Fin 4096) :
    val_main_v88 (F := Ideal) x0 x1 x2 x3 x4 x5 (ix3 (0 : Fin 1) t f) = ((A.dpre t f : ℝ) : EReal) := by
  pointwise [val_main_v88, val_main_v87, val_main_v86, val_main_v85, val_main_v84, val_main_v83, val_main_v27, val_main_v24,
    val_main_v23, val_main_cst_5, val_main_cst_24]
  simp only [ref_pre H, ref_z H, ref_dx2 H, H.w2, coe_mul', coe_sum, coe_add', ofBits_zero]
  split
  next h =>
    have h' := EReal.coe_pos.1 h
    have hz : A.z t f = ∑ k, A.hf t k * A.w1 k f := max_eq_left h'.le
    exact congrArg _ (by rw [Args.dpre]; ring)
  next h =>
    have h' : ∑ k, A.hf t k * A.w1 k f ≤ 0 := not_lt.1 fun hp => h (EReal.coe_pos.2 hp)
    have hz : A.z t f = 0 := max_eq_right h'
    rw [Args.dpre, hz, mul_zero, mul_zero, EReal.coe_zero]

theorem ref_dhf (k : Fin 1024) :
    val_main_v89 (F := Ideal) x0 x1 x2 x3 x4 x5 (ix3 (0 : Fin 1) t k) = ((A.dhf t k : ℝ) : EReal) := by
  pointwise [val_main_v89, val_main_v19]
  simp only [ref_dpre H, H.w1, coe_mul', coe_sum]
  rfl

theorem ref_dhg (k : Fin 1024) :
    val_main_v94 (F := Ideal) x0 x1 x2 x3 x4 x5 (ix3 (0 : Fin 1) t k) = ((A.dhf t k * A.gff k : ℝ) : EReal) := by
  pointwise [val_main_v94, val_main_v93, val_main_v16, val_main_v2]
  rw [ref_dhf H, H.gff, coe_mul']

theorem ref_dx (k : Fin 1024) :
    val_main_v111 (F := Ideal) x0 x1 x2 x3 x4 x5 (ix3 (0 : Fin 1) t k) = ((A.dx t k : ℝ) : EReal) := by
  have hq : val_main_v105 (F := Ideal) x0 x1 x2 x3 x4 x5 (ix1 t)
      = (((∑ k, A.x t k * (A.dhf t k * A.gff k))
          * (-(1 / 2) * (rinv (A.x t) / ((∑ k, A.x t k * A.x t k) / 1024 + eps))) / 1024 : ℝ) : EReal) := by
    pointwise [val_main_v105, val_main_cst_29, reduceAdd_one_one, val_main_v104, val_main_v103, val_main_cst_28,
      val_main_v102, val_main_v98, val_main_v97, val_main_cst_27, val_main_v96]
    simp only [H.x, ref_dhg H, ref_rdiv H, ofBits_1024, coe_mul', coe_sum, div_real _ n1024]
  pointwise [val_main_v111, val_main_v110, val_main_v109, val_main_v108, val_main_v107, val_main_v106, val_main_v101,
    val_main_v100, val_main_v99]
  rw [hq, H.x, ref_dx2 H, ref_dhg H, ref_rinv H, coe_mul', coe_mul', coe_mul', add_assoc, add_assoc, coe_add', coe_add',
    coe_add', Args.dx, ← rmsBack_eq, add_assoc]

/-! ## The results -/

theorem ref_0 (k : Fin 1024) : val_main_v119 (F := Ideal) x0 x2 (ix2 t k) = ((A.hf t k : ℝ) : EReal) := by
  pointwise [val_main_v119, val_main_v118]
  exact ref_hf H t k

theorem ref_1 (f : Fin 4096) : val_main_v121 (F := Ideal) x0 x2 x4 (ix2 t f) = ((A.s t f : ℝ) : EReal) := by
  pointwise [val_main_v121, val_main_v120]
  exact ref_s H t f

theorem ref_2 (f : Fin 4096) : val_main_v123 (F := Ideal) x0 x1 x2 x3 x4 x5 (ix2 t f) = ((A.dpre t f : ℝ) : EReal) := by
  pointwise [val_main_v123, val_main_v122]
  exact ref_dpre H t f

theorem ref_3 (k : Fin 1024) : val_main_v125 (F := Ideal) x0 x1 x2 x3 x4 x5 (ix2 t k) = ((A.dx2 t k : ℝ) : EReal) := by
  pointwise [val_main_v125, val_main_v124]
  exact ref_dx2 H t k

theorem ref_4 (k : Fin 1024) : val_main_v126 (F := Ideal) x0 x1 x2 x3 x4 x5 (ix2 t k) = ((A.dx t k : ℝ) : EReal) := by
  pointwise [val_main_v126]
  exact ref_dx H t k

omit t in
/-- The sums: the two gains' gradients, the squared distances, and rows of zeros. -/
theorem ref_5 (r : Fin 8) (k : Fin 1024) : val_main_v117 (F := Ideal) x0 x1 x2 x3 x4 x5 (ix2 r k)
    = ((∑ t, A.row t r.val k : ℝ) : EReal) := by
  pointwise [val_main_v117, val_main_v113, val_main_v112, val_main_v115, val_main_v116, val_main_v67, val_main_cst_20,
    reduceAdd_one_mid, val_main_v64, val_main_v63, val_main_cst_19, val_main_v62, val_main_v95, val_main_cst_26,
    val_main_v92, val_main_v91, val_main_cst_25, val_main_v90, val_main_v114, val_main_cst_30, val_main_v48, val_main_cst_31]
  simp only [ref_xh H, ref_xh2 H, ref_dy H, ref_dhf H, ref_diff H, coe_mul', coe_sum, Fin.sum_univ_one]
  split
  next h =>
    rw [Finset.sum_congr rfl fun t _ => show A.row t r.val k = A.xh2 t k * A.dy t k by
      rw [Args.row, if_pos (by omega), mul_comm]]
  next h =>
    split
    next h' =>
      rw [Finset.sum_congr rfl fun t _ => show A.row t r.val k = A.xh t k * A.dhf t k by
        rw [Args.row, if_neg (by omega), if_pos (by omega), mul_comm]]
    next h' =>
      split
      next h'' =>
        rw [Finset.sum_congr rfl fun t _ => show A.row t r.val k = A.diff t k * A.diff t k by
          rw [Args.row, if_neg (by omega), if_neg (by omega), if_pos (by omega)]]
      next h'' =>
        rw [Finset.sum_congr rfl fun t _ => show A.row t r.val k = 0 by
          rw [Args.row, if_neg (by omega), if_neg (by omega), if_neg (by omega)], Finset.sum_const_zero, EReal.coe_zero]

end Cert.FfnValue

end
-- ==== Proof.FfnTiles.lean ====
/-
  What the feed-forward kernel's expressions compute on one tile of 512 tokens, from blocks that hold real numbers.
-/
module

public import proofs.«01_k».proof.Proof.FfnReference
public import proofs.«01_k».proof.Proof.Gen.FfnIdeal.Skeleton
public import proofs.«01_k».proof.Proof.Rows

@[expose] public section

set_option maxRecDepth 16384

noncomputable section

namespace Cert.FfnValue

open Cert.Rows Idealize.ShloMosaic Cert.Reals Cert.FfnIdeal Cert.FfnIdeal.Gen

/-- A column of the hidden layer: number `f` of the block of 1024 that starts at `o`. -/
def col (o : ℕ) (ho : o + 1024 ≤ 4096) (f : Fin 1024) : Fin 4096 := ⟨o + f.val, by omega⟩

/-- A tile of 512 tokens, and what the kernel loads there: the input, the targets, the gains, and the two matrices' four
blocks of 1024 hidden columns. -/
structure Blocks where
  X : Vec Ideal S512x1024 .f32
  T : Vec Ideal S512x1024 .f32
  G : Vec Ideal S1x1024 .f32
  Gf : Vec Ideal S1x1024 .f32
  W0 : Vec Ideal S1024x1024 .bf16
  W1 : Vec Ideal S1024x1024 .bf16
  W2 : Vec Ideal S1024x1024 .bf16
  W3 : Vec Ideal S1024x1024 .bf16
  U0 : Vec Ideal S1024x1024 .bf16
  U1 : Vec Ideal S1024x1024 .bf16
  U2 : Vec Ideal S1024x1024 .bf16
  U3 : Vec Ideal S1024x1024 .bf16

/-- A block of columns of the first matrix … -/
def First (A : Args) (o : ℕ) (ho : o + 1024 ≤ 4096) (W : Vec Ideal S1024x1024 .bf16) : Prop :=
  ∀ k f : Fin 1024, W (ix2 k f) = ((A.w1 k (col o ho f) : ℝ) : EReal)
/-- … and of rows of the second. -/
def Second (A : Args) (o : ℕ) (ho : o + 1024 ≤ 4096) (U : Vec Ideal S1024x1024 .bf16) : Prop :=
  ∀ f k : Fin 1024, U (ix2 f k) = ((A.w2 (col o ho f) k : ℝ) : EReal)

variable (A : Args) (tok : Fin 512 → Fin 16384)

/-- A tile holds a quantity of its tokens. -/
def Tile (f : Fin 16384 → Fin 1024 → ℝ) (V : S512x1024.Idx → EReal) : Prop :=
  ∀ (p : Fin 512) (k : Fin 1024), V (ix2 p k) = ((f (tok p) k : ℝ) : EReal)

/-- A tile holds 1024 hidden columns of a quantity of its tokens. -/
def Cols (f : Fin 16384 → Fin 4096 → ℝ) (o : ℕ) (ho : o + 1024 ≤ 4096) (V : S512x1024.Idx → EReal) : Prop :=
  ∀ (p : Fin 512) (k : Fin 1024), V (ix2 p k) = ((f (tok p) (col o ho k) : ℝ) : EReal)

/-- The blocks hold the real numbers `A` of the tokens `tok`. -/
structure Blocks.Hold (B : Blocks) : Prop where
  X : Tile tok A.x B.X
  T : Tile tok A.tgt B.T
  G k : B.G (ix2 (0 : Fin 1) k) = ((A.gff k : ℝ) : EReal)
  Gf k : B.Gf (ix2 (0 : Fin 1) k) = ((A.gfin k : ℝ) : EReal)
  W0 : First A 0 (by decide) B.W0
  W1 : First A 1024 (by decide) B.W1
  W2 : First A 2048 (by decide) B.W2
  W3 : First A 3072 (by decide) B.W3
  U0 : Second A 0 (by decide) B.U0
  U1 : Second A 1024 (by decide) B.U1
  U2 : Second A 2048 (by decide) B.U2
  U3 : Second A 3072 (by decide) B.U3

variable {A tok}

theorem ofBits_inv1024 : Ideal.ofBits .f32 0x3A800000#32 = ((1 / 1024 : ℝ) : EReal) := by
  simp [Ideal.ofBits, Ideal.ieee, -EReal.coe_mul]; norm_num

/-- A sum over the hidden layer, block by block. -/
theorem sum_cols (f : Fin 4096 → ℝ) : ∑ i, f i = (∑ i, f (col 0 (by decide) i)) + (∑ i, f (col 1024 (by decide) i))
    + (∑ i, f (col 2048 (by decide) i)) + ∑ i, f (col 3072 (by decide) i) := by
  rw [← sum_tiles (N := 4) (n := 1024) rfl f (fun s k => ⟨1024 * s.val + k.val, by omega⟩) fun _ _ => rfl, Fin.sum_univ_four]
  rfl

/-! ## Products with a block of one of the matrices -/

section Products

variable {V : FVec Ideal S512x1024 .bf16} {W : FVec Ideal S1024x1024 .bf16} {o : ℕ} {ho : o + 1024 ≤ 4096}

theorem mm_z (hV : Tile tok A.hf V) (hW : First A o ho W) (p : Fin 512) (k : Fin 1024) :
    max (∑ i : Fin 1024, V (ix2 p i) * W (ix2 i k)) 0 = ((A.z (tok p) (col o ho k) : ℝ) : EReal) := by
  simp only [hV p _, hW _ k, coe_mul', coe_sum]
  rw [← EReal.coe_zero, coe_max']
  rfl

theorem z8 {X : Vec Ideal S512x1024 .f32} {G : Vec Ideal S1x1024 .f32} (hV : Tile tok A.hf (k0_pay6 (F := Ideal) X G))
    (hW : First A o ho W) : Cols tok A.z o ho (k0_pay8 (F := Ideal) X G W) := fun p k => by
  pointwise [k0_pay8]
  exact mm_z hV hW p k

theorem z11 (hV : Tile tok A.hf V) (hW : First A o ho W) : Cols tok A.z o ho (k0_pay11 (F := Ideal) V W) := fun p k => by
  pointwise [k0_pay11]
  exact mm_z hV hW p k

theorem z15 (hV : Tile tok A.hf V) (hW : First A o ho W) : Cols tok A.z o ho (k0_pay15 (F := Ideal) V W) := fun p k => by
  pointwise [k0_pay15]
  exact mm_z hV hW p k

theorem z19 (hV : Tile tok A.hf V) (hW : First A o ho W) : Cols tok A.z o ho (k0_pay19 (F := Ideal) V W) := fun p k => by
  pointwise [k0_pay19]
  exact mm_z hV hW p k

/-- A square of the hidden layer. -/
theorem sq {Z : S512x1024.Idx → EReal} (hZ : Cols tok A.z o ho Z) (p : Fin 512) (k : Fin 1024) :
    Z (ix2 p k) * Z (ix2 p k) = ((A.s (tok p) (col o ho k) : ℝ) : EReal) := by
  rw [hZ, coe_mul']
  rfl

theorem mm_s {S : S512x1024.Idx → EReal} {U : S1024x1024.Idx → EReal} (hS : Cols tok A.s o ho S) (hU : Second A o ho U)
    (p : Fin 512) (k : Fin 1024) : ∑ i : Fin 1024, S (ix2 p i) * U (ix2 i k)
      = ((∑ i, A.s (tok p) (col o ho i) * A.w2 (col o ho i) k : ℝ) : EReal) := by
  simp only [hS p _, hU _ k, coe_mul', coe_sum]

theorem mm_dz {E : S512x1024.Idx → EReal} {U : S1024x1024.Idx → EReal} (hE : Tile tok A.dx2 E) (hU : Second A o ho U)
    (p : Fin 512) (k : Fin 1024) : ∑ i : Fin 1024, E (ix2 p i) * U (ix2 k i)
      = ((∑ i, A.dx2 (tok p) i * A.w2 (col o ho k) i : ℝ) : EReal) := by
  simp only [hE p _, hU k _, coe_mul', coe_sum]

theorem mm_dhf {P : S512x1024.Idx → EReal} {W : S1024x1024.Idx → EReal} (hP : Cols tok A.dpre o ho P) (hW : First A o ho W)
    (p : Fin 512) (k : Fin 1024) : ∑ i : Fin 1024, P (ix2 p i) * W (ix2 k i)
      = ((∑ i, A.dpre (tok p) (col o ho i) * A.w1 k (col o ho i) : ℝ) : EReal) := by
  simp only [hP p _, hW k _, coe_mul', coe_sum]

end Products

namespace Blocks

/-! ## The kernel's values, by name -/

variable (B : Blocks)

abbrev hf := k0_pay6 (F := Ideal) B.X B.G
abbrev z0 := k0_pay9 (F := Ideal) B.X B.G B.W0
abbrev z1 := k0_pay12 (F := Ideal) B.hf B.W1
abbrev z2 := k0_pay16 (F := Ideal) B.hf B.W2
abbrev z3 := k0_pay20 (F := Ideal) B.hf B.W3
abbrev s0 := k0_pay10 (F := Ideal) B.X B.G B.W0
abbrev s1 := k0_pay13 (F := Ideal) B.hf B.W1
abbrev s2 := k0_pay17 (F := Ideal) B.hf B.W2
abbrev s3 := k0_pay21 (F := Ideal) B.hf B.W3
abbrev half := k0_pay14 (F := Ideal) B.hf k0_pay7 B.s0 B.U0 B.W1 B.U1
abbrev x2 := k0_pay22 (F := Ideal) (k0_pay3 B.X) B.hf B.half B.s2 (k0_pay18 B.U2) B.W3 B.U3
abbrev rinv2 := k0_pay23 (F := Ideal) (k0_pay3 B.X) B.hf B.half B.s2 (k0_pay18 B.U2) B.W3 B.U3
abbrev xh2 := k0_pay24 (F := Ideal) (k0_pay3 B.X) B.hf B.half B.s2 (k0_pay18 B.U2) B.W3 B.U3
abbrev diff := k0_pay25 (F := Ideal) (k0_pay3 B.X) B.hf B.half B.s2 (k0_pay18 B.U2) B.W3 B.U3 B.Gf B.T
abbrev dy := k0_pay27 (F := Ideal) B.diff
abbrev dx2f := k0_pay29 (F := Ideal) B.rinv2 B.xh2 B.diff B.Gf
abbrev dx2 := k0_pay30 (F := Ideal) B.rinv2 B.xh2 B.diff B.Gf
abbrev dz0 := k0_pay32 (F := Ideal) B.rinv2 B.xh2 B.diff B.Gf B.U0
abbrev dpre0 := k0_pay33 (F := Ideal) B.dz0 B.z0
abbrev dpre1 := k0_pay34 (F := Ideal) B.dx2 B.U1 B.z1
abbrev dpre2 := k0_pay36 (F := Ideal) B.dx2 B.U2 B.z2
abbrev dpre3 := k0_pay37 (F := Ideal) B.dx2 B.U3 B.z3
abbrev dhalf := k0_pay35 (F := Ideal) B.dx2 k0_pay31 B.dz0 B.z0 B.W0 B.U1 B.z1 B.W1
abbrev dhf := k0_pay38 (F := Ideal) B.dx2 B.dhalf B.dpre2 B.W2 B.U3 B.z3 B.W3
abbrev dhg := k0_pay40 (F := Ideal) B.dx2 B.dhalf B.dpre2 B.W2 B.U3 B.z3 B.W3 B.G
abbrev mean := k0_pay41 (F := Ideal) (k0_pay5 B.X) B.dx2 B.dhalf B.dpre2 B.W2 B.U3 B.z3 B.W3 B.G
abbrev dx := k0_pay1 (F := Ideal) (k0_pay4 B.X) (k0_pay5 B.X) B.dx2f B.dhg B.mean

namespace Hold

variable {B} (H : B.Hold A tok)

include H

/-! ## The forward pass -/

theorem rinv_tile (p : Fin 512) : k0_pay4 (F := Ideal) B.X (ix2 p (0 : Fin 1)) = ((rinv (A.x (tok p)) : ℝ) : EReal) := by
  pointwise [k0_pay4, k0_pay3]
  simp only [H.X p _, ofBits_1024, ofBits_eps, coe_mul', coe_sum, coe_add', div_real _ n1024]
  exact ms_rsqrt _

theorem xh_tile : Tile tok A.xh (k0_pay5 (F := Ideal) B.X) := fun p k => by
  pointwise [k0_pay5, k0_pay3]
  rw [H.X, H.rinv_tile, coe_mul']
  rfl

theorem hf_tile : Tile tok A.hf B.hf := fun p k => by
  pointwise [hf, k0_pay6]
  rw [H.xh_tile, H.G, coe_mul']
  rfl

theorem z0_tile : Cols tok A.z 0 (by decide) B.z0 := fun p k => by
  pointwise [k0_pay9]
  exact z8 H.hf_tile H.W0 p k
theorem z1_tile : Cols tok A.z 1024 (by decide) B.z1 := fun p k => by
  pointwise [k0_pay12]
  exact z11 H.hf_tile H.W1 p k
theorem z2_tile : Cols tok A.z 2048 (by decide) B.z2 := fun p k => by
  pointwise [k0_pay16]
  exact z15 H.hf_tile H.W2 p k
theorem z3_tile : Cols tok A.z 3072 (by decide) B.z3 := fun p k => by
  pointwise [k0_pay20]
  exact z19 H.hf_tile H.W3 p k

theorem s0_tile : Cols tok A.s 0 (by decide) B.s0 := fun p k => by
  pointwise [k0_pay10]
  exact sq (z8 H.hf_tile H.W0) p k
theorem s1_tile : Cols tok A.s 1024 (by decide) B.s1 := fun p k => by
  pointwise [k0_pay13]
  exact sq (z11 H.hf_tile H.W1) p k
theorem s2_tile : Cols tok A.s 2048 (by decide) B.s2 := fun p k => by
  pointwise [k0_pay17]
  exact sq (z15 H.hf_tile H.W2) p k
theorem s3_tile : Cols tok A.s 3072 (by decide) B.s3 := fun p k => by
  pointwise [k0_pay21]
  exact sq (z19 H.hf_tile H.W3) p k

theorem half_tile (p : Fin 512) (k : Fin 1024) : B.half (ix2 p k)
    = (((∑ i, A.s (tok p) (col 0 (by decide) i) * A.w2 (col 0 (by decide) i) k)
        + ∑ i, A.s (tok p) (col 1024 (by decide) i) * A.w2 (col 1024 (by decide) i) k : ℝ) : EReal) := by
  pointwise [k0_pay14, k0_pay7]
  rw [mm_s H.s0_tile H.U0, mm_s H.s1_tile H.U1, coe_add']

theorem x2_tile : Tile tok A.x2 B.x2 := fun p k => by
  pointwise [k0_pay22, k0_pay18, k0_pay3]
  rw [H.half_tile, mm_s H.s2_tile H.U2, mm_s H.s3_tile H.U3, H.X, coe_add', coe_add', coe_add', Args.x2,
    sum_cols fun f => A.s (tok p) f * A.w2 f k]

/-! ## The last norm and the loss -/

theorem rinv2_tile (p : Fin 512) : B.rinv2 (ix2 p (0 : Fin 1)) = ((rinv (A.x2 (tok p)) : ℝ) : EReal) := by
  pointwise [k0_pay23]
  simp only [H.x2_tile p _, ofBits_1024, ofBits_eps, coe_mul', coe_sum, coe_add', div_real _ n1024]
  exact ms_rsqrt _

theorem xh2_tile : Tile tok A.xh2 B.xh2 := fun p k => by
  pointwise [k0_pay24]
  simp only [H.x2_tile p k, H.rinv2_tile p, coe_mul']
  rfl

theorem diff_tile : Tile tok A.diff B.diff := fun p k => by
  pointwise [k0_pay25]
  simp only [H.xh2_tile p k, H.Gf, H.T p k, coe_mul', coe_sub']
  rfl

theorem dy_tile : Tile tok A.dy B.dy := fun p k => by
  pointwise [k0_pay27]
  rw [H.diff_tile, ofBits_inv1024, coe_mul']
  rfl

theorem dx2f_tile : Tile tok A.dx2 B.dx2f := fun p k => by
  pointwise [k0_pay29]
  simp only [H.dy_tile p _, H.Gf, H.xh2_tile p _, H.rinv2_tile p, ofBits_1024, coe_mul', coe_sum, coe_sub',
    div_real _ n1024]
  rfl

theorem dx2_tile : Tile tok A.dx2 B.dx2 := fun p k => by
  pointwise [k0_pay30]
  exact H.dx2f_tile p k

/-! ## The gradients -/

theorem dz0_tile (p : Fin 512) (k : Fin 1024) : B.dz0 (ix2 p k)
    = ((∑ i, A.dx2 (tok p) i * A.w2 (col 0 (by decide) k) i : ℝ) : EReal) := by
  pointwise [k0_pay32]
  exact mm_dz H.dx2_tile H.U0 p k

theorem dpre0_tile : Cols tok A.dpre 0 (by decide) B.dpre0 := fun p k => by
  pointwise [k0_pay33]
  rw [H.dz0_tile, H.z0_tile, ofBits_two, coe_mul', coe_mul']
  rfl
theorem dpre1_tile : Cols tok A.dpre 1024 (by decide) B.dpre1 := fun p k => by
  pointwise [k0_pay34]
  rw [mm_dz H.dx2_tile H.U1, H.z1_tile, ofBits_two, coe_mul', coe_mul']
  rfl
theorem dpre2_tile : Cols tok A.dpre 2048 (by decide) B.dpre2 := fun p k => by
  pointwise [k0_pay36]
  rw [mm_dz H.dx2_tile H.U2, H.z2_tile, ofBits_two, coe_mul', coe_mul']
  rfl
theorem dpre3_tile : Cols tok A.dpre 3072 (by decide) B.dpre3 := fun p k => by
  pointwise [k0_pay37]
  rw [mm_dz H.dx2_tile H.U3, H.z3_tile, ofBits_two, coe_mul', coe_mul']
  rfl

theorem dhalf_tile (p : Fin 512) (k : Fin 1024) : B.dhalf (ix2 p k)
    = (((∑ i, A.dpre (tok p) (col 0 (by decide) i) * A.w1 k (col 0 (by decide) i))
        + ∑ i, A.dpre (tok p) (col 1024 (by decide) i) * A.w1 k (col 1024 (by decide) i) : ℝ) : EReal) := by
  pointwise [k0_pay35, k0_pay31]
  rw [mm_dhf H.dpre0_tile H.W0, mm_dhf H.dpre1_tile H.W1, coe_add']

theorem dhf_tile : Tile tok A.dhf B.dhf := fun p k => by
  pointwise [k0_pay38]
  rw [H.dhalf_tile, mm_dhf H.dpre2_tile H.W2, mm_dhf H.dpre3_tile H.W3, coe_add', coe_add', Args.dhf,
    sum_cols fun f => A.dpre (tok p) f * A.w1 k f]

theorem dhg_tile : Tile tok (fun t k => A.dhf t k * A.gff k) B.dhg := fun p k => by
  pointwise [k0_pay40]
  simp only [H.dhf_tile p k, H.G, coe_mul']

theorem mean_tile (p : Fin 512) : B.mean (ix2 p (0 : Fin 1))
    = (((∑ k, A.dhf (tok p) k * A.gff k * A.xh (tok p) k) / 1024 : ℝ) : EReal) := by
  pointwise [k0_pay41]
  simp only [H.dhg_tile p _, H.xh_tile p _, ofBits_1024, coe_mul', coe_sum, div_real _ n1024]

theorem dx_tile : Tile tok A.dx B.dx := fun p k => by
  pointwise [k0_pay1]
  rw [H.dx2f_tile, H.rinv_tile, H.dhg_tile, H.xh_tile, H.mean_tile, coe_mul', coe_sub', coe_mul', coe_add']
  rfl

/-! ## What the tile adds to the sums -/

theorem row0 (R : Vec Ideal S1x1024 .f32) (k : Fin 1024) : k0_pay28 (F := Ideal) B.xh2 B.diff R (ix2 (0 : Fin 1) k)
    = R (ix2 (0 : Fin 1) k) + ((∑ p, A.row (tok p) 0 k : ℝ) : EReal) := by
  pointwise [k0_pay28]
  simp only [H.dy_tile _ k, H.xh2_tile _ k, coe_mul', coe_sum]
  rfl

theorem row1 (R : Vec Ideal S1x1024 .f32) (k : Fin 1024) :
    k0_pay39 (F := Ideal) (k0_pay5 B.X) B.dx2 B.dhalf B.dpre2 B.W2 B.U3 B.z3 B.W3 R (ix2 (0 : Fin 1) k)
      = R (ix2 (0 : Fin 1) k) + ((∑ p, A.row (tok p) 1 k : ℝ) : EReal) := by
  pointwise [k0_pay39]
  simp only [H.dhf_tile _ k, H.xh_tile _ k, coe_mul', coe_sum]
  rfl

theorem row2 (R : Vec Ideal S1x1024 .f32) (k : Fin 1024) : k0_pay26 (F := Ideal) B.diff R (ix2 (0 : Fin 1) k)
    = R (ix2 (0 : Fin 1) k) + ((∑ p, A.row (tok p) 2 k : ℝ) : EReal) := by
  pointwise [k0_pay26]
  simp only [H.diff_tile _ k, coe_mul', coe_sum]
  rfl

end Hold

end Blocks

end Cert.FfnValue

end
-- ==== Proof.FfnKernel.lean ====
/-
  What the feed-forward kernel leaves in its six results, on real arguments, element by element.
-/
module

public import proofs.«01_k».proof.Proof.FfnTiles
public import proofs.«01_k».proof.Proof.Gen.FfnIdeal.Value

@[expose] public section

set_option maxRecDepth 16384

noncomputable section

namespace Cert.FfnValue

open Cert.Rows Idealize.ShloMosaic Idealize.ShloMosaic.TcCoe Idealize.SL.Sem Cert.Reals Cert.FfnIdeal Cert.FfnIdeal.Gen

/-! ## Columns of a rank-2 buffer -/

section Columns

variable {sig : RefSig} {κ : Kind} {sp : Space} {e : EltTy} {Val : EltTy → Type} {n k l : ℕ}

/-- Where a block of columns was stored last, the store is read there and what was stored before elsewhere. -/
theorem canon_cols [∀ e, Nonempty (Val e)] (o : ℕ)
    (inb : ∀ a, (![0, o] : Fin 2 → ℕ) a + (![n, l] : Fin 2 → ℕ) a ≤ (⟨2, ![n, k]⟩ : Shape).size a)
    (w : (Rect.unit (s := ⟨2, ![n, k]⟩) ![0, o] ![n, l] inb).shape.Idx → Val e)
    (L : List (View.Piece Val (⟨2, ![n, k]⟩ : Shape) e)) (p : Fin n) (c : Fin k) :
    View.canon (⟨Rect.unit (s := ⟨2, ![n, k]⟩) ![0, o] ![n, l] inb, w⟩ :: L) (ix2 p c)
      = if h : o ≤ c.val ∧ c.val < o + l then w (ix2 p ⟨c.val - o, by omega⟩) else View.canon L (ix2 p c) := by
  split
  next h =>
    have : ix2 p c = (Rect.unit (s := ⟨2, ![n, k]⟩) ![0, o] ![n, l] inb).emb (ix2 p ⟨c.val - o, by omega⟩) := by
      funext a
      refine Fin.ext ?_
      rw [Rect.emb_apply]
      match a with
      | 0 => show p.val = 0 + 1 * p.val; omega
      | 1 => show c.val = o + 1 * (c.val - o); omega
    rw [this]
    exact View.canon_cons_emb _ _ _ _
  next h =>
    refine View.canon_cons_of_not_mem _ _ fun hm => h ?_
    have h1 : o ≤ c.val ∧ c.val < o + l := (Rect.mem_set_unit (inb := inb) |>.mp hm) 1
    exact h1

/-- A load of a block of columns, and of a block of rows. -/
theorem ld_cols (X : (⟨2, ![n, k]⟩ : Shape).Idx → Val e) (o : ℕ) (ho : o + l ≤ k)
    (inb : ∀ a, (![0, o] : Fin 2 → ℕ) a + (![n, l] : Fin 2 → ℕ) a ≤ (⟨2, ![n, k]⟩ : Shape).size a) (p : Fin n) (c : Fin l) :
    View.ld X (Rect.unit (s := ⟨2, ![n, k]⟩) ![0, o] ![n, l] inb) (ix2 p c) = X (ix2 p ⟨o + c.val, by omega⟩) := by
  refine congrArg X (funext fun a => Fin.ext ?_)
  match a with
  | 0 => show 0 + 1 * p.val = p.val; omega
  | 1 => show o + 1 * c.val = o + c.val; omega

theorem ld_rows (X : (⟨2, ![n, k]⟩ : Shape).Idx → Val e) (o : ℕ) (ho : o + l ≤ n)
    (inb : ∀ a, (![o, 0] : Fin 2 → ℕ) a + (![l, k] : Fin 2 → ℕ) a ≤ (⟨2, ![n, k]⟩ : Shape).size a) (p : Fin l) (c : Fin k) :
    View.ld X (Rect.unit (s := ⟨2, ![n, k]⟩) ![o, 0] ![l, k] inb) (ix2 p c) = X (ix2 ⟨o + p.val, by omega⟩ c) := by
  refine congrArg X (funext fun a => Fin.ext ?_)
  match a with
  | 0 => show o + 1 * p.val = o + p.val; omega
  | 1 => show 0 + 1 * c.val = c.val; omega

end Columns

/-! ## The blocks at a grid point -/

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])

/-- The six arguments. -/
def a0 : FVec Ideal S1x16384x1024 .f32 := m ((c.tc : Thread nD τ).loc main_arg0)
def a1 : FVec Ideal S1x16384x1024 .f32 := m ((c.tc : Thread nD τ).loc main_arg1)
def a2 : FVec Ideal S1x1024 .f32 := m ((c.tc : Thread nD τ).loc main_arg2)
def a3 : FVec Ideal S1024 .f32 := m ((c.tc : Thread nD τ).loc main_arg3)
def a4 : FVec Ideal S1x1024x4096 .f32 := m ((c.tc : Thread nD τ).loc main_arg4)
def a5 : FVec Ideal S1x4096x1024 .f32 := m ((c.tc : Thread nD τ).loc main_arg5)

/-- The token that row `p` of the tile at grid point `t` holds. -/
def tok (t : Fin cfg0.N) (p : Fin 512) : Fin 16384 :=
  ⟨512 * t.val + p.val, by have := lt_of_lt_of_eq t.isLt N_0; omega⟩

theorem blk0 (t : Fin cfg0.N) (p : Fin 512) (k : Fin 1024) : iblk m c 0 t (ix2 p k) = a0 m c (ix3 0 (tok t p) k) := by
  blk_ext! [iblk, V, idx0 t, tok, a0]

theorem blk1 (t : Fin cfg0.N) (p : Fin 512) (k : Fin 1024) : iblk m c 1 t (ix2 p k) = a1 m c (ix3 0 (tok t p) k) := by
  blk_ext! [iblk, V, idx1 t, tok, a1]

theorem blk2 (t : Fin cfg0.N) (k : Fin 1024) : iblk m c 2 t (ix2 0 k) = a2 m c (ix2 0 k) := by
  blk_ext! [iblk, V, idx2 t, a2]

theorem blk3 (t : Fin cfg0.N) (k : Fin 1024) : iblk m c 3 t (ix2 0 k) = a3 m c (ix1 k) := by
  blk_ext! [iblk, V, idx3 t, a3]

theorem blk4 (t : Fin cfg0.N) (k : Fin 1024) (f : Fin 4096) : iblk m c 4 t (ix2 k f) = a4 m c (ix3 0 k f) := by
  blk_ext! [iblk, V, idx4 t, a4]

theorem blk5 (t : Fin cfg0.N) (f : Fin 4096) (k : Fin 1024) : iblk m c 5 t (ix2 f k) = a5 m c (ix3 0 f k) := by
  blk_ext! [iblk, V, idx5 t, a5]

/-- The kernel's loads at grid point `t`. -/
def blocks (t : Fin cfg0.N) : Blocks where
  X := iblk m c 0 t
  T := iblk m c 1 t
  G := iblk m c 2 t
  Gf := iblk m c 3 t
  W0 := View.ld (iblk m c 4 t) (Rect.unit ![0, 0] ![1024, 1024] inb_S1024x4096_S1024x1024_0_0)
  W1 := View.ld (iblk m c 4 t) (Rect.unit ![0, 1024] ![1024, 1024] inb_S1024x4096_S1024x1024_0_1024)
  W2 := View.ld (iblk m c 4 t) (Rect.unit ![0, 2048] ![1024, 1024] inb_S1024x4096_S1024x1024_0_2048)
  W3 := View.ld (iblk m c 4 t) (Rect.unit ![0, 3072] ![1024, 1024] inb_S1024x4096_S1024x1024_0_3072)
  U0 := View.ld (iblk m c 5 t) (Rect.unit ![0, 0] ![1024, 1024] inb_S4096x1024_S1024x1024_0_0)
  U1 := View.ld (iblk m c 5 t) (Rect.unit ![1024, 0] ![1024, 1024] inb_S4096x1024_S1024x1024_1024_0)
  U2 := View.ld (iblk m c 5 t) (Rect.unit ![2048, 0] ![1024, 1024] inb_S4096x1024_S1024x1024_2048_0)
  U3 := View.ld (iblk m c 5 t) (Rect.unit ![3072, 0] ![1024, 1024] inb_S4096x1024_S1024x1024_3072_0)

variable {m c} {A : Args}

theorem hold (h : Holds A (a0 m c) (a1 m c) (a2 m c) (a3 m c) (a4 m c) (a5 m c)) (t : Fin cfg0.N) :
    (blocks m c t).Hold A (tok t) where
  X p k := (blk0 m c t p k).trans (h.x _ _)
  T p k := (blk1 m c t p k).trans (h.tgt _ _)
  G k := (blk2 m c t k).trans (h.gff _)
  Gf k := (blk3 m c t k).trans (h.gfin _)
  W0 k f := ((ld_cols _ 0 (by decide) _ k f).trans (blk4 m c t k _)).trans (h.w1 _ _)
  W1 k f := ((ld_cols _ 1024 (by decide) _ k f).trans (blk4 m c t k _)).trans (h.w1 _ _)
  W2 k f := ((ld_cols _ 2048 (by decide) _ k f).trans (blk4 m c t k _)).trans (h.w1 _ _)
  W3 k f := ((ld_cols _ 3072 (by decide) _ k f).trans (blk4 m c t k _)).trans (h.w1 _ _)
  U0 f k := ((ld_rows _ 0 (by decide) _ f k).trans (blk5 m c t _ k)).trans (h.w2 _ _)
  U1 f k := ((ld_rows _ 1024 (by decide) _ f k).trans (blk5 m c t _ k)).trans (h.w2 _ _)
  U2 f k := ((ld_rows _ 2048 (by decide) _ f k).trans (blk5 m c t _ k)).trans (h.w2 _ _)
  U3 f k := ((ld_rows _ 3072 (by decide) _ f k).trans (blk5 m c t _ k)).trans (h.w2 _ _)

/-! ## What a grid point leaves -/

/-- Four blocks of hidden columns, side by side. -/
theorem four {τ : Fin 512 → Fin 16384} {f : Fin 16384 → Fin 4096 → ℝ} {V0 V1 V2 V3 : S512x1024.Idx → EReal} (h0 : Cols τ f 0 (by decide) V0)
    (h1 : Cols τ f 1024 (by decide) V1) (h2 : Cols τ f 2048 (by decide) V2)
    (h3 : Cols τ f 3072 (by decide) V3) (p : Fin 512) (i : Fin 4096) :
    View.canon (Val := Elt Ideal) (e := .bf16)
      [⟨Rect.unit (s := S512x4096) ![0, 3072] ![512, 1024] inb_S512x4096_S512x1024_0_3072, V3⟩,
        ⟨Rect.unit (s := S512x4096) ![0, 2048] ![512, 1024] inb_S512x4096_S512x1024_0_2048, V2⟩,
        ⟨Rect.unit (s := S512x4096) ![0, 1024] ![512, 1024] inb_S512x4096_S512x1024_0_1024, V1⟩,
        ⟨Rect.unit (s := S512x4096) ![0, 0] ![512, 1024] inb_S512x4096_S512x1024_0_0, V0⟩] (ix2 p i)
      = ((f (τ p) i : ℝ) : EReal) := by
  rw [canon_cols, canon_cols, canon_cols, canon_cols]
  have e (o : ℕ) (ho : o + 1024 ≤ 4096) (hi : i.val - o < 1024) (hle : o ≤ i.val) : col o ho ⟨i.val - o, hi⟩ = i :=
    Fin.ext (Nat.add_sub_of_le hle)
  split
  next g => exact (h3 _ _).trans (by rw [e _ _ _ g.1])
  next g3 =>
    split
    next g => exact (h2 _ _).trans (by rw [e _ _ _ g.1])
    next g2 =>
      split
      next g => exact (h1 _ _).trans (by rw [e _ _ _ g.1])
      next g1 =>
        rw [dif_pos (by omega)]
        exact (h0 _ _).trans (by rw [e _ _ _ (Nat.zero_le _)])

variable (h : Holds A (a0 m c) (a1 m c) (a2 m c) (a3 m c) (a4 m c) (a5 m c)) (t : Fin cfg0.N)

include h

theorem point6 (p : Fin 512) (k : Fin 1024) :
    (outsAt0 m c t.val t.isLt).1 (ix2 p k) = ((A.hf (tok t p) k : ℝ) : EReal) := by
  by_cases h0 : t.val % 32 = 0
  all_goals
    first
      | rw [outsAt0_A m c t h0]
      | rw [outsAt0_B m c t h0]
    frame_out
    exact (hold h t).hf_tile p k

theorem point7 (p : Fin 512) (i : Fin 4096) :
    (outsAt0 m c t.val t.isLt).2.1 (ix2 p i) = ((A.s (tok t p) i : ℝ) : EReal) := by
  have H := hold h t
  by_cases h0 : t.val % 32 = 0
  all_goals
    first
      | rw [outsAt0_A m c t h0]
      | rw [outsAt0_B m c t h0]
    frame_out
    exact four H.s0_tile H.s1_tile H.s2_tile H.s3_tile p i

end Cert.FfnValue

end
-- ==== Proof.FfnPoints.lean ====
/-
  What a grid point of the feed-forward kernel leaves in the three results that read the hidden layer back, and the
  results as arrays.
-/
module

public import proofs.«01_k».proof.Proof.FfnKernel

@[expose] public section

set_option maxRecDepth 16384

noncomputable section

namespace Cert.FfnValue

open Cert.Rows Idealize.ShloMosaic Idealize.ShloMosaic.TcCoe Idealize.SL.Sem Cert.Reals Cert.FfnIdeal Cert.FfnIdeal.Gen

variable {m : (ℓ : Loc nD τ sig) → Buf (Elt Ideal) ℓ} {c : Dev nD} {A : Args}
variable (h : Holds A (a0 m c) (a1 m c) (a2 m c) (a3 m c) (a4 m c) (a5 m c)) (t : Fin cfg0.N)

/-- Below the third row nothing is added. -/
theorem row_rest {τ : Fin 512 → Fin 16384} {r : Fin 8} {k : Fin 1024} (g0 : ¬r.val = 0) (g1 : ¬r.val = 1)
    (g2 : ¬r.val = 2) : ((∑ p, A.row (τ p) r.val k : ℝ) : EReal) = 0 := by
  rw [Finset.sum_congr rfl fun p _ => show A.row (τ p) r.val k = 0 by
    rw [Args.row, if_neg g0, if_neg g1, if_neg g2], Finset.sum_const_zero, EReal.coe_zero]

include h

theorem point8 (p : Fin 512) (i : Fin 4096) :
    (outsAt0 m c t.val t.isLt).2.2.1 (ix2 p i) = ((A.dpre (tok t p) i : ℝ) : EReal) := by
  have H := hold h t
  have e := four H.dpre0_tile H.dpre1_tile H.dpre2_tile H.dpre3_tile p i
  dsimp only [Blocks.dpre0, Blocks.dpre1, Blocks.dpre2, Blocks.dpre3, Blocks.dz0, Blocks.dx2, Blocks.diff, Blocks.xh2,
    Blocks.rinv2, Blocks.half, Blocks.s0, Blocks.s2, Blocks.z0, Blocks.z1, Blocks.z2, Blocks.z3, Blocks.hf, blocks] at e
  by_cases h0 : t.val % 32 = 0
  all_goals
    first
      | rw [outsAt0_A m c t h0]
      | rw [outsAt0_B m c t h0]
    frame_out
    simp (disch := decide) only [View.readCov_skip, View.readCov_cons_toLoadRect]
    exact e

theorem point9 (p : Fin 512) (k : Fin 1024) :
    (outsAt0 m c t.val t.isLt).2.2.2.1 (ix2 p k) = ((A.dx2 (tok t p) k : ℝ) : EReal) := by
  have e := (hold h t).dx2_tile p k
  dsimp only [Blocks.dx2, Blocks.diff, Blocks.xh2, Blocks.rinv2, Blocks.half, Blocks.s0, Blocks.s2, Blocks.hf, blocks] at e
  by_cases h0 : t.val % 32 = 0
  all_goals
    first
      | rw [outsAt0_A m c t h0]
      | rw [outsAt0_B m c t h0]
    frame_out
    exact e

theorem point10 (p : Fin 512) (k : Fin 1024) :
    (outsAt0 m c t.val t.isLt).2.2.2.2.1 (ix2 p k) = ((A.dx (tok t p) k : ℝ) : EReal) := by
  have e := (hold h t).dx_tile p k
  dsimp only [Blocks.dx, Blocks.mean, Blocks.dhg, Blocks.dhalf, Blocks.dpre2, Blocks.dz0, Blocks.dx2f, Blocks.dx2,
    Blocks.diff, Blocks.xh2, Blocks.rinv2, Blocks.half, Blocks.s0, Blocks.s2, Blocks.z0, Blocks.z1, Blocks.z2, Blocks.z3,
    Blocks.hf, blocks] at e
  by_cases h0 : t.val % 32 = 0
  all_goals
    first
      | rw [outsAt0_A m c t h0]
      | rw [outsAt0_B m c t h0]
    frame_out
    simp (disch := decide) only [View.readCov_skip, View.readCov_cons_toLoadRect]
    exact e

/-- The first point clears the sums and adds its tile's rows. -/
theorem pointA11 (h0 : t.val % 32 = 0) (r : Fin 8) (k : Fin 1024) :
    (outsAt0 m c t.val t.isLt).2.2.2.2.2 (ix2 r k) = 0 + ((∑ p, A.row (tok t p) r.val k : ℝ) : EReal) := by
  have e0 (R) := (hold h t).row0 R k
  have e1 (R) := (hold h t).row1 R k
  have e2 (R) := (hold h t).row2 R k
  dsimp only [Blocks.dhalf, Blocks.dpre2, Blocks.dz0, Blocks.dx2, Blocks.diff, Blocks.xh2, Blocks.rinv2, Blocks.half,
    Blocks.s0, Blocks.s2, Blocks.z0, Blocks.z1, Blocks.z2, Blocks.z3, Blocks.hf, blocks] at e0 e1 e2
  rw [outsAt0_A m c t h0]
  frame_out
  simp (disch := decide) only [View.readCov_skip, View.readCov_cons_toLoadRect, canon_row, canon_fill, View.readCov_fill]
  have hf : k0_pay2 (F := Ideal) (ix2 r k) = 0 := by
    pointwise [k0_pay2]
  split
  next g =>
    refine (e1 _).trans ?_
    obtain rfl : r = 1 := Fin.ext g
    rw [ld_row _ 1 (by decide)]
    exact congrArg (· + _) hf
  next g1 =>
    split
    next g =>
      refine (e0 _).trans ?_
      obtain rfl : r = 0 := Fin.ext g
      rw [ld_row _ 0 (by decide)]
      exact congrArg (· + _) hf
    next g0 =>
      split
      next g =>
        refine (e2 _).trans ?_
        obtain rfl : r = 2 := Fin.ext g
        rw [ld_row _ 2 (by decide)]
        exact congrArg (· + _) hf
      next g2 => rw [hf, row_rest g0 g1 g2, add_zero]

/-- Every other point adds its tile's rows. -/
theorem pointB11 (h0 : ¬ t.val % 32 = 0) (r : Fin 8) (k : Fin 1024) :
    (outsAt0 m c t.val t.isLt).2.2.2.2.2 (ix2 r k)
      = (outsAt0 m c (t.val - 1) (Nat.lt_of_le_of_lt (Nat.sub_le _ _) t.isLt)).2.2.2.2.2 (ix2 r k)
        + ((∑ p, A.row (tok t p) r.val k : ℝ) : EReal) := by
  have e0 (R) := (hold h t).row0 R k
  have e1 (R) := (hold h t).row1 R k
  have e2 (R) := (hold h t).row2 R k
  dsimp only [Blocks.dhalf, Blocks.dpre2, Blocks.dz0, Blocks.dx2, Blocks.diff, Blocks.xh2, Blocks.rinv2, Blocks.half,
    Blocks.s0, Blocks.s2, Blocks.z0, Blocks.z1, Blocks.z2, Blocks.z3, Blocks.hf, blocks] at e0 e1 e2
  rw [outsAt0_B m c t h0]
  frame_out
  simp (disch := decide) only [View.readCov_skip, View.readCov_cons_toLoadRect]
  rw [read_row, read_row, read_row]
  split
  next g =>
    refine (e1 _).trans ?_
    obtain rfl : r = 1 := Fin.ext g
    rw [ld_row _ 1 (by decide)]
    rfl
  next g1 =>
    split
    next g =>
      refine (e0 _).trans ?_
      obtain rfl : r = 0 := Fin.ext g
      rw [ld_row _ 0 (by decide)]
      rfl
    next g0 =>
      split
      next g =>
        refine (e2 _).trans ?_
        obtain rfl : r = 2 := Fin.ext g
        rw [ld_row _ 2 (by decide)]
        rfl
      next g2 => rw [View.writes_nil, Memref.IsWhole.read_unread, row_rest g0 g1 g2, add_zero]

/-! ## The results, as arrays -/

theorem arr6 : (dats m 0 c).arrAt 6 cfg0.N = (fun i : S16384x1024.Idx => ((A.hf (i 0) (i 1) : ℝ) : EReal)) := by
  refine (dats m 0 c).arrAt_eq_of_covers 6 _ (by decide +kernel) fun t hf y => ?_
  blk_simp
  rw [after0_6]
  idx_vars y
  have e : ((View.whole main_v7_0).slice (win0_6.rect t)).emb (ix2 y0 y1) = ix2 (tok t y0) y1 := by
    blk_ext [idx6 t, tok]
  rw [e]
  exact point6 h t y0 y1

theorem arr7 : (dats m 0 c).arrAt 7 cfg0.N = (fun i : S16384x4096.Idx => ((A.s (i 0) (i 1) : ℝ) : EReal)) := by
  refine (dats m 0 c).arrAt_eq_of_covers 7 _ (by decide +kernel) fun t hf y => ?_
  blk_simp
  rw [after0_7]
  idx_vars y
  have e : ((View.whole main_v7_1).slice (win0_7.rect t)).emb (ix2 y0 y1) = ix2 (tok t y0) y1 := by
    blk_ext [idx7 t, tok]
  rw [e]
  exact point7 h t y0 y1

theorem arr8 : (dats m 0 c).arrAt 8 cfg0.N = (fun i : S16384x4096.Idx => ((A.dpre (i 0) (i 1) : ℝ) : EReal)) := by
  refine (dats m 0 c).arrAt_eq_of_covers 8 _ (by decide +kernel) fun t hf y => ?_
  blk_simp
  rw [after0_8]
  idx_vars y
  have e : ((View.whole main_v7_2).slice (win0_8.rect t)).emb (ix2 y0 y1) = ix2 (tok t y0) y1 := by
    blk_ext [idx8 t, tok]
  rw [e]
  exact point8 h t y0 y1

theorem arr9 : (dats m 0 c).arrAt 9 cfg0.N = (fun i : S16384x1024.Idx => ((A.dx2 (i 0) (i 1) : ℝ) : EReal)) := by
  refine (dats m 0 c).arrAt_eq_of_covers 9 _ (by decide +kernel) fun t hf y => ?_
  blk_simp
  rw [after0_9]
  idx_vars y
  have e : ((View.whole main_v7_3).slice (win0_9.rect t)).emb (ix2 y0 y1) = ix2 (tok t y0) y1 := by
    blk_ext [idx9 t, tok]
  rw [e]
  exact point9 h t y0 y1

theorem arr10 : (dats m 0 c).arrAt 10 cfg0.N = (fun i : S16384x1024.Idx => ((A.dx (i 0) (i 1) : ℝ) : EReal)) := by
  refine (dats m 0 c).arrAt_eq_of_covers 10 _ (by decide +kernel) fun t hf y => ?_
  blk_simp
  rw [after0_10]
  idx_vars y
  have e : ((View.whole main_v7_4).slice (win0_10.rect t)).emb (ix2 y0 y1) = ix2 (tok t y0) y1 := by
    blk_ext [idx10 t, tok]
  rw [e]
  exact point10 h t y0 y1

/-- The grid's last point. -/
def last : Fin cfg0.N := ⟨31, lt_of_lt_of_eq (by decide) N_0.symm⟩

/-- The sums, over all tokens. -/
theorem arr11 : (dats m 0 c).arrAt 11 cfg0.N
    = (fun i : S8x1024.Idx => ((∑ t, A.row t (i 0).val (i 1) : ℝ) : EReal)) := by
  refine (dats m 0 c).arrAt_eq_of_after_last 11 last (by decide +kernel) _ fun j => ?_
  rw [after0_11]
  idx_vars j
  have key := Pipeline.eq_sum_fin_of_reset_step_apply_last (fun n h => (outsAt0 m c n h).2.2.2.2.2) 32 (fun _ => (0 : EReal))
    (fun t i => ((∑ p, A.row (tok t p) (i 0).val (i 1) : ℝ) : EReal))
    (fun t h0 i => by idx_vars i; exact pointA11 h t h0 _ _)
    (fun t h0 i => by idx_vars i; exact pointB11 h t h0 _ _)
    (le_of_eq N_0) last N_0.symm (ix2 j0 j1)
  have e : ∑ t, ∑ p, A.row (tok t p) j0.val j1 = ∑ s, A.row s j0.val j1 :=
    sum_tiles (congrArg (· * 512) N_0.symm) (fun s => A.row s j0.val j1) tok fun _ _ => rfl
  exact (key.trans (zero_add _)).trans ((coe_sum _ _).trans (congrArg _ e))

end Cert.FfnValue

end
-- ==== Proof.FfnValues.lean ====
/-
  The feed-forward's backward call and reference.py's lines leave the same six arrays.
-/
module

public import proofs.«01_k».proof.Proof.FfnPoints
public import proofs.«01_k».proof.Defs
public import proofs.«01_k».proof.Proof.Gen.Pre_ffn_finite
public import Idealize.ShloMosaic.Lib.Claim

@[expose] public section

set_option maxRecDepth 16384

noncomputable section

namespace Cert.FfnValue

open Idealize.ShloMosaic Idealize.ShloMosaic.TcCoe Idealize.SL.Sem Cert.Reals

/-- What the precondition says: the six arrays are real. -/
theorem reals_of_pre (m : (ℓ : Loc Cert.FfnIdeal.nD Cert.FfnIdeal.τ Cert.FfnIdeal.sig) → Buf (Elt Ideal) ℓ)
    (h : Pre_FfnIdeal_ffn_finite (hPre_ffn_finite := Cert.Pre_ffn_finite.Gen.facts) m) (c) :
    Holds (args (a0 m c) (a1 m c) (a2 m c) (a3 m c) (a4 m c) (a5 m c))
      (a0 m c) (a1 m c) (a2 m c) (a3 m c) (a4 m c) (a5 m c) := by
  obtain ⟨g, h5⟩ := and_split (h c)
  obtain ⟨g, h4⟩ := and_split g
  obtain ⟨g, h3⟩ := and_split g
  obtain ⟨g, h2⟩ := and_split g
  obtain ⟨h0, h1⟩ := and_split g
  have i : Cert.Pre_ffn_finite.S_.Idx := fun a => a.elim0
  have : Subsingleton Cert.Pre_ffn_finite.S_.Idx := ⟨fun a b => funext fun x => x.elim0⟩
  exact holds (isReal_of_all _ _ _ _ _ _ i (congrFun h0 i)) (isReal_of_all _ _ _ _ _ _ i (congrFun h1 i))
    (isReal_of_all _ _ _ _ _ _ i (congrFun h2 i)) (isReal_of_all _ _ _ _ _ _ i (congrFun h3 i))
    (isReal_of_all _ _ _ _ _ _ i (congrFun h4 i)) (isReal_of_all _ _ _ _ _ _ i (congrFun h5 i))

/-- The two programs' results are equal. -/
theorem algebraic : algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  pair_intro
  · run_from Cert.FfnIdeal.Value.run_blocks m g
  · run_from Cert.FfnRefIdeal.Value.run m' g'
    all_goals
      have h := reals_of_pre m hpre c
      obtain ⟨e0, e1, e2, e3, e4, e5⟩ := hagree c
    · rw [arr6 h]
      refine Eq.trans (b := Cert.FfnRefIdeal.Read.val_main_v119 (F := Ideal) (m' (c.tc.loc Cert.FfnRefIdeal.main_arg0)) (m' (c.tc.loc Cert.FfnRefIdeal.main_arg2)))
        (Cert.FfnRefIdeal.Read.val_main_v119_eq (StableHlo.launchContents m' c)) ?_
      rw [e0, e2]
      funext i
      idx_vars i
      exact ref_0 h i0 i1
    · rw [arr7 h]
      refine Eq.trans (b := Cert.FfnRefIdeal.Read.val_main_v121 (F := Ideal) (m' (c.tc.loc Cert.FfnRefIdeal.main_arg0)) (m' (c.tc.loc Cert.FfnRefIdeal.main_arg2)) (m' (c.tc.loc Cert.FfnRefIdeal.main_arg4)))
        (Cert.FfnRefIdeal.Read.val_main_v121_eq (StableHlo.launchContents m' c)) ?_
      rw [e0, e2, e4]
      funext i
      idx_vars i
      exact ref_1 h i0 i1
    · rw [arr8 h]
      refine Eq.trans (b := Cert.FfnRefIdeal.Read.val_main_v123 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)))
        (Cert.FfnRefIdeal.Read.val_main_v123_eq (StableHlo.launchContents m' c)) ?_
      rw [e0, e1, e2, e3, e4, e5]
      funext i
      idx_vars i
      exact ref_2 h i0 i1
    · rw [arr9 h]
      refine Eq.trans (b := Cert.FfnRefIdeal.Read.val_main_v125 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)))
        (Cert.FfnRefIdeal.Read.val_main_v125_eq (StableHlo.launchContents m' c)) ?_
      rw [e0, e1, e2, e3, e4, e5]
      funext i
      idx_vars i
      exact ref_3 h i0 i1
    · rw [arr10 h, ← e0]
      refine (Cert.FfnRefIdeal.Read.val_main_v126_eq (StableHlo.launchContents m' c)).trans ?_
      change Cert.FfnRefIdeal.Read.val_main_v126 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)) = _
      rw [e0, e1, e2, e3, e4, e5]
      funext i
      idx_vars i
      exact ref_4 h i0 i1
    · rw [arr11 h]
      refine Eq.trans (b := Cert.FfnRefIdeal.Read.val_main_v117 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)))
        (Cert.FfnRefIdeal.Read.val_main_v117_eq (StableHlo.launchContents m' c)) ?_
      rw [e0, e1, e2, e3, e4, e5]
      funext i
      idx_vars i
      exact ref_5 h i0 i1

end Cert.FfnValue

end
-- ==== Proof.MixSpec.lean ====
/-
  The mixer's backward pass as a function of real numbers: what both programs of the third pair compute, element by
  element.
-/
module

public import proofs.«01_k».proof.Proof.Reals

@[expose] public section

noncomputable section

namespace Cert.MixValue

open Idealize.ShloMosaic Cert.Reals

/-! ## GELU -/

/-- The error function. -/
def erf (x : ℝ) : ℝ := 2 / Real.sqrt Real.pi * ∫ t in (0 : ℝ)..x, Real.exp (-(t ^ 2))

theorem ideal_erf (x : ℝ) : Ideal.erf (x : EReal) = ((erf x : ℝ) : EReal) := Ideal.erf_coe x

theorem ideal_erfc_neg (x : ℝ) : Ideal.erfc ((-x : ℝ) : EReal) = ((1 + erf x : ℝ) : EReal) := by
  rw [EReal.coe_neg, Ideal.erfc_neg, ideal_erf, ← EReal.coe_one, coe_add']

/-- The distribution function of the standard normal law … -/
def cdf (x : ℝ) : ℝ := 1 / 2 * (1 + erf (x * Real.sqrt (1 / 2)))

/-- … and its density. -/
def pdf (x : ℝ) : ℝ := (Real.sqrt (2 * Real.pi))⁻¹ * Real.exp (-(x * x) / 2)

def gelu (x : ℝ) : ℝ := x * cdf x

def dgelu (x : ℝ) : ℝ := cdf x + x * pdf x

/-- The density, as a kernel writes it: a power of two. -/
theorem pdf_pow (x : ℝ) :
    Real.rpow 2 (x * x * (-((2 * Real.log 2)⁻¹)) + -(Real.log (2 * Real.pi) * (2 * Real.log 2)⁻¹)) = pdf x := by
  have h2 : Real.log 2 ≠ 0 := (Real.log_pos (by norm_num)).ne'
  have hp : (0 : ℝ) < 2 * Real.pi := by positivity
  have e : Real.log 2 * (x * x * (-((2 * Real.log 2)⁻¹)) + -(Real.log (2 * Real.pi) * (2 * Real.log 2)⁻¹))
      = -(Real.log (2 * Real.pi) / 2) + -(x * x) / 2 := by
    field_simp
    ring
  rw [Real.rpow_eq_pow]
  rw [Real.rpow_def_of_pos (by norm_num), e, Real.exp_add, pdf, Real.exp_neg, ← Real.log_sqrt hp.le,
    Real.exp_log (Real.sqrt_pos.2 hp)]

/-- The reference's slope of the complementary error function's derivative. -/
theorem sqrt_pi : Real.sqrt (4 * Real.arctan 1) = Real.sqrt Real.pi := by
  rw [Real.arctan_one]; congr 1; ring

/-- Half the argument times the derivative of the complementary error function, as the reference writes it. -/
theorem pdf_slope (x : ℝ) :
    -(-2 / Real.sqrt Real.pi * Real.exp (-(-x * Real.sqrt (1 / 2)) * (-x * Real.sqrt (1 / 2))) * (1 / 2 * x)
        * Real.sqrt (1 / 2)) = x * pdf x := by
  have h : -(-x * Real.sqrt (1 / 2)) * (-x * Real.sqrt (1 / 2)) = -(x * x) / 2 := by
    have := Real.mul_self_sqrt (show (0 : ℝ) ≤ 1 / 2 by norm_num)
    linear_combination (-(x * x)) * this
  have hs : Real.sqrt (2 * Real.pi) ≠ 0 := (Real.sqrt_pos.2 (by positivity)).ne'
  have hpi : Real.sqrt Real.pi ≠ 0 := (Real.sqrt_pos.2 Real.pi_pos).ne'
  have e : (Real.sqrt (2 * Real.pi))⁻¹ = Real.sqrt (1 / 2) / Real.sqrt Real.pi := by
    rw [← Real.sqrt_div' _ Real.pi_pos.le, ← Real.sqrt_inv]
    congr 1
    field_simp
  rw [h, pdf, e]
  ring

/-! ## The arguments and the forward pass -/

/-- The arguments of the two programs. -/
structure Args where
  proj : Fin 16384 → Fin 7168 → ℝ
  gate : Fin 2048 → ℝ
  gain : Fin 1024 → ℝ
  ws : Fin 8 → Fin 128 → Fin 128 → ℝ
  bs : Fin 8 → Fin 128 → ℝ
  conv : Fin 3 → Fin 1024 → ℝ
  wa : Fin 1024 → Fin 1024 → ℝ
  wb : Fin 1024 → Fin 1024 → ℝ
  wo : Fin 1024 → Fin 1024 → ℝ
  dx : Fin 16384 → Fin 1024 → ℝ

/-- Token `i` of chunk `n`. -/
def tk (n i : Fin 128) : Fin 16384 := ⟨n.val * 128 + i.val, by omega⟩

/-- Channel `e` of group `g`. -/
def ch (g : Fin 8) (e : Fin 128) : Fin 1024 := ⟨g.val * 128 + e.val, by omega⟩

/-- The chunk of a token, its place there, the group of a channel and its place there. -/
def cnk (t : Fin 16384) : Fin 128 := ⟨t.val / 128, by omega⟩
def pos (t : Fin 16384) : Fin 128 := ⟨t.val % 128, by omega⟩
def grp (c : Fin 1024) : Fin 8 := ⟨c.val / 128, by omega⟩
def lan (c : Fin 1024) : Fin 128 := ⟨c.val % 128, by omega⟩

theorem tk_eq (t : Fin 16384) : tk (cnk t) (pos t) = t := Fin.ext (by simp only [tk, cnk, pos]; omega)
theorem ch_eq (c : Fin 1024) : ch (grp c) (lan c) = c := Fin.ext (by simp only [ch, grp, lan]; omega)

namespace Args

variable (A : Args)

/-- The seven parts of a row of the projection. -/
def part (k : Fin 7) (t : Fin 16384) (c : Fin 1024) : ℝ := A.proj t ⟨1024 * k.val + c.val, by omega⟩

def u := A.part 0
def v := A.part 1
def bg := A.part 2
def cg := A.part 3
def xs := A.part 4

/-- The two gates. -/
def sa (t : Fin 16384) (c : Fin 1024) : ℝ := (1 + Real.exp (-(A.part 5 t c + A.gate ⟨c.val, by omega⟩)))⁻¹
def sb (t : Fin 16384) (c : Fin 1024) : ℝ := (1 + Real.exp (-(A.part 6 t c + A.gate ⟨1024 + c.val, by omega⟩)))⁻¹

/-- The normalized and scaled `v`. -/
def vg (t : Fin 16384) (c : Fin 1024) : ℝ := gelu (A.v t c)
def vh (t : Fin 16384) (c : Fin 1024) : ℝ := A.vg t c * rinv (A.vg t)
def vp (t : Fin 16384) (c : Fin 1024) : ℝ := A.vh t c * A.gain c

/-- The mixing weights: half chunks see themselves and what is before them. -/
def wm (g : Fin 8) (i j : Fin 128) : ℝ := if j.val < 64 ∨ 64 ≤ i.val then A.ws g i j else 0

/-- What the mixing within a chunk gives. -/
def mixed (t : Fin 16384) (c : Fin 1024) : ℝ :=
  (∑ j : Fin 128, A.wm (grp c) (pos t) j * A.vp (tk (cnk t) j) c) + A.bs (grp c) (pos t)

def a (t : Fin 16384) (c : Fin 1024) : ℝ := gelu (A.u t c) * A.mixed t c

/-- The convolution's input, and the same `k` tokens earlier, with zeros before the first token. -/
def q (t : Fin 16384) (c : Fin 1024) : ℝ := A.cg t c * A.xs t c
def qs (k : ℕ) (t : Fin 16384) (c : Fin 1024) : ℝ := if k ≤ t.val then A.q ⟨t.val - k, by omega⟩ c else 0

def cv (t : Fin 16384) (c : Fin 1024) : ℝ :=
  A.conv 0 c * A.qs 2 t c + A.conv 1 c * A.qs 1 t c + A.conv 2 c * A.q t c

def pa (t : Fin 16384) (e : Fin 1024) : ℝ := ∑ c, A.a t c * A.wa c e
def pb (t : Fin 16384) (e : Fin 1024) : ℝ := ∑ c, A.bg t c * A.cv t c * A.wb c e

/-! ## The backward pass -/

def dm (t : Fin 16384) (c : Fin 1024) : ℝ := ∑ e, A.dx t e * A.wo c e
def dpa (t : Fin 16384) (c : Fin 1024) : ℝ := A.dm t c * A.sa t c
def dpb (t : Fin 16384) (c : Fin 1024) : ℝ := A.dm t c * A.sb t c
def dga (t : Fin 16384) (c : Fin 1024) : ℝ := A.dpa t c * A.pa t c * (1 - A.sa t c)
def dgb (t : Fin 16384) (c : Fin 1024) : ℝ := A.dpb t c * A.pb t c * (1 - A.sb t c)
def da (t : Fin 16384) (c : Fin 1024) : ℝ := ∑ e, A.dpa t e * A.wa c e
def dc (t : Fin 16384) (c : Fin 1024) : ℝ := ∑ e, A.dpb t e * A.wb c e

/-- Through the mixing. -/
def du (t : Fin 16384) (c : Fin 1024) : ℝ := A.da t c * A.mixed t c * dgelu (A.u t c)
def dmix (t : Fin 16384) (c : Fin 1024) : ℝ := A.da t c * gelu (A.u t c)
def dvp (t : Fin 16384) (c : Fin 1024) : ℝ := ∑ i : Fin 128, A.wm (grp c) i (pos t) * A.dmix (tk (cnk t) i) c
def dvg (t : Fin 16384) (c : Fin 1024) : ℝ := A.dvp t c * A.gain c
def dv (t : Fin 16384) (c : Fin 1024) : ℝ := rmsBack (A.vg t) (A.dvg t) c * dgelu (A.v t c)

/-- Through the convolution: `k` tokens later, with zeros past the last token. -/
def dbg (t : Fin 16384) (c : Fin 1024) : ℝ := A.dc t c * A.cv t c
def dcv (t : Fin 16384) (c : Fin 1024) : ℝ := A.dc t c * A.bg t c
def dcvs (k : ℕ) (t : Fin 16384) (c : Fin 1024) : ℝ := if h : t.val + k < 16384 then A.dcv ⟨t.val + k, h⟩ c else 0
def dq (t : Fin 16384) (c : Fin 1024) : ℝ :=
  A.conv 2 c * A.dcv t c + A.conv 1 c * A.dcvs 1 t c + A.conv 0 c * A.dcvs 2 t c
def dcg (t : Fin 16384) (c : Fin 1024) : ℝ := A.dq t c * A.xs t c
def dxs (t : Fin 16384) (c : Fin 1024) : ℝ := A.dq t c * A.cg t c

/-- The seven parts of the projection's cotangent. -/
def dpart (k : Fin 7) (t : Fin 16384) (c : Fin 1024) : ℝ :=
  match k with
  | 0 => A.du t c
  | 1 => A.dv t c
  | 2 => A.dbg t c
  | 3 => A.dcg t c
  | 4 => A.dxs t c
  | 5 => A.dga t c
  | 6 => A.dgb t c

/-- The cotangents of the two branches' outputs, and the cotangent that came in. -/
def dstk (k : Fin 3) (t : Fin 16384) (c : Fin 1024) : ℝ :=
  match k with
  | 0 => A.dpa t c
  | 1 => A.dpb t c
  | 2 => A.dx t c

/-- What a token adds to the small gradients: row 0 the gain's, rows 1 to 3 the convolution's. -/
def st (t : Fin 16384) (r : Fin 8) (c : Fin 1024) : ℝ :=
  if r.val = 0 then A.dvp t c * A.vh t c
  else if r.val = 1 then A.dcv t c * A.qs 2 t c
  else if r.val = 2 then A.dcv t c * A.qs 1 t c
  else if r.val = 3 then A.dcv t c * A.q t c else 0

/-- What a token adds to the gate biases' gradient, in row 0. -/
def sg (t : Fin 16384) (r : Fin 8) (j : Fin 2048) : ℝ :=
  if r.val = 0 then (if h : j.val < 1024 then A.dga t ⟨j.val, h⟩ else A.dgb t ⟨j.val - 1024, by omega⟩) else 0

/-- What a chunk adds to the mixing weights' gradient and to the mixing biases'. -/
def sw (n : Fin 128) (g : Fin 8) (i j : Fin 128) : ℝ := ∑ e, A.dmix (tk n i) (ch g e) * A.vp (tk n j) (ch g e)
def sbs (n : Fin 128) (g : Fin 8) (i e : Fin 128) : ℝ := A.dmix (tk n i) (ch g e)

end Args

end Cert.MixValue

end
-- ==== Proof.MixRun.lean ====
module

public import proofs.«01_k».proof.Proof.Gen.MixIdeal.Frame.RunB

/-! # The run of the mixer's backward call

The grid's points are walked in order.  Each point reads fourteen blocks, stores two blocks of the token-wise
results whole, and adds into four accumulators; one scratch buffer carries the gate's rows from a tile to the
tile before it in the sequence.  The first point sets the accumulators and the carried scratch, every later one
continues them.  What every buffer holds after each point is `left`; from it the frame of both the call and its
idealization follow, and the values of its results are read off it. -/

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's operands, together -/

/-- The memrefs the body is called with, each a whole buffer: fourteen inputs, six outputs, three scratch. -/
structure Refs where
  (a1 : Memref sig .tc .vmem S256x1024 .f32) (h1 : a1.IsWhole)
  (a2 : Memref sig .tc .vmem S256x7168 .bf16) (h2 : a2.IsWhole)
  (a3 : Memref sig .tc .vmem S16x1024 .bf16) (h3 : a3.IsWhole)
  (a4 : Memref sig .tc .vmem S16x1024 .bf16) (h4 : a4.IsWhole)
  (a5 : Memref sig .tc .vmem S256x1024 .bf16) (h5 : a5.IsWhole)
  (a6 : Memref sig .tc .vmem S256x1024 .bf16) (h6 : a6.IsWhole)
  (a7 : Memref sig .tc .vmem S1x2048 .f32) (h7 : a7.IsWhole)
  (a8 : Memref sig .tc .vmem S1x1024 .f32) (h8 : a8.IsWhole)
  (a9 : Memref sig .tc .vmem S8x128x128 .f32) (h9 : a9.IsWhole)
  (a10 : Memref sig .tc .vmem S8x128x1 .f32) (h10 : a10.IsWhole)
  (a11 : Memref sig .tc .vmem S8x1024 .f32) (h11 : a11.IsWhole)
  (a12 : Memref sig .tc .vmem S1024x1024 .bf16) (h12 : a12.IsWhole)
  (a13 : Memref sig .tc .vmem S1024x1024 .bf16) (h13 : a13.IsWhole)
  (a14 : Memref sig .tc .vmem S1024x1024 .bf16) (h14 : a14.IsWhole)
  (a15 : Memref sig .tc .vmem S256x7168 .bf16) (h15 : a15.IsWhole)
  (a16 : Memref sig .tc .vmem S256x3072 .bf16) (h16 : a16.IsWhole)
  (a17 : Memref sig .tc .vmem S8x1024 .f32) (h17 : a17.IsWhole)
  (a18 : Memref sig .tc .vmem S8x2048 .f32) (h18 : a18.IsWhole)
  (a19 : Memref sig .tc .vmem S8x128x128 .f32) (h19 : a19.IsWhole)
  (a20 : Memref sig .tc .vmem S8x128x128 .f32) (h20 : a20.IsWhole)
  (a21 : Memref sig .tc .vmem S8x1024 .f32) (h21 : a21.IsWhole)
  (a22 : Memref sig .tc .vmem S256x1024 .f32) (h22 : a22.IsWhole)
  (a23 : Memref sig .tc .vmem S256x1024 .f32) (h23 : a23.IsWhole)

/-- The blocks the inputs hold. -/
structure Blocks (F : FTy → Type) where
  x0 : Vec F S256x1024 .f32
  x1 : Vec F S256x7168 .bf16
  x2 : Vec F S16x1024 .bf16
  x3 : Vec F S16x1024 .bf16
  x4 : Vec F S256x1024 .bf16
  x5 : Vec F S256x1024 .bf16
  x6 : Vec F S1x2048 .f32
  x7 : Vec F S1x1024 .f32
  x8 : Vec F S8x128x128 .f32
  x9 : Vec F S8x128x1 .f32
  x10 : Vec F S8x1024 .f32
  x11 : Vec F S1024x1024 .bf16
  x12 : Vec F S1024x1024 .bf16
  x13 : Vec F S1024x1024 .bf16

/-- What a point leaves: the two token-wise results' blocks, the four accumulators, the carried scratch. -/
structure Left (F : FTy → Type) where
  proj : Vec F S256x7168 .bf16
  stk : Vec F S256x3072 .bf16
  st : Vec F S8x1024 .f32
  dbg : Vec F S8x2048 .f32
  dws : Vec F S8x128x128 .f32
  dbs : Vec F S8x128x128 .f32
  carry : Vec F S8x1024 .f32

/-- The body on these memrefs. -/
def body (i : grid0.Coords) (r : Refs) : Prog (TpuEff nD τ sig (Elt F) Λ₀ .tc) PUnit :=
  cc0_mixer_bwd i
    r.a1 r.h1 r.a2 r.h2 r.a3 r.h3 r.a4 r.h4 r.a5 r.h5 r.a6 r.h6 r.a7 r.h7 r.a8 r.h8 r.a9 r.h9 r.a10 r.h10
    r.a11 r.h11 r.a12 r.h12 r.a13 r.h13 r.a14 r.h14 r.a15 r.h15 r.a16 r.h16 r.a17 r.h17 r.a18 r.h18 r.a19
    r.h19 r.a20 r.h20 r.a21 r.h21 r.a22 r.h22 r.a23 r.h23

/-- The body's run at the first point: the stores it makes. -/
def ranA (c : Dev nD) (i : grid0.Coords) (r : Refs) (hc : cond0_0 i) (x : Blocks F) :=
  kernelRun0_A c i
    r.a1 r.h1 r.a2 r.h2 r.a3 r.h3 r.a4 r.h4 r.a5 r.h5 r.a6 r.h6 r.a7 r.h7 r.a8 r.h8 r.a9 r.h9 r.a10 r.h10
    r.a11 r.h11 r.a12 r.h12 r.a13 r.h13 r.a14 r.h14 r.a15 r.h15 r.a16 r.h16 r.a17 r.h17 r.a18 r.h18 r.a19
    r.h19 r.a20 r.h20 r.a21 r.h21 r.a22 r.h22 r.a23 r.h23
    hc x.x0 x.x1 x.x2 x.x3 x.x4 x.x5 x.x6 x.x7 x.x8 x.x9 x.x10 x.x11 x.x12 x.x13

/-- The body's run at a later point, the accumulators and the carried scratch holding `p`. -/
def ranB (c : Dev nD) (i : grid0.Coords) (r : Refs) (hc : ¬cond0_0 i) (x : Blocks F) (p : Left F) :=
  kernelRun0_B c i
    r.a1 r.h1 r.a2 r.h2 r.a3 r.h3 r.a4 r.h4 r.a5 r.h5 r.a6 r.h6 r.a7 r.h7 r.a8 r.h8 r.a9 r.h9 r.a10 r.h10
    r.a11 r.h11 r.a12 r.h12 r.a13 r.h13 r.a14 r.h14 r.a15 r.h15 r.a16 r.h16 r.a17 r.h17 r.a18 r.h18 r.a19
    r.h19 r.a20 r.h20 r.a21 r.h21 r.a22 r.h22 r.a23 r.h23
    hc x.x0 x.x1 x.x2 x.x3 x.x4 x.x5 x.x6 x.x7 x.x8 x.x9 x.x10 x.x11 x.x12 x.x13
    p.st p.dbg p.dws p.dbs p.carry

/-- What a buffer holds once covered by stores. -/
abbrev covered {S : Shape} {e : EltTy} (a : Memref sig .tc .vmem S e) (L : List (View.Piece (Elt F) S e)) : Vec F S e :=
  a.view.read (Elt F) (a.view.writes (Elt F) a.view.junk L)

/-- What the first point leaves. -/
def leftA (c : Dev nD) (i : grid0.Coords) (r : Refs) (hc : cond0_0 i) (x : Blocks F) : Left F where
  proj := covered r.a15 (ranA c i r hc x).1
  stk := covered r.a16 (ranA c i r hc x).2.1
  st := covered r.a17 (ranA c i r hc x).2.2.1
  dbg := covered r.a18 (ranA c i r hc x).2.2.2.1
  dws := covered r.a19 (ranA c i r hc x).2.2.2.2.1
  dbs := covered r.a20 (ranA c i r hc x).2.2.2.2.2.1
  carry := covered r.a21 (ranA c i r hc x).2.2.2.2.2.2.1

/-- What a later point leaves: the two accumulators it stores into in part keep the rest of what they held. -/
def leftB (c : Dev nD) (i : grid0.Coords) (r : Refs) (hc : ¬cond0_0 i) (x : Blocks F) (p : Left F) : Left F where
  proj := covered r.a15 (ranB c i r hc x p).1
  stk := covered r.a16 (ranB c i r hc x p).2.1
  st := r.a17.view.read (Elt F) (r.a17.view.writes (Elt F) (r.h17.unread p.st) (ranB c i r hc x p).2.2.1)
  dbg := r.a18.view.read (Elt F) (r.a18.view.writes (Elt F) (r.h18.unread p.dbg) (ranB c i r hc x p).2.2.2.1)
  dws := covered r.a19 (ranB c i r hc x p).2.2.2.2.1
  dbs := covered r.a20 (ranB c i r hc x p).2.2.2.2.2.1
  carry := covered r.a21 (ranB c i r hc x p).2.2.2.2.2.2.1

/-! ## The stores cover what they should -/

section Covers

variable (c : Dev nD) (i : grid0.Coords) (r : Refs) (x : Blocks F) (p : Left F)

theorem projA_cover (hc : cond0_0 i) (y : S256x7168.Idx) : ∃ q ∈ (ranA c i r hc x).1, y ∈ q.1.set :=
  View.cover_of_tiledL ((ranA c i r hc x).1) S256x1024.size (by sl_kernel_rfl) y
theorem stkA_cover (hc : cond0_0 i) (y : S256x3072.Idx) : ∃ q ∈ (ranA c i r hc x).2.1, y ∈ q.1.set :=
  View.cover_of_tiledL ((ranA c i r hc x).2.1) S256x1024.size (by sl_kernel_rfl) y
theorem stA_cover (hc : cond0_0 i) (y : S8x1024.Idx) : ∃ q ∈ (ranA c i r hc x).2.2.1, y ∈ q.1.set :=
  View.cover_of_tiledBy ((ranA c i r hc x).2.2.1) ![1, 1024] (by sl_kernel_rfl) y
theorem dbgA_cover (hc : cond0_0 i) (y : S8x2048.Idx) : ∃ q ∈ (ranA c i r hc x).2.2.2.1, y ∈ q.1.set :=
  View.cover_of_tiledBy ((ranA c i r hc x).2.2.2.1) ![1, 1024] (by sl_kernel_rfl) y
theorem dwsA_cover (hc : cond0_0 i) (y : S8x128x128.Idx) : ∃ q ∈ (ranA c i r hc x).2.2.2.2.1, y ∈ q.1.set :=
  View.cover_of_tiledBy ((ranA c i r hc x).2.2.2.2.1) ![1, 128, 128] (by sl_kernel_rfl) y
theorem dbsA_cover (hc : cond0_0 i) (y : S8x128x128.Idx) : ∃ q ∈ (ranA c i r hc x).2.2.2.2.2.1, y ∈ q.1.set :=
  View.cover_of_tiledBy ((ranA c i r hc x).2.2.2.2.2.1) ![1, 128, 128] (by sl_kernel_rfl) y
theorem carryA_cover (hc : cond0_0 i) (y : S8x1024.Idx) : ∃ q ∈ (ranA c i r hc x).2.2.2.2.2.2.1, y ∈ q.1.set :=
  View.cover_of_tiledL ((ranA c i r hc x).2.2.2.2.2.2.1) S8x1024.size (by sl_kernel_rfl) y
theorem projB_cover (hc : ¬cond0_0 i) (y : S256x7168.Idx) : ∃ q ∈ (ranB c i r hc x p).1, y ∈ q.1.set :=
  View.cover_of_tiledL ((ranB c i r hc x p).1) S256x1024.size (by sl_kernel_rfl) y
theorem stkB_cover (hc : ¬cond0_0 i) (y : S256x3072.Idx) : ∃ q ∈ (ranB c i r hc x p).2.1, y ∈ q.1.set :=
  View.cover_of_tiledL ((ranB c i r hc x p).2.1) S256x1024.size (by sl_kernel_rfl) y
theorem dwsB_cover (hc : ¬cond0_0 i) (y : S8x128x128.Idx) : ∃ q ∈ (ranB c i r hc x p).2.2.2.2.1, y ∈ q.1.set :=
  View.cover_of_tiledL ((ranB c i r hc x p).2.2.2.2.1) S1x128x128.size (by sl_kernel_rfl) y
theorem dbsB_cover (hc : ¬cond0_0 i) (y : S8x128x128.Idx) : ∃ q ∈ (ranB c i r hc x p).2.2.2.2.2.1, y ∈ q.1.set :=
  View.cover_of_tiledL ((ranB c i r hc x p).2.2.2.2.2.1) S1x128x128.size (by sl_kernel_rfl) y
theorem carryB_cover (hc : ¬cond0_0 i) (y : S8x1024.Idx) : ∃ q ∈ (ranB c i r hc x p).2.2.2.2.2.2.1, y ∈ q.1.set :=
  View.cover_of_tiledL ((ranB c i r hc x p).2.2.2.2.2.2.1) S8x1024.size (by sl_kernel_rfl) y

end Covers

/-! ## The body's triple -/

section Triple

variable (c : Dev nD) (i : grid0.Coords) (r : Refs) (x : Blocks F) (p : Left F)

/-- The inputs' memrefs hold their blocks. -/
def given : sProp 𝕄 :=
  iprop(owns (c : Thread nD τ) r.a1 fullShare x.x0 ∗ owns (c : Thread nD τ) r.a2 fullShare x.x1 ∗ owns (c :
      Thread nD τ) r.a3 fullShare x.x2 ∗ owns (c : Thread nD τ) r.a4 fullShare x.x3 ∗ owns (c : Thread nD τ)
      r.a5 fullShare x.x4 ∗ owns (c : Thread nD τ) r.a6 fullShare x.x5 ∗ owns (c : Thread nD τ) r.a7 fullShare
      x.x6 ∗ owns (c : Thread nD τ) r.a8 fullShare x.x7 ∗ owns (c : Thread nD τ) r.a9 fullShare x.x8 ∗ owns (c
      : Thread nD τ) r.a10 fullShare x.x9 ∗ owns (c : Thread nD τ) r.a11 fullShare x.x10 ∗ owns (c : Thread nD
      τ) r.a12 fullShare x.x11 ∗ owns (c : Thread nD τ) r.a13 fullShare x.x12 ∗ owns (c : Thread nD τ) r.a14
      fullShare x.x13)

/-- A memref holding anything. -/
abbrev anything {S : Shape} {e : EltTy} (a : Memref sig .tc .vmem S e) : sProp 𝕄 :=
  iprop(∃ d, owns (c : Thread nD τ) a fullShare d)

/-- The four accumulators hold what `p` says. -/
def sums : sProp 𝕄 :=
  iprop(owns (c : Thread nD τ) r.a17 fullShare p.st ∗ owns (c : Thread nD τ) r.a18 fullShare p.dbg
    ∗ owns (c : Thread nD τ) r.a19 fullShare p.dws ∗ owns (c : Thread nD τ) r.a20 fullShare p.dbs)

/-- The accumulators hold anything. -/
def noSums : sProp 𝕄 :=
  iprop(anything c r.a17 ∗ anything c r.a18 ∗ anything c r.a19 ∗ anything c r.a20)

/-- The three scratch buffers, the carried one holding `s`. -/
def scratch (s : Vec F S8x1024 .f32) : sProp 𝕄 :=
  iprop(owns (c : Thread nD τ) r.a21 fullShare s ∗ anything c r.a22 ∗ anything c r.a23)

/-- Everything a point leaves. -/
def leaves : sProp 𝕄 :=
  iprop(given c r x
    ∗ (owns (c : Thread nD τ) r.a15 fullShare p.proj ∗ owns (c : Thread nD τ) r.a16 fullShare p.stk)
    ∗ sums c r p ∗ scratch c r p.carry)

theorem owns_covered {S : Shape} {e : EltTy} (a : Memref sig .tc .vmem S e) (L : List (View.Piece (Elt F) S e))
    (hL : ∀ y, ∃ q ∈ L, y ∈ q.1.set) (f) :
    (a.view.loc (c : Thread nD τ) ↦[a.view.set]{fullShare} a.view.writes (Elt F) f L : sProp 𝕄)
      ⊢ owns (c : Thread nD τ) a fullShare (covered a L) := by
  unfold owns
  iintro H
  iexists _
  isplitr
  swap
  · iexact H
  ipureintro
  exact View.read_writes_of_cover _ _ _ _ _ hL

theorem owns_read {S : Shape} {e : EltTy} (a : Memref sig .tc .vmem S e) (f) :
    (a.view.loc (c : Thread nD τ) ↦[a.view.set]{fullShare} f : sProp 𝕄)
      ⊢ owns (c : Thread nD τ) a fullShare (a.view.read (Elt F) f) := by
  unfold owns
  iintro H
  iexists _
  isplitr
  swap
  · iexact H
  ipureintro
  rfl

set_option maxHeartbeats 4000000 in
theorem tripleA (hc : cond0_0 i) :
    iprop(given c r x ∗ (anything c r.a15 ∗ anything c r.a16) ∗ noSums c r
        ∗ (anything c r.a21 ∗ anything c r.a22 ∗ anything c r.a23))
      ⊢ wp frame (wpE (defs₀ (F := F)) Variants.none c none) Set.univ (body i r)
          (fun _ => leaves c r x (leftA c i r hc x)) := by
  unfold given noSums
  iintro ⟨⟨H1, H2, H3, H4, H5, H6, H7, H8, H9, H10, H11, H12, H13, H14⟩, ⟨H15, H16⟩, ⟨H17, H18, H19, H20⟩, ⟨H21, H22, H23⟩⟩
  iapply ((ranA c i r hc x).2.2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩⟩
  unfold leaves given sums scratch leftA
  isplitl [H1 H2 H3 H4 H5 H6 H7 H8 H9 H10 H11 H12 H13 H14]
  · iframe
  isplitl [H15 H16]
  · isplitl [H15]
    · iapply (owns_covered c r.a15 _ (projA_cover c i r x hc)); iexact H15
    iapply (owns_covered c r.a16 _ (stkA_cover c i r x hc)); iexact H16
  isplitl [H17 H18 H19 H20]
  · isplitl [H17]
    · iapply (owns_covered c r.a17 _ (stA_cover c i r x hc)); iexact H17
    isplitl [H18]
    · iapply (owns_covered c r.a18 _ (dbgA_cover c i r x hc)); iexact H18
    isplitl [H19]
    · iapply (owns_covered c r.a19 _ (dwsA_cover c i r x hc)); iexact H19
    iapply (owns_covered c r.a20 _ (dbsA_cover c i r x hc)); iexact H20
  isplitl [H21]
  · iapply (owns_covered c r.a21 _ (carryA_cover c i r x hc)); iexact H21
  isplitl [H22]
  · iexists _; iapply (owns_read c r.a22 _); iexact H22
  iexists _; iapply (owns_read c r.a23 _); iexact H23

set_option maxHeartbeats 4000000 in
theorem tripleB (hc : ¬cond0_0 i) :
    iprop(given c r x ∗ (anything c r.a15 ∗ anything c r.a16) ∗ sums c r p ∗ scratch c r p.carry)
      ⊢ wp frame (wpE (defs₀ (F := F)) Variants.none c none) Set.univ (body i r)
          (fun _ => leaves c r x (leftB c i r hc x p)) := by
  unfold given sums scratch
  iintro ⟨⟨H1, H2, H3, H4, H5, H6, H7, H8, H9, H10, H11, H12, H13, H14⟩, ⟨H15, H16⟩, ⟨H17, H18, H19, H20⟩, ⟨H21, H22, H23⟩⟩
  iapply ((ranB c i r hc x p).2.2.2.2.2.2.2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H1, H2, H3, H4, H5, H6, H7, H8, H9, H10, H11, H12, H13, H14, ⟨%e15, H15⟩, ⟨%e16, H16⟩, H17, H18, ⟨%e19, H19⟩, ⟨%e20, H20⟩, ⟨%e21, H21⟩, ⟨%e22, H22⟩, ⟨%e23, H23⟩⟩
  unfold leaves given sums scratch leftB
  isplitl [H1 H2 H3 H4 H5 H6 H7 H8 H9 H10 H11 H12 H13 H14]
  · iframe
  isplitl [H15 H16]
  · isplitl [H15]
    · iapply (owns_covered c r.a15 _ (projB_cover c i r x p hc)); iexact H15
    iapply (owns_covered c r.a16 _ (stkB_cover c i r x p hc)); iexact H16
  isplitl [H17 H18 H19 H20]
  · isplitl [H17]
    · iapply (owns_read c r.a17 _); iexact H17
    isplitl [H18]
    · iapply (owns_read c r.a18 _); iexact H18
    isplitl [H19]
    · iapply (owns_covered c r.a19 _ (dwsB_cover c i r x p hc)); iexact H19
    iapply (owns_covered c r.a20 _ (dbsB_cover c i r x p hc)); iexact H20
  isplitl [H21]
  · iapply (owns_covered c r.a21 _ (carryB_cover c i r x p hc)); iexact H21
  isplitl [H22]
  · iexists _; iapply (owns_read c r.a22 _); iexact H22
  iexists _; iapply (owns_read c r.a23 _); iexact H23

end Triple

end Cert.MixRun
-- ==== Proof.MixPoints.lean ====
module

public import proofs.«01_k».proof.Proof.MixRun

/-! # The mixer's backward call, point after point

The pipeline's buffers at every point of the grid, and from them the run of the whole call and its frame. -/

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The points in order -/

variable (m : (ℓ : Loc nD τ sig) → Buf (Elt F) ℓ) (ρ : Dev nD → PrngReg)

/-- The memrefs the pipeline calls the body with at point `t`. -/
def refs (t : Fin cfg0.N) : Refs := ⟨
    ms0_0 t, hs0_0 t, ms0_1 t, hs0_1 t, ms0_2 t, hs0_2 t, ms0_3 t, hs0_3 t, ms0_4 t, hs0_4 t, ms0_5 t, hs0_5
    t, ms0_6 t, hs0_6 t, ms0_7 t, hs0_7 t, ms0_8 t, hs0_8 t, ms0_9 t, hs0_9 t, ms0_10 t, hs0_10 t, ms0_11 t,
    hs0_11 t, ms0_12 t, hs0_12 t, ms0_13 t, hs0_13 t, ms0_14 t, hs0_14 t, ms0_15 t, hs0_15 t, ms0_16 t, hs0_16
    t, ms0_17 t, hs0_17 t, ms0_18 t, hs0_18 t, ms0_19 t, hs0_19 t, scM0_0, Memref.isWhole_whole _, scM0_1,
    Memref.isWhole_whole _, scM0_2, Memref.isWhole_whole _⟩

/-- The inputs' blocks at point `t`. -/
def blocks (c : Dev nD) (t : Fin cfg0.N) : Blocks F := ⟨
    iblk m c 0 t, iblk m c 1 t, iblk m c 2 t, iblk m c 3 t, iblk m c 4 t, iblk m c 5 t, iblk m c 6 t, iblk m c
    7 t, iblk m c 8 t, iblk m c 9 t, iblk m c 10 t, iblk m c 11 t, iblk m c 12 t, iblk m c 13 t⟩

theorem first (h : 0 < cfg0.N) : cond0_0 (grid0.coords ⟨0, h⟩) := (hcond0_0 ⟨0, h⟩).mpr rfl

theorem later (n : ℕ) (h : n + 1 < cfg0.N) : ¬cond0_0 (grid0.coords ⟨n + 1, h⟩) := fun hc => by
  have hN : n + 1 < 64 := lt_of_lt_of_eq h N_0
  have := (hcond0_0 ⟨n + 1, h⟩).mp hc
  dsimp only at this
  omega

/-- What each point leaves. -/
def left (c : Dev nD) : (n : ℕ) → n < cfg0.N → Left F
  | 0, h => leftA c (grid0.coords ⟨0, h⟩) (refs ⟨0, h⟩) (first h) (blocks m c ⟨0, h⟩)
  | n + 1, h => leftB c (grid0.coords ⟨n + 1, h⟩) (refs ⟨n + 1, h⟩) (later n h) (blocks m c ⟨n + 1, h⟩)
      (left c n (Nat.lt_of_succ_lt h))

/-- The invariant before point `n`: at the start the scratch holds anything, afterwards the carried buffer holds
what the point before left. -/
def PhiS (c : Dev nD) : (n : ℕ) → n ≤ cfg0.N → sProp 𝕄
  | 0, _ => Pipeline.ΦA spec0 c
  | n + 1, h => iprop(iprop(owns (c : Thread nD τ) scM0_0 fullShare (left m c n h).carry
      ∗ (∃ d, owns (c : Thread nD τ) scM0_1 fullShare d) ∗ (∃ d, owns (c : Thread nD τ) scM0_2 fullShare d))
      ∗ (∃ r, prngReg c r))

/-- The proof data: the arrays as the call finds them, each point's blocks, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (left m c t.val t.isLt).proj
    | ⟨15, _⟩ => (left m c t.val t.isLt).stk
    | ⟨16, _⟩ => (left m c t.val t.isLt).st
    | ⟨17, _⟩ => (left m c t.val t.isLt).dbg
    | ⟨18, _⟩ => (left m c t.val t.isLt).dws
    | ⟨19, _⟩ => (left m c t.val t.isLt).dbs
    | ⟨k + 20, h⟩ => absurd h (Nat.not_lt.mpr (Nat.le_add_left 20 k))
  Φ t := PhiS m c t.val (Nat.le_of_lt_succ t.isLt)
  q w := Pipeline.shareOf spec0 w
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d
theorem before_10 (c : Dev nD) (t : Fin cfg0.N) (d) : (dats m 0 c).before 10 t d = iblk m c 10 t :=
  before0_10_of m (dats m 0 c) rfl (fun _ => rfl) t d
theorem before_11 (c : Dev nD) (t : Fin cfg0.N) (d) : (dats m 0 c).before 11 t d = iblk m c 11 t :=
  before0_11_of m (dats m 0 c) rfl (fun _ => rfl) t d
theorem before_12 (c : Dev nD) (t : Fin cfg0.N) (d) : (dats m 0 c).before 12 t d = iblk m c 12 t :=
  before0_12_of m (dats m 0 c) rfl (fun _ => rfl) t d
theorem before_13 (c : Dev nD) (t : Fin cfg0.N) (d) : (dats m 0 c).before 13 t d = iblk m c 13 t :=
  before0_13_of m (dats m 0 c) rfl (fun _ => rfl) t d

theorem kept_16 (c : Dev nD) (t : Fin cfg0.N) (h : t.val ≠ 0) (d) :
    (dats m 0 c).before 16 t d = (left m c (t.val - 1) (by omega)).st := by
  have hN : t.val < 64 := lt_of_lt_of_eq t.isLt N_0
  rw [Dat.before_out_kept _ 16 rfl t h
    (Bool.eq_false_iff.mpr fun hf => by have := (flush0_16 _).mp hf; dsimp only at this; omega)
    (fun _ => rfl) (fun _ _ => rfl)]
  rfl
theorem kept_17 (c : Dev nD) (t : Fin cfg0.N) (h : t.val ≠ 0) (d) :
    (dats m 0 c).before 17 t d = (left m c (t.val - 1) (by omega)).dbg := by
  have hN : t.val < 64 := lt_of_lt_of_eq t.isLt N_0
  rw [Dat.before_out_kept _ 17 rfl t h
    (Bool.eq_false_iff.mpr fun hf => by have := (flush0_17 _).mp hf; dsimp only at this; omega)
    (fun _ => rfl) (fun _ _ => rfl)]
  rfl
theorem kept_18 (c : Dev nD) (t : Fin cfg0.N) (h : t.val ≠ 0) (d) :
    (dats m 0 c).before 18 t d = (left m c (t.val - 1) (by omega)).dws := by
  have hN : t.val < 64 := lt_of_lt_of_eq t.isLt N_0
  rw [Dat.before_out_kept _ 18 rfl t h
    (Bool.eq_false_iff.mpr fun hf => by have := (flush0_18 _).mp hf; dsimp only at this; omega)
    (fun _ => rfl) (fun _ _ => rfl)]
  rfl
theorem kept_19 (c : Dev nD) (t : Fin cfg0.N) (h : t.val ≠ 0) (d) :
    (dats m 0 c).before 19 t d = (left m c (t.val - 1) (by omega)).dbs := by
  have hN : t.val < 64 := lt_of_lt_of_eq t.isLt N_0
  rw [Dat.before_out_kept _ 19 rfl t h
    (Bool.eq_false_iff.mpr fun hf => by have := (flush0_19 _).mp hf; dsimp only at this; omega)
    (fun _ => rfl) (fun _ _ => rfl)]
  rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (refs t).a1 fullShare ((dats m 0 c).before 0 t d))
    ∗ (∃ d, owns (c : Thread nD τ) (refs t).a2 fullShare ((dats m 0 c).before 1 t d))
    ∗ (∃ d, owns (c : Thread nD τ) (refs t).a3 fullShare ((dats m 0 c).before 2 t d))
    ∗ (∃ d, owns (c : Thread nD τ) (refs t).a4 fullShare ((dats m 0 c).before 3 t d))
    ∗ (∃ d, owns (c : Thread nD τ) (refs t).a5 fullShare ((dats m 0 c).before 4 t d))
    ∗ (∃ d, owns (c : Thread nD τ) (refs t).a6 fullShare ((dats m 0 c).before 5 t d))
    ∗ (∃ d, owns (c : Thread nD τ) (refs t).a7 fullShare ((dats m 0 c).before 6 t d))
    ∗ (∃ d, owns (c : Thread nD τ) (refs t).a8 fullShare ((dats m 0 c).before 7 t d))
    ∗ (∃ d, owns (c : Thread nD τ) (refs t).a9 fullShare ((dats m 0 c).before 8 t d))
    ∗ (∃ d, owns (c : Thread nD τ) (refs t).a10 fullShare ((dats m 0 c).before 9 t d))
    ∗ (∃ d, owns (c : Thread nD τ) (refs t).a11 fullShare ((dats m 0 c).before 10 t d))
    ∗ (∃ d, owns (c : Thread nD τ) (refs t).a12 fullShare ((dats m 0 c).before 11 t d))
    ∗ (∃ d, owns (c : Thread nD τ) (refs t).a13 fullShare ((dats m 0 c).before 12 t d))
    ∗ (∃ d, owns (c : Thread nD τ) (refs t).a14 fullShare ((dats m 0 c).before 13 t d))
    ∗ (∃ d, owns (c : Thread nD τ) (refs t).a15 fullShare ((dats m 0 c).before 14 t d))
    ∗ (∃ d, owns (c : Thread nD τ) (refs t).a16 fullShare ((dats m 0 c).before 15 t d))
    ∗ (∃ d, owns (c : Thread nD τ) (refs t).a17 fullShare ((dats m 0 c).before 16 t d))
    ∗ (∃ d, owns (c : Thread nD τ) (refs t).a18 fullShare ((dats m 0 c).before 17 t d))
    ∗ (∃ d, owns (c : Thread nD τ) (refs t).a19 fullShare ((dats m 0 c).before 18 t d))
    ∗ (∃ d, owns (c : Thread nD τ) (refs t).a20 fullShare ((dats m 0 c).before 19 t d)))

/-- What it must give back. -/
def bodyPost (c : Dev nD) (t : Fin cfg0.N) : sProp 𝕄 :=
  iprop((dats m 0 c).Φ t.succ ∗ (dats m 0 c).owesAt () t.succ
    ∗ owns (c : Thread nD τ) (refs t).a1 fullShare ((dats m 0 c).after 0 t)
    ∗ owns (c : Thread nD τ) (refs t).a2 fullShare ((dats m 0 c).after 1 t)
    ∗ owns (c : Thread nD τ) (refs t).a3 fullShare ((dats m 0 c).after 2 t)
    ∗ owns (c : Thread nD τ) (refs t).a4 fullShare ((dats m 0 c).after 3 t)
    ∗ owns (c : Thread nD τ) (refs t).a5 fullShare ((dats m 0 c).after 4 t)
    ∗ owns (c : Thread nD τ) (refs t).a6 fullShare ((dats m 0 c).after 5 t)
    ∗ owns (c : Thread nD τ) (refs t).a7 fullShare ((dats m 0 c).after 6 t)
    ∗ owns (c : Thread nD τ) (refs t).a8 fullShare ((dats m 0 c).after 7 t)
    ∗ owns (c : Thread nD τ) (refs t).a9 fullShare ((dats m 0 c).after 8 t)
    ∗ owns (c : Thread nD τ) (refs t).a10 fullShare ((dats m 0 c).after 9 t)
    ∗ owns (c : Thread nD τ) (refs t).a11 fullShare ((dats m 0 c).after 10 t)
    ∗ owns (c : Thread nD τ) (refs t).a12 fullShare ((dats m 0 c).after 11 t)
    ∗ owns (c : Thread nD τ) (refs t).a13 fullShare ((dats m 0 c).after 12 t)
    ∗ owns (c : Thread nD τ) (refs t).a14 fullShare ((dats m 0 c).after 13 t)
    ∗ owns (c : Thread nD τ) (refs t).a15 fullShare ((dats m 0 c).after 14 t)
    ∗ owns (c : Thread nD τ) (refs t).a16 fullShare ((dats m 0 c).after 15 t)
    ∗ owns (c : Thread nD τ) (refs t).a17 fullShare ((dats m 0 c).after 16 t)
    ∗ owns (c : Thread nD τ) (refs t).a18 fullShare ((dats m 0 c).after 17 t)
    ∗ owns (c : Thread nD τ) (refs t).a19 fullShare ((dats m 0 c).after 18 t)
    ∗ owns (c : Thread nD τ) (refs t).a20 fullShare ((dats m 0 c).after 19 t))

/-- The same from what the point leaves. -/
theorem bodyPost_of (c : Dev nD) (t : Fin cfg0.N) :
    iprop(leaves c (refs t) (blocks m c t) (left m c t.val t.isLt) ∗ (∃ r, prngReg c r)
        ∗ (dats m 0 c).owesAt () t.castSucc) ⊢ bodyPost m c t := by
  unfold leaves given sums scratch bodyPost
  rw [show (dats m 0 c).Φ t.succ = PhiS m c (t.val + 1) t.isLt from rfl, PhiS,
    show (dats m 0 c).owesAt () t.succ = (dats m 0 c).owesAt () t.castSucc from rfl]
  iintro ⟨⟨⟨H1, H2, H3, H4, H5, H6, H7, H8, H9, H10, H11, H12, H13, H14⟩, ⟨H15, H16⟩, ⟨H17, H18, H19, H20⟩, ⟨H21, H22, H23⟩⟩, Hg, Ho⟩
  isplitl [H21 H22 H23 Hg]
  · isplitl [H21 H22 H23]
    · isplitl [H21]; · iexact H21
      isplitl [H22]; · iexact H22
      iexact H23
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- What is set aside while the body runs. -/
def aside (c : Dev nD) (t : Fin cfg0.N) : sProp 𝕄 :=
  iprop((∃ r, prngReg c r) ∗ (dats m 0 c).owesAt () t.castSucc)

/-- What the body is given at the first point. -/
theorem enter_first (c : Dev nD) (h : 0 < cfg0.N) :
    bodyPre m c ⟨0, h⟩ ⊢ iprop((given c (refs ⟨0, h⟩) (blocks m c ⟨0, h⟩)
      ∗ (anything c (refs ⟨0, h⟩).a15 ∗ anything c (refs ⟨0, h⟩).a16) ∗ noSums c (refs ⟨0, h⟩)
      ∗ (anything c (refs ⟨0, h⟩).a21 ∗ anything c (refs ⟨0, h⟩).a22 ∗ anything c (refs ⟨0, h⟩).a23))
      ∗ aside m c ⟨0, h⟩) := by
  unfold bodyPre given noSums aside
  simp only [before_0, before_1, before_2, before_3, before_4, before_5, before_6, before_7, before_8, before_9, before_10, before_11, before_12, before_13]
  rw [show (dats m 0 c).Φ (Fin.castSucc ⟨0, h⟩) = Pipeline.ΦA spec0 c from rfl, PhiA0_eq]
  iintro ⟨⟨⟨H21, H22, H23⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  isplitr [Hg Ho]
  · isplitl [H1 H2 H3 H4 H5 H6 H7 H8 H9 H10 H11 H12 H13 H14]
    · dsimp only [blocks]; iframe
    isplitl [H15 H16]
    · isplitl [H15]; · iexists _; iexact H15
      iexists _; iexact H16
    isplitl [H17 H18 H19 H20]
    · isplitl [H17]; · iexists _; iexact H17
      isplitl [H18]; · iexists _; iexact H18
      isplitl [H19]; · iexists _; iexact H19
      iexists _; iexact H20
    isplitl [H21]; · iexact H21
    isplitl [H22]; · iexact H22
    iexact H23
  isplitl [Hg]; · iexact Hg
  iexact Ho

/-- What the body is given at a later point: the accumulators and the carried scratch as the point before left
them. -/
theorem enter_later (c : Dev nD) (n : ℕ) (h : n + 1 < cfg0.N) :
    bodyPre m c ⟨n + 1, h⟩ ⊢ iprop((given c (refs ⟨n + 1, h⟩) (blocks m c ⟨n + 1, h⟩)
      ∗ (anything c (refs ⟨n + 1, h⟩).a15 ∗ anything c (refs ⟨n + 1, h⟩).a16)
      ∗ sums c (refs ⟨n + 1, h⟩) (left m c n (Nat.lt_of_succ_lt h))
      ∗ scratch c (refs ⟨n + 1, h⟩) (left m c n (Nat.lt_of_succ_lt h)).carry)
      ∗ aside m c ⟨n + 1, h⟩) := by
  unfold bodyPre given sums scratch aside
  simp only [before_0, before_1, before_2, before_3, before_4, before_5, before_6, before_7, before_8, before_9, before_10, before_11, before_12, before_13]
  simp only [kept_16 m c ⟨n + 1, h⟩ (Nat.succ_ne_zero n), kept_17 m c ⟨n + 1, h⟩ (Nat.succ_ne_zero n),
    kept_18 m c ⟨n + 1, h⟩ (Nat.succ_ne_zero n), kept_19 m c ⟨n + 1, h⟩ (Nat.succ_ne_zero n)]
  rw [show (dats m 0 c).Φ (Fin.castSucc ⟨n + 1, h⟩) = PhiS m c (n + 1) (Nat.le_of_lt h) from rfl, PhiS]
  iintro ⟨⟨⟨H21, H22, H23⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  isplitr [Hg Ho]
  · isplitl [H1 H2 H3 H4 H5 H6 H7 H8 H9 H10 H11 H12 H13 H14]
    · dsimp only [blocks]; iframe
    isplitl [H15 H16]
    · isplitl [H15]; · iexists _; iexact H15
      iexists _; iexact H16
    isplitl [H17 H18 H19 H20]
    · isplitl [H17]; · iexact H17
      isplitl [H18]; · iexact H18
      isplitl [H19]; · iexact H19
      iexact H20
    isplitl [H21]; · iexact H21
    isplitl [H22]; · iexact H22
    iexact H23
  isplitl [Hg]; · iexact Hg
  iexact Ho

/-- The body's triple at every point. -/
theorem sound (c : Dev nD) (t : Fin cfg0.N) :
    bodyPre m c t ⊢ wp frame (wpE (defs₀ (F := F)) Variants.none c none) Set.univ (body (grid0.coords t) (refs t))
      (fun _ => bodyPost m c t) := by
  have close : ∀ {P : sProp 𝕄}, (P ⊢ wp frame (wpE (defs₀ (F := F)) Variants.none c none) Set.univ
      (body (grid0.coords t) (refs t)) (fun _ => leaves c (refs t) (blocks m c t) (left m c t.val t.isLt))) →
      iprop(P ∗ aside m c t) ⊢ wp frame (wpE (defs₀ (F := F)) Variants.none c none) Set.univ
        (body (grid0.coords t) (refs t)) (fun _ => bodyPost m c t) := fun h =>
    ((BI.sep_mono h (Entails.refl _)).trans (wp_frame_r _ _ _)).trans (wp_mono _ _ _ fun _ => bodyPost_of m c t)
  obtain ⟨n, h⟩ := t
  cases n with
  | zero => exact (enter_first m c h).trans (close (tripleA c _ _ _ (first h)))
  | succ n => exact (enter_later m c n h).trans (close (tripleB c _ _ _ _ (later n h)))

/-! ## The run and the frame -/

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ :=
  fun t => by
    rw [bigSep_W0, bigSep_W0, row]
    exact triple_restated (sound m c t) rfl .rfl fun _ => .rfl

theorem leave (c : Dev nD) : (dats m 0 c).Φ (Fin.last cfg0.N) ⊢ Pipeline.ΦA spec0 c := by
  rw [show (dats m 0 c).Φ (Fin.last cfg0.N) = PhiS m c 64 (le_of_eq N_0.symm) from rfl, PhiS, PhiA0_eq]
  iintro ⟨⟨H21, H22, H23⟩, Hg⟩
  isplitl [H21 H22 H23]
  · isplitl [H21]
    · iexists _; iexact H21
    isplitl [H22]; · iexact H22
    iexact H23
  iexact Hg

set_option backward.isDefEq.respectTransparency.types false in
/-- The run: every array ends as the proof data says, the rest unchanged, the counters at zero. -/
theorem run : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := fun _ _ => rfl) (hin := fun _ => .rfl) (hout := leave m)

theorem quiet : θ_run defs (onTc (τ := τ) (main (F := F))) (s₀ m ρ) (fun r => r.2.sem = fun _ => 0) :=
  (θ_run defs _ _).mono (fun _ h => h.2) (run m ρ)

end Cert.MixRun
-- ==== Proof.MixTile.lean ====
/-
  What each of the mixer's kernel's operations gives on a tile of tokens: a real function of the token and the channel.
-/
module

public import proofs.«01_k».proof.Proof.MixSpec
public import proofs.«01_k».proof.Proof.MixPoints
public import proofs.«01_k».proof.Proof.Rows

@[expose] public section

set_option maxRecDepth 16384

noncomputable section

namespace Cert.MixValue

open Idealize.ShloMosaic Idealize.ShloMosaic.TcCoe Idealize.SL.Sem Cert.Reals Cert.MixIdeal Cert.MixIdeal.Gen

/-- Row `p` of tile `τ`. -/
def tok (τ : Fin 64) (p : Fin 256) : Fin 16384 := ⟨256 * τ.val + p.val, by omega⟩

/-- The tile holds the function's values. -/
def Tile (τ : Fin 64) (f : Fin 16384 → Fin 1024 → ℝ) (x : S256x1024.Idx → EReal) : Prop :=
  ∀ p c, x (ix2 p c) = ((f (tok τ p) c : ℝ) : EReal)

/-- So does a row … -/
def Row (g : Fin 1024 → ℝ) (x : S1x1024.Idx → EReal) : Prop := ∀ c, x (ix2 0 c) = ((g c : ℝ) : EReal)

/-- … and a square matrix. -/
def Mat (w : Fin 1024 → Fin 1024 → ℝ) (x : S1024x1024.Idx → EReal) : Prop := ∀ c e, x (ix2 c e) = ((w c e : ℝ) : EReal)

/-- A block of rows before the tile: only the rows of tokens that exist matter. -/
def Before (τ : Fin 64) (f : Fin 16384 → Fin 1024 → ℝ) (x : S16x1024.Idx → EReal) : Prop :=
  ∀ (p : Fin 16) c, ∀ h : τ.val ≠ 0, x (ix2 p c) = ((f ⟨256 * τ.val - 16 + p.val, by omega⟩ c : ℝ) : EReal)

/-- The first rows of the next tile, zeros after the last. -/
def Next (τ : Fin 64) (f : Fin 16384 → Fin 1024 → ℝ) (x : S8x1024.Idx → EReal) : Prop :=
  ∀ (p : Fin 8) c, x (ix2 p c)
    = (((if h : 256 * τ.val + 256 + p.val < 16384 then f ⟨256 * τ.val + 256 + p.val, h⟩ c else 0) : ℝ) : EReal)

/-- The masked mixing weights. -/
def Mix (A : Args) (x : S8x128x128.Idx → EReal) : Prop := ∀ g i j, x (ix3 g i j) = ((A.wm g i j : ℝ) : EReal)

theorem named_sqrt_half (b : BitVec 32) :
    (Named.named κ "sqrt_half" b : Ideal .f32) = ((Real.sqrt (1 / 2) : ℝ) : EReal) := rfl
theorem named_pdf_scale (b : BitVec 32) :
    (Named.named κ "pdf_scale" b : Ideal .f32) = ((-((2 * Real.log 2)⁻¹) : ℝ) : EReal) := rfl
theorem named_pdf_shift (b : BitVec 32) :
    (Named.named κ "pdf_shift" b : Ideal .f32) = ((-(Real.log (2 * Real.pi) * (2 * Real.log 2)⁻¹) : ℝ) : EReal) := rfl

theorem erf_real (x : ℝ) : (FloatOps.erf ((x : ℝ) : EReal) : Ideal .f32) = ((erf x : ℝ) : EReal) := ideal_erf x

theorem exp2_real (x : ℝ) : (FloatOps.exp2 ((x : ℝ) : EReal) : Ideal .f32) = ((Real.rpow 2 x : ℝ) : EReal) := rfl

variable {A : Args} {τ : Fin 64} {f g h : Fin 16384 → Fin 1024 → ℝ} {w : Fin 1024 → Fin 1024 → ℝ} {b : Fin 1024 → ℝ}
variable {x y z u : S256x1024.Idx → EReal} {W : S1024x1024.Idx → EReal} {R : S1x1024.Idx → EReal}

/-- The two halves of the gate's bias. -/
def Args.ga (A : Args) (c : Fin 1024) : ℝ := A.gate ⟨c.val, by omega⟩
def Args.gb (A : Args) (c : Fin 1024) : ℝ := A.gate ⟨1024 + c.val, by omega⟩

/-! ## The gates -/

theorem pay10 (hx : Tile τ f x) : Tile τ f (k0_pay10 (F := Ideal) x) := fun p c => by
  unfold_payloads
  pointwise
  exact hx _ _

theorem pay11 (hx : Tile τ A.dx x) (hW : Mat A.wo W) : Tile τ A.dm (k0_pay11 (F := Ideal) x W) := fun p c => by
  unfold_payloads
  pointwise
  simp only [hx _ _, hW _ _, coe_mul', coe_sum]
  rfl

theorem pay12 (hx : Tile τ (A.part 5) x) (hR : Row A.ga R) : Tile τ A.sa (k0_pay12 (F := Ideal) x R) := fun p c => by
  unfold_payloads
  pointwise
  rw [hx, hR, coe_add', Ideal.logistic_coe]
  rfl

theorem pay13 (hx : Tile τ (A.part 6) x) (hR : Row A.gb R) : Tile τ A.sb (k0_pay13 (F := Ideal) x R) := fun p c => by
  unfold_payloads
  pointwise
  rw [hx, hR, coe_add', Ideal.logistic_coe]
  rfl

theorem pay14 (hx : Tile τ A.dx x) (hW : Mat A.wo W) (hy : Tile τ (A.part 5) y) (hR : Row A.ga R) :
    Tile τ A.dpa (k0_pay14 (F := Ideal) x W y R) := fun p c => by
  rw [k0_pay14]
  pointwise
  rw [pay11 hx hW, pay12 hy hR, coe_mul']
  rfl

theorem pay15 (hx : Tile τ A.dx x) (hW : Mat A.wo W) (hy : Tile τ (A.part 6) y) (hR : Row A.gb R) :
    Tile τ A.dpb (k0_pay15 (F := Ideal) x W y R) := fun p c => by
  rw [k0_pay15]
  pointwise
  rw [pay11 hx hW, pay13 hy hR, coe_mul']
  rfl

theorem pay16 (hx : Tile τ A.dx x) (hW : Mat A.wo W) (hy : Tile τ (A.part 5) y) (hR : Row A.ga R) :
    Tile τ A.dpa (k0_pay16 (F := Ideal) x W y R) := fun p c => by
  rw [k0_pay16]
  pointwise
  rw [pay14 hx hW hy hR]

theorem pay17 (hx : Tile τ A.dx x) (hW : Mat A.wo W) (hy : Tile τ (A.part 6) y) (hR : Row A.gb R) :
    Tile τ A.dpb (k0_pay17 (F := Ideal) x W y R) := fun p c => by
  rw [k0_pay17]
  pointwise
  rw [pay15 hx hW hy hR]

theorem pay18 (hx : Tile τ f x) : Tile τ f (k0_pay18 (F := Ideal) x) := fun p c => by
  unfold_payloads
  pointwise
  exact hx _ _

theorem pay19 (hx : Tile τ A.sa x) (hy : Tile τ A.dpa y) (hz : Tile τ A.pa z) :
    Tile τ A.dga (k0_pay19 (F := Ideal) x y z) := fun p c => by
  unfold_payloads
  pointwise
  rw [hx, hy, hz, ← EReal.coe_one, coe_sub', coe_mul', coe_mul']
  rfl

theorem pay20 (hx : Tile τ A.sb x) (hy : Tile τ A.dpb y) (hz : Tile τ A.pb z) :
    Tile τ A.dgb (k0_pay20 (F := Ideal) x y z) := fun p c => by
  unfold_payloads
  pointwise
  rw [hx, hy, hz, ← EReal.coe_one, coe_sub', coe_mul', coe_mul']
  rfl

theorem pay21 (hx : Tile τ A.sa x) (hy : Tile τ A.dpa y) (hz : Tile τ A.pa z) (c : Fin 1024) :
    k0_pay21 (F := Ideal) x y z R (ix2 0 c) = R (ix2 0 c) + ((∑ p, A.dga (tok τ p) c : ℝ) : EReal) := by
  rw [k0_pay21]
  pointwise
  simp only [pay19 hx hy hz _ _, coe_sum]

theorem pay22 (hx : Tile τ A.sb x) (hy : Tile τ A.dpb y) (hz : Tile τ A.pb z) (c : Fin 1024) :
    k0_pay22 (F := Ideal) x y z R (ix2 0 c) = R (ix2 0 c) + ((∑ p, A.dgb (tok τ p) c : ℝ) : EReal) := by
  rw [k0_pay22]
  pointwise
  simp only [pay20 hx hy hz _ _, coe_sum]

theorem pay23 (hx : Tile τ A.sa x) (hy : Tile τ A.dpa y) (hz : Tile τ A.pa z) :
    Tile τ A.dga (k0_pay23 (F := Ideal) x y z) := fun p c => by
  rw [k0_pay23]
  pointwise
  rw [pay19 hx hy hz]

theorem pay24 (hx : Tile τ A.sb x) (hy : Tile τ A.dpb y) (hz : Tile τ A.pb z) :
    Tile τ A.dgb (k0_pay24 (F := Ideal) x y z) := fun p c => by
  rw [k0_pay24]
  pointwise
  rw [pay20 hx hy hz]

theorem pay25 (hx : Tile τ A.dpa x) (hW : Mat A.wa W) : Tile τ A.da (k0_pay25 (F := Ideal) x W) := fun p c => by
  unfold_payloads
  pointwise
  simp only [hx _ _, hW _ _, coe_mul', coe_sum]
  rfl

theorem pay27 (hx : Tile τ A.dpb x) (hW : Mat A.wb W) :
    Tile τ A.dc (k0_pay27 (F := Ideal) x (k0_pay26 (F := Ideal) W)) := fun p c => by
  unfold_payloads
  pointwise
  simp only [hx _ _, hW _ _, coe_mul', coe_sum]
  rfl

/-! ## The normalization -/

theorem pay28 (hx : Tile τ f x) : Tile τ f (k0_pay28 (F := Ideal) x) := fun p c => by
  unfold_payloads
  pointwise
  exact hx _ _

theorem pay29 (hx : Tile τ f x) : Tile τ (fun t c => cdf (f t c)) (k0_pay29 (F := Ideal) x) := fun p c => by
  unfold_payloads
  pointwise
  rw [hx, named_sqrt_half, coe_mul', erf_real, ofBits_half, ← EReal.coe_one, coe_add', coe_mul']
  rfl

theorem pay30 (hx : Tile τ f x) : Tile τ (fun t c => gelu (f t c)) (k0_pay30 (F := Ideal) x) := fun p c => by
  rw [k0_pay30]
  pointwise
  rw [pay28 hx, pay29 hx, coe_mul']
  rfl

theorem pay31 (hx : Tile τ A.v x) (p : Fin 256) :
    k0_pay31 (F := Ideal) x (ix2 p 0) = ((rinv (A.vg (tok τ p)) : ℝ) : EReal) := by
  rw [k0_pay31]
  pointwise
  simp only [pay30 hx _ _, coe_mul', coe_sum, ofBits_1024, ofBits_eps, coe_add',
    div_real _ (by norm_num : (1024 : ℝ) ≠ 0)]
  exact ms_rsqrt (A.vg (tok τ p))

theorem pay32 (hx : Tile τ A.v x) : Tile τ A.vh (k0_pay32 (F := Ideal) x) := fun p c => by
  rw [k0_pay32]
  pointwise
  rw [pay30 hx, pay31 hx, coe_mul']
  rfl

theorem pay33 (hx : Tile τ A.v x) (hR : Row A.gain R) : Tile τ A.vp (k0_pay33 (F := Ideal) x R) := fun p c => by
  rw [k0_pay33]
  pointwise
  rw [pay32 hx, hR, coe_mul']
  rfl

/-! ## The mixing -/

theorem mask : ∀ i j : Fin 128, IntOp.ori (IntOp.cmpi .slt (BitVec.ofNat 32 j.val) 64#32)
    (IntOp.cmpi .sge (BitVec.ofNat 32 i.val) 64#32) = if j.val < 64 ∨ 64 ≤ i.val then 1#1 else 0#1 := by decide +kernel

theorem pay34 {X : S8x128x128.Idx → EReal} (hX : ∀ g i j, X (ix3 g i j) = ((A.ws g i j : ℝ) : EReal)) :
    Mix A (k0_pay34 (F := Ideal) X) := fun g i j => by
  unfold_payloads
  pointwise
  rw [mask, Args.wm]
  split
  · exact hX g i j
  · rfl

theorem pay56 (hx : Tile τ f x) : Tile τ f (k0_pay56 (F := Ideal) x) := fun p c => by
  unfold_payloads
  pointwise
  exact hx _ _

theorem pay57 (hx : Tile τ f x) :
    Tile τ (fun t c => 1 + erf (f t c * Real.sqrt (1 / 2))) (k0_pay57 (F := Ideal) x) := fun p c => by
  unfold_payloads
  pointwise
  rw [hx, named_sqrt_half, coe_mul', erf_real, ← EReal.coe_one, coe_add']

theorem pay59 (hx : Tile τ f x) :
    Tile τ (fun t c => cdf (f t c)) (k0_pay59 (F := Ideal) (k0_pay57 (F := Ideal) x) (k0_pay58 (F := Ideal))) := fun p c => by
  rw [k0_pay59, k0_pay58]
  pointwise
  rw [pay57 hx, ofBits_half, coe_mul']
  rfl

theorem pay60 (hx : Tile τ A.da x) (hy : Tile τ A.u y) (hz : Tile τ A.mixed z) :
    Tile τ A.du (k0_pay60 (F := Ideal) x (k0_pay56 (F := Ideal) y) (k0_pay57 (F := Ideal) y) (k0_pay58 (F := Ideal)) z) :=
  fun p c => by
    rw [k0_pay60]
    pointwise
    rw [pay59 hy, pay56 hy, hx, hz, named_pdf_scale, named_pdf_shift, coe_mul', coe_mul', coe_mul', coe_add', exp2_real,
      pdf_pow, coe_mul', coe_add', coe_mul']
    rfl

theorem pay61 (hx : Tile τ A.da x) (hy : Tile τ A.u y) :
    Tile τ A.dmix (k0_pay61 (F := Ideal) x (k0_pay56 (F := Ideal) y) (k0_pay57 (F := Ideal) y) (k0_pay58 (F := Ideal))) :=
  fun p c => by
    rw [k0_pay61]
    pointwise
    rw [pay59 hy, pay56 hy, hx, coe_mul', coe_mul']
    rfl

theorem pay62 (hx : Tile τ A.da x) (hy : Tile τ A.u y) :
    Tile τ A.dmix (k0_pay62 (F := Ideal) x (k0_pay56 (F := Ideal) y) (k0_pay57 (F := Ideal) y) (k0_pay58 (F := Ideal))) :=
  fun p c => by
    rw [k0_pay62]
    pointwise
    rw [pay61 hx hy]

theorem pay135 (hx : Tile τ A.vh x) (hy : Tile τ A.dvp y) (c : Fin 1024) :
    k0_pay135 (F := Ideal) x y R (ix2 0 c) = R (ix2 0 c) + ((∑ p, A.dvp (tok τ p) c * A.vh (tok τ p) c : ℝ) : EReal) := by
  rw [k0_pay135]
  pointwise
  simp only [hx _ _, hy _ _, coe_mul', coe_sum]

theorem pay136 (hx : Tile τ A.v x) (hz : Tile τ A.dvp z) (hR : Row A.gain R) :
    Tile τ (fun t c => rmsBack (A.vg t) (A.dvg t) c)
      (k0_pay136 (F := Ideal) (k0_pay31 (F := Ideal) x) (k0_pay32 (F := Ideal) x) z R) := fun p c => by
  rw [k0_pay136]
  pointwise
  simp only [pay31 hx, pay32 hx _ _, hz _ _, hR _, coe_mul', coe_sum, ofBits_1024, coe_sub',
    div_real _ (by norm_num : (1024 : ℝ) ≠ 0)]
  rfl

theorem pay138 (hx : Tile τ A.v x) (hz : Tile τ (fun t c => rmsBack (A.vg t) (A.dvg t) c) z) :
    Tile τ A.dv (k0_pay138 (F := Ideal) (k0_pay28 (F := Ideal) x) (k0_pay29 (F := Ideal) x) z
      (k0_pay137 (F := Ideal) (k0_pay28 (F := Ideal) x))) := fun p c => by
  rw [k0_pay138, k0_pay137]
  pointwise
  rw [pay28 hx, pay29 hx, hz, named_pdf_scale, named_pdf_shift, coe_mul', coe_mul', coe_add', exp2_real,
    pdf_pow, coe_mul', coe_add', coe_mul']
  rfl

/-! ## The convolution -/

theorem pay139 (hx : Tile τ f x) : Tile τ f (k0_pay139 (F := Ideal) x) := fun p c => by
  unfold_payloads
  pointwise
  exact hx _ _

theorem pay140 (hx : Tile τ f x) : Tile τ f (k0_pay140 (F := Ideal) x) := fun p c => by
  unfold_payloads
  pointwise
  exact hx _ _

theorem pay141 (hx : Tile τ f x) : Tile τ f (k0_pay141 (F := Ideal) x) := fun p c => by
  unfold_payloads
  pointwise
  exact hx _ _

theorem pay142 (hx : Tile τ A.cg x) (hy : Tile τ A.xs y) : Tile τ A.q (k0_pay142 (F := Ideal) x y) := fun p c => by
  rw [k0_pay142]
  pointwise
  rw [pay140 hx, pay141 hy, coe_mul']
  rfl

theorem has_prev : ∀ τ : Fin 64, (Scalar.extui (Scalar.cmpi .slt (BitVec.ofNat 32 (63 - τ.val)) 63#32) : BitVec 32).toInt
    = if τ.val = 0 then 0 else 1 := by decide +kernel

theorem pay143 {X Y : S16x1024.Idx → EReal} (hX : Before τ A.cg X) (hY : Before τ A.xs Y) (p : Fin 16) (c : Fin 1024) :
    k0_pay143 (F := Ideal) (BitVec.ofNat 32 (63 - τ.val)) X Y (ix2 p c)
      = (((if h : τ.val ≠ 0 then A.q ⟨256 * τ.val - 16 + p.val, by omega⟩ c else 0) : ℝ) : EReal) := by
  rw [k0_pay143]
  pointwise
  rw [has_prev]
  by_cases h : τ.val = 0
  · rw [dif_neg (by simpa using h), if_pos h]
    simp
  · rw [dif_pos h, if_neg h, hX _ _ h, hY _ _ h, coe_mul']
    simp [Args.q]

/-- The rows of the tile after the rows before it, `k` rows down. -/
theorem shift_down {X Y : S16x1024.Idx → EReal} (hx : Tile τ A.cg x) (hy : Tile τ A.xs y) (hX : Before τ A.cg X)
    (hY : Before τ A.xs Y) (k : ℕ) (hk : 0 < k) (hk' : k ≤ 16) (p : Fin 256) (c : Fin 1024) :
    (if h : (16 + p.val + 272 - k) % 272 < 16 then
        k0_pay143 (F := Ideal) (BitVec.ofNat 32 (63 - τ.val)) X Y (ix2 ⟨(16 + p.val + 272 - k) % 272, h⟩ c)
      else k0_pay142 (F := Ideal) x y (ix2 ⟨(16 + p.val + 272 - k) % 272 - 16, by omega⟩ c))
      = ((A.qs k (tok τ p) c : ℝ) : EReal) := by
  have e : (16 + p.val + 272 - k) % 272 = 16 + p.val - k := by omega
  by_cases h : (16 + p.val + 272 - k) % 272 < 16
  · rw [dif_pos h, pay143 hX hY, Args.qs]
    refine congrArg _ ?_
    by_cases ht : τ.val = 0
    · rw [dif_neg (show ¬τ.val ≠ 0 by omega), if_neg (show ¬k ≤ (tok τ p).val by simp only [tok]; omega)]
    · rw [dif_pos (show τ.val ≠ 0 by omega), if_pos (show k ≤ (tok τ p).val by simp only [tok]; omega)]
      exact congrArg (A.q · c) (Fin.ext (by simp only [tok]; omega))
  · rw [dif_neg h, pay142 hx hy, Args.qs, if_pos (show k ≤ (tok τ p).val by simp only [tok]; omega)]
    exact congrArg (fun t => ((A.q t c : ℝ) : EReal)) (Fin.ext (by simp only [tok]; omega))

theorem pay144 {X Y : S16x1024.Idx → EReal} (hx : Tile τ A.cg x) (hy : Tile τ A.xs y) (hX : Before τ A.cg X) (hY : Before τ A.xs Y) :
    Tile τ (A.qs 2) (k0_pay144 (F := Ideal) (BitVec.ofNat 32 (63 - τ.val)) x y X Y) := fun p c => by
  rw [k0_pay144]
  pointwise
  exact shift_down hx hy hX hY 2 (by norm_num) (by norm_num) p c

theorem pay145 {X Y : S16x1024.Idx → EReal} (hx : Tile τ A.cg x) (hy : Tile τ A.xs y) (hX : Before τ A.cg X) (hY : Before τ A.xs Y) :
    Tile τ (A.qs 1) (k0_pay145 (F := Ideal) (BitVec.ofNat 32 (63 - τ.val)) x y X Y) := fun p c => by
  rw [k0_pay145]
  pointwise
  exact shift_down hx hy hX hY 1 (by norm_num) (by norm_num) p c

theorem pay149 (hx : Tile τ A.dc x) (hq : Tile τ A.q y) (h2 : Tile τ (A.qs 2) z) (h1 : Tile τ (A.qs 1) u)
    {R0 R1 R2 : S1x1024.Idx → EReal} (e0 : Row (A.conv 0) R0) (e1 : Row (A.conv 1) R1) (e2 : Row (A.conv 2) R2) :
    Tile τ A.dbg (k0_pay149 (F := Ideal) x y z u (k0_pay146 (F := Ideal) R0) (k0_pay147 (F := Ideal) R1) R2) := fun p c => by
  unfold_payloads
  pointwise
  rw [hx, hq, h2, h1, e0, e1, e2, coe_mul', coe_mul', coe_mul', coe_add', coe_add', coe_mul']
  rfl

theorem pay150 (hx : Tile τ A.dc x) (hy : Tile τ A.bg y) : Tile τ A.dcv (k0_pay150 (F := Ideal) x y) := fun p c => by
  rw [k0_pay150]
  pointwise
  rw [hx, hy, coe_mul']
  rfl

theorem pay151 (hx : Tile τ A.dc x) (hy : Tile τ A.bg y) (hz : Tile τ f z) (c : Fin 1024) :
    k0_pay151 (F := Ideal) x y z R (ix2 0 c) = R (ix2 0 c) + ((∑ p, A.dcv (tok τ p) c * f (tok τ p) c : ℝ) : EReal) := by
  rw [k0_pay151]
  pointwise
  simp only [pay150 hx hy _ _, hz _ _, coe_mul', coe_sum]

theorem pay152 (hx : Tile τ A.dc x) (hy : Tile τ A.bg y) (hz : Tile τ f z) (c : Fin 1024) :
    k0_pay152 (F := Ideal) x y z R (ix2 0 c) = R (ix2 0 c) + ((∑ p, A.dcv (tok τ p) c * f (tok τ p) c : ℝ) : EReal) :=
  pay151 hx hy hz c

theorem pay153 (hx : Tile τ A.dc x) (hy : Tile τ A.bg y) (hz : Tile τ f z) (c : Fin 1024) :
    k0_pay153 (F := Ideal) x y z R (ix2 0 c) = R (ix2 0 c) + ((∑ p, A.dcv (tok τ p) c * f (tok τ p) c : ℝ) : EReal) :=
  pay151 hx hy hz c

/-- The rows of the next tile after the rows of this one, `k` rows up. -/
theorem shift_up {N : S8x1024.Idx → EReal} (hx : Tile τ A.dcv x) (hN : Next τ A.dcv N) (k : ℕ) (hk : 0 < k) (hk' : k ≤ 8)
    (p : Fin 256) (c : Fin 1024) :
    (if h : (p.val + 264 - (264 - k)) % 264 < 256 then x (ix2 ⟨(p.val + 264 - (264 - k)) % 264, h⟩ c)
      else N (ix2 ⟨(p.val + 264 - (264 - k)) % 264 - 256, by omega⟩ c)) = ((A.dcvs k (tok τ p) c : ℝ) : EReal) := by
  have e : (p.val + 264 - (264 - k)) % 264 = p.val + k := by omega
  by_cases h : (p.val + 264 - (264 - k)) % 264 < 256
  · rw [dif_pos h, hx, Args.dcvs, dif_pos (show (tok τ p).val + k < 16384 by simp only [tok]; omega)]
    exact congrArg (fun t => ((A.dcv t c : ℝ) : EReal)) (Fin.ext (by simp only [tok]; omega))
  · rw [dif_neg h, hN, Args.dcvs]
    refine congrArg _ ?_
    by_cases ht : (tok τ p).val + k < 16384
    · rw [dif_pos ht, dif_pos (by simp only [tok] at ht; omega)]
      exact congrArg (A.dcv · c) (Fin.ext (by simp only [tok]; omega))
    · rw [dif_neg ht, dif_neg (by simp only [tok] at ht; omega)]

theorem pay1 {R0 R1 R2 : S1x1024.Idx → EReal} {N : S8x1024.Idx → EReal} (e0 : Row (A.conv 0) R0) (e1 : Row (A.conv 1) R1)
    (e2 : Row (A.conv 2) R2) (hx : Tile τ A.dcv x) (hN : Next τ A.dcv N) :
    Tile τ A.dq (k0_pay1 (F := Ideal) (k0_pay146 (F := Ideal) R0) (k0_pay147 (F := Ideal) R1) x N
      (k0_pay154 (F := Ideal) R2)) := fun p c => by
  unfold_payloads
  pointwise
  have h1 := shift_up hx hN 1 (by norm_num) (by norm_num) p c
  have h2 := shift_up hx hN 2 (by norm_num) (by norm_num) p c
  simp only [Nat.reduceSub] at h1 h2
  rw [h1, h2, e0, e1, e2, hx, coe_mul', coe_mul', coe_mul', coe_add', coe_add']
  rfl

section Next

variable {R0 R1 R2 : S1x1024.Idx → EReal} {N : S8x1024.Idx → EReal} (e0 : Row (A.conv 0) R0) (e1 : Row (A.conv 1) R1)
  (e2 : Row (A.conv 2) R2) (hx : Tile τ A.dcv x) (hN : Next τ A.dcv N)

include e0 e1 e2 hx hN

theorem pay3 (hy : Tile τ A.xs y) : Tile τ A.dcg (k0_pay3 (F := Ideal) y (k0_pay146 (F := Ideal) R0)
    (k0_pay147 (F := Ideal) R1) x N (k0_pay154 (F := Ideal) R2)) := fun p c => by
  rw [k0_pay3]
  pointwise
  rw [pay1 e0 e1 e2 hx hN, hy, coe_mul']
  rfl

theorem pay4 (hy : Tile τ A.cg y) : Tile τ A.dxs (k0_pay4 (F := Ideal) y (k0_pay146 (F := Ideal) R0)
    (k0_pay147 (F := Ideal) R1) x N (k0_pay154 (F := Ideal) R2)) := fun p c => by
  rw [k0_pay4]
  pointwise
  rw [pay1 e0 e1 e2 hx hN, hy, coe_mul']
  rfl

end Next

theorem pay2 (hx : Tile τ f x) (p : Fin 8) (c : Fin 1024) :
    k0_pay2 (F := Ideal) x (ix2 p c) = ((f (tok τ ⟨p.val, by omega⟩) c : ℝ) : EReal) := by
  rw [k0_pay2]
  pointwise
  exact hx ⟨p.val, by omega⟩ c

end Cert.MixValue

end
-- ==== Proof.MixTiles.lean ====
/-
  The mixer's kernel works on the mixing in blocks of a chunk of 128 tokens and a group of 128 channels: what the
  sixteen blocks of a tile are together, and what each of them adds to the mixing's gradients.
-/
module

public import proofs.«01_k».proof.Proof.MixTile

@[expose] public section

set_option maxRecDepth 16384

noncomputable section

namespace Cert.MixValue

open Idealize.ShloMosaic Idealize.ShloMosaic.TcCoe Idealize.SL.Sem Cert.Reals Cert.MixIdeal Cert.MixIdeal.Gen

variable {A : Args} {τ : Fin 64}
variable {V D : FVec Ideal S256x1024 .bf16} {E U0 U1 U2 : FVec Ideal S256x1024 .f32}
variable {X : Vec Ideal S8x128x128 .f32} {B : Vec Ideal S8x128x1 .f32}

/-- A whole load of a scratch buffer filled by stores. -/
theorem whole_load (v : View sig .tc .vmem S256x1024 .f32) (L : List (View.Piece (Elt Ideal) S256x1024 .f32)) (p : Fin 256)
    (c : Fin 1024) :
    v.readCov L (Rect.unit (s := S256x1024) ![0, 0] ![256, 1024] inb_S256x1024_S256x1024_0_0).toLoadRect
      (show Shape.Idx _ from ix2 p c) = View.canon L (ix2 p c) := by
  rw [View.readCov_eq_canon']
  refine congrArg (View.canon L) (funext fun a => Fin.ext ?_)
  match a with
  | 0 => show 0 + 1 * p.val = p.val; omega
  | 1 => show 0 + 1 * c.val = c.val; omega

theorem congr2 {m n : Nat} (f : Fin m → Fin n → ℝ) {a a' : Fin m} {b b' : Fin n} (ha : a.val = a'.val)
    (hb : b.val = b'.val) : f a b = f a' b' := by
  rw [Fin.ext ha, Fin.ext hb]

theorem congr3 {l m n : Nat} (f : Fin l → Fin m → Fin n → ℝ) {a a' : Fin l} {b b' : Fin m} {c c' : Fin n}
    (ha : a.val = a'.val) (hb : b.val = b'.val) (hc : c.val = c'.val) : f a b c = f a' b' c' := by
  rw [Fin.ext ha, Fin.ext hb, Fin.ext hc]

set_option maxHeartbeats 400000 in
/-- The mixed rows, block by block. -/
theorem mixed_tile (hV : Tile τ A.vp V) (hX : Mix A (k0_pay34 (F := Ideal) X))
    (hB : ∀ g i, B (ix3 g i 0) = ((A.bs g i : ℝ) : EReal)) (p : Fin 256) (c : Fin 1024) :
    View.canon (Val := Elt Ideal) (s := S256x1024) (e := .f32)
      [⟨Rect.unit ![128, 896] ![128, 128] inb_S256x1024_S128x128_128_896, k0_pay55 (F := Ideal) V (k0_pay34 X) (View.ld B (Rect.unit ![7, 0, 0] ![1, 128, 1] inb_S8x128x1_S1x128x1_7_0_0))⟩,
      ⟨Rect.unit ![128, 768] ![128, 128] inb_S256x1024_S128x128_128_768, k0_pay54 (F := Ideal) V (k0_pay34 X) (View.ld B (Rect.unit ![6, 0, 0] ![1, 128, 1] inb_S8x128x1_S1x128x1_6_0_0))⟩,
      ⟨Rect.unit ![128, 640] ![128, 128] inb_S256x1024_S128x128_128_640, k0_pay53 (F := Ideal) (k0_pay52 V (k0_pay34 X)) (View.ld B (Rect.unit ![5, 0, 0] ![1, 128, 1] inb_S8x128x1_S1x128x1_5_0_0))⟩,
      ⟨Rect.unit ![128, 512] ![128, 128] inb_S256x1024_S128x128_128_512, k0_pay51 (F := Ideal) V (k0_pay34 X) (View.ld B (Rect.unit ![4, 0, 0] ![1, 128, 1] inb_S8x128x1_S1x128x1_4_0_0))⟩,
      ⟨Rect.unit ![128, 384] ![128, 128] inb_S256x1024_S128x128_128_384, k0_pay50 (F := Ideal) V (k0_pay34 X) (View.ld B (Rect.unit ![3, 0, 0] ![1, 128, 1] inb_S8x128x1_S1x128x1_3_0_0))⟩,
      ⟨Rect.unit ![128, 256] ![128, 128] inb_S256x1024_S128x128_128_256, k0_pay49 (F := Ideal) V (k0_pay48 (k0_pay34 X)) (View.ld B (Rect.unit ![2, 0, 0] ![1, 128, 1] inb_S8x128x1_S1x128x1_2_0_0))⟩,
      ⟨Rect.unit ![128, 128] ![128, 128] inb_S256x1024_S128x128_128_128, k0_pay47 (F := Ideal) V (k0_pay34 X) (View.ld B (Rect.unit ![1, 0, 0] ![1, 128, 1] inb_S8x128x1_S1x128x1_1_0_0))⟩,
      ⟨Rect.unit ![128, 0] ![128, 128] inb_S256x1024_S128x128_128_0, k0_pay46 (F := Ideal) V (k0_pay34 X) (View.ld B (Rect.unit ![0, 0, 0] ![1, 128, 1] inb_S8x128x1_S1x128x1_0_0_0))⟩,
      ⟨Rect.unit ![0, 896] ![128, 128] inb_S256x1024_S128x128_0_896, k0_pay45 (F := Ideal) V (k0_pay34 X) (View.ld B (Rect.unit ![7, 0, 0] ![1, 128, 1] inb_S8x128x1_S1x128x1_7_0_0))⟩,
      ⟨Rect.unit ![0, 768] ![128, 128] inb_S256x1024_S128x128_0_768, k0_pay44 (F := Ideal) (k0_pay43 V (k0_pay34 X) (View.ld B (Rect.unit ![6, 0, 0] ![1, 128, 1] inb_S8x128x1_S1x128x1_6_0_0)))⟩,
      ⟨Rect.unit ![0, 640] ![128, 128] inb_S256x1024_S128x128_0_640, k0_pay42 (F := Ideal) V (k0_pay34 X) (View.ld B (Rect.unit ![5, 0, 0] ![1, 128, 1] inb_S8x128x1_S1x128x1_5_0_0))⟩,
      ⟨Rect.unit ![0, 512] ![128, 128] inb_S256x1024_S128x128_0_512, k0_pay41 (F := Ideal) V (k0_pay34 X) (View.ld B (Rect.unit ![4, 0, 0] ![1, 128, 1] inb_S8x128x1_S1x128x1_4_0_0))⟩,
      ⟨Rect.unit ![0, 384] ![128, 128] inb_S256x1024_S128x128_0_384, k0_pay40 (F := Ideal) (k0_pay39 V (k0_pay34 X)) (View.ld B (Rect.unit ![3, 0, 0] ![1, 128, 1] inb_S8x128x1_S1x128x1_3_0_0))⟩,
      ⟨Rect.unit ![0, 256] ![128, 128] inb_S256x1024_S128x128_0_256, k0_pay38 (F := Ideal) V (k0_pay34 X) (View.ld B (Rect.unit ![2, 0, 0] ![1, 128, 1] inb_S8x128x1_S1x128x1_2_0_0))⟩,
      ⟨Rect.unit ![0, 128] ![128, 128] inb_S256x1024_S128x128_0_128, k0_pay37 (F := Ideal) V (k0_pay34 X) (View.ld B (Rect.unit ![1, 0, 0] ![1, 128, 1] inb_S8x128x1_S1x128x1_1_0_0))⟩,
      ⟨Rect.unit ![0, 0] ![128, 128] inb_S256x1024_S128x128_0_0, k0_pay36 (F := Ideal) V (k0_pay35 X) (View.ld B (Rect.unit ![0, 0, 0] ![1, 128, 1] inb_S8x128x1_S1x128x1_0_0_0))⟩]
      (ix2 p c) = ((A.mixed (tok τ p) c : ℝ) : EReal) := by
  unfold Mix at hX
  generalize hM : k0_pay34 (F := Ideal) X = M at hX
  canon_tiles x h
  all_goals
    idx_vars x
    try (unfold k0_pay35; rw [hM])
    unfold_payloads
    pointwise
    simp only [hX, hV _ _, hB, coe_mul', coe_sum, coe_add']
    rw [EReal.coe_eq_coe_iff]
    refine congrArg₂ (· + ·) (Finset.sum_congr rfl fun j _ => congrArg₂ (· * ·) (congr3 _ ?_ ?_ rfl) (congr2 _ ?_ ?_))
      (congr2 _ ?_ ?_)
    all_goals first
      | simp only [tok, grp, pos, tk, cnk]; omega
      | show 0 = c.val / 128; omega
      | show 1 = c.val / 128; omega
      | show 2 = c.val / 128; omega
      | show 3 = c.val / 128; omega
      | show 4 = c.val / 128; omega
      | show 5 = c.val / 128; omega
      | show 6 = c.val / 128; omega
      | show 7 = c.val / 128; omega

set_option maxHeartbeats 400000 in
/-- The gradient at the normalized rows, block by block. -/
theorem dvp_tile (hD : Tile τ A.dmix (k0_pay62 (F := Ideal) E U0 U1 U2))
    (hX : Mix A (k0_pay34 (F := Ideal) X)) (p : Fin 256) (c : Fin 1024) :
    View.canon (Val := Elt Ideal) (s := S256x1024) (e := .f32)
      [⟨Rect.unit ![128, 896] ![128, 128] inb_S256x1024_S128x128_128_896, k0_pay134 (F := Ideal) (k0_pay34 X) (k0_pay131 (k0_pay62 E U0 U1 U2))⟩,
      ⟨Rect.unit ![128, 768] ![128, 128] inb_S256x1024_S128x128_128_768, k0_pay130 (F := Ideal) (k0_pay34 X) (k0_pay127 (k0_pay62 E U0 U1 U2))⟩,
      ⟨Rect.unit ![128, 640] ![128, 128] inb_S256x1024_S128x128_128_640, k0_pay126 (F := Ideal) (k0_pay34 X) (k0_pay62 E U0 U1 U2)⟩,
      ⟨Rect.unit ![128, 512] ![128, 128] inb_S256x1024_S128x128_128_512, k0_pay122 (F := Ideal) (k0_pay34 X) (k0_pay118 (k0_pay62 E U0 U1 U2))⟩,
      ⟨Rect.unit ![128, 384] ![128, 128] inb_S256x1024_S128x128_128_384, k0_pay117 (F := Ideal) (k0_pay34 X) (k0_pay114 (k0_pay62 E U0 U1 U2))⟩,
      ⟨Rect.unit ![128, 256] ![128, 128] inb_S256x1024_S128x128_128_256, k0_pay113 (F := Ideal) (k0_pay34 X) (k0_pay62 E U0 U1 U2)⟩,
      ⟨Rect.unit ![128, 128] ![128, 128] inb_S256x1024_S128x128_128_128, k0_pay109 (F := Ideal) (k0_pay34 X) (k0_pay105 (k0_pay62 E U0 U1 U2))⟩,
      ⟨Rect.unit ![128, 0] ![128, 128] inb_S256x1024_S128x128_128_0, k0_pay104 (F := Ideal) (k0_pay34 X) (k0_pay99 (k0_pay62 E U0 U1 U2))⟩,
      ⟨Rect.unit ![0, 896] ![128, 128] inb_S256x1024_S128x128_0_896, k0_pay98 (F := Ideal) (k0_pay34 X) (k0_pay62 E U0 U1 U2)⟩,
      ⟨Rect.unit ![0, 768] ![128, 128] inb_S256x1024_S128x128_0_768, k0_pay94 (F := Ideal) (k0_pay34 X) (k0_pay91 (k0_pay62 E U0 U1 U2))⟩,
      ⟨Rect.unit ![0, 640] ![128, 128] inb_S256x1024_S128x128_0_640, k0_pay90 (F := Ideal) (k0_pay34 X) (k0_pay86 (k0_pay62 E U0 U1 U2))⟩,
      ⟨Rect.unit ![0, 512] ![128, 128] inb_S256x1024_S128x128_0_512, k0_pay85 (F := Ideal) (k0_pay34 X) (k0_pay62 E U0 U1 U2)⟩,
      ⟨Rect.unit ![0, 384] ![128, 128] inb_S256x1024_S128x128_0_384, k0_pay81 (F := Ideal) (k0_pay77 (k0_pay62 E U0 U1 U2)) (k0_pay80 (k0_pay34 X))⟩,
      ⟨Rect.unit ![0, 256] ![128, 128] inb_S256x1024_S128x128_0_256, k0_pay76 (F := Ideal) (k0_pay34 X) (k0_pay72 (k0_pay62 E U0 U1 U2))⟩,
      ⟨Rect.unit ![0, 128] ![128, 128] inb_S256x1024_S128x128_0_128, k0_pay71 (F := Ideal) (k0_pay34 X) (k0_pay62 E U0 U1 U2)⟩,
      ⟨Rect.unit ![0, 0] ![128, 128] inb_S256x1024_S128x128_0_0, k0_pay67 (F := Ideal) (k0_pay66 E (k0_pay34 X) U0 U1 U2)⟩]
      (ix2 p c) = ((A.dvp (tok τ p) c : ℝ) : EReal) := by
  unfold Mix at hX
  generalize hM : k0_pay34 (F := Ideal) X = M at hX
  generalize hE : k0_pay62 (F := Ideal) E U0 U1 U2 = D at hD
  canon_tiles x h
  all_goals
    idx_vars x
    try (unfold k0_pay66 k0_pay63; rw [hE])
    unfold_payloads
    pointwise
    simp only [hX, hD _ _, coe_mul', coe_sum, coe_add']
    rw [EReal.coe_eq_coe_iff]
    refine Finset.sum_congr rfl fun j _ => congrArg₂ (· * ·) (congr3 _ ?_ rfl ?_) (congr2 _ ?_ ?_)
    all_goals first
      | simp only [tok, grp, pos, tk, cnk]; omega
      | show 0 = c.val / 128; omega
      | show 1 = c.val / 128; omega
      | show 2 = c.val / 128; omega
      | show 3 = c.val / 128; omega
      | show 4 = c.val / 128; omega
      | show 5 = c.val / 128; omega
      | show 6 = c.val / 128; omega
      | show 7 = c.val / 128; omega

/-- The chunk `n` of tile `τ`. -/
def chunk (τ : Fin 64) (n : Fin 2) : Fin 128 := ⟨2 * τ.val + n.val, by omega⟩

variable {T : FVec Ideal S256x1024 .f32}

set_option maxHeartbeats 400000 in
/-- What the first chunk of a tile adds to the gradient at the mixing's weights, group by group. -/
theorem sw_first (hV : Tile τ A.vp V) (hE : Tile τ A.dmix (k0_pay62 (F := Ideal) E U0 U1 U2)) (hD : Tile τ A.dmix D)
    (R : Vec Ideal S1x128x128 .f32) (i j : Fin 128) :
    k0_pay64 (F := Ideal) E V U0 U1 U2 R (ix3 0 i j) = R (ix3 0 i j) + ((A.sw (chunk τ 0) 0 i j : ℝ) : EReal) ∧
    k0_pay69 (F := Ideal) V D R (ix3 0 i j) = R (ix3 0 i j) + ((A.sw (chunk τ 0) 1 i j : ℝ) : EReal) ∧
    k0_pay74 (F := Ideal) (k0_pay73 V D R) (ix3 0 i j) = R (ix3 0 i j) + ((A.sw (chunk τ 0) 2 i j : ℝ) : EReal) ∧
    k0_pay78 (F := Ideal) V D R (ix3 0 i j) = R (ix3 0 i j) + ((A.sw (chunk τ 0) 3 i j : ℝ) : EReal) ∧
    k0_pay83 (F := Ideal) V D R (ix3 0 i j) = R (ix3 0 i j) + ((A.sw (chunk τ 0) 4 i j : ℝ) : EReal) ∧
    k0_pay88 (F := Ideal) (k0_pay87 V D R) (ix3 0 i j) = R (ix3 0 i j) + ((A.sw (chunk τ 0) 5 i j : ℝ) : EReal) ∧
    k0_pay92 (F := Ideal) V D R (ix3 0 i j) = R (ix3 0 i j) + ((A.sw (chunk τ 0) 6 i j : ℝ) : EReal) ∧
    k0_pay96 (F := Ideal) V D R (ix3 0 i j) = R (ix3 0 i j) + ((A.sw (chunk τ 0) 7 i j : ℝ) : EReal) := by
  generalize h : k0_pay62 (F := Ideal) E U0 U1 U2 = D' at hE
  refine ⟨?_, ?_, ?_, ?_, ?_, ?_, ?_, ?_⟩
  all_goals
    try (unfold k0_pay64 k0_pay63; rw [h])
    unfold_payloads
    pointwise
    simp only [hD _ _, hE _ _, hV _ _, coe_mul', coe_sum]
    refine congrArg (fun r : ℝ => R (ix3 0 i j) + (r : EReal)) (Finset.sum_congr rfl fun e _ =>
      congrArg₂ (· * ·) (congr2 _ ?_ ?_) (congr2 _ ?_ ?_))
    all_goals simp [tok, tk, ch, chunk] <;> omega

set_option maxHeartbeats 400000 in
/-- And the second. -/
theorem sw_second (hV : Tile τ A.vp V) (hD : Tile τ A.dmix D) (R : Vec Ideal S1x128x128 .f32) (i j : Fin 128) :
    k0_pay102 (F := Ideal) (k0_pay99 D) (k0_pay100 R) (k0_pay101 V) (constant S128x128 .f32 0x00000000#32) (ix3 0 i j) = R (ix3 0 i j) + ((A.sw (chunk τ 1) 0 i j : ℝ) : EReal) ∧
    k0_pay106 (F := Ideal) V D R (ix3 0 i j) = R (ix3 0 i j) + ((A.sw (chunk τ 1) 1 i j : ℝ) : EReal) ∧
    k0_pay111 (F := Ideal) V D R (ix3 0 i j) = R (ix3 0 i j) + ((A.sw (chunk τ 1) 2 i j : ℝ) : EReal) ∧
    k0_pay115 (F := Ideal) V (k0_pay114 D) R (ix3 0 i j) = R (ix3 0 i j) + ((A.sw (chunk τ 1) 3 i j : ℝ) : EReal) ∧
    k0_pay119 (F := Ideal) V D R (ix3 0 i j) = R (ix3 0 i j) + ((A.sw (chunk τ 1) 4 i j : ℝ) : EReal) ∧
    k0_pay124 (F := Ideal) V D R (ix3 0 i j) = R (ix3 0 i j) + ((A.sw (chunk τ 1) 5 i j : ℝ) : EReal) ∧
    k0_pay128 (F := Ideal) V (k0_pay127 D) R (ix3 0 i j) = R (ix3 0 i j) + ((A.sw (chunk τ 1) 6 i j : ℝ) : EReal) ∧
    k0_pay132 (F := Ideal) V D R (ix3 0 i j) = R (ix3 0 i j) + ((A.sw (chunk τ 1) 7 i j : ℝ) : EReal) := by
  refine ⟨?_, ?_, ?_, ?_, ?_, ?_, ?_, ?_⟩
  all_goals
    unfold_payloads
    pointwise
    simp only [hD _ _, hV _ _, coe_mul', coe_sum]
    refine congrArg (fun r : ℝ => R (ix3 0 i j) + (r : EReal)) (Finset.sum_congr rfl fun e _ =>
      congrArg₂ (· * ·) (congr2 _ ?_ ?_) (congr2 _ ?_ ?_))
    all_goals simp [tok, tk, ch, chunk] <;> omega

set_option maxHeartbeats 400000 in
/-- The same for the mixing's bias, whose gradient the kernel keeps apart for every channel of a group. -/
theorem sbs_first (hE : Tile τ A.dmix (k0_pay61 (F := Ideal) E U0 U1 U2)) (hD : Tile τ A.dmix T)
    (R : Vec Ideal S1x128x128 .f32) (i j : Fin 128) :
    k0_pay65 (F := Ideal) E U0 U1 U2 R (ix3 0 i j) = R (ix3 0 i j) + ((A.sbs (chunk τ 0) 0 i j : ℝ) : EReal) ∧
    k0_pay70 (F := Ideal) T R (ix3 0 i j) = R (ix3 0 i j) + ((A.sbs (chunk τ 0) 1 i j : ℝ) : EReal) ∧
    k0_pay75 (F := Ideal) T R (ix3 0 i j) = R (ix3 0 i j) + ((A.sbs (chunk τ 0) 2 i j : ℝ) : EReal) ∧
    k0_pay79 (F := Ideal) T R (ix3 0 i j) = R (ix3 0 i j) + ((A.sbs (chunk τ 0) 3 i j : ℝ) : EReal) ∧
    k0_pay84 (F := Ideal) T R (ix3 0 i j) = R (ix3 0 i j) + ((A.sbs (chunk τ 0) 4 i j : ℝ) : EReal) ∧
    k0_pay89 (F := Ideal) T R (ix3 0 i j) = R (ix3 0 i j) + ((A.sbs (chunk τ 0) 5 i j : ℝ) : EReal) ∧
    k0_pay93 (F := Ideal) T R (ix3 0 i j) = R (ix3 0 i j) + ((A.sbs (chunk τ 0) 6 i j : ℝ) : EReal) ∧
    k0_pay97 (F := Ideal) T R (ix3 0 i j) = R (ix3 0 i j) + ((A.sbs (chunk τ 0) 7 i j : ℝ) : EReal) := by
  generalize h : k0_pay61 (F := Ideal) E U0 U1 U2 = T' at hE
  refine ⟨?_, ?_, ?_, ?_, ?_, ?_, ?_, ?_⟩
  all_goals
    try (unfold k0_pay65; rw [h])
    unfold_payloads
    pointwise
    first | rw [hD] | rw [hE]
    refine congrArg (fun r : ℝ => R (ix3 0 i j) + (r : EReal)) (congr2 _ ?_ ?_)
    all_goals simp [tok, tk, ch, chunk] <;> omega

set_option maxHeartbeats 400000 in
theorem sbs_second (hD : Tile τ A.dmix T) (R : Vec Ideal S1x128x128 .f32) (i j : Fin 128) :
    k0_pay103 (F := Ideal) T R (ix3 0 i j) = R (ix3 0 i j) + ((A.sbs (chunk τ 1) 0 i j : ℝ) : EReal) ∧
    k0_pay108 (F := Ideal) (k0_pay107 T R) (ix3 0 i j) = R (ix3 0 i j) + ((A.sbs (chunk τ 1) 1 i j : ℝ) : EReal) ∧
    k0_pay112 (F := Ideal) T R (ix3 0 i j) = R (ix3 0 i j) + ((A.sbs (chunk τ 1) 2 i j : ℝ) : EReal) ∧
    k0_pay116 (F := Ideal) T R (ix3 0 i j) = R (ix3 0 i j) + ((A.sbs (chunk τ 1) 3 i j : ℝ) : EReal) ∧
    k0_pay121 (F := Ideal) (k0_pay120 T R) (ix3 0 i j) = R (ix3 0 i j) + ((A.sbs (chunk τ 1) 4 i j : ℝ) : EReal) ∧
    k0_pay125 (F := Ideal) T R (ix3 0 i j) = R (ix3 0 i j) + ((A.sbs (chunk τ 1) 5 i j : ℝ) : EReal) ∧
    k0_pay129 (F := Ideal) T R (ix3 0 i j) = R (ix3 0 i j) + ((A.sbs (chunk τ 1) 6 i j : ℝ) : EReal) ∧
    k0_pay133 (F := Ideal) T R (ix3 0 i j) = R (ix3 0 i j) + ((A.sbs (chunk τ 1) 7 i j : ℝ) : EReal) := by
  refine ⟨?_, ?_, ?_, ?_, ?_, ?_, ?_, ?_⟩
  all_goals
    unfold_payloads
    pointwise
    rw [hD]
    refine congrArg (fun r : ℝ => R (ix3 0 i j) + (r : EReal)) (congr2 _ ?_ ?_)
    all_goals simp [tok, tk, ch, chunk] <;> omega

end Cert.MixValue

end
-- ==== Proof.MixOpen.lean ====
/-
  The stores of a point of the mixer's kernel into each of its results, in the order they are made, last first: what the
  result holds after the point is these stores, read.
-/
module

public import proofs.«01_k».proof.Proof.MixPoints
public import Idealize.ShloMosaic.Lib.Pipeline.ValueKit

@[expose] public section

set_option maxRecDepth 16384

noncomputable section

namespace Cert.MixRun

open Cert.MixIdeal Cert.MixIdeal.Gen
open Idealize.ShloMosaic Idealize.ShloMosaic.TcCoe Idealize.ShloMosaic.Tactic Idealize.SL.Sem

variable {F : FTy → Type} [FloatOps F] [Named F]
variable (c : Dev nD) (i : grid0.Coords) (r : Refs) (x : Blocks F) (p : Left F)

set_option maxHeartbeats 4000000 in
def projA (hc : cond0_0 i) : {L : List (View.Piece (Elt F) S256x7168 .bf16) // (leftA c i r hc x).proj = View.canon L} := by
  apply Subtype.mk
  funext y
  generalize hv : View.canon (Val := Elt F) _ y = v
  unfold leftA covered ranA
  frame_out
  exact hv

set_option maxHeartbeats 4000000 in
def stkA (hc : cond0_0 i) : {L : List (View.Piece (Elt F) S256x3072 .bf16) // (leftA c i r hc x).stk = View.canon L} := by
  apply Subtype.mk
  funext y
  generalize hv : View.canon (Val := Elt F) _ y = v
  unfold leftA covered ranA
  frame_out
  exact hv

set_option maxHeartbeats 4000000 in
def stA (hc : cond0_0 i) : {L : List (View.Piece (Elt F) S8x1024 .f32) // (leftA c i r hc x).st = View.canon L} := by
  apply Subtype.mk
  funext y
  generalize hv : View.canon (Val := Elt F) _ y = v
  unfold leftA covered ranA
  frame_out
  exact hv

set_option maxHeartbeats 4000000 in
def dbgA (hc : cond0_0 i) : {L : List (View.Piece (Elt F) S8x2048 .f32) // (leftA c i r hc x).dbg = View.canon L} := by
  apply Subtype.mk
  funext y
  generalize hv : View.canon (Val := Elt F) _ y = v
  unfold leftA covered ranA
  frame_out
  exact hv

set_option maxHeartbeats 4000000 in
def dwsA (hc : cond0_0 i) : {L : List (View.Piece (Elt F) S8x128x128 .f32) // (leftA c i r hc x).dws = View.canon L} := by
  apply Subtype.mk
  funext y
  generalize hv : View.canon (Val := Elt F) _ y = v
  unfold leftA covered ranA
  frame_out
  exact hv

set_option maxHeartbeats 4000000 in
def dbsA (hc : cond0_0 i) : {L : List (View.Piece (Elt F) S8x128x128 .f32) // (leftA c i r hc x).dbs = View.canon L} := by
  apply Subtype.mk
  funext y
  generalize hv : View.canon (Val := Elt F) _ y = v
  unfold leftA covered ranA
  frame_out
  exact hv

set_option maxHeartbeats 4000000 in
def carryA (hc : cond0_0 i) : {w : Vec F S8x1024 .f32 // (leftA c i r hc x).carry = w} := by
  refine ⟨?_, funext fun y => ?_⟩
  rotate_left
  · unfold leftA covered ranA
    frame_out
    exact rfl

set_option maxHeartbeats 4000000 in
def projB (hc : ¬cond0_0 i) : {L : List (View.Piece (Elt F) S256x7168 .bf16) // (leftB c i r hc x p).proj = View.canon L} := by
  apply Subtype.mk
  funext y
  generalize hv : View.canon (Val := Elt F) _ y = v
  unfold leftB covered ranB
  frame_out
  exact hv

set_option maxHeartbeats 4000000 in
def stkB (hc : ¬cond0_0 i) : {L : List (View.Piece (Elt F) S256x3072 .bf16) // (leftB c i r hc x p).stk = View.canon L} := by
  apply Subtype.mk
  funext y
  generalize hv : View.canon (Val := Elt F) _ y = v
  unfold leftB covered ranB
  frame_out
  exact hv

set_option maxHeartbeats 4000000 in
def stB (hc : ¬cond0_0 i) : {L : List (View.Piece (Elt F) S8x1024 .f32) //
    (leftB c i r hc x p).st = r.a17.view.read (Elt F) (r.a17.view.writes (Elt F) (r.h17.unread p.st) L)} := by
  apply Subtype.mk
  funext y
  generalize hv : r.a17.view.read (Elt F) (r.a17.view.writes (Elt F) (r.h17.unread p.st) _) y = v
  unfold leftB covered ranB
  frame_out
  exact hv

set_option maxHeartbeats 4000000 in
def dbgB (hc : ¬cond0_0 i) : {L : List (View.Piece (Elt F) S8x2048 .f32) //
    (leftB c i r hc x p).dbg = r.a18.view.read (Elt F) (r.a18.view.writes (Elt F) (r.h18.unread p.dbg) L)} := by
  apply Subtype.mk
  funext y
  generalize hv : r.a18.view.read (Elt F) (r.a18.view.writes (Elt F) (r.h18.unread p.dbg) _) y = v
  unfold leftB covered ranB
  frame_out
  exact hv

set_option maxHeartbeats 4000000 in
def dwsB (hc : ¬cond0_0 i) : {L : List (View.Piece (Elt F) S8x128x128 .f32) // (leftB c i r hc x p).dws = View.canon L} := by
  apply Subtype.mk
  funext y
  generalize hv : View.canon (Val := Elt F) _ y = v
  unfold leftB covered ranB
  frame_out
  exact hv

set_option maxHeartbeats 4000000 in
def dbsB (hc : ¬cond0_0 i) : {L : List (View.Piece (Elt F) S8x128x128 .f32) // (leftB c i r hc x p).dbs = View.canon L} := by
  apply Subtype.mk
  funext y
  generalize hv : View.canon (Val := Elt F) _ y = v
  unfold leftB covered ranB
  frame_out
  exact hv

set_option maxHeartbeats 4000000 in
def carryB (hc : ¬cond0_0 i) : {w : Vec F S8x1024 .f32 // (leftB c i r hc x p).carry = w} := by
  refine ⟨?_, funext fun y => ?_⟩
  rotate_left
  · unfold leftB covered ranB
    frame_out
    exact rfl

end Cert.MixRun

end
-- ==== Proof.Slabs.lean ====
/-
  Loads and stores of part of a buffer, read at an index: a slab of a rank-3 buffer, a run of one row of a rank-2 one;
  and accumulators that are added to part by part.
-/
module

public import proofs.«01_k».proof.Proof.Rows

@[expose] public section

noncomputable section

namespace Cert.Rows

open Idealize.ShloMosaic Idealize.SL.Sem

variable {sig : RefSig} {κ : Kind} {sp : Space} {e : EltTy} {Val : EltTy → Type} {l n k : ℕ}

section Slab

/-- Where slab `r` was stored last, the store is read in slab `r` and what was there before elsewhere. -/
theorem canon_slab [∀ e, Nonempty (Val e)] (r : ℕ)
    (inb : ∀ a, (![r, 0, 0] : Fin 3 → ℕ) a + (![1, n, k] : Fin 3 → ℕ) a ≤ (⟨3, ![l, n, k]⟩ : Shape).size a)
    (w : (Rect.unit (s := ⟨3, ![l, n, k]⟩) ![r, 0, 0] ![1, n, k] inb).shape.Idx → Val e)
    (L : List (View.Piece Val (⟨3, ![l, n, k]⟩ : Shape) e)) (g : Fin l) (i : Fin n) (j : Fin k) :
    View.canon (⟨Rect.unit (s := ⟨3, ![l, n, k]⟩) ![r, 0, 0] ![1, n, k] inb, w⟩ :: L) (ix3 g i j)
      = if g.val = r then w (ix3 (0 : Fin 1) i j) else View.canon L (ix3 g i j) := by
  split
  next h =>
    have : ix3 g i j = (Rect.unit (s := ⟨3, ![l, n, k]⟩) ![r, 0, 0] ![1, n, k] inb).emb (ix3 (0 : Fin 1) i j) := by
      funext a
      refine Fin.ext ?_
      rw [Rect.emb_apply]
      match a with
      | 0 => simpa using h
      | 1 => simp [Rect.unit]
      | 2 => simp [Rect.unit]
    rw [this]
    exact View.canon_cons_emb _ _ _ _
  next h =>
    refine View.canon_cons_of_not_mem _ _ fun hm => h ?_
    have := (Rect.mem_set_unit (inb := inb) |>.mp hm) 0
    have h1 : r ≤ g.val ∧ g.val < r + 1 := this
    omega

theorem canon_fill3 [∀ e, Nonempty (Val e)]
    (inb : ∀ a, (![0, 0, 0] : Fin 3 → ℕ) a + (![l, n, k] : Fin 3 → ℕ) a ≤ (⟨3, ![l, n, k]⟩ : Shape).size a)
    (w : (Rect.unit (s := ⟨3, ![l, n, k]⟩) ![0, 0, 0] ![l, n, k] inb).shape.Idx → Val e)
    (L : List (View.Piece Val (⟨3, ![l, n, k]⟩ : Shape) e)) (g : Fin l) (i : Fin n) (j : Fin k) :
    View.canon (⟨Rect.unit (s := ⟨3, ![l, n, k]⟩) ![0, 0, 0] ![l, n, k] inb, w⟩ :: L) (ix3 g i j) = w (ix3 g i j) := by
  have : ix3 g i j = (Rect.unit (s := ⟨3, ![l, n, k]⟩) ![0, 0, 0] ![l, n, k] inb).emb (ix3 g i j) := by
    funext a
    refine Fin.ext ?_
    rw [Rect.emb_apply]
    match a with
    | 0 => simp [Rect.unit]
    | 1 => simp [Rect.unit]
    | 2 => simp [Rect.unit]
  conv_lhs => rw [this]
  exact View.canon_cons_emb _ _ _ _

/-- A load of slab `r`. -/
theorem load_slab [∀ e, Nonempty (Val e)] (v : View sig κ sp (⟨3, ![l, n, k]⟩ : Shape) e)
    (L : List (View.Piece Val (⟨3, ![l, n, k]⟩ : Shape) e)) (r : ℕ) (hr : r < l)
    (inb : ∀ a, (![r, 0, 0] : Fin 3 → ℕ) a + (![1, n, k] : Fin 3 → ℕ) a ≤ (⟨3, ![l, n, k]⟩ : Shape).size a)
    (i : Fin n) (j : Fin k) :
    v.readCov L (Rect.unit (s := ⟨3, ![l, n, k]⟩) ![r, 0, 0] ![1, n, k] inb).toLoadRect
      (show Shape.Idx _ from ix3 (0 : Fin 1) i j) = View.canon L (ix3 ⟨r, hr⟩ i j) := by
  rw [View.readCov_eq_canon']
  refine congrArg (View.canon L) (funext fun a => Fin.ext ?_)
  match a with
  | 0 => show r + 1 * 0 = r; omega
  | 1 => show 0 + 1 * i.val = i.val; omega
  | 2 => show 0 + 1 * j.val = j.val; omega

theorem ld_slab (X : (⟨3, ![l, n, k]⟩ : Shape).Idx → Val e) (r : ℕ) (hr : r < l)
    (inb : ∀ a, (![r, 0, 0] : Fin 3 → ℕ) a + (![1, n, k] : Fin 3 → ℕ) a ≤ (⟨3, ![l, n, k]⟩ : Shape).size a)
    (i : Fin n) (j : Fin k) :
    View.ld X (Rect.unit (s := ⟨3, ![l, n, k]⟩) ![r, 0, 0] ![1, n, k] inb) (ix3 (0 : Fin 1) i j) = X (ix3 ⟨r, hr⟩ i j) := by
  refine congrArg X (funext fun a => Fin.ext ?_)
  match a with
  | 0 => show r + 1 * 0 = r; omega
  | 1 => show 0 + 1 * i.val = i.val; omega
  | 2 => show 0 + 1 * j.val = j.val; omega

end Slab

section Run

variable {m : ℕ}

theorem canon_run [∀ e, Nonempty (Val e)] (r o : ℕ)
    (inb : ∀ a, (![r, o] : Fin 2 → ℕ) a + (![1, m] : Fin 2 → ℕ) a ≤ (⟨2, ![n, k]⟩ : Shape).size a)
    (w : (Rect.unit (s := ⟨2, ![n, k]⟩) ![r, o] ![1, m] inb).shape.Idx → Val e)
    (L : List (View.Piece Val (⟨2, ![n, k]⟩ : Shape) e)) (p : Fin n) (c : Fin k) :
    View.canon (⟨Rect.unit (s := ⟨2, ![n, k]⟩) ![r, o] ![1, m] inb, w⟩ :: L) (ix2 p c)
      = if h : p.val = r ∧ o ≤ c.val ∧ c.val < o + m then w (ix2 (0 : Fin 1) ⟨c.val - o, by omega⟩)
        else View.canon L (ix2 p c) := by
  split
  next h =>
    have : ix2 p c = (Rect.unit (s := ⟨2, ![n, k]⟩) ![r, o] ![1, m] inb).emb (ix2 (0 : Fin 1) ⟨c.val - o, by omega⟩) := by
      funext a
      refine Fin.ext ?_
      rw [Rect.emb_apply]
      match a with
      | 0 => simpa using h.1
      | 1 => show c.val = o + 1 * (c.val - o); omega
    rw [this]
    exact View.canon_cons_emb _ _ _ _
  next h =>
    refine View.canon_cons_of_not_mem _ _ fun hm => h ?_
    have h0 := (Rect.mem_set_unit (inb := inb) |>.mp hm) 0
    have h1 := (Rect.mem_set_unit (inb := inb) |>.mp hm) 1
    have h0 : r ≤ p.val ∧ p.val < r + 1 := h0
    have h1 : o ≤ c.val ∧ c.val < o + m := h1
    omega

theorem load_run [∀ e, Nonempty (Val e)] (v : View sig κ sp (⟨2, ![n, k]⟩ : Shape) e)
    (L : List (View.Piece Val (⟨2, ![n, k]⟩ : Shape) e)) (r o : ℕ) (hr : r < n) (ho : o + m ≤ k)
    (inb : ∀ a, (![r, o] : Fin 2 → ℕ) a + (![1, m] : Fin 2 → ℕ) a ≤ (⟨2, ![n, k]⟩ : Shape).size a) (c : Fin m) :
    v.readCov L (Rect.unit (s := ⟨2, ![n, k]⟩) ![r, o] ![1, m] inb).toLoadRect
      (show Shape.Idx _ from ix2 (0 : Fin 1) c) = View.canon L (ix2 ⟨r, hr⟩ ⟨o + c.val, by omega⟩) := by
  rw [View.readCov_eq_canon']
  refine congrArg (View.canon L) (funext fun a => Fin.ext ?_)
  match a with
  | 0 => show r + 1 * 0 = r; omega
  | 1 => show o + 1 * c.val = o + c.val; omega

theorem ld_run (X : (⟨2, ![n, k]⟩ : Shape).Idx → Val e) (r o : ℕ) (hr : r < n) (ho : o + m ≤ k)
    (inb : ∀ a, (![r, o] : Fin 2 → ℕ) a + (![1, m] : Fin 2 → ℕ) a ≤ (⟨2, ![n, k]⟩ : Shape).size a) (c : Fin m) :
    View.ld X (Rect.unit (s := ⟨2, ![n, k]⟩) ![r, o] ![1, m] inb) (ix2 (0 : Fin 1) c)
      = X (ix2 ⟨r, hr⟩ ⟨o + c.val, by omega⟩) := by
  refine congrArg X (funext fun a => Fin.ext ?_)
  match a with
  | 0 => show r + 1 * 0 = r; omega
  | 1 => show o + 1 * c.val = o + c.val; omega

theorem read_run (v : View sig κ sp (⟨2, ![n, k]⟩ : Shape) e) (f : v.ty.Contents Val) (r o : ℕ)
    (inb : ∀ a, (![r, o] : Fin 2 → ℕ) a + (![1, m] : Fin 2 → ℕ) a ≤ (⟨2, ![n, k]⟩ : Shape).size a)
    (w : (Rect.unit (s := ⟨2, ![n, k]⟩) ![r, o] ![1, m] inb).shape.Idx → Val e)
    (L : List (View.Piece Val (⟨2, ![n, k]⟩ : Shape) e)) (p : Fin n) (c : Fin k) :
    v.read Val (v.writes Val f (⟨Rect.unit (s := ⟨2, ![n, k]⟩) ![r, o] ![1, m] inb, w⟩ :: L)) (ix2 p c)
      = if h : p.val = r ∧ o ≤ c.val ∧ c.val < o + m then w (ix2 (0 : Fin 1) ⟨c.val - o, by omega⟩)
        else v.read Val (v.writes Val f L) (ix2 p c) := by
  split
  next h =>
    refine View.read_writes_cons_unit_of_mem v f inb w L (ix2 p c) (ix2 (0 : Fin 1) ⟨c.val - o, by omega⟩) rfl fun a => ?_
    match a with
    | 0 => show p.val = r + 0; omega
    | 1 => show c.val = o + (c.val - o); omega
  next h =>
    by_cases hp : p.val = r
    · exact View.read_writes_cons_unit_of_not_mem v f inb w L (ix2 p c) rfl 1
        (by show c.val < o ∨ o + m ≤ c.val; omega)
    · exact View.read_writes_cons_unit_of_not_mem v f inb w L (ix2 p c) rfl 0
        (by show p.val < r ∨ r + 1 ≤ p.val; omega)

end Run

/-! ## Accumulators -/

section Sums

variable {S D : Fin l → Fin n → Fin k → EReal}

/-- The first `m` slabs hold what they held and what is added to them, the others what they held. -/
def Added (m : ℕ) (S D : Fin l → Fin n → Fin k → EReal)
    (L : List (View.Piece (Elt Ideal) (⟨3, ![l, n, k]⟩ : Shape) .f32)) : Prop :=
  ∀ g i j, View.canon L (ix3 g i j) = if g.val < m then S g i j + D g i j else S g i j

theorem Added.start {L : List (View.Piece (Elt Ideal) (⟨3, ![l, n, k]⟩ : Shape) .f32)}
    (h : ∀ g i j, View.canon L (ix3 g i j) = S g i j) : Added 0 S D L := fun g i j => h g i j

theorem Added.finish {L : List (View.Piece (Elt Ideal) (⟨3, ![l, n, k]⟩ : Shape) .f32)}
    (h : Added l S D L) (g : Fin l) (i : Fin n) (j : Fin k) : View.canon L (ix3 g i j) = S g i j + D g i j := by
  rw [h g i j, if_pos g.isLt]

theorem Added.step {m : ℕ} (hm : m < l) {L : List (View.Piece (Elt Ideal) (⟨3, ![l, n, k]⟩ : Shape) .f32)}
    {inb : ∀ a, (![m, 0, 0] : Fin 3 → ℕ) a + (![1, n, k] : Fin 3 → ℕ) a ≤ (⟨3, ![l, n, k]⟩ : Shape).size a}
    {w : (Rect.unit (s := ⟨3, ![l, n, k]⟩) ![m, 0, 0] ![1, n, k] inb).shape.Idx → Elt Ideal .f32}
    {v : View sig κ sp (⟨3, ![l, n, k]⟩ : Shape) .f32} (h : Added m S D L)
    (hw : ∀ (i : Fin n) (j : Fin k), w (ix3 (0 : Fin 1) i j)
      = (v.readCov L (Rect.unit (s := ⟨3, ![l, n, k]⟩) ![m, 0, 0] ![1, n, k] inb).toLoadRect
          (show Shape.Idx _ from ix3 (0 : Fin 1) i j) + D ⟨m, hm⟩ i j : EReal)) :
    Added (m + 1) S D (⟨Rect.unit (s := ⟨3, ![l, n, k]⟩) ![m, 0, 0] ![1, n, k] inb, w⟩ :: L) := fun g i j => by
  rw [canon_slab]
  by_cases hg : g.val = m
  · obtain rfl : g = ⟨m, hm⟩ := Fin.ext hg
    rw [if_pos rfl, if_pos (show m < m + 1 by omega), hw, load_slab v L m hm, h, if_neg (lt_irrefl _)]
  · rw [if_neg hg, h]
    by_cases hl : g.val < m
    · rw [if_pos hl, if_pos (show g.val < m + 1 by omega)]
    · rw [if_neg hl, if_neg (show ¬g.val < m + 1 by omega)]

/-- The first `m` slabs hold what another buffer held and what is added to them. -/
def Fresh (m : ℕ) (S D : Fin l → Fin n → Fin k → EReal)
    (L : List (View.Piece (Elt Ideal) (⟨3, ![l, n, k]⟩ : Shape) .f32)) : Prop :=
  ∀ g i j, g.val < m → View.canon L (ix3 g i j) = S g i j + D g i j

theorem Fresh.start {L : List (View.Piece (Elt Ideal) (⟨3, ![l, n, k]⟩ : Shape) .f32)} : Fresh 0 S D L :=
  fun _ _ _ h => absurd h (by omega)

theorem Fresh.step {m : ℕ} (hm : m < l) {L : List (View.Piece (Elt Ideal) (⟨3, ![l, n, k]⟩ : Shape) .f32)}
    {inb : ∀ a, (![m, 0, 0] : Fin 3 → ℕ) a + (![1, n, k] : Fin 3 → ℕ) a ≤ (⟨3, ![l, n, k]⟩ : Shape).size a}
    {w : (Rect.unit (s := ⟨3, ![l, n, k]⟩) ![m, 0, 0] ![1, n, k] inb).shape.Idx → Elt Ideal .f32}
    {X : Vec Ideal (⟨3, ![l, n, k]⟩ : Shape) .f32} (hX : ∀ g i j, X (ix3 g i j) = S g i j) (h : Fresh m S D L)
    (hw : ∀ (i : Fin n) (j : Fin k), w (ix3 (0 : Fin 1) i j)
      = (View.ld X (Rect.unit (s := ⟨3, ![l, n, k]⟩) ![m, 0, 0] ![1, n, k] inb) (ix3 (0 : Fin 1) i j)
          + D ⟨m, hm⟩ i j : EReal)) :
    Fresh (m + 1) S D (⟨Rect.unit (s := ⟨3, ![l, n, k]⟩) ![m, 0, 0] ![1, n, k] inb, w⟩ :: L) := fun g i j hg' => by
  rw [canon_slab]
  by_cases hg : g.val = m
  · obtain rfl : g = ⟨m, hm⟩ := Fin.ext hg
    rw [if_pos rfl, hw, ld_slab X m hm, hX]
  · rw [if_neg hg]
    exact h g i j (by omega)

theorem Fresh.added {D' : Fin l → Fin n → Fin k → EReal} {L : List (View.Piece (Elt Ideal) (⟨3, ![l, n, k]⟩ : Shape) .f32)}
    (h : Fresh l S D L) : Added 0 (fun g i j => S g i j + D g i j) D' L := fun g i j => h g i j g.isLt

/-- The first `m` rows hold what they held and what is added to them, the others what they held. -/
def RowsAdded (m : ℕ) (S D : Fin n → Fin k → EReal) (L : List (View.Piece (Elt Ideal) (⟨2, ![n, k]⟩ : Shape) .f32)) : Prop :=
  ∀ p c, View.canon L (ix2 p c) = if p.val < m then S p c + D p c else S p c

theorem RowsAdded.step {S D : Fin n → Fin k → EReal} {m : ℕ} (hm : m < n)
    {L : List (View.Piece (Elt Ideal) (⟨2, ![n, k]⟩ : Shape) .f32)}
    {inb : ∀ a, (![m, 0] : Fin 2 → ℕ) a + (![1, k] : Fin 2 → ℕ) a ≤ (⟨2, ![n, k]⟩ : Shape).size a}
    {w : (Rect.unit (s := ⟨2, ![n, k]⟩) ![m, 0] ![1, k] inb).shape.Idx → Elt Ideal .f32}
    {v : View sig κ sp (⟨2, ![n, k]⟩ : Shape) .f32} (h : RowsAdded m S D L)
    (hw : ∀ c : Fin k, w (ix2 (0 : Fin 1) c)
      = (v.readCov L (Rect.unit (s := ⟨2, ![n, k]⟩) ![m, 0] ![1, k] inb).toLoadRect
          (show Shape.Idx _ from ix2 (0 : Fin 1) c) + D ⟨m, hm⟩ c : EReal)) :
    RowsAdded (m + 1) S D (⟨Rect.unit (s := ⟨2, ![n, k]⟩) ![m, 0] ![1, k] inb, w⟩ :: L) := fun p c => by
  rw [canon_row]
  by_cases hp : p.val = m
  · obtain rfl : p = ⟨m, hm⟩ := Fin.ext hp
    have e : (⟨0 + c.val, by omega⟩ : Fin k) = c := Fin.ext (Nat.zero_add _)
    rw [if_pos rfl, if_pos (show m < m + 1 by omega), hw, load_run v L m 0 hm (by omega), e, h, if_neg (lt_irrefl _)]
  · rw [if_neg hp, h]
    by_cases hl : p.val < m
    · rw [if_pos hl, if_pos (show p.val < m + 1 by omega)]
    · rw [if_neg hl, if_neg (show ¬p.val < m + 1 by omega)]

end Sums

end Cert.Rows

end
-- ==== Proof.MixLeft.lean ====
/-
  What a point of the mixer's kernel leaves, when the blocks it reads hold a tile's values.
-/
module

public import proofs.«01_k».proof.Proof.MixTiles
public import proofs.«01_k».proof.Proof.MixOpen
public import proofs.«01_k».proof.Proof.Slabs

@[expose] public section

set_option maxRecDepth 16384

noncomputable section

namespace Cert.MixValue

open Idealize.ShloMosaic Idealize.ShloMosaic.TcCoe Idealize.ShloMosaic.Tactic Idealize.SL.Sem
open Cert.Reals Cert.Rows Cert.MixIdeal Cert.MixIdeal.Gen Cert.MixRun

/-- The blocks hold the values of tile `τ`. -/
structure Holds (A : Args) (τ : Fin 64) (x : Blocks Ideal) : Prop where
  dx : Tile τ A.dx x.x0
  proj : ∀ (k : Fin 7) (p : Fin 256) (c : Fin 1024) (j : Fin 7168), j.val = 1024 * k.val + c.val →
    x.x1 (ix2 p j) = ((A.part k (tok τ p) c : ℝ) : EReal)
  cg : Before τ A.cg x.x2
  xs : Before τ A.xs x.x3
  pa : Tile τ A.pa x.x4
  pb : Tile τ A.pb x.x5
  gate : ∀ j : Fin 2048, x.x6 (ix2 0 j) = ((A.gate j : ℝ) : EReal)
  gain : Row A.gain x.x7
  ws : ∀ g i j, x.x8 (ix3 g i j) = ((A.ws g i j : ℝ) : EReal)
  bs : ∀ g i, x.x9 (ix3 g i 0) = ((A.bs g i : ℝ) : EReal)
  conv : ∀ (k : Fin 3) (c : Fin 1024), x.x10 (ix2 ⟨k.val, by omega⟩ c) = ((A.conv k c : ℝ) : EReal)
  wa : Mat A.wa x.x11
  wb : Mat A.wb x.x12
  wo : Mat A.wo x.x13

/-- The cotangent of the projection, by column. -/
def Args.dproj (A : Args) (t : Fin 16384) (j : Fin 7168) : ℝ :=
  A.dpart ⟨j.val / 1024, by omega⟩ t ⟨j.val % 1024, by omega⟩

theorem Args.dproj_eq (A : Args) (t : Fin 16384) (j : Fin 7168) (k : Fin 7) (c : Fin 1024) (h : j.val = 1024 * k.val + c.val) :
    A.dproj t j = A.dpart k t c := by
  rw [Args.dproj, show (⟨j.val / 1024, by omega⟩ : Fin _) = k from Fin.ext (by show j.val / 1024 = k.val; omega),
    show (⟨j.val % 1024, by omega⟩ : Fin 1024) = c from Fin.ext (by show j.val % 1024 = c.val; omega)]

/-- The three cotangents kept for the products, by column. -/
def Args.dstack (A : Args) (t : Fin 16384) (j : Fin 3072) : ℝ :=
  A.dstk ⟨j.val / 1024, by omega⟩ t ⟨j.val % 1024, by omega⟩

theorem Args.dstack_eq (A : Args) (t : Fin 16384) (j : Fin 3072) (k : Fin 3) (c : Fin 1024) (h : j.val = 1024 * k.val + c.val) :
    A.dstack t j = A.dstk k t c := by
  rw [Args.dstack, show (⟨j.val / 1024, by omega⟩ : Fin _) = k from Fin.ext (by show j.val / 1024 = k.val; omega),
    show (⟨j.val % 1024, by omega⟩ : Fin 1024) = c from Fin.ext (by show j.val % 1024 = c.val; omega)]

/-- A whole load of a scratch buffer that stores have filled. -/
theorem tile_load {τ : Fin 64} {f : Fin 16384 → Fin 1024 → ℝ} (v : View sig .tc .vmem S256x1024 .f32)
    (L : List (View.Piece (Elt Ideal) S256x1024 .f32))
    (h : ∀ p c, View.canon L (ix2 p c) = ((f (tok τ p) c : ℝ) : EReal)) :
    Tile τ f (v.readCov L (Rect.unit (s := S256x1024) ![0, 0] ![256, 1024] inb_S256x1024_S256x1024_0_0).toLoadRect) :=
  fun p c => (whole_load v L p c).trans (h p c)

theorem zero5 (p : Fin 8) (e : Fin 1024) : k0_pay5 (F := Ideal) (ix2 p e) = (0 : EReal) := by
  unfold_payloads
  pointwise

theorem zero6 (p : Fin 8) (e : Fin 2048) : k0_pay6 (F := Ideal) (ix2 p e) = (0 : EReal) := by
  unfold_payloads
  pointwise

theorem zero7 (g : Fin 8) (a b : Fin 128) : k0_pay7 (F := Ideal) (ix3 g a b) = (0 : EReal) := by
  unfold_payloads
  pointwise

theorem zero8 (g : Fin 8) (a b : Fin 128) : k0_pay8 (F := Ideal) (ix3 g a b) = (0 : EReal) := by
  unfold_payloads
  pointwise

theorem zero9 (p : Fin 8) (e : Fin 1024) : k0_pay9 (F := Ideal) (ix2 p e) = (0 : EReal) := by
  unfold_payloads
  pointwise

/-- The gates' gradient, by column of the only row that is added to. -/
theorem Args.sg_lt (A : Args) (t : Fin 16384) (j : Fin 2048) (e : Fin 1024) (h : j.val = e.val) :
    A.sg t 0 j = A.dga t e := by
  rw [Args.sg, if_pos (show (0 : Fin 8).val = 0 from rfl), dif_pos (show j.val < 1024 by omega)]
  exact congrArg _ (Fin.ext h)

theorem Args.sg_ge (A : Args) (t : Fin 16384) (j : Fin 2048) (e : Fin 1024) (h : j.val = 1024 + e.val) :
    A.sg t 0 j = A.dgb t e := by
  rw [Args.sg, if_pos (show (0 : Fin 8).val = 0 from rfl), dif_neg (show ¬j.val < 1024 by omega)]
  exact congrArg _ (Fin.ext (by show j.val - 1024 = e.val; omega))

theorem Args.sg_row (A : Args) (t : Fin 16384) (p : Fin 8) (j : Fin 2048) (h : p.val ≠ 0) : A.sg t p j = 0 := by
  rw [Args.sg, if_neg h]

section Fields

variable {A : Args} {τ : Fin 64} {x : Blocks Ideal} (H : Holds A τ x)

include H

/-- The loads of the blocks' parts. -/
theorem Holds.part (k : Fin 7) {o : ℕ} (ho : o = 1024 * k.val)
    {inb : ∀ a, (![0, o] : Fin 2 → ℕ) a + (![256, 1024] : Fin 2 → ℕ) a ≤ S256x7168.size a} :
    Tile τ (A.part k) (View.ld x.x1 (Rect.unit (s := S256x7168) ![0, o] ![256, 1024] inb)) := fun p c => by
  refine Eq.trans (congrArg x.x1 (funext fun a => Fin.ext ?_)) (H.proj k p c ⟨1024 * k.val + c.val, by omega⟩ rfl)
  match a with
  | 0 => show 0 + 1 * p.val = p.val; omega
  | 1 => show o + 1 * c.val = 1024 * k.val + c.val; omega

theorem Holds.ga {inb : ∀ a, (![0, 0] : Fin 2 → ℕ) a + (![1, 1024] : Fin 2 → ℕ) a ≤ S1x2048.size a} :
    Row A.ga (View.ld x.x6 (Rect.unit (s := S1x2048) ![0, 0] ![1, 1024] inb)) := fun c => by
  rw [ld_run x.x6 0 0 (by omega) (by omega)]
  exact (H.gate _).trans (congrArg (fun j => ((A.gate j : ℝ) : EReal)) (Fin.ext (Nat.zero_add _)))

theorem Holds.gb {inb : ∀ a, (![0, 1024] : Fin 2 → ℕ) a + (![1, 1024] : Fin 2 → ℕ) a ≤ S1x2048.size a} :
    Row A.gb (View.ld x.x6 (Rect.unit (s := S1x2048) ![0, 1024] ![1, 1024] inb)) := fun c => by
  rw [ld_run x.x6 0 1024 (by omega) (by omega)]
  exact H.gate _

theorem Holds.row (k : Fin 3) {o : ℕ} (ho : o = k.val)
    {inb : ∀ a, (![o, 0] : Fin 2 → ℕ) a + (![1, 1024] : Fin 2 → ℕ) a ≤ S8x1024.size a} :
    Row (A.conv k) (View.ld x.x10 (Rect.unit (s := S8x1024) ![o, 0] ![1, 1024] inb)) := fun c => by
  subst ho
  rw [ld_row x.x10 k.val (by omega)]
  exact H.conv k c

/-- The rows the mixing and the convolution work on, as the kernel computes them. -/
theorem Holds.dpa : Tile τ A.dpa (k0_pay16 (F := Ideal) x.x0 x.x13
    (View.ld x.x1 (Rect.unit ![0, 5120] ![256, 1024] inb_S256x7168_S256x1024_0_5120))
    (View.ld x.x6 (Rect.unit ![0, 0] ![1, 1024] inb_S1x2048_S1x1024_0_0))) := pay16 H.dx H.wo (H.part 5 rfl) H.ga

theorem Holds.dpb : Tile τ A.dpb (k0_pay17 (F := Ideal) x.x0 x.x13
    (View.ld x.x1 (Rect.unit ![0, 6144] ![256, 1024] inb_S256x7168_S256x1024_0_6144))
    (View.ld x.x6 (Rect.unit ![0, 1024] ![1, 1024] inb_S1x2048_S1x1024_0_1024))) := pay17 H.dx H.wo (H.part 6 rfl) H.gb

theorem Holds.u : Tile τ A.u (View.ld x.x1 (Rect.unit ![0, 0] ![256, 1024] inb_S256x7168_S256x1024_0_0)) := H.part 0 rfl
theorem Holds.v : Tile τ A.v (View.ld x.x1 (Rect.unit ![0, 1024] ![256, 1024] inb_S256x7168_S256x1024_0_1024)) := H.part 1 rfl
theorem Holds.bg : Tile τ A.bg (View.ld x.x1 (Rect.unit ![0, 2048] ![256, 1024] inb_S256x7168_S256x1024_0_2048)) := H.part 2 rfl
theorem Holds.cgs : Tile τ A.cg (View.ld x.x1 (Rect.unit ![0, 3072] ![256, 1024] inb_S256x7168_S256x1024_0_3072)) := H.part 3 rfl
theorem Holds.xss : Tile τ A.xs (View.ld x.x1 (Rect.unit ![0, 4096] ![256, 1024] inb_S256x7168_S256x1024_0_4096)) := H.part 4 rfl

variable {i : grid0.Coords} (hi : (i 0).val = 63 - τ.val) {r : Refs} {d : Dev nD} {l : Left Ideal}

set_option maxHeartbeats 4000000 in
include hi in
theorem mix_projA (hc : cond0_0 i) (hN : Next τ A.dcv (k0_pay9 (F := Ideal))) (p : Fin 256) (j : Fin 7168) :
    (leftA d i r hc x).proj (ix2 p j) = ((A.dproj (tok τ p) j : ℝ) : EReal) := by
  have hda := pay25 H.dpa H.wa
  have hdc := pay27 H.dpb H.wb
  have hdcv := pay150 hdc (pay139 H.bg)
  have hD := pay62 hda H.u
  have hV := pay33 H.v H.gain
  have hX := pay34 H.ws
  rw [(projA d i r x hc).2]
  delta projA
  canon_tiles y h
  all_goals
    idx_vars y
    obtain rfl : p = y0 := Fin.ext h0
  · rw [A.dproj_eq _ _ 4 y1 h1]
    exact pay4 (H.row 0 rfl) (H.row 1 rfl) (H.row 2 rfl) hdcv hN (pay140 H.cgs) p y1
  · rw [A.dproj_eq _ _ 3 y1 h1]
    exact pay3 (H.row 0 rfl) (H.row 1 rfl) (H.row 2 rfl) hdcv hN (pay141 H.xss) p y1
  · rw [A.dproj_eq _ _ 2 y1 h1, hi]
    exact pay149 hdc (pay142 H.cgs H.xss) (pay144 H.cgs H.xss H.cg H.xs) (pay145 H.cgs H.xss H.cg H.xs) (H.row 0 rfl)
      (H.row 1 rfl) (H.row 2 rfl) p y1
  · rw [A.dproj_eq _ _ 1 y1 h1]
    exact pay138 H.v (pay136 H.v (tile_load _ _ (dvp_tile hD hX)) H.gain) p y1
  · rw [A.dproj_eq _ _ 0 y1 (by omega)]
    exact pay60 hda H.u (tile_load _ _ (mixed_tile hV hX H.bs)) p y1
  · rw [A.dproj_eq _ _ 6 y1 h1]
    exact pay24 (pay13 (H.part 6 rfl) H.gb) (pay15 H.dx H.wo (H.part 6 rfl) H.gb) H.pb p y1
  · rw [A.dproj_eq _ _ 5 y1 h1]
    exact pay23 (pay12 (H.part 5 rfl) H.ga) (pay14 H.dx H.wo (H.part 5 rfl) H.ga) (pay18 H.pa) p y1

set_option maxHeartbeats 4000000 in
theorem mix_stkA (hc : cond0_0 i) (p : Fin 256) (j : Fin 3072) :
    (leftA d i r hc x).stk (ix2 p j) = ((A.dstack (tok τ p) j : ℝ) : EReal) := by
  rw [(stkA d i r x hc).2]
  delta stkA
  canon_tiles y h
  all_goals
    idx_vars y
    obtain rfl : p = y0 := Fin.ext h0
  · rw [A.dstack_eq _ _ 1 y1 h1]
    exact H.dpb p y1
  · rw [A.dstack_eq _ _ 0 y1 (by omega)]
    exact H.dpa p y1
  · rw [A.dstack_eq _ _ 2 y1 h1]
    exact pay10 H.dx p y1

set_option maxHeartbeats 4000000 in
include hi in
theorem mix_projB (hc : ¬cond0_0 i) (hN : Next τ A.dcv (l.carry)) (p : Fin 256) (j : Fin 7168) :
    (leftB d i r hc x l).proj (ix2 p j) = ((A.dproj (tok τ p) j : ℝ) : EReal) := by
  have hda := pay25 H.dpa H.wa
  have hdc := pay27 H.dpb H.wb
  have hdcv := pay150 hdc (pay139 H.bg)
  have hD := pay62 hda H.u
  have hV := pay33 H.v H.gain
  have hX := pay34 H.ws
  rw [(projB d i r x l hc).2]
  delta projB
  canon_tiles y h
  all_goals
    idx_vars y
    obtain rfl : p = y0 := Fin.ext h0
  · rw [A.dproj_eq _ _ 4 y1 h1]
    exact pay4 (H.row 0 rfl) (H.row 1 rfl) (H.row 2 rfl) hdcv hN (pay140 H.cgs) p y1
  · rw [A.dproj_eq _ _ 3 y1 h1]
    exact pay3 (H.row 0 rfl) (H.row 1 rfl) (H.row 2 rfl) hdcv hN (pay141 H.xss) p y1
  · rw [A.dproj_eq _ _ 2 y1 h1, hi]
    exact pay149 hdc (pay142 H.cgs H.xss) (pay144 H.cgs H.xss H.cg H.xs) (pay145 H.cgs H.xss H.cg H.xs) (H.row 0 rfl)
      (H.row 1 rfl) (H.row 2 rfl) p y1
  · rw [A.dproj_eq _ _ 1 y1 h1]
    exact pay138 H.v (pay136 H.v (tile_load _ _ (dvp_tile hD hX)) H.gain) p y1
  · rw [A.dproj_eq _ _ 0 y1 (by omega)]
    exact pay60 hda H.u (tile_load _ _ (mixed_tile hV hX H.bs)) p y1
  · rw [A.dproj_eq _ _ 6 y1 h1]
    exact pay24 (pay13 (H.part 6 rfl) H.gb) (pay15 H.dx H.wo (H.part 6 rfl) H.gb) H.pb p y1
  · rw [A.dproj_eq _ _ 5 y1 h1]
    exact pay23 (pay12 (H.part 5 rfl) H.ga) (pay14 H.dx H.wo (H.part 5 rfl) H.ga) (pay18 H.pa) p y1

set_option maxHeartbeats 4000000 in
theorem mix_stkB (hc : ¬cond0_0 i) (p : Fin 256) (j : Fin 3072) :
    (leftB d i r hc x l).stk (ix2 p j) = ((A.dstack (tok τ p) j : ℝ) : EReal) := by
  rw [(stkB d i r x l hc).2]
  delta stkB
  canon_tiles y h
  all_goals
    idx_vars y
    obtain rfl : p = y0 := Fin.ext h0
  · rw [A.dstack_eq _ _ 1 y1 h1]
    exact H.dpb p y1
  · rw [A.dstack_eq _ _ 0 y1 (by omega)]
    exact H.dpa p y1
  · rw [A.dstack_eq _ _ 2 y1 h1]
    exact pay10 H.dx p y1

theorem mix_carryA (hc : cond0_0 i) (p : Fin 8) (e : Fin 1024) :
    (leftA d i r hc x).carry (ix2 p e) = ((A.dcv (tok τ ⟨p.val, by omega⟩) e : ℝ) : EReal) := by
  rw [(carryA d i r x hc).2]
  exact pay2 (pay150 (pay27 H.dpb H.wb) (pay139 H.bg)) p e

theorem mix_carryB (hc : ¬cond0_0 i) (p : Fin 8) (e : Fin 1024) :
    (leftB d i r hc x l).carry (ix2 p e) = ((A.dcv (tok τ ⟨p.val, by omega⟩) e : ℝ) : EReal) := by
  rw [(carryB d i r x l hc).2]
  exact pay2 (pay150 (pay27 H.dpb H.wb) (pay139 H.bg)) p e

set_option maxHeartbeats 4000000 in
theorem mix_dwsA (hc : cond0_0 i) (g : Fin 8) (a b : Fin 128) :
    (leftA d i r hc x).dws (ix3 g a b) = ((∑ n, A.sw (chunk τ n) g a b : ℝ) : EReal) := by
  rw [(dwsA d i r x hc).2]
  have hV := pay33 H.v H.gain
  have hD := pay62 (pay25 H.dpa H.wa) H.u
  refine (Added.finish (S := fun g a b => (0 : EReal) + ((A.sw (chunk τ 0) g a b : ℝ) : EReal))
    (D := fun g a b => ((A.sw (chunk τ 1) g a b : ℝ) : EReal)) ?_ g a b).trans ?_
  swap
  · rw [Fin.sum_univ_two, ← EReal.coe_zero, coe_add', coe_add']
    exact congrArg _ (by ring)
  refine Added.step (by omega) ?_ fun a b => (sw_second hV hD _ a b).2.2.2.2.2.2.2
  refine Added.step (by omega) ?_ fun a b => (sw_second hV hD _ a b).2.2.2.2.2.2.1
  refine Added.step (by omega) ?_ fun a b => (sw_second hV hD _ a b).2.2.2.2.2.1
  refine Added.step (by omega) ?_ fun a b => (sw_second hV hD _ a b).2.2.2.2.1
  refine Added.step (by omega) ?_ fun a b => (sw_second hV hD _ a b).2.2.2.1
  refine Added.step (by omega) ?_ fun a b => (sw_second hV hD _ a b).2.2.1
  refine Added.step (by omega) ?_ fun a b => (sw_second hV hD _ a b).2.1
  refine Added.step (by omega) ?_ fun a b => (sw_second hV hD _ a b).1
  refine Added.start (Added.finish (S := fun _ _ _ => (0 : EReal)) (D := fun g a b => ((A.sw (chunk τ 0) g a b : ℝ) : EReal)) ?_)
  refine Added.step (by omega) ?_ fun a b => (sw_first hV hD hD _ a b).2.2.2.2.2.2.2
  refine Added.step (by omega) ?_ fun a b => (sw_first hV hD hD _ a b).2.2.2.2.2.2.1
  refine Added.step (by omega) ?_ fun a b => (sw_first hV hD hD _ a b).2.2.2.2.2.1
  refine Added.step (by omega) ?_ fun a b => (sw_first hV hD hD _ a b).2.2.2.2.1
  refine Added.step (by omega) ?_ fun a b => (sw_first hV hD hD _ a b).2.2.2.1
  refine Added.step (by omega) ?_ fun a b => (sw_first hV hD hD _ a b).2.2.1
  refine Added.step (by omega) ?_ fun a b => (sw_first hV hD hD _ a b).2.1
  refine Added.step (by omega) ?_ fun a b => (sw_first hV hD hD _ a b).1
  exact Added.start fun g a b => (canon_fill3 _ _ _ g a b).trans (zero7 g a b)

set_option maxHeartbeats 4000000 in
theorem mix_dwsB (hc : ¬cond0_0 i) {s : Fin 8 → Fin 128 → Fin 128 → ℝ} (hs : ∀ g a b, l.dws (ix3 g a b) = ((s g a b : ℝ) : EReal)) (g : Fin 8) (a b : Fin 128) :
    (leftB d i r hc x l).dws (ix3 g a b) = ((s g a b + ∑ n, A.sw (chunk τ n) g a b : ℝ) : EReal) := by
  rw [(dwsB d i r x l hc).2]
  have hV := pay33 H.v H.gain
  have hD := pay62 (pay25 H.dpa H.wa) H.u
  refine (Added.finish (S := fun g a b => ((s g a b : ℝ) : EReal) + ((A.sw (chunk τ 0) g a b : ℝ) : EReal))
    (D := fun g a b => ((A.sw (chunk τ 1) g a b : ℝ) : EReal)) ?_ g a b).trans ?_
  swap
  · rw [Fin.sum_univ_two, coe_add', coe_add']
    exact congrArg _ (by ring)
  refine Added.step (by omega) ?_ fun a b => (sw_second hV hD _ a b).2.2.2.2.2.2.2
  refine Added.step (by omega) ?_ fun a b => (sw_second hV hD _ a b).2.2.2.2.2.2.1
  refine Added.step (by omega) ?_ fun a b => (sw_second hV hD _ a b).2.2.2.2.2.1
  refine Added.step (by omega) ?_ fun a b => (sw_second hV hD _ a b).2.2.2.2.1
  refine Added.step (by omega) ?_ fun a b => (sw_second hV hD _ a b).2.2.2.1
  refine Added.step (by omega) ?_ fun a b => (sw_second hV hD _ a b).2.2.1
  refine Added.step (by omega) ?_ fun a b => (sw_second hV hD _ a b).2.1
  refine Added.step (by omega) ?_ fun a b => (sw_second hV hD _ a b).1
  refine Fresh.added ?_
  refine Fresh.step (by omega) hs ?_ fun a b => (sw_first hV hD hD _ a b).2.2.2.2.2.2.2
  refine Fresh.step (by omega) hs ?_ fun a b => (sw_first hV hD hD _ a b).2.2.2.2.2.2.1
  refine Fresh.step (by omega) hs ?_ fun a b => (sw_first hV hD hD _ a b).2.2.2.2.2.1
  refine Fresh.step (by omega) hs ?_ fun a b => (sw_first hV hD hD _ a b).2.2.2.2.1
  refine Fresh.step (by omega) hs ?_ fun a b => (sw_first hV hD hD _ a b).2.2.2.1
  refine Fresh.step (by omega) hs ?_ fun a b => (sw_first hV hD hD _ a b).2.2.1
  refine Fresh.step (by omega) hs ?_ fun a b => (sw_first hV hD hD _ a b).2.1
  refine Fresh.step (by omega) hs ?_ fun a b => (sw_first hV hD hD _ a b).1
  exact Fresh.start

set_option maxHeartbeats 4000000 in
theorem mix_dbsA (hc : cond0_0 i) (g : Fin 8) (a b : Fin 128) :
    (leftA d i r hc x).dbs (ix3 g a b) = ((∑ n, A.sbs (chunk τ n) g a b : ℝ) : EReal) := by
  rw [(dbsA d i r x hc).2]
  have hT := pay61 (pay25 H.dpa H.wa) H.u
  refine (Added.finish (S := fun g a b => (0 : EReal) + ((A.sbs (chunk τ 0) g a b : ℝ) : EReal))
    (D := fun g a b => ((A.sbs (chunk τ 1) g a b : ℝ) : EReal)) ?_ g a b).trans ?_
  swap
  · rw [Fin.sum_univ_two, ← EReal.coe_zero, coe_add', coe_add']
    exact congrArg _ (by ring)
  refine Added.step (by omega) ?_ fun a b => (sbs_second hT _ a b).2.2.2.2.2.2.2
  refine Added.step (by omega) ?_ fun a b => (sbs_second hT _ a b).2.2.2.2.2.2.1
  refine Added.step (by omega) ?_ fun a b => (sbs_second hT _ a b).2.2.2.2.2.1
  refine Added.step (by omega) ?_ fun a b => (sbs_second hT _ a b).2.2.2.2.1
  refine Added.step (by omega) ?_ fun a b => (sbs_second hT _ a b).2.2.2.1
  refine Added.step (by omega) ?_ fun a b => (sbs_second hT _ a b).2.2.1
  refine Added.step (by omega) ?_ fun a b => (sbs_second hT _ a b).2.1
  refine Added.step (by omega) ?_ fun a b => (sbs_second hT _ a b).1
  refine Added.start (Added.finish (S := fun _ _ _ => (0 : EReal)) (D := fun g a b => ((A.sbs (chunk τ 0) g a b : ℝ) : EReal)) ?_)
  refine Added.step (by omega) ?_ fun a b => (sbs_first hT hT _ a b).2.2.2.2.2.2.2
  refine Added.step (by omega) ?_ fun a b => (sbs_first hT hT _ a b).2.2.2.2.2.2.1
  refine Added.step (by omega) ?_ fun a b => (sbs_first hT hT _ a b).2.2.2.2.2.1
  refine Added.step (by omega) ?_ fun a b => (sbs_first hT hT _ a b).2.2.2.2.1
  refine Added.step (by omega) ?_ fun a b => (sbs_first hT hT _ a b).2.2.2.1
  refine Added.step (by omega) ?_ fun a b => (sbs_first hT hT _ a b).2.2.1
  refine Added.step (by omega) ?_ fun a b => (sbs_first hT hT _ a b).2.1
  refine Added.step (by omega) ?_ fun a b => (sbs_first hT hT _ a b).1
  exact Added.start fun g a b => (canon_fill3 _ _ _ g a b).trans (zero8 g a b)

set_option maxHeartbeats 4000000 in
theorem mix_dbsB (hc : ¬cond0_0 i) {s : Fin 8 → Fin 128 → Fin 128 → ℝ} (hs : ∀ g a b, l.dbs (ix3 g a b) = ((s g a b : ℝ) : EReal)) (g : Fin 8) (a b : Fin 128) :
    (leftB d i r hc x l).dbs (ix3 g a b) = ((s g a b + ∑ n, A.sbs (chunk τ n) g a b : ℝ) : EReal) := by
  rw [(dbsB d i r x l hc).2]
  have hT := pay61 (pay25 H.dpa H.wa) H.u
  refine (Added.finish (S := fun g a b => ((s g a b : ℝ) : EReal) + ((A.sbs (chunk τ 0) g a b : ℝ) : EReal))
    (D := fun g a b => ((A.sbs (chunk τ 1) g a b : ℝ) : EReal)) ?_ g a b).trans ?_
  swap
  · rw [Fin.sum_univ_two, coe_add', coe_add']
    exact congrArg _ (by ring)
  refine Added.step (by omega) ?_ fun a b => (sbs_second hT _ a b).2.2.2.2.2.2.2
  refine Added.step (by omega) ?_ fun a b => (sbs_second hT _ a b).2.2.2.2.2.2.1
  refine Added.step (by omega) ?_ fun a b => (sbs_second hT _ a b).2.2.2.2.2.1
  refine Added.step (by omega) ?_ fun a b => (sbs_second hT _ a b).2.2.2.2.1
  refine Added.step (by omega) ?_ fun a b => (sbs_second hT _ a b).2.2.2.1
  refine Added.step (by omega) ?_ fun a b => (sbs_second hT _ a b).2.2.1
  refine Added.step (by omega) ?_ fun a b => (sbs_second hT _ a b).2.1
  refine Added.step (by omega) ?_ fun a b => (sbs_second hT _ a b).1
  refine Fresh.added ?_
  refine Fresh.step (by omega) hs ?_ fun a b => (sbs_first hT hT _ a b).2.2.2.2.2.2.2
  refine Fresh.step (by omega) hs ?_ fun a b => (sbs_first hT hT _ a b).2.2.2.2.2.2.1
  refine Fresh.step (by omega) hs ?_ fun a b => (sbs_first hT hT _ a b).2.2.2.2.2.1
  refine Fresh.step (by omega) hs ?_ fun a b => (sbs_first hT hT _ a b).2.2.2.2.1
  refine Fresh.step (by omega) hs ?_ fun a b => (sbs_first hT hT _ a b).2.2.2.1
  refine Fresh.step (by omega) hs ?_ fun a b => (sbs_first hT hT _ a b).2.2.1
  refine Fresh.step (by omega) hs ?_ fun a b => (sbs_first hT hT _ a b).2.1
  refine Fresh.step (by omega) hs ?_ fun a b => (sbs_first hT hT _ a b).1
  exact Fresh.start

/-! ## The small gradients -/

include hi in
set_option maxHeartbeats 4000000 in
theorem mix_stA (hc : cond0_0 i) (p : Fin 8) (e : Fin 1024) :
    (leftA d i r hc x).st (ix2 p e) = ((∑ q, A.st (tok τ q) p e : ℝ) : EReal) := by
  have hdc := pay27 H.dpb H.wb
  have hb := pay139 H.bg
  have hD := pay62 (pay25 H.dpa H.wa) H.u
  have hX := pay34 H.ws
  rw [(stA d i r x hc).2]
  have h : RowsAdded 4 (fun _ _ => (0 : EReal)) (fun p e => ((∑ q, A.st (tok τ q) p e : ℝ) : EReal)) (stA d i r x hc).1 := by
    refine RowsAdded.step (by omega) ?_ fun e => pay153 hdc hb (pay142 H.cgs H.xss) e
    refine RowsAdded.step (by omega) ?_ fun e => pay152 hdc hb (by rw [hi]; exact pay145 H.cgs H.xss H.cg H.xs) e
    refine RowsAdded.step (by omega) ?_ fun e => pay151 hdc hb (by rw [hi]; exact pay144 H.cgs H.xss H.cg H.xs) e
    refine RowsAdded.step (by omega) ?_ fun e => pay135 (pay32 H.v) (tile_load _ _ (dvp_tile hD hX)) e
    exact fun p e => (canon_fill _ _ _ p e).trans (zero5 p e)
  rw [h p e]
  split
  · exact zero_add _
  · rw [Finset.sum_eq_zero fun q _ => by
      rw [Args.st, if_neg (by omega), if_neg (by omega), if_neg (by omega), if_neg (by omega)]]
    rfl

include hi in
set_option maxHeartbeats 4000000 in
theorem mix_stB (hc : ¬cond0_0 i) {s : Fin 8 → Fin 1024 → ℝ} (hs : ∀ p e, l.st (ix2 p e) = ((s p e : ℝ) : EReal))
    (p : Fin 8) (e : Fin 1024) :
    (leftB d i r hc x l).st (ix2 p e) = ((s p e + ∑ q, A.st (tok τ q) p e : ℝ) : EReal) := by
  have hdc := pay27 H.dpb H.wb
  have hb := pay139 H.bg
  have hD := pay62 (pay25 H.dpa H.wa) H.u
  have hX := pay34 H.ws
  have e0 := pay135 (R := View.ld l.st (Rect.unit ![0, 0] ![1, 1024] inb_S8x1024_S1x1024_0_0)) (pay32 H.v)
    (tile_load r.a23.view _ (dvp_tile hD hX)) e
  have e1 := pay151 (R := View.ld l.st (Rect.unit ![1, 0] ![1, 1024] inb_S8x1024_S1x1024_1_0)) hdc hb
    (pay144 H.cgs H.xss H.cg H.xs) e
  have e2 := pay152 (R := View.ld l.st (Rect.unit ![2, 0] ![1, 1024] inb_S8x1024_S1x1024_2_0)) hdc hb
    (pay145 H.cgs H.xss H.cg H.xs) e
  have e3 := pay153 (R := View.ld l.st (Rect.unit ![3, 0] ![1, 1024] inb_S8x1024_S1x1024_3_0)) hdc hb
    (pay142 H.cgs H.xss) e
  rw [ld_row _ _ (by omega), hs, coe_add'] at e0 e1 e2 e3
  rw [← hi] at e1 e2
  rw [(stB d i r x l hc).2]
  delta stB
  rw [read_row, read_row, read_row, read_row, View.writes_nil, Memref.IsWhole.read_unread, hs]
  split
  next h =>
    obtain rfl : p = 3 := Fin.ext h
    exact e3
  next h3 =>
  split
  next h =>
    obtain rfl : p = 2 := Fin.ext h
    exact e2
  next h2 =>
  split
  next h =>
    obtain rfl : p = 1 := Fin.ext h
    exact e1
  next h1 =>
  split
  next h =>
    obtain rfl : p = 0 := Fin.ext h
    exact e0
  next h0 =>
    rw [Finset.sum_eq_zero fun q _ => by rw [Args.st, if_neg h0, if_neg h1, if_neg h2, if_neg h3], add_zero]

set_option maxHeartbeats 4000000 in
theorem mix_dbgA (hc : cond0_0 i) (p : Fin 8) (j : Fin 2048) :
    (leftA d i r hc x).dbg (ix2 p j) = ((∑ q, A.sg (tok τ q) p j : ℝ) : EReal) := by
  rw [(dbgA d i r x hc).2]
  delta dbgA
  rw [canon_run]
  split
  next h =>
    obtain rfl : p = 0 := Fin.ext h.1
    refine (pay22 (pay13 (H.part 6 rfl) H.gb) (pay15 H.dx H.wo (H.part 6 rfl) H.gb) H.pb _).trans ?_
    rw [load_run _ _ 0 1024 (by omega) (by omega), canon_run, dif_neg (by simp), canon_fill, zero6, zero_add]
    exact congrArg _ (Finset.sum_congr rfl fun q _ => (A.sg_ge _ _ _ (by show j.val = 1024 + (j.val - 1024); omega)).symm)
  next h1 =>
  rw [canon_run]
  split
  next h =>
    obtain rfl : p = 0 := Fin.ext h.1
    refine (pay21 (pay12 (H.part 5 rfl) H.ga) (pay14 H.dx H.wo (H.part 5 rfl) H.ga) (pay18 H.pa) _).trans ?_
    rw [load_run _ _ 0 0 (by omega) (by omega), canon_fill, zero6, zero_add]
    exact congrArg _ (Finset.sum_congr rfl fun q _ => (A.sg_lt _ _ _ (by show j.val = j.val - 0; omega)).symm)
  next h0 =>
  rw [canon_fill, zero6, Finset.sum_eq_zero fun q _ => A.sg_row _ _ _ (by omega)]
  rfl

set_option maxHeartbeats 4000000 in
theorem mix_dbgB (hc : ¬cond0_0 i) {s : Fin 8 → Fin 2048 → ℝ} (hs : ∀ p j, l.dbg (ix2 p j) = ((s p j : ℝ) : EReal))
    (p : Fin 8) (j : Fin 2048) :
    (leftB d i r hc x l).dbg (ix2 p j) = ((s p j + ∑ q, A.sg (tok τ q) p j : ℝ) : EReal) := by
  rw [(dbgB d i r x l hc).2]
  delta dbgB
  rw [read_run]
  split
  next h =>
    obtain rfl : p = 0 := Fin.ext h.1
    refine (pay22 (pay13 (H.part 6 rfl) H.gb) (pay15 H.dx H.wo (H.part 6 rfl) H.gb) H.pb _).trans ?_
    rw [ld_run _ 0 1024 (by omega) (by omega), hs, coe_add']
    refine congrArg _ (congrArg₂ (· + ·) (congrArg (s 0) (Fin.ext (by show 1024 + (j.val - 1024) = j.val; omega)))
      (Finset.sum_congr rfl fun q _ => (A.sg_ge _ _ _ (by show j.val = 1024 + (j.val - 1024); omega)).symm))
  next h1 =>
  rw [read_run]
  split
  next h =>
    obtain rfl : p = 0 := Fin.ext h.1
    refine (pay21 (pay12 (H.part 5 rfl) H.ga) (pay14 H.dx H.wo (H.part 5 rfl) H.ga) (pay18 H.pa) _).trans ?_
    rw [ld_run _ 0 0 (by omega) (by omega), hs, coe_add']
    refine congrArg _ (congrArg₂ (· + ·) (congrArg (s 0) (Fin.ext (by show 0 + (j.val - 0) = j.val; omega)))
      (Finset.sum_congr rfl fun q _ => (A.sg_lt _ _ _ (by show j.val = j.val - 0; omega)).symm))
  next h0 =>
  rw [View.writes_nil, Memref.IsWhole.read_unread, hs, Finset.sum_eq_zero fun q _ => A.sg_row _ _ _ (by omega), add_zero]

end Fields

end Cert.MixValue

end
-- ==== Proof.MixReference.lean ====
/-
  What the reference of the mixer's backward call computes, on real arguments, element by element.
-/
module

public import proofs.«01_k».proof.Proof.MixSpec
public import proofs.«01_k».proof.Proof.Gen.MixRefIdeal.Run
public import proofs.«01_k».proof.Proof.Gen.MixRefIdeal.Read

@[expose] public section

set_option maxRecDepth 16384

noncomputable section

namespace Cert.MixValue

open Idealize.ShloMosaic Cert.Reals Cert.MixRefIdeal Cert.MixRefIdeal.Read

/-- The ten argument arrays. -/
structure In where
  x0 : FVec Ideal S1x16384x7168 .f32
  x1 : FVec Ideal S1x2048 .f32
  x2 : FVec Ideal S1x1024 .f32
  x3 : FVec Ideal S1x8x128x128 .f32
  x4 : FVec Ideal S1x8x128 .f32
  x5 : FVec Ideal S1x3x1024 .f32
  x6 : FVec Ideal S1x1024x1024 .f32
  x7 : FVec Ideal S1x1024x1024 .f32
  x8 : FVec Ideal S1x1024x1024 .f32
  x9 : FVec Ideal S1x16384x1024 .f32

namespace In

/-- Each element is a real number. -/
structure Real (X : In) : Prop where
  h0 : IsReal X.x0
  h1 : IsReal X.x1
  h2 : IsReal X.x2
  h3 : IsReal X.x3
  h4 : IsReal X.x4
  h5 : IsReal X.x5
  h6 : IsReal X.x6
  h7 : IsReal X.x7
  h8 : IsReal X.x8
  h9 : IsReal X.x9

/-- The numbers. -/
def args (X : In) : Args where
  proj t j := re X.x0 (ix3 (0 : Fin 1) t j)
  gate j := re X.x1 (ix2 (0 : Fin 1) j)
  gain c := re X.x2 (ix2 (0 : Fin 1) c)
  ws g i j := re X.x3 (ix4 (0 : Fin 1) g i j)
  bs g i := re X.x4 (ix3 (0 : Fin 1) g i)
  conv k c := re X.x5 (ix3 (0 : Fin 1) k c)
  wa c e := re X.x6 (ix3 (0 : Fin 1) c e)
  wb c e := re X.x7 (ix3 (0 : Fin 1) c e)
  wo c e := re X.x8 (ix3 (0 : Fin 1) c e)
  dx t c := re X.x9 (ix3 (0 : Fin 1) t c)

end In

variable {X : In}

/-! ## The projection's parts, the gates and GELU -/

theorem proj_part (h : X.Real) (t : Fin 16384) (k : Fin 7) (c : Fin 1024) (j : Fin 7168)
    (e : j.val = 1024 * k.val + c.val) : X.x0 (ix3 (0 : Fin 1) t j) = ((X.args.part k t c : ℝ) : EReal) := by
  have e' : j = ⟨1024 * k.val + c.val, by omega⟩ := Fin.ext e
  rw [e']
  exact h.h0 _

theorem ref_u (h : X.Real) (t : Fin 16384) (c : Fin 1024) :
    val_main_v16 (F := Ideal) X.x0 (ix3 (0 : Fin 1) t c) = ((X.args.u t c : ℝ) : EReal) := by
  pointwise [val_main_v16]
  exact proj_part h t 0 c _ (by simp)

theorem ref_v (h : X.Real) (t : Fin 16384) (c : Fin 1024) :
    val_main_v17 (F := Ideal) X.x0 (ix3 (0 : Fin 1) t c) = ((X.args.v t c : ℝ) : EReal) := by
  pointwise [val_main_v17]
  exact proj_part h t 1 c _ rfl

theorem ref_bg (h : X.Real) (t : Fin 16384) (c : Fin 1024) :
    val_main_v18 (F := Ideal) X.x0 (ix3 (0 : Fin 1) t c) = ((X.args.bg t c : ℝ) : EReal) := by
  pointwise [val_main_v18]
  exact proj_part h t 2 c _ rfl

theorem ref_cg (h : X.Real) (t : Fin 16384) (c : Fin 1024) :
    val_main_v19 (F := Ideal) X.x0 (ix3 (0 : Fin 1) t c) = ((X.args.cg t c : ℝ) : EReal) := by
  pointwise [val_main_v19]
  exact proj_part h t 3 c _ rfl

theorem ref_xs (h : X.Real) (t : Fin 16384) (c : Fin 1024) :
    val_main_v20 (F := Ideal) X.x0 (ix3 (0 : Fin 1) t c) = ((X.args.xs t c : ℝ) : EReal) := by
  pointwise [val_main_v20]
  exact proj_part h t 4 c _ rfl

theorem sigmoid_real (x : ℝ) :
    Ideal.div ((1 : ℝ) : EReal) (((1 : ℝ) : EReal) + ((Real.exp (-x) : ℝ) : EReal)) = (((1 + Real.exp (-x))⁻¹ : ℝ) : EReal) := by
  rw [coe_add', div_real _ (by positivity), one_div]

theorem ref_sa (h : X.Real) (t : Fin 16384) (c : Fin 1024) :
    val_main_v122 (F := Ideal) X.x0 X.x1 (ix3 (0 : Fin 1) t c) = ((X.args.sa t c : ℝ) : EReal) := by
  pointwise [val_main_v122, val_main_v121, val_main_v120, val_main_v119, val_main_v118, val_main_v117, val_main_v27,
    val_main_v26, val_main_v25, val_main_v24, val_main_v23, val_main_v21, val_main_cst_17, val_main_cst_18]
  rw [proj_part h t 5 c _ rfl, h.h1, coe_add', coe_neg', Ideal.exp_coe, ← EReal.coe_one]
  exact sigmoid_real _

theorem ref_sb (h : X.Real) (t : Fin 16384) (c : Fin 1024) :
    val_main_v135 (F := Ideal) X.x0 X.x1 (ix3 (0 : Fin 1) t c) = ((X.args.sb t c : ℝ) : EReal) := by
  pointwise [val_main_v135, val_main_v134, val_main_v133, val_main_v132, val_main_v131, val_main_v130, val_main_v32,
    val_main_v31, val_main_v30, val_main_v29, val_main_v28, val_main_v22, val_main_cst_20, val_main_cst_21]
  rw [proj_part h t 6 c _ rfl, h.h1, coe_add', coe_neg', Ideal.exp_coe, ← EReal.coe_one]
  exact sigmoid_real _

theorem sqrt_half : Ideal.sqrt ((1 / 2 : ℝ) : EReal) = ((Real.sqrt (1 / 2) : ℝ) : EReal) := by
  rw [Ideal.sqrt_coe, if_neg (by norm_num)]

theorem ref_erfc_u (h : X.Real) (t : Fin 16384) (c : Fin 1024) :
    val_main_v44 (F := Ideal) X.x0 (ix3 (0 : Fin 1) t c)
      = ((1 + erf (X.args.u t c * Real.sqrt (1 / 2)) : ℝ) : EReal) := by
  pointwise [val_main_v44, val_main_v39, val_main_v38, val_main_v37, val_main_cst_2, val_main_v36]
  rw [ref_u h, ofBits_half, sqrt_half, coe_neg', coe_mul', neg_mul, ideal_erfc_neg]

theorem ref_erfc_v (h : X.Real) (t : Fin 16384) (c : Fin 1024) :
    val_main_v61 (F := Ideal) X.x0 (ix3 (0 : Fin 1) t c)
      = ((1 + erf (X.args.v t c * Real.sqrt (1 / 2)) : ℝ) : EReal) := by
  pointwise [val_main_v61, val_main_v56, val_main_v55, val_main_v54, val_main_cst_7, val_main_v53]
  rw [ref_v h, ofBits_half, sqrt_half, coe_neg', coe_mul', neg_mul, ideal_erfc_neg]

theorem gelu_half (x : ℝ) : 1 / 2 * x * (1 + erf (x * Real.sqrt (1 / 2))) = gelu x := by
  rw [gelu, cdf]; ring

theorem ref_gelu_u (h : X.Real) (t : Fin 16384) (c : Fin 1024) :
    val_main_v50 (F := Ideal) X.x0 (ix3 (0 : Fin 1) t c) = ((gelu (X.args.u t c) : ℝ) : EReal) := by
  pointwise [val_main_v50, val_main_v35, val_main_v34, val_main_cst_1]
  rw [ref_erfc_u h, ref_u h, ofBits_half, coe_mul', coe_mul', gelu_half]

theorem ref_vg (h : X.Real) (t : Fin 16384) (c : Fin 1024) :
    val_main_v67 (F := Ideal) X.x0 (ix3 (0 : Fin 1) t c) = ((X.args.vg t c : ℝ) : EReal) := by
  pointwise [val_main_v67, val_main_v52, val_main_v51, val_main_cst_6]
  rw [ref_erfc_v h, ref_v h, ofBits_half, coe_mul', coe_mul', gelu_half]
  rfl

theorem slope_real :
    Ideal.div ((-2 : ℝ) : EReal) (Ideal.sqrt (((4 : ℝ) : EReal) * Ideal.atan ((1 : ℝ) : EReal)))
      = ((-2 / Real.sqrt Real.pi : ℝ) : EReal) := by
  have hp : Real.sqrt Real.pi ≠ 0 := (Real.sqrt_pos.2 Real.pi_pos).ne'
  have ha : (0 : ℝ) ≤ 4 * Real.arctan 1 := by rw [Real.arctan_one]; positivity
  have h1 : Ideal.atan ((1 : ℝ) : EReal) = ((Real.arctan 1 : ℝ) : EReal) := Ideal.atan_coe 1
  rw [h1, coe_mul', Ideal.sqrt_coe, if_neg (not_lt.2 ha), sqrt_pi, div_real _ hp]

theorem ofBits_neg_two : Ideal.ofBits .f32 0xC0000000#32 = ((-2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

/-- The derivative of the complementary error function. -/
def derfc (x : ℝ) : ℝ := -2 / Real.sqrt Real.pi * Real.exp (-(-x * Real.sqrt (1 / 2)) * (-x * Real.sqrt (1 / 2)))

theorem ref_derfc_u (h : X.Real) (t : Fin 16384) (c : Fin 1024) :
    val_main_v49 (F := Ideal) X.x0 (ix3 (0 : Fin 1) t c) = ((derfc (X.args.u t c) : ℝ) : EReal) := by
  pointwise [val_main_v49, val_main_v48, val_main_v47, val_main_v46, val_main_v45, val_main_v43, val_main_v42, val_main_v41,
    val_main_v40, val_main_cst_5, val_main_cst_4, val_main_cst_3, val_main_v39, val_main_v38, val_main_v37, val_main_cst_2,
    val_main_v36]
  rw [ref_u h, ofBits_half, sqrt_half, ofBits_neg_two, ofBits_four, ← EReal.coe_one, slope_real, coe_neg', coe_mul',
    coe_neg', coe_mul', Ideal.exp_coe, coe_mul']
  rfl

theorem ref_derfc_v (h : X.Real) (t : Fin 16384) (c : Fin 1024) :
    val_main_v66 (F := Ideal) X.x0 (ix3 (0 : Fin 1) t c) = ((derfc (X.args.v t c) : ℝ) : EReal) := by
  pointwise [val_main_v66, val_main_v65, val_main_v64, val_main_v63, val_main_v62, val_main_v60, val_main_v59, val_main_v58,
    val_main_v57, val_main_cst_10, val_main_cst_9, val_main_cst_8, val_main_v56, val_main_v55, val_main_v54, val_main_cst_7,
    val_main_v53]
  rw [ref_v h, ofBits_half, sqrt_half, ofBits_neg_two, ofBits_four, ← EReal.coe_one, slope_real, coe_neg', coe_mul',
    coe_neg', coe_mul', Ideal.exp_coe, coe_mul']
  rfl

/-- GELU's gradient at a cotangent `d`, as the reference writes it. -/
theorem dgelu_ref (x d : ℝ) :
    -(derfc x * (1 / 2 * x * d) * Real.sqrt (1 / 2)) + 1 / 2 * (d * (1 + erf (x * Real.sqrt (1 / 2)))) = d * dgelu x := by
  have := pdf_slope x
  rw [dgelu, cdf, ← this, derfc]; ring

/-! ## The norm and the mixing within a chunk -/

theorem ref_rv (h : X.Real) (t : Fin 16384) :
    val_main_v75 (F := Ideal) X.x0 (ix3 (0 : Fin 1) t (0 : Fin 1)) = ((rinv (X.args.vg t) : ℝ) : EReal) := by
  pointwise [val_main_v75, val_main_v74, val_main_v73, val_main_v72, val_main_v71, val_main_v70, val_main_v69, val_main_v68,
    val_main_cst_11, val_main_cst_12, val_main_cst_13]
  simp only [ref_vg h, ofBits_1024, ofBits_eps, coe_mul', coe_sum, coe_add', div_real _ (by norm_num : (1024 : ℝ) ≠ 0)]
  exact ms_rsqrt _

theorem ref_rv_div (h : X.Real) (t : Fin 16384) :
    val_main_v78 (F := Ideal) X.x0 (ix3 (0 : Fin 1) t (0 : Fin 1))
      = ((-(1 / 2) * (rinv (X.args.vg t) / ((∑ k, X.args.vg t k * X.args.vg t k) / 1024 + eps)) : ℝ) : EReal) := by
  have h7 : val_main_v74 (F := Ideal) X.x0 (ix3 (0 : Fin 1) t (0 : Fin 1))
      = (((∑ k, X.args.vg t k * X.args.vg t k) / 1024 + eps : ℝ) : EReal) := by
    pointwise [val_main_v74, val_main_v73, val_main_v72, val_main_v71, val_main_v70, val_main_v69, val_main_v68,
      val_main_cst_11, val_main_cst_12, val_main_cst_13]
    simp only [ref_vg h, ofBits_1024, ofBits_eps, coe_mul', coe_sum, coe_add', div_real _ (by norm_num : (1024 : ℝ) ≠ 0)]
  pointwise [val_main_v78, val_main_v77, val_main_v76, val_main_cst_14]
  rw [ref_rv h, h7, div_real _ (ms_pos _).ne', ofBits_neg_half, coe_mul']

theorem ref_vh (h : X.Real) (t : Fin 16384) (c : Fin 1024) :
    val_main_v80 (F := Ideal) X.x0 (ix3 (0 : Fin 1) t c) = ((X.args.vh t c : ℝ) : EReal) := by
  pointwise [val_main_v80, val_main_v79]
  rw [ref_vg h, ref_rv h, coe_mul']
  rfl

theorem ref_vp (h : X.Real) (t : Fin 16384) (c : Fin 1024) :
    val_main_v83 (F := Ideal) X.x0 X.x2 (ix3 (0 : Fin 1) t c) = ((X.args.vp t c : ℝ) : EReal) := by
  pointwise [val_main_v83, val_main_v82, val_main_v81, val_main_v33]
  rw [ref_vh h, h.h2, coe_mul']
  rfl

/-- A half chunk's number: the reference's floor division. -/
theorem ref_half (j : Fin 128) : val_main_v3 (F := Ideal) (ix1 j) = BitVec.ofNat 32 (j.val / 64) := by
  pointwise [val_main_v3, val_main_v2, val_main_call0_v13, val_main_call0_v12, val_main_call0_c_0, val_main_call0_v11,
    val_main_call0_v10, val_main_call0_v9, val_main_call0_c, val_main_call0_v8, val_main_call0_v7, val_main_call0_v6,
    val_main_call0_v5, val_main_call0_v4, val_main_call0_v3, val_main_call0_v2, val_main_call0_v1, val_main_call0_v0,
    val_main_c]
  revert j
  decide +kernel

theorem mask_bit (i j : Fin 128) :
    IntOp.cmpi CmpIPredicate.sle (BitVec.ofNat 32 (j.val / 64)) (BitVec.ofNat 32 (i.val / 64))
      = BitVec.ofBool (decide (j.val < 64 ∨ 64 ≤ i.val)) := by
  have h : ∀ a b : Fin 2, IntOp.cmpi CmpIPredicate.sle (BitVec.ofNat 32 a.val) (BitVec.ofNat 32 b.val)
      = BitVec.ofBool (decide (a.val < 1 ∨ 1 ≤ b.val)) := by decide
  refine (h ⟨j.val / 64, by omega⟩ ⟨i.val / 64, by omega⟩).trans ?_
  congr 2
  simp only [eq_iff_iff]
  omega

theorem ref_wm (h : X.Real) (g : Fin 8) (i j : Fin 128) :
    val_main_v11 (F := Ideal) X.x3 (ix3 g i j) = ((X.args.wm g i j : ℝ) : EReal) := by
  pointwise [val_main_v11, val_main_v10, val_main_cst_0, val_main_call1_v0, val_main_v9, val_main_v8, val_main_v1,
    val_main_v6, val_main_v7, val_main_v5, val_main_v4]
  rw [ref_half, ref_half, mask_bit, h.h3, Args.wm]
  by_cases hm : j.val < 64 ∨ 64 ≤ i.val
  · rw [if_pos hm, decide_eq_true hm]; rfl
  · rw [if_neg hm, decide_eq_false hm]; rfl

theorem ref_mixed (h : X.Real) (t : Fin 16384) (c : Fin 1024) :
    val_main_v89 (F := Ideal) X.x0 X.x2 X.x3 X.x4 (ix3 (0 : Fin 1) t c) = ((X.args.mixed t c : ℝ) : EReal) := by
  pointwise [val_main_v89, val_main_v88, val_main_v87, val_main_v86, val_main_v85, val_main_v84, val_main_v15,
    val_main_v14, val_main_v13, val_main_v12]
  simp only [ref_vp h, ref_wm h, h.h4 _, coe_mul', coe_sum, coe_add']
  exact congrArg (fun r : ℝ => (r : EReal)) (congrArg (· + _) (Finset.sum_congr rfl fun j _ => mul_comm _ _))

theorem ref_a (h : X.Real) (t : Fin 16384) (c : Fin 1024) :
    val_main_v90 (F := Ideal) X.x0 X.x2 X.x3 X.x4 (ix3 (0 : Fin 1) t c) = ((X.args.a t c : ℝ) : EReal) := by
  pointwise [val_main_v90]
  rw [ref_gelu_u h, ref_mixed h, coe_mul']
  rfl

/-! ## The convolution -/

theorem ref_q (h : X.Real) (t : Fin 16384) (c : Fin 1024) :
    val_main_v91 (F := Ideal) X.x0 (ix3 (0 : Fin 1) t c) = ((X.args.q t c : ℝ) : EReal) := by
  pointwise [val_main_v91]
  rw [ref_cg h, ref_xs h, coe_mul']
  rfl

theorem ref_qs2 (h : X.Real) (t : Fin 16384) (c : Fin 1024) :
    val_main_v98 (F := Ideal) X.x0 (ix3 (0 : Fin 1) t c) = ((X.args.qs 2 t c : ℝ) : EReal) := by
  pointwise [val_main_v98, val_main_v94, val_main_v93, val_main_cst_15]
  unfold Args.qs
  by_cases ht : t.val < 2
  · rw [dif_pos ht, if_neg (show ¬ 2 ≤ t.val by omega)]; rfl
  · rw [dif_neg ht, if_pos (show 2 ≤ t.val by omega)]; exact ref_q h _ _

theorem ref_qs1 (h : X.Real) (t : Fin 16384) (c : Fin 1024) :
    val_main_v104 (F := Ideal) X.x0 (ix3 (0 : Fin 1) t c) = ((X.args.qs 1 t c : ℝ) : EReal) := by
  pointwise [val_main_v104, val_main_v94, val_main_v93, val_main_cst_15]
  unfold Args.qs
  by_cases ht : t.val < 1
  · rw [dif_pos (show 1 + t.val < 2 by omega), if_neg (show ¬ 1 ≤ t.val by omega)]; rfl
  · rw [dif_neg (show ¬ 1 + t.val < 2 by omega), if_pos (show 1 ≤ t.val by omega)]
    have e : (⟨1 + t.val - 2, by omega⟩ : Fin 16384) = ⟨t.val - 1, by omega⟩ := Fin.ext (by simp only; omega)
    exact (congrArg (fun s => val_main_v91 (F := Ideal) X.x0 (ix3 (0 : Fin 1) s c)) e).trans (ref_q h _ _)

theorem ref_qs0 (h : X.Real) (t : Fin 16384) (c : Fin 1024) :
    val_main_v111 (F := Ideal) X.x0 (ix3 (0 : Fin 1) t c) = ((X.args.q t c : ℝ) : EReal) := by
  pointwise [val_main_v111, val_main_v94, val_main_v93, val_main_cst_15]
  exact ref_q h t c

theorem ref_cv (h : X.Real) (t : Fin 16384) (c : Fin 1024) :
    val_main_v115 (F := Ideal) X.x0 X.x5 (ix3 (0 : Fin 1) t c) = ((X.args.cv t c : ℝ) : EReal) := by
  pointwise [val_main_v115, val_main_v114, val_main_v113, val_main_v112, val_main_v110, val_main_v109, val_main_v108,
    val_main_v107, val_main_v106, val_main_v105, val_main_v103, val_main_v102, val_main_v101, val_main_v100, val_main_v99,
    val_main_v97, val_main_v96, val_main_v92]
  rw [ref_qs2 h, ref_qs1 h, ref_qs0 h, h.h5, h.h5, h.h5, coe_mul', coe_mul', coe_mul', coe_add', coe_add']
  rfl

/-! ## The outputs of the two branches -/

theorem ref_pa (h : X.Real) (t : Fin 16384) (e : Fin 1024) :
    val_main_v128 (F := Ideal) X.x0 X.x2 X.x3 X.x4 X.x6 (ix3 (0 : Fin 1) t e) = ((X.args.pa t e : ℝ) : EReal) := by
  pointwise [val_main_v128, val_main_v127, val_main_v126, val_main_v0, val_main_cst]
  simp only [ref_a h, h.h6 _, coe_mul', coe_sum, add_zero]
  rfl

theorem ref_pb (h : X.Real) (t : Fin 16384) (e : Fin 1024) :
    val_main_v141 (F := Ideal) X.x0 X.x5 X.x7 (ix3 (0 : Fin 1) t e) = ((X.args.pb t e : ℝ) : EReal) := by
  pointwise [val_main_v141, val_main_v140, val_main_v139, val_main_v0, val_main_cst, val_main_v116]
  simp only [ref_bg h, ref_cv h, h.h7 _, coe_mul', coe_sum, add_zero]
  rfl

/-! ## Backward: the gates and the branches' inputs -/

theorem ref_dm (h : X.Real) (t : Fin 16384) (c : Fin 1024) :
    val_main_v146 (F := Ideal) X.x8 X.x9 (ix3 (0 : Fin 1) t c) = ((X.args.dm t c : ℝ) : EReal) := by
  pointwise [val_main_v146, val_main_v144]
  simp only [h.h8 _, h.h9 _, coe_mul', coe_sum]
  rfl

theorem ref_dpb (h : X.Real) (t : Fin 16384) (c : Fin 1024) :
    val_main_v147 (F := Ideal) X.x0 X.x1 X.x8 X.x9 (ix3 (0 : Fin 1) t c) = ((X.args.dpb t c : ℝ) : EReal) := by
  pointwise [val_main_v147]
  rw [ref_sb h, ref_dm h, coe_mul', mul_comm]
  rfl

theorem ref_dpa (h : X.Real) (t : Fin 16384) (c : Fin 1024) :
    val_main_v151 (F := Ideal) X.x0 X.x1 X.x8 X.x9 (ix3 (0 : Fin 1) t c) = ((X.args.dpa t c : ℝ) : EReal) := by
  pointwise [val_main_v151]
  rw [ref_sa h, ref_dm h, coe_mul', mul_comm]
  rfl

theorem ref_dc (h : X.Real) (t : Fin 16384) (c : Fin 1024) :
    val_main_v149 (F := Ideal) X.x0 X.x1 X.x7 X.x8 X.x9 (ix3 (0 : Fin 1) t c) = ((X.args.dc t c : ℝ) : EReal) := by
  pointwise [val_main_v149, val_main_v139]
  simp only [ref_dpb h, h.h7 _, coe_mul', coe_sum]
  rfl

theorem ref_da (h : X.Real) (t : Fin 16384) (c : Fin 1024) :
    val_main_v153 (F := Ideal) X.x0 X.x1 X.x6 X.x8 X.x9 (ix3 (0 : Fin 1) t c) = ((X.args.da t c : ℝ) : EReal) := by
  pointwise [val_main_v153, val_main_v126]
  simp only [ref_dpa h, h.h6 _, coe_mul', coe_sum]
  rfl

theorem ref_dgb (h : X.Real) (t : Fin 16384) (c : Fin 1024) :
    val_main_v150 (F := Ideal) X.x0 X.x1 X.x5 X.x7 X.x8 X.x9 (ix3 (0 : Fin 1) t c) = ((X.args.dgb t c : ℝ) : EReal) := by
  pointwise [val_main_v150, val_main_v148, val_main_v138, val_main_v137, val_main_v136, val_main_cst_22]
  rw [ref_sb h, ref_dm h, ref_pb h, ← EReal.coe_one, coe_sub', coe_mul', coe_mul', coe_mul']
  congr 1
  simp only [Args.dgb, Args.dpb]
  ring

theorem ref_dga (h : X.Real) (t : Fin 16384) (c : Fin 1024) :
    val_main_v154 (F := Ideal) X.x0 X.x1 X.x2 X.x3 X.x4 X.x6 X.x8 X.x9 (ix3 (0 : Fin 1) t c)
      = ((X.args.dga t c : ℝ) : EReal) := by
  pointwise [val_main_v154, val_main_v152, val_main_v125, val_main_v124, val_main_v123, val_main_cst_19]
  rw [ref_sa h, ref_dm h, ref_pa h, ← EReal.coe_one, coe_sub', coe_mul', coe_mul', coe_mul']
  congr 1
  simp only [Args.dga, Args.dpa]
  ring

/-! ## Backward: the convolution -/

theorem ref_dcv (h : X.Real) (t : Fin 16384) (c : Fin 1024) :
    val_main_v155 (F := Ideal) X.x0 X.x1 X.x7 X.x8 X.x9 (ix3 (0 : Fin 1) t c) = ((X.args.dcv t c : ℝ) : EReal) := by
  pointwise [val_main_v155]
  rw [ref_bg h, ref_dc h, coe_mul', mul_comm]
  rfl

theorem ref_dbg (h : X.Real) (t : Fin 16384) (c : Fin 1024) :
    val_main_v156 (F := Ideal) X.x0 X.x1 X.x5 X.x7 X.x8 X.x9 (ix3 (0 : Fin 1) t c) = ((X.args.dbg t c : ℝ) : EReal) := by
  pointwise [val_main_v156]
  rw [ref_cv h, ref_dc h, coe_mul']
  rfl

theorem ref_dq (h : X.Real) (t : Fin 16384) (c : Fin 1024) :
    val_main_v189 (F := Ideal) X.x0 X.x1 X.x5 X.x7 X.x8 X.x9 (ix3 (0 : Fin 1) t c) = ((X.args.dq t c : ℝ) : EReal) := by
  pointwise [val_main_v189, val_main_v184, val_main_v183, val_main_v178, val_main_v177, val_main_v173, val_main_v172,
    val_main_v167, val_main_v166, val_main_v163, val_main_v158, val_main_v157, val_main_cst_25, val_main_cst_29,
    val_main_cst_33, val_main_v112, val_main_v110, val_main_v109,
    val_main_v105, val_main_v103, val_main_v102, val_main_v99, val_main_v97, val_main_v96, val_main_v92]
  have e1 (ht : t.val + 1 < 16384) : (⟨2 + t.val - 1, by omega⟩ : Fin 16384) = ⟨t.val + 1, ht⟩ := Fin.ext (by simp only; omega)
  have e2 (ht : t.val + 2 < 16384) : (⟨2 + t.val, by omega⟩ : Fin 16384) = ⟨t.val + 2, ht⟩ := Fin.ext (by simp only; omega)
  simp only [ref_dcv h, h.h5 _, coe_mul']
  unfold Args.dq Args.dcvs
  by_cases h1 : t.val + 1 < 16384
  · by_cases h2 : t.val + 2 < 16384
    · rw [dif_pos (by omega), dif_pos (by omega), dif_pos h1, dif_pos h2, e1 h1, e2 h2, coe_add', coe_add']; rfl
    · rw [dif_pos (by omega), dif_neg (by omega), dif_pos h1, dif_neg h2, e1 h1, coe_add', mul_zero, add_zero, add_zero]; rfl
  · rw [dif_neg (by omega), dif_neg (by omega), dif_neg h1, dif_neg (by omega), mul_zero, mul_zero, add_zero, add_zero, add_zero,
      add_zero]; rfl

theorem ref_dcg (h : X.Real) (t : Fin 16384) (c : Fin 1024) :
    val_main_v192 (F := Ideal) X.x0 X.x1 X.x5 X.x7 X.x8 X.x9 (ix3 (0 : Fin 1) t c) = ((X.args.dcg t c : ℝ) : EReal) := by
  pointwise [val_main_v192]
  rw [ref_dq h, ref_xs h, coe_mul']
  rfl

theorem ref_dxs (h : X.Real) (t : Fin 16384) (c : Fin 1024) :
    val_main_v191 (F := Ideal) X.x0 X.x1 X.x5 X.x7 X.x8 X.x9 (ix3 (0 : Fin 1) t c) = ((X.args.dxs t c : ℝ) : EReal) := by
  pointwise [val_main_v191]
  rw [ref_dq h, ref_cg h, coe_mul', mul_comm]
  rfl

theorem ref_dconv0 (h : X.Real) (c : Fin 1024) :
    val_main_v182 (F := Ideal) X.x0 X.x1 X.x7 X.x8 X.x9 (ix1 c)
      = ((∑ t, X.args.dcv t c * X.args.qs 2 t c : ℝ) : EReal) := by
  pointwise [val_main_v182, val_main_cst_32, reduceAdd_one_mid, val_main_v181, val_main_v180, val_main_cst_31, val_main_v179]
  simp only [ref_dcv h, ref_qs2 h, coe_mul', coe_sum, Fin.sum_univ_one]

theorem ref_dconv1 (h : X.Real) (c : Fin 1024) :
    val_main_v171 (F := Ideal) X.x0 X.x1 X.x7 X.x8 X.x9 (ix1 c)
      = ((∑ t, X.args.dcv t c * X.args.qs 1 t c : ℝ) : EReal) := by
  pointwise [val_main_v171, val_main_cst_28, reduceAdd_one_mid, val_main_v170, val_main_v169, val_main_cst_27, val_main_v168]
  simp only [ref_dcv h, ref_qs1 h, coe_mul', coe_sum, Fin.sum_univ_one]

theorem ref_dconv2 (h : X.Real) (c : Fin 1024) :
    val_main_v162 (F := Ideal) X.x0 X.x1 X.x7 X.x8 X.x9 (ix1 c)
      = ((∑ t, X.args.dcv t c * X.args.q t c : ℝ) : EReal) := by
  pointwise [val_main_v162, val_main_cst_24, reduceAdd_one_mid, val_main_v161, val_main_v160, val_main_cst_23, val_main_v159]
  simp only [ref_dcv h, ref_qs0 h, coe_mul', coe_sum, Fin.sum_univ_one]

/-! ## Backward: the mixing and the norm -/

theorem ref_dmix (h : X.Real) (t : Fin 16384) (c : Fin 1024) :
    val_main_v193 (F := Ideal) X.x0 X.x1 X.x6 X.x8 X.x9 (ix3 (0 : Fin 1) t c) = ((X.args.dmix t c : ℝ) : EReal) := by
  pointwise [val_main_v193]
  rw [ref_gelu_u h, ref_da h, coe_mul', mul_comm]
  rfl

theorem ref_du (h : X.Real) (t : Fin 16384) (c : Fin 1024) :
    val_main_v241 (F := Ideal) X.x0 X.x1 X.x2 X.x3 X.x4 X.x6 X.x8 X.x9 (ix3 (0 : Fin 1) t c)
      = ((X.args.du t c : ℝ) : EReal) := by
  pointwise [val_main_v241, val_main_v240, val_main_v239, val_main_cst_42, val_main_v238, val_main_v237, val_main_v236,
    val_main_v37, val_main_cst_2, val_main_v235, val_main_v234, val_main_v233, val_main_v194, val_main_v35, val_main_v34,
    val_main_cst_1]
  rw [ref_derfc_u h, ref_u h, ref_da h, ref_mixed h, ref_erfc_u h, ofBits_half, sqrt_half, coe_mul', coe_mul', coe_mul',
    coe_mul', coe_mul', coe_mul', coe_neg', coe_mul', coe_add']
  exact congrArg (fun r : ℝ => (r : EReal)) (dgelu_ref _ _)

theorem ref_dvp (h : X.Real) (t : Fin 16384) (c : Fin 1024) :
    val_main_v202 (F := Ideal) X.x0 X.x1 X.x3 X.x6 X.x8 X.x9 (ix3 (0 : Fin 1) t c) = ((X.args.dvp t c : ℝ) : EReal) := by
  pointwise [val_main_v202, val_main_v201, val_main_v200, val_main_v198, val_main_v195]
  simp only [ref_dmix h, ref_wm h, coe_mul', coe_sum]
  exact congrArg (fun r : ℝ => (r : EReal)) (Finset.sum_congr rfl fun j _ => mul_comm _ _)

theorem ref_dvg (h : X.Real) (t : Fin 16384) (c : Fin 1024) :
    val_main_v207 (F := Ideal) X.x0 X.x1 X.x2 X.x3 X.x6 X.x8 X.x9 (ix3 (0 : Fin 1) t c)
      = ((X.args.dvg t c : ℝ) : EReal) := by
  pointwise [val_main_v207, val_main_v206, val_main_v81, val_main_v33]
  rw [ref_dvp h, h.h2, coe_mul']
  rfl

theorem ref_dgain (h : X.Real) (c : Fin 1024) :
    val_main_v208 (F := Ideal) X.x0 X.x1 X.x3 X.x6 X.x8 X.x9 (ix1 c)
      = ((∑ t, X.args.dvp t c * X.args.vh t c : ℝ) : EReal) := by
  pointwise [val_main_v208, val_main_cst_37, reduceAdd_one_mid, val_main_v205, val_main_v204, val_main_cst_36, val_main_v203]
  simp only [ref_dvp h, ref_vh h, coe_mul', coe_sum, Fin.sum_univ_one, mul_comm]

theorem ref_dnorm (h : X.Real) (t : Fin 16384) (c : Fin 1024) :
    val_main_v223 (F := Ideal) X.x0 X.x1 X.x2 X.x3 X.x6 X.x8 X.x9 (ix3 (0 : Fin 1) t c)
      = ((rmsBack (X.args.vg t) (X.args.dvg t) c : ℝ) : EReal) := by
  have hq : val_main_v217 (F := Ideal) X.x0 X.x1 X.x2 X.x3 X.x6 X.x8 X.x9 (ix1 t)
      = (((∑ k, X.args.vg t k * X.args.dvg t k)
          * (-(1 / 2) * (rinv (X.args.vg t) / ((∑ k, X.args.vg t k * X.args.vg t k) / 1024 + eps))) / 1024 : ℝ) : EReal) := by
    pointwise [val_main_v217, val_main_cst_40, reduceAdd_one_one, val_main_v216, val_main_v215, val_main_cst_39,
      val_main_v214, val_main_v211, val_main_v210, val_main_cst_38, val_main_v209]
    simp only [ref_vg h, ref_dvg h, ref_rv_div h, ofBits_1024, coe_mul', coe_sum,
      div_real _ (by norm_num : (1024 : ℝ) ≠ 0)]
  pointwise [val_main_v223, val_main_v222, val_main_v221, val_main_v220, val_main_v219, val_main_v218, val_main_v213,
    val_main_v212]
  rw [hq, ref_vg h, ref_dvg h, ref_rv h, coe_mul', coe_mul', coe_mul', coe_add', coe_add', ← rmsBack_eq]

theorem ref_dv (h : X.Real) (t : Fin 16384) (c : Fin 1024) :
    val_main_v232 (F := Ideal) X.x0 X.x1 X.x2 X.x3 X.x6 X.x8 X.x9 (ix3 (0 : Fin 1) t c)
      = ((X.args.dv t c : ℝ) : EReal) := by
  pointwise [val_main_v232, val_main_v231, val_main_v230, val_main_cst_41, val_main_v229, val_main_v228, val_main_v227,
    val_main_v54, val_main_cst_7, val_main_v226, val_main_v225, val_main_v224, val_main_v52, val_main_v51, val_main_cst_6]
  rw [ref_derfc_v h, ref_v h, ref_dnorm h, ref_erfc_v h, ofBits_half, sqrt_half, coe_mul', coe_mul', coe_mul', coe_mul',
    coe_neg', coe_mul', coe_mul', coe_add']
  exact congrArg (fun r : ℝ => (r : EReal)) (dgelu_ref _ _)

/-! ## The results -/

/-- The projection's cotangent. -/
theorem ref_dproj (h : X.Real) (t : Fin 16384) (k : Fin 7) (c : Fin 1024) (j : Fin 7168) (e : j.val = 1024 * k.val + c.val) :
    val_main_v256 (F := Ideal) X.x0 X.x1 X.x2 X.x3 X.x4 X.x5 X.x6 X.x7 X.x8 X.x9 (ix2 t j)
      = ((X.args.dpart k t c : ℝ) : EReal) := by
  have hc (l : ℕ) (hl : l < 1024) (q : l = c.val) : (⟨l, hl⟩ : Fin 1024) = c := Fin.ext q
  pointwise [val_main_v256, val_main_v255, val_main_v254]
  match k with
  | 0 => rw [dif_pos (by omega), hc _ _ (by omega)]; exact ref_du h t c
  | 1 => rw [dif_neg (by omega), dif_pos (by omega), hc _ _ (by omega)]; exact ref_dv h t c
  | 2 => rw [dif_neg (by omega), dif_neg (by omega), dif_pos (by omega), hc _ _ (by omega)]; exact ref_dbg h t c
  | 3 =>
    rw [dif_neg (by omega), dif_neg (by omega), dif_neg (by omega), dif_pos (by omega), hc _ _ (by omega)]
    exact ref_dcg h t c
  | 4 =>
    rw [dif_neg (by omega), dif_neg (by omega), dif_neg (by omega), dif_neg (by omega), dif_pos (by omega), hc _ _ (by omega)]
    exact ref_dxs h t c
  | 5 =>
    rw [dif_neg (by omega), dif_neg (by omega), dif_neg (by omega), dif_neg (by omega), dif_neg (by omega),
      dif_pos (by omega), hc _ _ (by omega)]
    exact ref_dga h t c
  | 6 =>
    rw [dif_neg (by omega), dif_neg (by omega), dif_neg (by omega), dif_neg (by omega), dif_neg (by omega),
      dif_neg (by omega), hc _ _ (by omega)]
    exact ref_dgb h t c

/-- The cotangents of the two branches' outputs, and the cotangent that came in. -/
theorem ref_dstk (h : X.Real) (t : Fin 16384) (k : Fin 3) (c : Fin 1024) (j : Fin 3072) (e : j.val = 1024 * k.val + c.val) :
    val_main_v261 (F := Ideal) X.x0 X.x1 X.x8 X.x9 (ix2 t j) = ((X.args.dstk k t c : ℝ) : EReal) := by
  have hc (l : ℕ) (hl : l < 1024) (q : l = c.val) : (⟨l, hl⟩ : Fin 1024) = c := Fin.ext q
  pointwise [val_main_v261, val_main_v260, val_main_v257, val_main_v258, val_main_v259]
  match k with
  | 0 => rw [dif_pos (by omega), hc _ _ (by omega)]; exact ref_dpa h t c
  | 1 => rw [dif_neg (by omega), dif_pos (by omega), hc _ _ (by omega)]; exact ref_dpb h t c
  | 2 => rw [dif_neg (by omega), dif_neg (by omega), hc _ _ (by omega)]; exact h.h9 _

/-- The small gradients. -/
theorem ref_st (h : X.Real) (r : Fin 8) (c : Fin 1024) :
    val_main_v264 (F := Ideal) X.x0 X.x1 X.x3 X.x6 X.x7 X.x8 X.x9 (ix2 r c) = ((∑ t, X.args.st t r c : ℝ) : EReal) := by
  pointwise [val_main_v264, val_main_v263, val_main_cst_49, val_main_v262, val_main_v190, val_main_v187, val_main_v186,
    val_main_v185, val_main_v176, val_main_v175, val_main_v174, val_main_v165, val_main_v164, val_main_cst_26,
    val_main_cst_30, val_main_cst_34, val_main_v242]
  rw [ref_dgain h, ref_dconv0 h, ref_dconv1 h, ref_dconv2 h]
  unfold Args.st
  obtain ⟨r, hr⟩ := r
  have hr' : r = 0 ∨ r = 1 ∨ r = 2 ∨ r = 3 ∨ 4 ≤ r := by omega
  rcases hr' with rfl | rfl | rfl | rfl | hr'
  · simp
  · simp
  · simp
  · simp
  · simp only [dif_neg (show ¬ r < 1 by omega), dif_neg (show ¬ r - 1 < 3 by omega), if_neg (show ¬ r = 0 by omega),
      if_neg (show ¬ r = 1 by omega), if_neg (show ¬ r = 2 by omega), if_neg (show ¬ r = 3 by omega),
      Finset.sum_const_zero, EReal.coe_zero]

/-- The gate biases' gradient. -/
theorem ref_sg (h : X.Real) (r : Fin 8) (j : Fin 2048) :
    val_main_v266 (F := Ideal) X.x0 X.x1 X.x2 X.x3 X.x4 X.x5 X.x6 X.x7 X.x8 X.x9 (ix2 r j)
      = ((∑ t, X.args.sg t r j : ℝ) : EReal) := by
  pointwise [val_main_v266, val_main_v265, val_main_cst_50, val_main_v253, val_main_v252, val_main_v247, val_main_cst_48,
    val_main_cst_45, val_main_v251, val_main_v250, reduceAdd_one_mid, val_main_cst_47, val_main_v249, val_main_v248,
    val_main_cst_46, val_main_v246, val_main_v245, val_main_v244, val_main_v243, val_main_cst_43, val_main_cst_44]
  simp only [ref_dga h, ref_dgb h, coe_sum, Fin.sum_univ_one]
  unfold Args.sg
  by_cases hr : r.val < 1
  · rw [dif_pos hr]
    simp only [if_pos (show r.val = 0 by omega)]
    by_cases hj : j.val < 1024
    · simp only [dif_neg (show ¬ (r.val < 1 ∧ 1024 ≤ j.val ∧ j.val - 1024 < 1024) by omega),
        dif_pos (show r.val < 1 ∧ j.val < 1024 by omega), zero_add, dif_pos hj]
    · simp only [dif_pos (show r.val < 1 ∧ 1024 ≤ j.val ∧ j.val - 1024 < 1024 by omega),
        dif_neg (show ¬ (r.val < 1 ∧ j.val < 1024) by omega), add_zero, dif_neg hj]
  · rw [dif_neg hr]
    simp only [if_neg (show ¬ r.val = 0 by omega), Finset.sum_const_zero, EReal.coe_zero]

/-- The chunks and a group's channels, as the contraction's index has them. -/
def kIdx (n e : Fin 128) : dot_S8x1x128x128x128_S1x128x128x8x128_S8x128x128_123_014_4_2_0_3.contr.Idx := fun p =>
  match p with
  | ⟨0, _⟩ => (0 : Fin 1)
  | ⟨1, _⟩ => n
  | ⟨2, _⟩ => e

def kEquiv : Fin 128 × Fin 128 ≃ dot_S8x1x128x128x128_S1x128x128x8x128_S8x128x128_123_014_4_2_0_3.contr.Idx where
  toFun k := kIdx k.1 k.2
  invFun q := (q ⟨1, by decide⟩, q ⟨2, by decide⟩)
  left_inv _ := rfl
  right_inv q := by
    funext p
    match p with
    | ⟨0, _⟩ => exact Subsingleton.elim (α := Fin 1) _ _
    | ⟨1, _⟩ => rfl
    | ⟨2, _⟩ => rfl

/-- The mixing weights' gradient. -/
theorem ref_dws (h : X.Real) (g : Fin 8) (i j : Fin 128) :
    val_main_v199 (F := Ideal) X.x0 X.x1 X.x2 X.x6 X.x8 X.x9 (ix3 g i j) = ((∑ n, X.args.sw n g i j : ℝ) : EReal) := by
  have el (n e : Fin 128) : dot_S8x1x128x128x128_S1x128x128x8x128_S8x128x128_123_014_4_2_0_3.lhsIdx (ix3 g i j) (kIdx n e)
      = ix5 g (0 : Fin 1) n e i := by
    funext a
    match a with
    | 0 => rfl
    | 1 => rfl
    | 2 => rfl
    | 3 => rfl
    | 4 => rfl
  have er (n e : Fin 128) : dot_S8x1x128x128x128_S1x128x128x8x128_S8x128x128_123_014_4_2_0_3.rhsIdx (ix3 g i j) (kIdx n e)
      = ix5 (0 : Fin 1) n j g e := by
    funext a
    match a with
    | 0 => rfl
    | 1 => rfl
    | 2 => rfl
    | 3 => rfl
    | 4 => rfl
  unfold val_main_v199
  refine (Ideal.dotGeneral_apply _ _ _ _ _ _).trans ?_
  rw [← Equiv.sum_comp kEquiv, Fintype.sum_prod_type]
  show ∑ n, ∑ e, val_main_v198 (F := Ideal) X.x0 X.x1 X.x6 X.x8 X.x9 (DotDims.lhsIdx _ (ix3 g i j) (kIdx n e))
    * val_main_v84 (F := Ideal) X.x0 X.x2 (DotDims.rhsIdx _ (ix3 g i j) (kIdx n e)) = _
  simp only [el, er]
  pointwise [val_main_v198, val_main_v195, val_main_v84]
  simp only [ref_dmix h, ref_vp h, coe_mul', coe_sum]
  rfl

/-- The mixing biases' gradient. -/
theorem ref_dbs (h : X.Real) (g : Fin 8) (i e : Fin 128) :
    val_main_v268 (F := Ideal) X.x0 X.x1 X.x6 X.x8 X.x9 (ix3 g i e) = ((∑ n, X.args.sbs n g i e : ℝ) : EReal) := by
  pointwise [val_main_v268, val_main_v267, val_main_v197, val_main_v196, val_main_cst_35, val_main_v195]
  simp only [ref_dmix h, coe_sum]
  rfl

end Cert.MixValue

end
-- ==== Proof.MixKernel.lean ====
/-
  What the mixer's kernel reads, on real arguments: the arrays the host lines hand to the call, and the blocks of them
  that each point is given.
-/
module

public import proofs.«01_k».proof.Proof.MixLeft
public import proofs.«01_k».proof.Proof.MixReference
public import Idealize.ShloMosaic.Lib.StableHlo.RunRead
public import Idealize.ShloMosaic.Lib.Claim

@[expose] public section

set_option maxRecDepth 16384

noncomputable section

namespace Cert.MixValue

open Idealize.ShloMosaic Idealize.ShloMosaic.TcCoe Idealize.SL.Sem
open Cert.Reals Cert.Rows Cert.MixIdeal Cert.MixIdeal.Gen Cert.MixRun

variable (m : (ℓ : Loc nD τ sig) → Buf (Elt Ideal) ℓ) (c : Dev nD)

/-- The ten arguments. -/
def inp : In where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)

/-! ## The arrays the call is given -/

theorem given91 (t : Fin 16384) (e : Fin 1024) : V m c main_v91 (ix2 t e) = (inp m c).x9 (ix3 (0 : Fin 1) t e) := by
  after_reads_simp
  pointwise
  rfl

theorem given93 (t : Fin 16384) (j : Fin 7168) : V m c main_v93 (ix2 t j) = (inp m c).x0 (ix3 (0 : Fin 1) t j) := by
  after_reads_simp
  pointwise
  rfl

theorem given98 (g : Fin 8) (i j : Fin 128) : V m c main_v98 (ix3 g i j) = (inp m c).x3 (ix4 (0 : Fin 1) g i j) := by
  after_reads_simp
  pointwise
  rfl

theorem given99 (g : Fin 8) (i : Fin 128) : V m c main_v99 (ix3 g i (0 : Fin 1)) = (inp m c).x4 (ix3 (0 : Fin 1) g i) := by
  after_reads_simp
  pointwise
  rfl

theorem given90 (k : Fin 3) (e : Fin 1024) :
    V m c main_v90 (ix2 (⟨k.val, by omega⟩ : Fin 8) e) = (inp m c).x5 (ix3 (0 : Fin 1) k e) := by
  after_reads_simp
  pointwise
  rfl

theorem given101 (a e : Fin 1024) : V m c main_v101 (ix2 a e) = (inp m c).x6 (ix3 (0 : Fin 1) a e) := by
  after_reads_simp
  pointwise
  rfl

theorem given103 (a e : Fin 1024) : V m c main_v103 (ix2 a e) = (inp m c).x7 (ix3 (0 : Fin 1) a e) := by
  after_reads_simp
  pointwise
  rfl

theorem given105 (a e : Fin 1024) : V m c main_v105 (ix2 a e) = (inp m c).x8 (ix3 (0 : Fin 1) a e) := by
  after_reads_simp
  pointwise
  rfl

set_option maxHeartbeats 1600000 in
/-- The host lines that compute the two branches' products are the reference's. -/
theorem host_pa : V m c main_v95 = (truncf .bf16 (shapeCast S16384x1024
    (Cert.MixRefIdeal.Read.val_main_v127 (F := Ideal) (inp m c).x0 (inp m c).x2 (inp m c).x3 (inp m c).x4 (inp m c).x6)
    shapeCasts_S1x16384x1024_S16384x1024) bitsLt_bf16_f32 : FVec Ideal S16384x1024 .bf16) := by
  after_reads_simp
  rfl

set_option maxHeartbeats 1600000 in
theorem host_pb : V m c main_v97 = (truncf .bf16 (shapeCast S16384x1024
    (Cert.MixRefIdeal.Read.val_main_v140 (F := Ideal) (inp m c).x0 (inp m c).x5 (inp m c).x7)
    shapeCasts_S1x16384x1024_S16384x1024) bitsLt_bf16_f32 : FVec Ideal S16384x1024 .bf16) := by
  after_reads_simp
  rfl

/-- A rounded reshape reads the array itself. -/
theorem flat (y : FVec Ideal S1x16384x1024 .f32) (t : Fin 16384) (e : Fin 1024) :
    (truncf .bf16 (shapeCast S16384x1024 y shapeCasts_S1x16384x1024_S16384x1024) bitsLt_bf16_f32
      : FVec Ideal S16384x1024 .bf16) (ix2 t e) = y (ix3 (0 : Fin 1) t e) := by
  pointwise

variable {m c}

theorem given_pa (h : (inp m c).Real) (t : Fin 16384) (e : Fin 1024) :
    V m c main_v95 (ix2 t e) = (((inp m c).args.pa t e : ℝ) : EReal) := by
  have k := ref_pa h t e
  rw [host_pa, flat]
  rw [Cert.MixRefIdeal.Read.val_main_v128_apply] at k
  refine Eq.trans ?_ k
  generalize Cert.MixRefIdeal.Read.val_main_v127 (F := Ideal) _ _ _ _ _ = y
  pointwise [Cert.MixRefIdeal.Read.val_main_v0, Cert.MixRefIdeal.Read.val_main_cst]

theorem given_pb (h : (inp m c).Real) (t : Fin 16384) (e : Fin 1024) :
    V m c main_v97 (ix2 t e) = (((inp m c).args.pb t e : ℝ) : EReal) := by
  have k := ref_pb h t e
  rw [host_pb, flat]
  rw [Cert.MixRefIdeal.Read.val_main_v141_apply] at k
  refine Eq.trans ?_ k
  generalize Cert.MixRefIdeal.Read.val_main_v140 (F := Ideal) _ _ _ = y
  pointwise [Cert.MixRefIdeal.Read.val_main_v0, Cert.MixRefIdeal.Read.val_main_cst]

/-! ## The blocks -/

/-- The tile that point `t` works on: the last first. -/
def tile (t : Fin cfg0.N) : Fin 64 := ⟨63 - t.val, by omega⟩

/-- Every window's block at every point. -/
theorem index : ∀ t : Fin cfg0.N, win0_0.index t = ![63 - t.val, 0] ∧ win0_1.index t = ![63 - t.val, 0]
    ∧ win0_2.index t = ![16 * (63 - t.val) - 1, 3] ∧ win0_3.index t = ![16 * (63 - t.val) - 1, 4]
    ∧ win0_4.index t = ![63 - t.val, 0] ∧ win0_5.index t = ![63 - t.val, 0]
    ∧ win0_6.index t = ![0, 0] ∧ win0_7.index t = ![0, 0] ∧ win0_8.index t = ![0, 0, 0] ∧ win0_9.index t = ![0, 0, 0]
    ∧ win0_10.index t = ![0, 0] ∧ win0_11.index t = ![0, 0] ∧ win0_12.index t = ![0, 0] ∧ win0_13.index t = ![0, 0]
    ∧ win0_14.index t = ![63 - t.val, 0] ∧ win0_15.index t = ![63 - t.val, 0] :=
  (by decide +kernel : ∀ t : Fin grid0.N, _)

variable (m c) (t : Fin cfg0.N)

theorem blk0 (p : Fin 256) (e : Fin 1024) : iblk m c 0 t (ix2 p e) = V m c main_v91 (ix2 (tok (tile t) p) e) := by
  unfold iblk
  generalize V m c = v
  blk_ext [index t, tok, tile]

theorem blk1 (p : Fin 256) (j : Fin 7168) : iblk m c 1 t (ix2 p j) = V m c main_v93 (ix2 (tok (tile t) p) j) := by
  unfold iblk
  generalize V m c = v
  blk_ext [index t, tok, tile]

theorem blk2 (p : Fin 16) (e : Fin 1024) (h : (tile t).val ≠ 0) : iblk m c 2 t (ix2 p e)
    = V m c main_v93 (ix2 ⟨256 * (tile t).val - 16 + p.val, by omega⟩ ⟨1024 * 3 + e.val, by omega⟩) := by
  have h' : 63 - t.val ≠ 0 := h
  unfold iblk
  generalize V m c = v
  blk_ext [index t, tile]

theorem blk3 (p : Fin 16) (e : Fin 1024) (h : (tile t).val ≠ 0) : iblk m c 3 t (ix2 p e)
    = V m c main_v93 (ix2 ⟨256 * (tile t).val - 16 + p.val, by omega⟩ ⟨1024 * 4 + e.val, by omega⟩) := by
  have h' : 63 - t.val ≠ 0 := h
  unfold iblk
  generalize V m c = v
  blk_ext [index t, tile]

theorem blk4 (p : Fin 256) (e : Fin 1024) : iblk m c 4 t (ix2 p e) = V m c main_v95 (ix2 (tok (tile t) p) e) := by
  unfold iblk
  generalize V m c = v
  blk_ext [index t, tok, tile]

theorem blk5 (p : Fin 256) (e : Fin 1024) : iblk m c 5 t (ix2 p e) = V m c main_v97 (ix2 (tok (tile t) p) e) := by
  unfold iblk
  generalize V m c = v
  blk_ext [index t, tok, tile]

theorem blk6 (j : Fin 2048) : iblk m c 6 t (ix2 (0 : Fin 1) j) = V m c main_arg1 (ix2 (0 : Fin 1) j) := by
  unfold iblk
  generalize V m c = v
  blk_ext [index t]

theorem blk7 (e : Fin 1024) : iblk m c 7 t (ix2 (0 : Fin 1) e) = V m c main_arg2 (ix2 (0 : Fin 1) e) := by
  unfold iblk
  generalize V m c = v
  blk_ext [index t]

theorem blk8 (g : Fin 8) (i j : Fin 128) : iblk m c 8 t (ix3 g i j) = V m c main_v98 (ix3 g i j) := by
  unfold iblk
  generalize V m c = v
  blk_ext [index t]

theorem blk9 (g : Fin 8) (i : Fin 128) : iblk m c 9 t (ix3 g i (0 : Fin 1)) = V m c main_v99 (ix3 g i (0 : Fin 1)) := by
  unfold iblk
  generalize V m c = v
  blk_ext [index t]

theorem blk10 (k : Fin 8) (e : Fin 1024) : iblk m c 10 t (ix2 k e) = V m c main_v90 (ix2 k e) := by
  unfold iblk
  generalize V m c = v
  blk_ext [index t]

theorem blk11 (a e : Fin 1024) : iblk m c 11 t (ix2 a e) = V m c main_v101 (ix2 a e) := by
  unfold iblk
  generalize V m c = v
  blk_ext [index t]

theorem blk12 (a e : Fin 1024) : iblk m c 12 t (ix2 a e) = V m c main_v103 (ix2 a e) := by
  unfold iblk
  generalize V m c = v
  blk_ext [index t]

theorem blk13 (a e : Fin 1024) : iblk m c 13 t (ix2 a e) = V m c main_v105 (ix2 a e) := by
  unfold iblk
  generalize V m c = v
  blk_ext [index t]

variable {m c}

set_option maxHeartbeats 1600000 in
/-- Each point's blocks hold its tile's values. -/
theorem holds (h : (inp m c).Real) : Holds (inp m c).args (tile t) (blocks m c t) where
  dx p e := by
    rw [show (blocks m c t).x0 = iblk m c 0 t from rfl, blk0, given91]
    exact h.h9 _
  proj k p e j hj := by
    rw [show (blocks m c t).x1 = iblk m c 1 t from rfl, blk1, given93]
    exact proj_part h _ k e j hj
  cg p e h0 := by
    rw [show (blocks m c t).x2 = iblk m c 2 t from rfl, blk2 _ _ _ _ _ h0, given93]
    exact proj_part h _ 3 e _ rfl
  xs p e h0 := by
    rw [show (blocks m c t).x3 = iblk m c 3 t from rfl, blk3 _ _ _ _ _ h0, given93]
    exact proj_part h _ 4 e _ rfl
  pa p e := by
    rw [show (blocks m c t).x4 = iblk m c 4 t from rfl, blk4]
    exact given_pa h _ _
  pb p e := by
    rw [show (blocks m c t).x5 = iblk m c 5 t from rfl, blk5]
    exact given_pb h _ _
  gate j := by
    rw [show (blocks m c t).x6 = iblk m c 6 t from rfl, blk6, V_main_arg1]
    exact h.h1 _
  gain e := by
    rw [show (blocks m c t).x7 = iblk m c 7 t from rfl, blk7, V_main_arg2]
    exact h.h2 _
  ws g i j := by
    rw [show (blocks m c t).x8 = iblk m c 8 t from rfl, blk8, given98]
    exact h.h3 _
  bs g i := by
    rw [show (blocks m c t).x9 = iblk m c 9 t from rfl, blk9, given99]
    exact h.h4 _
  conv k e := by
    rw [show (blocks m c t).x10 = iblk m c 10 t from rfl, blk10, given90]
    exact h.h5 _
  wa a e := by
    rw [show (blocks m c t).x11 = iblk m c 11 t from rfl, blk11, given101]
    exact h.h6 _
  wb a e := by
    rw [show (blocks m c t).x12 = iblk m c 12 t from rfl, blk12, given103]
    exact h.h7 _
  wo a e := by
    rw [show (blocks m c t).x13 = iblk m c 13 t from rfl, blk13, given105]
    exact h.h8 _

end Cert.MixValue

end
-- ==== Proof.MixArrays.lean ====
/-
  What the mixer's kernel leaves in its six results, on real arguments: the points in order, then the arrays.
-/
module

public import proofs.«01_k».proof.Proof.MixKernel

@[expose] public section

set_option maxRecDepth 16384

noncomputable section

namespace Cert.MixValue

open Idealize.ShloMosaic Idealize.ShloMosaic.TcCoe Idealize.ShloMosaic.Tactic Idealize.SL.Sem
open Idealize.ShloMosaic.Pipeline (Dat)
open Cert.Reals Cert.Rows Cert.MixIdeal Cert.MixIdeal.Gen Cert.MixRun

variable {m : (ℓ : Loc nD τ sig) → Buf (Elt Ideal) ℓ} {c : Dev nD} (h : (inp m c).Real)

/-- The tiles in the order of the points. -/
def nth (k : ℕ) : Fin 64 := ⟨63 - k, by omega⟩

/-- A sum over the points is a sum over the tiles. -/
theorem sum_nth (f : Fin 64 → ℝ) : ∑ k ∈ Finset.range 64, f (nth k) = ∑ τ, f τ := by
  rw [Finset.sum_range, ← Equiv.sum_comp Fin.revPerm f]
  refine Finset.sum_congr rfl fun k _ => congrArg f (Fin.ext ?_)
  rw [Fin.revPerm_apply, Fin.val_rev]
  show 63 - k.val = 64 - (k.val + 1)
  omega

theorem coords_at : ∀ t : Fin cfg0.N, (grid0.coords t 0).val = t.val :=
  (by decide +kernel : ∀ t : Fin grid0.N, (grid0.coords t 0).val = t.val)

theorem place (n : ℕ) (hn : n < cfg0.N) : (grid0.coords ⟨n, hn⟩ 0).val = 63 - (nth n).val := by
  have hN : n < 64 := lt_of_lt_of_eq hn N_0
  rw [coords_at]
  show n = 63 - (63 - n)
  omega

theorem holds_nth (h : (inp m c).Real) (n : ℕ) (hn : n < cfg0.N) : Holds (inp m c).args (nth n) (blocks m c ⟨n, hn⟩) :=
  holds ⟨n, hn⟩ h

/-! ## The points in order -/

include h in
theorem left_carry : ∀ (n : ℕ) (hn : n < cfg0.N) (p : Fin 8) (e : Fin 1024), (left m c n hn).carry (ix2 p e)
    = (((inp m c).args.dcv (tok (nth n) ⟨p.val, by omega⟩) e : ℝ) : EReal)
  | 0, hn, p, e => mix_carryA (holds_nth h 0 hn) (first hn) p e
  | n + 1, hn, p, e => mix_carryB (holds_nth h (n + 1) hn) (later n hn) p e

theorem next_zero (A : Args) : Next (nth 0) A.dcv (k0_pay9 (F := Ideal)) := fun p e => by
  rw [zero9, dif_neg (by show ¬256 * (63 - 0) + 256 + p.val < 16384; omega)]
  rfl

include h in
theorem next_succ (n : ℕ) (hn : n + 1 < cfg0.N) :
    Next (nth (n + 1)) (inp m c).args.dcv (left m c n (Nat.lt_of_succ_lt hn)).carry := fun p e => by
  have hN : n + 1 < 64 := lt_of_lt_of_eq hn N_0
  have hv : (nth (n + 1)).val = 63 - (n + 1) := rfl
  rw [left_carry h, dif_pos (by rw [hv]; omega)]
  refine congrArg (fun t => (((inp m c).args.dcv t e : ℝ) : EReal)) (Fin.ext ?_)
  show 256 * (63 - n) + p.val = 256 * (63 - (n + 1)) + 256 + p.val
  omega

include h in
theorem left_proj : ∀ (n : ℕ) (hn : n < cfg0.N) (p : Fin 256) (j : Fin 7168), (left m c n hn).proj (ix2 p j)
    = (((inp m c).args.dproj (tok (nth n) p) j : ℝ) : EReal)
  | 0, hn, p, j => mix_projA (holds_nth h 0 hn) (place 0 hn) (first hn) (next_zero _) p j
  | n + 1, hn, p, j => mix_projB (holds_nth h (n + 1) hn) (place (n + 1) hn) (later n hn) (next_succ h n hn) p j

include h in
theorem left_stk : ∀ (n : ℕ) (hn : n < cfg0.N) (p : Fin 256) (j : Fin 3072), (left m c n hn).stk (ix2 p j)
    = (((inp m c).args.dstack (tok (nth n) p) j : ℝ) : EReal)
  | 0, hn, p, j => mix_stkA (holds_nth h 0 hn) (first hn) p j
  | n + 1, hn, p, j => mix_stkB (holds_nth h (n + 1) hn) (later n hn) p j

include h in
theorem left_st : ∀ (n : ℕ) (hn : n < cfg0.N) (p : Fin 8) (e : Fin 1024), (left m c n hn).st (ix2 p e)
    = ((∑ k ∈ Finset.range (n + 1), ∑ q, (inp m c).args.st (tok (nth k) q) p e : ℝ) : EReal)
  | 0, hn, p, e => by
    rw [Finset.sum_range_one]
    exact mix_stA (holds_nth h 0 hn) (place 0 hn) (first hn) p e
  | n + 1, hn, p, e => by
    rw [Finset.sum_range_succ]
    exact mix_stB (holds_nth h (n + 1) hn) (place (n + 1) hn) (later n hn) (left_st n (Nat.lt_of_succ_lt hn)) p e

include h in
theorem left_dbg : ∀ (n : ℕ) (hn : n < cfg0.N) (p : Fin 8) (j : Fin 2048), (left m c n hn).dbg (ix2 p j)
    = ((∑ k ∈ Finset.range (n + 1), ∑ q, (inp m c).args.sg (tok (nth k) q) p j : ℝ) : EReal)
  | 0, hn, p, j => by
    rw [Finset.sum_range_one]
    exact mix_dbgA (holds_nth h 0 hn) (first hn) p j
  | n + 1, hn, p, j => by
    rw [Finset.sum_range_succ]
    exact mix_dbgB (holds_nth h (n + 1) hn) (later n hn) (left_dbg n (Nat.lt_of_succ_lt hn)) p j

include h in
theorem left_dws : ∀ (n : ℕ) (hn : n < cfg0.N) (g : Fin 8) (a b : Fin 128), (left m c n hn).dws (ix3 g a b)
    = ((∑ k ∈ Finset.range (n + 1), ∑ q, (inp m c).args.sw (chunk (nth k) q) g a b : ℝ) : EReal)
  | 0, hn, g, a, b => by
    rw [Finset.sum_range_one]
    exact mix_dwsA (holds_nth h 0 hn) (first hn) g a b
  | n + 1, hn, g, a, b => by
    rw [Finset.sum_range_succ]
    exact mix_dwsB (holds_nth h (n + 1) hn) (later n hn) (left_dws n (Nat.lt_of_succ_lt hn)) g a b

include h in
theorem left_dbs : ∀ (n : ℕ) (hn : n < cfg0.N) (g : Fin 8) (a b : Fin 128), (left m c n hn).dbs (ix3 g a b)
    = ((∑ k ∈ Finset.range (n + 1), ∑ q, (inp m c).args.sbs (chunk (nth k) q) g a b : ℝ) : EReal)
  | 0, hn, g, a, b => by
    rw [Finset.sum_range_one]
    exact mix_dbsA (holds_nth h 0 hn) (first hn) g a b
  | n + 1, hn, g, a, b => by
    rw [Finset.sum_range_succ]
    exact mix_dbsB (holds_nth h (n + 1) hn) (later n hn) (left_dbs n (Nat.lt_of_succ_lt hn)) g a b

/-! ## The sums over all tiles -/

theorem sum_tok (f : Fin 16384 → ℝ) : ∑ k ∈ Finset.range 64, ∑ q, f (tok (nth k) q) = ∑ t, f t :=
  (sum_nth fun τ => ∑ q, f (tok τ q)).trans (sum_tiles rfl f tok fun _ _ => rfl)

theorem sum_chunk (f : Fin 128 → ℝ) : ∑ k ∈ Finset.range 64, ∑ q, f (chunk (nth k) q) = ∑ n, f n :=
  (sum_nth fun τ => ∑ q, f (chunk τ q)).trans (sum_tiles rfl f chunk fun _ _ => rfl)

/-! ## The arrays -/

include h in
/-- The cotangent of the projection. -/
theorem arr14 : (dats m 0 c).arrAt 14 cfg0.N
    = (fun i : S16384x7168.Idx => (((inp m c).args.dproj (i 0) (i 1) : ℝ) : EReal)) := by
  refine (dats m 0 c).arrAt_eq_of_covers 14 _ (by decide +kernel) fun t hf y => ?_
  blk_simp
  rw [show (dats m 0 c).after 14 t = (left m c t.val t.isLt).proj from rfl]
  idx_vars y
  have e : ((View.whole main_v106_0).slice (win0_14.rect t)).emb (ix2 y0 y1) = ix2 (tok (nth t.val) y0) y1 := by
    blk_ext [index t, tok, nth]
  rw [e]
  exact left_proj h t.val t.isLt y0 y1

include h in
/-- The three cotangents kept for the products of weights. -/
theorem arr15 : (dats m 0 c).arrAt 15 cfg0.N
    = (fun i : S16384x3072.Idx => (((inp m c).args.dstack (i 0) (i 1) : ℝ) : EReal)) := by
  refine (dats m 0 c).arrAt_eq_of_covers 15 _ (by decide +kernel) fun t hf y => ?_
  blk_simp
  rw [show (dats m 0 c).after 15 t = (left m c t.val t.isLt).stk from rfl]
  idx_vars y
  have e : ((View.whole main_v106_1).slice (win0_15.rect t)).emb (ix2 y0 y1) = ix2 (tok (nth t.val) y0) y1 := by
    blk_ext [index t, tok, nth]
  rw [e]
  exact left_stk h t.val t.isLt y0 y1

attribute [local irreducible] Cert.MixRun.left

/-- The grid's last point. -/
def last : Fin cfg0.N := ⟨63, lt_of_lt_of_eq (by decide) N_0.symm⟩

include h in
/-- The gradients of the gain and of the convolution's taps. -/
theorem arr16 : (dats m 0 c).arrAt 16 cfg0.N
    = (fun i : S8x1024.Idx => ((∑ t, (inp m c).args.st t (i 0) (i 1) : ℝ) : EReal)) := by
  refine (dats m 0 c).arrAt_eq_of_after_last 16 last (by decide +kernel) _ fun j => ?_
  rw [show (dats m 0 c).after 16 last = (left m c last.val last.isLt).st from rfl]
  idx_vars j
  exact (left_st h last.val last.isLt j0 j1).trans (congrArg _ (sum_tok fun t => (inp m c).args.st t j0 j1))

include h in
/-- The gradient of the gates' bias. -/
theorem arr17 : (dats m 0 c).arrAt 17 cfg0.N
    = (fun i : S8x2048.Idx => ((∑ t, (inp m c).args.sg t (i 0) (i 1) : ℝ) : EReal)) := by
  refine (dats m 0 c).arrAt_eq_of_after_last 17 last (by decide +kernel) _ fun j => ?_
  rw [show (dats m 0 c).after 17 last = (left m c last.val last.isLt).dbg from rfl]
  idx_vars j
  exact (left_dbg h last.val last.isLt j0 j1).trans (congrArg _ (sum_tok fun t => (inp m c).args.sg t j0 j1))

include h in
/-- The gradient at the mixing's weights. -/
theorem arr18 : (dats m 0 c).arrAt 18 cfg0.N
    = (fun i : S8x128x128.Idx => ((∑ n, (inp m c).args.sw n (i 0) (i 1) (i 2) : ℝ) : EReal)) := by
  refine (dats m 0 c).arrAt_eq_of_after_last 18 last (by decide +kernel) _ fun j => ?_
  rw [show (dats m 0 c).after 18 last = (left m c last.val last.isLt).dws from rfl]
  idx_vars j
  exact (left_dws h last.val last.isLt j0 j1 j2).trans (congrArg _ (sum_chunk fun n => (inp m c).args.sw n j0 j1 j2))

include h in
/-- The gradient at the mixing's bias, one column for each channel. -/
theorem arr19 : (dats m 0 c).arrAt 19 cfg0.N
    = (fun i : S8x128x128.Idx => ((∑ n, (inp m c).args.sbs n (i 0) (i 1) (i 2) : ℝ) : EReal)) := by
  refine (dats m 0 c).arrAt_eq_of_after_last 19 last (by decide +kernel) _ fun j => ?_
  rw [show (dats m 0 c).after 19 last = (left m c last.val last.isLt).dbs from rfl]
  idx_vars j
  exact (left_dbs h last.val last.isLt j0 j1 j2).trans (congrArg _ (sum_chunk fun n => (inp m c).args.sbs n j0 j1 j2))

end Cert.MixValue

end
-- ==== Proof.MixValues.lean ====
/-
  The mixer's backward call and reference.py's lines leave the same six arrays.
-/
module

public import proofs.«01_k».proof.Proof.MixArrays
public import proofs.«01_k».proof.Defs
public import proofs.«01_k».proof.Proof.Gen.Pre_mix_finite
public import Idealize.ShloMosaic.Lib.Claim

@[expose] public section

set_option maxRecDepth 16384

noncomputable section

namespace Cert.MixValue

open Idealize.ShloMosaic Idealize.ShloMosaic.TcCoe Idealize.SL.Sem Cert.Reals Cert.MixRun

/-- What the precondition says: the ten arrays are real. -/
theorem reals_of_pre (m : (ℓ : Loc Cert.MixIdeal.nD Cert.MixIdeal.τ Cert.MixIdeal.sig) → Buf (Elt Ideal) ℓ)
    (h : Pre_MixIdeal_mix_finite (hPre_mix_finite := Cert.Pre_mix_finite.Gen.facts) m) (c) : (inp m c).Real := by
  obtain ⟨h, h9⟩ := and_split (h c)
  obtain ⟨h, h8⟩ := and_split h
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h0, h1⟩ := and_split h
  have i : Cert.Pre_mix_finite.S_.Idx := fun a => a.elim0
  have : Subsingleton Cert.Pre_mix_finite.S_.Idx := ⟨fun a b => funext fun x => x.elim0⟩
  exact ⟨isReal_of_all _ _ _ _ _ _ i (congrFun h0 i), isReal_of_all _ _ _ _ _ _ i (congrFun h1 i),
    isReal_of_all _ _ _ _ _ _ i (congrFun h2 i), isReal_of_all _ _ _ _ _ _ i (congrFun h3 i),
    isReal_of_all _ _ _ _ _ _ i (congrFun h4 i), isReal_of_all _ _ _ _ _ _ i (congrFun h5 i),
    isReal_of_all _ _ _ _ _ _ i (congrFun h6 i), isReal_of_all _ _ _ _ _ _ i (congrFun h7 i),
    isReal_of_all _ _ _ _ _ _ i (congrFun h8 i), isReal_of_all _ _ _ _ _ _ i (congrFun h9 i)⟩

open Cert.MixIdeal Cert.MixIdeal.Gen in
/-- The kernel's run, each result named and the arguments kept. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v106_0) = (dats m 0 c).arrAt 14 cfg0.N
      ∧ r.2.mem ((c : Thread nD τ).loc main_v106_1) = (dats m 0 c).arrAt 15 cfg0.N
      ∧ r.2.mem ((c : Thread nD τ).loc main_v106_2) = (dats m 0 c).arrAt 16 cfg0.N
      ∧ r.2.mem ((c : Thread nD τ).loc main_v106_3) = (dats m 0 c).arrAt 17 cfg0.N
      ∧ r.2.mem ((c : Thread nD τ).loc main_v106_4) = (dats m 0 c).arrAt 18 cfg0.N
      ∧ r.2.mem ((c : Thread nD τ).loc main_v106_5) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h.1 c).1 14, (h.1 c).1 15, (h.1 c).1 16, (h.1 c).1 17, (h.1 c).1 18,
    (h.1 c).1 19,
    ((h.1 c).2 main_arg0 (Pipeline.mem_restRefs_of main_arg0 (by decide) (by decide))).trans (V_main_arg0 m c),
    ((h.1 c).1 6).trans (((dats m 0 c).arrAt_in 6 rfl _).trans (V_main_arg1 m c)),
    ((h.1 c).1 7).trans (((dats m 0 c).arrAt_in 7 rfl _).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c)⟩) (Cert.MixRun.run m ρ)

/-- The two programs' results are equal. -/
theorem algebraic : algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  pair_intro
  · run_from run_named m g
  · run_from Cert.MixRefIdeal.Value.run m' g'
    all_goals
      have h := reals_of_pre m hpre c
      obtain ⟨e0, e1, e2, e3, e4, e5, e6, e7, e8, e9⟩ := hagree c
    · rw [arr14 h]
      refine Eq.trans (b := Cert.MixRefIdeal.Read.val_main_v256 (F := Ideal)
        (m' (c.tc.loc Cert.MixRefIdeal.main_arg0)) (m' (c.tc.loc Cert.MixRefIdeal.main_arg1)) (m' (c.tc.loc Cert.MixRefIdeal.main_arg2)) (m' (c.tc.loc Cert.MixRefIdeal.main_arg3)) (m' (c.tc.loc Cert.MixRefIdeal.main_arg4)) (m' (c.tc.loc Cert.MixRefIdeal.main_arg5)) (m' (c.tc.loc Cert.MixRefIdeal.main_arg6)) (m' (c.tc.loc Cert.MixRefIdeal.main_arg7)) (m' (c.tc.loc Cert.MixRefIdeal.main_arg8)) (m' (c.tc.loc Cert.MixRefIdeal.main_arg9)))
        (Cert.MixRefIdeal.Read.val_main_v256_eq (StableHlo.launchContents m' c)) ?_
      rw [e0, e1, e2, e3, e4, e5, e6, e7, e8, e9]
      funext i
      idx_vars i
      exact ref_dproj h i0 _ _ i1 (by dsimp only; omega)
    · rw [arr15 h]
      refine Eq.trans (b := Cert.MixRefIdeal.Read.val_main_v261 (F := Ideal)
        (m' (c.tc.loc Cert.MixRefIdeal.main_arg0)) (m' (c.tc.loc Cert.MixRefIdeal.main_arg1)) (m' (c.tc.loc Cert.MixRefIdeal.main_arg8)) (m' (c.tc.loc Cert.MixRefIdeal.main_arg9)))
        (Cert.MixRefIdeal.Read.val_main_v261_eq (StableHlo.launchContents m' c)) ?_
      rw [e0, e1, e8, e9]
      funext i
      idx_vars i
      exact ref_dstk h i0 _ _ i1 (by dsimp only; omega)
    · rw [arr16 h]
      refine Eq.trans (b := Cert.MixRefIdeal.Read.val_main_v264 (F := Ideal)
        (m' (c.tc.loc Cert.MixRefIdeal.main_arg0)) (m' (c.tc.loc Cert.MixRefIdeal.main_arg1)) (m' (c.tc.loc Cert.MixRefIdeal.main_arg3)) (m' (c.tc.loc Cert.MixRefIdeal.main_arg6)) (m' (c.tc.loc Cert.MixRefIdeal.main_arg7)) (m' (c.tc.loc Cert.MixRefIdeal.main_arg8)) (m' (c.tc.loc Cert.MixRefIdeal.main_arg9)))
        (Cert.MixRefIdeal.Read.val_main_v264_eq (StableHlo.launchContents m' c)) ?_
      rw [e0, e1, e3, e6, e7, e8, e9]
      funext i
      idx_vars i
      exact ref_st h i0 i1
    · rw [arr17 h]
      refine Eq.trans (b := Cert.MixRefIdeal.Read.val_main_v266 (F := Ideal)
        (m' (c.tc.loc Cert.MixRefIdeal.main_arg0)) (m' (c.tc.loc Cert.MixRefIdeal.main_arg1)) (m' (c.tc.loc Cert.MixRefIdeal.main_arg2)) (m' (c.tc.loc Cert.MixRefIdeal.main_arg3)) (m' (c.tc.loc Cert.MixRefIdeal.main_arg4)) (m' (c.tc.loc Cert.MixRefIdeal.main_arg5)) (m' (c.tc.loc Cert.MixRefIdeal.main_arg6)) (m' (c.tc.loc Cert.MixRefIdeal.main_arg7)) (m' (c.tc.loc Cert.MixRefIdeal.main_arg8)) (m' (c.tc.loc Cert.MixRefIdeal.main_arg9)))
        (Cert.MixRefIdeal.Read.val_main_v266_eq (StableHlo.launchContents m' c)) ?_
      rw [e0, e1, e2, e3, e4, e5, e6, e7, e8, e9]
      funext i
      idx_vars i
      exact ref_sg h i0 i1
    · rw [arr18 h]
      refine Eq.trans (b := Cert.MixRefIdeal.Read.val_main_v199 (F := Ideal)
        (m' (c.tc.loc Cert.MixRefIdeal.main_arg0)) (m' (c.tc.loc Cert.MixRefIdeal.main_arg1)) (m' (c.tc.loc Cert.MixRefIdeal.main_arg2)) (m' (c.tc.loc Cert.MixRefIdeal.main_arg6)) (m' (c.tc.loc Cert.MixRefIdeal.main_arg8)) (m' (c.tc.loc Cert.MixRefIdeal.main_arg9)))
        (Cert.MixRefIdeal.Read.val_main_v199_eq (StableHlo.launchContents m' c)) ?_
      rw [e0, e1, e2, e6, e8, e9]
      funext i
      idx_vars i
      exact ref_dws h i0 i1 i2
    · rw [arr19 h]
      refine Eq.trans (b := Cert.MixRefIdeal.Read.val_main_v268 (F := Ideal)
        (m' (c.tc.loc Cert.MixRefIdeal.main_arg0)) (m' (c.tc.loc Cert.MixRefIdeal.main_arg1)) (m' (c.tc.loc Cert.MixRefIdeal.main_arg6)) (m' (c.tc.loc Cert.MixRefIdeal.main_arg8)) (m' (c.tc.loc Cert.MixRefIdeal.main_arg9)))
        (Cert.MixRefIdeal.Read.val_main_v268_eq (StableHlo.launchContents m' c)) ?_
      rw [e0, e1, e6, e8, e9]
      funext i
      idx_vars i
      exact ref_dbs h i0 i1 i2

end Cert.MixValue

end
-- ==== Proof.MixerSpec.lean ====
/-
  The mixer's forward pass as a function of extended reals: what both programs of the fourth pair compute, element by
  element, with no bound on the arguments.
-/
module

public import proofs.«01_k».proof.Proof.MixSpec

@[expose] public section

noncomputable section

namespace Cert.MixerValue

open Idealize.ShloMosaic Cert.Reals Cert.MixValue

/-- √½ and ½. -/
def sqrtHalf : EReal := ((Real.sqrt (1 / 2) : ℝ) : EReal)
def half : EReal := ((1 / 2 : ℝ) : EReal)

/-- GELU: the argument times the normal law's distribution function … -/
def gelu (x : EReal) : EReal := x * (half * (1 + Ideal.erf (x * sqrtHalf)))

/-- … and as the reference writes it. -/
theorem gelu_erfc (x : EReal) : half * x * Ideal.erfc (-x * sqrtHalf) = gelu x := by
  rw [EReal.neg_mul, Ideal.erfc_neg, gelu, mul_comm half x, mul_assoc]

/-- The reciprocal root mean square of a row. -/
def rinv (f : Fin 1024 → EReal) : EReal :=
  Ideal.rsqrt (Ideal.div (∑ k, f k * f k) (Ideal.ofBits .f32 0x44800000#32) + Ideal.ofBits .f32 0x358637BD#32)

/-- The arguments of the two programs. -/
structure Args where
  x : Fin 16384 → Fin 1024 → EReal
  proj : Fin 16384 → Fin 7168 → EReal
  gate : Fin 2048 → EReal
  gain : Fin 1024 → EReal
  ws : Fin 8 → Fin 128 → Fin 128 → EReal
  bs : Fin 8 → Fin 128 → EReal
  conv : Fin 3 → Fin 1024 → EReal
  wa : Fin 1024 → Fin 1024 → EReal
  wb : Fin 1024 → Fin 1024 → EReal
  wo : Fin 1024 → Fin 1024 → EReal

namespace Args

variable (A : Args)

/-- The seven parts of a row of the projection. -/
def part (k : Fin 7) (t : Fin 16384) (c : Fin 1024) : EReal := A.proj t ⟨1024 * k.val + c.val, by omega⟩

/-- The two halves of the gates' bias, and the gates. -/
def ga (c : Fin 1024) : EReal := A.gate ⟨c.val, by omega⟩
def gb (c : Fin 1024) : EReal := A.gate ⟨1024 + c.val, by omega⟩
def sa (t : Fin 16384) (c : Fin 1024) : EReal := Ideal.logistic (A.part 5 t c + A.ga c)
def sb (t : Fin 16384) (c : Fin 1024) : EReal := Ideal.logistic (A.part 6 t c + A.gb c)

/-- The normalized and scaled second part. -/
def vg (t : Fin 16384) (c : Fin 1024) : EReal := gelu (A.part 1 t c)
def vp (t : Fin 16384) (c : Fin 1024) : EReal := A.vg t c * rinv (A.vg t) * A.gain c

/-- The mixing weights: half chunks see themselves and what is before them. -/
def wm (g : Fin 8) (i j : Fin 128) : EReal := if j.val < 64 ∨ 64 ≤ i.val then A.ws g i j else 0

/-- What the mixing within a chunk gives. -/
def mixed (t : Fin 16384) (c : Fin 1024) : EReal :=
  (∑ j : Fin 128, A.wm (grp c) (pos t) j * A.vp (tk (cnk t) j) c) + A.bs (grp c) (pos t)

def a (t : Fin 16384) (c : Fin 1024) : EReal := gelu (A.part 0 t c) * A.mixed t c

/-- The convolution's input, and the same `k` tokens earlier, with zeros before the first token. -/
def q (t : Fin 16384) (c : Fin 1024) : EReal := A.part 3 t c * A.part 4 t c
def qs (k : ℕ) (t : Fin 16384) (c : Fin 1024) : EReal := if k ≤ t.val then A.q ⟨t.val - k, by omega⟩ c else 0

def c (t : Fin 16384) (c : Fin 1024) : EReal :=
  A.part 2 t c * (A.conv 0 c * A.qs 2 t c + A.conv 1 c * A.qs 1 t c + A.conv 2 c * A.q t c)

/-- The two branches' projections, their gated sum, and the residual stream after it. -/
def pa (t : Fin 16384) (e : Fin 1024) : EReal := ∑ k, A.a t k * A.wa k e
def pb (t : Fin 16384) (e : Fin 1024) : EReal := ∑ k, A.c t k * A.wb k e
def m (t : Fin 16384) (e : Fin 1024) : EReal := A.sa t e * A.pa t e + A.sb t e * A.pb t e
def x1 (t : Fin 16384) (e : Fin 1024) : EReal := A.x t e + ∑ k, A.m t k * A.wo k e

/-- The three arrays that the backward pass reads again, side by side. -/
def acm (t : Fin 16384) (j : Fin 3072) : EReal :=
  if h : j.val < 1024 then A.a t ⟨j.val, h⟩
  else if h : j.val < 2048 then A.c t ⟨j.val - 1024, by omega⟩ else A.m t ⟨j.val - 2048, by omega⟩

end Args

end Cert.MixerValue

end
-- ==== Proof.MixerTiles.lean ====
/-
  What each of the mixer's forward kernel's operations gives on a tile of 512 tokens: a function of the token and the
  channel. The mixing is done in blocks of a chunk of 128 tokens and a group of 128 channels, and the 32 blocks of a tile
  are read back together.
-/
module

public import proofs.«01_k».proof.Proof.MixerSpec
public import proofs.«01_k».proof.Proof.Rows
public import proofs.«01_k».proof.Proof.Gen.MixerIdeal.Value

@[expose] public section

set_option maxRecDepth 16384

noncomputable section

namespace Cert.MixerValue

open Idealize.ShloMosaic Idealize.ShloMosaic.TcCoe Idealize.SL.Sem Cert.Reals Cert.MixerIdeal Cert.MixerIdeal.Gen
open Cert.MixValue (tk cnk pos grp)

/-- Row `p` of tile `τ`. -/
def tok (τ : Fin 32) (p : Fin 512) : Fin 16384 := ⟨512 * τ.val + p.val, by omega⟩

/-- The tile holds the function's values. -/
def Tile (τ : Fin 32) (f : Fin 16384 → Fin 1024 → EReal) (x : S512x1024.Idx → EReal) : Prop :=
  ∀ p c, x (ix2 p c) = f (tok τ p) c

/-- So does a row … -/
def Row (g : Fin 1024 → EReal) (x : S1x1024.Idx → EReal) : Prop := ∀ c, x (ix2 0 c) = g c

/-- … and a square matrix. -/
def Mat (w : Fin 1024 → Fin 1024 → EReal) (x : S1024x1024.Idx → EReal) : Prop := ∀ c e, x (ix2 c e) = w c e

/-- The eight rows before the tile, zeros before the first. -/
def Carry (τ : Fin 32) (f : Fin 16384 → Fin 1024 → EReal) (x : S8x1024.Idx → EReal) : Prop :=
  ∀ (p : Fin 8) c, x (ix2 p c) = if h : τ.val ≠ 0 then f ⟨512 * τ.val - 8 + p.val, by omega⟩ c else 0

variable {A : Args} {τ : Fin 32} {f g h : Fin 16384 → Fin 1024 → EReal} {w : Fin 1024 → Fin 1024 → EReal}
variable {x y z u : S512x1024.Idx → EReal} {W : S1024x1024.Idx → EReal} {R : S1x1024.Idx → EReal} {C : S8x1024.Idx → EReal}

theorem named_sqrt_half (b : BitVec 32) : (Named.named κ "sqrt_half" b : Ideal .f32) = sqrtHalf := rfl

theorem congr2 {m n : Nat} (f : Fin m → Fin n → EReal) {a a' : Fin m} {b b' : Fin n} (ha : a.val = a'.val)
    (hb : b.val = b'.val) : f a b = f a' b' := by
  rw [Fin.ext ha, Fin.ext hb]

theorem congr3 {l m n : Nat} (f : Fin l → Fin m → Fin n → EReal) {a a' : Fin l} {b b' : Fin m} {c c' : Fin n}
    (ha : a.val = a'.val) (hb : b.val = b'.val) (hc : c.val = c'.val) : f a b c = f a' b' c' := by
  rw [Fin.ext ha, Fin.ext hb, Fin.ext hc]

/-! ## The normalization and the mixing -/

theorem pay3 (hx : Tile τ (A.part 1) x) (hR : Row A.gain R) : Tile τ A.vp (k0_pay3 (F := Ideal) x R) := fun p c => by
  unfold_payloads
  pointwise
  simp only [hx _ _, hR _, named_sqrt_half, ofBits_half]
  rfl

/-- The masked mixing weights. -/
abbrev wm (X : Vec Ideal S8x128x128 .f32) : FVec Ideal S8x128x128 .bf16 := k0_pay7 (k0_pay4 X) k0_pay5 k0_pay6

theorem mask : ∀ i j : Fin 128, IntOp.ori (IntOp.cmpi .slt (BitVec.ofNat 32 j.val) 64#32)
    (IntOp.cmpi .sge (BitVec.ofNat 32 i.val) 64#32) = if j.val < 64 ∨ 64 ≤ i.val then 1#1 else 0#1 := by decide +kernel

theorem pay7 {X : Vec Ideal S8x128x128 .f32} (hX : ∀ g i j, X (ix3 g i j) = A.ws g i j) (g : Fin 8) (i j : Fin 128) :
    wm X (ix3 g i j) = A.wm g i j := by
  unfold wm
  unfold_payloads
  pointwise
  rw [mask, Args.wm]
  split
  · exact hX g i j
  · rfl

/-- The stores of the blocks. -/
abbrev mixStores (V : FVec Ideal S512x1024 .bf16) (X : Vec Ideal S8x128x128 .f32) (B : Vec Ideal S8x128x1 .f32) :
    List (View.Piece (Elt Ideal) S512x1024 .f32) :=
  [⟨Rect.unit ![384, 896] ![128, 128] inb_S512x1024_S128x128_384_896,
    k0_pay51 (F := Ideal) V (wm X) (View.ld B (Rect.unit ![7, 0, 0] ![1, 128, 1] inb_S8x128x1_S1x128x1_7_0_0))⟩,
  ⟨Rect.unit ![384, 768] ![128, 128] inb_S512x1024_S128x128_384_768,
    k0_pay50 (F := Ideal) V (wm X) (View.ld B (Rect.unit ![6, 0, 0] ![1, 128, 1] inb_S8x128x1_S1x128x1_6_0_0))⟩,
  ⟨Rect.unit ![384, 640] ![128, 128] inb_S512x1024_S128x128_384_640,
    k0_pay49 (F := Ideal) (k0_pay48 V (wm X) (View.ld B (Rect.unit ![5, 0, 0] ![1, 128, 1] inb_S8x128x1_S1x128x1_5_0_0)))⟩,
  ⟨Rect.unit ![384, 512] ![128, 128] inb_S512x1024_S128x128_384_512,
    k0_pay47 (F := Ideal) V (wm X) (View.ld B (Rect.unit ![4, 0, 0] ![1, 128, 1] inb_S8x128x1_S1x128x1_4_0_0))⟩,
  ⟨Rect.unit ![384, 384] ![128, 128] inb_S512x1024_S128x128_384_384,
    k0_pay46 (F := Ideal) V (wm X) (View.ld B (Rect.unit ![3, 0, 0] ![1, 128, 1] inb_S8x128x1_S1x128x1_3_0_0))⟩,
  ⟨Rect.unit ![384, 256] ![128, 128] inb_S512x1024_S128x128_384_256,
    k0_pay45 (F := Ideal) (k0_pay44 V (wm X)) (View.ld B (Rect.unit ![2, 0, 0] ![1, 128, 1] inb_S8x128x1_S1x128x1_2_0_0))⟩,
  ⟨Rect.unit ![384, 128] ![128, 128] inb_S512x1024_S128x128_384_128,
    k0_pay43 (F := Ideal) V (wm X) (View.ld B (Rect.unit ![1, 0, 0] ![1, 128, 1] inb_S8x128x1_S1x128x1_1_0_0))⟩,
  ⟨Rect.unit ![384, 0] ![128, 128] inb_S512x1024_S128x128_384_0,
    k0_pay42 (F := Ideal) V (wm X) (View.ld B (Rect.unit ![0, 0, 0] ![1, 128, 1] inb_S8x128x1_S1x128x1_0_0_0))⟩,
  ⟨Rect.unit ![256, 896] ![128, 128] inb_S512x1024_S128x128_256_896,
    k0_pay41 (F := Ideal) (k0_pay39 (wm X)) (k0_pay40 V) (View.ld B (Rect.unit ![7, 0, 0] ![1, 128, 1] inb_S8x128x1_S1x128x1_7_0_0))⟩,
  ⟨Rect.unit ![256, 768] ![128, 128] inb_S512x1024_S128x128_256_768,
    k0_pay38 (F := Ideal) V (wm X) (View.ld B (Rect.unit ![6, 0, 0] ![1, 128, 1] inb_S8x128x1_S1x128x1_6_0_0))⟩,
  ⟨Rect.unit ![256, 640] ![128, 128] inb_S512x1024_S128x128_256_640,
    k0_pay37 (F := Ideal) V (wm X) (View.ld B (Rect.unit ![5, 0, 0] ![1, 128, 1] inb_S8x128x1_S1x128x1_5_0_0))⟩,
  ⟨Rect.unit ![256, 512] ![128, 128] inb_S512x1024_S128x128_256_512,
    k0_pay36 (F := Ideal) V (wm X) (View.ld B (Rect.unit ![4, 0, 0] ![1, 128, 1] inb_S8x128x1_S1x128x1_4_0_0))⟩,
  ⟨Rect.unit ![256, 384] ![128, 128] inb_S512x1024_S128x128_256_384,
    k0_pay35 (F := Ideal) (k0_pay34 V (wm X) (View.ld B (Rect.unit ![3, 0, 0] ![1, 128, 1] inb_S8x128x1_S1x128x1_3_0_0)))⟩,
  ⟨Rect.unit ![256, 256] ![128, 128] inb_S512x1024_S128x128_256_256,
    k0_pay33 (F := Ideal) V (wm X) (View.ld B (Rect.unit ![2, 0, 0] ![1, 128, 1] inb_S8x128x1_S1x128x1_2_0_0))⟩,
  ⟨Rect.unit ![256, 128] ![128, 128] inb_S512x1024_S128x128_256_128,
    k0_pay32 (F := Ideal) V (wm X) (View.ld B (Rect.unit ![1, 0, 0] ![1, 128, 1] inb_S8x128x1_S1x128x1_1_0_0))⟩,
  ⟨Rect.unit ![256, 0] ![128, 128] inb_S512x1024_S128x128_256_0,
    k0_pay31 (F := Ideal) (k0_pay30 V (wm X)) (View.ld B (Rect.unit ![0, 0, 0] ![1, 128, 1] inb_S8x128x1_S1x128x1_0_0_0))⟩,
  ⟨Rect.unit ![128, 896] ![128, 128] inb_S512x1024_S128x128_128_896,
    k0_pay29 (F := Ideal) V (wm X) (View.ld B (Rect.unit ![7, 0, 0] ![1, 128, 1] inb_S8x128x1_S1x128x1_7_0_0))⟩,
  ⟨Rect.unit ![128, 768] ![128, 128] inb_S512x1024_S128x128_128_768,
    k0_pay28 (F := Ideal) V (wm X) (View.ld B (Rect.unit ![6, 0, 0] ![1, 128, 1] inb_S8x128x1_S1x128x1_6_0_0))⟩,
  ⟨Rect.unit ![128, 640] ![128, 128] inb_S512x1024_S128x128_128_640,
    k0_pay27 (F := Ideal) (k0_pay25 (wm X)) (k0_pay26 V) (View.ld B (Rect.unit ![5, 0, 0] ![1, 128, 1] inb_S8x128x1_S1x128x1_5_0_0))⟩,
  ⟨Rect.unit ![128, 512] ![128, 128] inb_S512x1024_S128x128_128_512,
    k0_pay24 (F := Ideal) V (wm X) (View.ld B (Rect.unit ![4, 0, 0] ![1, 128, 1] inb_S8x128x1_S1x128x1_4_0_0))⟩,
  ⟨Rect.unit ![128, 384] ![128, 128] inb_S512x1024_S128x128_128_384,
    k0_pay23 (F := Ideal) V (wm X) (View.ld B (Rect.unit ![3, 0, 0] ![1, 128, 1] inb_S8x128x1_S1x128x1_3_0_0))⟩,
  ⟨Rect.unit ![128, 256] ![128, 128] inb_S512x1024_S128x128_128_256,
    k0_pay22 (F := Ideal) V (wm X) (View.ld B (Rect.unit ![2, 0, 0] ![1, 128, 1] inb_S8x128x1_S1x128x1_2_0_0))⟩,
  ⟨Rect.unit ![128, 128] ![128, 128] inb_S512x1024_S128x128_128_128,
    k0_pay21 (F := Ideal) (k0_pay20 V (wm X) (View.ld B (Rect.unit ![1, 0, 0] ![1, 128, 1] inb_S8x128x1_S1x128x1_1_0_0)))⟩,
  ⟨Rect.unit ![128, 0] ![128, 128] inb_S512x1024_S128x128_128_0,
    k0_pay19 (F := Ideal) V (wm X) (View.ld B (Rect.unit ![0, 0, 0] ![1, 128, 1] inb_S8x128x1_S1x128x1_0_0_0))⟩,
  ⟨Rect.unit ![0, 896] ![128, 128] inb_S512x1024_S128x128_0_896,
    k0_pay18 (F := Ideal) V (wm X) (View.ld B (Rect.unit ![7, 0, 0] ![1, 128, 1] inb_S8x128x1_S1x128x1_7_0_0))⟩,
  ⟨Rect.unit ![0, 768] ![128, 128] inb_S512x1024_S128x128_0_768,
    k0_pay17 (F := Ideal) (k0_pay16 V (wm X)) (View.ld B (Rect.unit ![6, 0, 0] ![1, 128, 1] inb_S8x128x1_S1x128x1_6_0_0))⟩,
  ⟨Rect.unit ![0, 640] ![128, 128] inb_S512x1024_S128x128_0_640,
    k0_pay15 (F := Ideal) V (wm X) (View.ld B (Rect.unit ![5, 0, 0] ![1, 128, 1] inb_S8x128x1_S1x128x1_5_0_0))⟩,
  ⟨Rect.unit ![0, 512] ![128, 128] inb_S512x1024_S128x128_0_512,
    k0_pay14 (F := Ideal) V (wm X) (View.ld B (Rect.unit ![4, 0, 0] ![1, 128, 1] inb_S8x128x1_S1x128x1_4_0_0))⟩,
  ⟨Rect.unit ![0, 384] ![128, 128] inb_S512x1024_S128x128_0_384,
    k0_pay13 (F := Ideal) (k0_pay11 (k0_pay4 X) k0_pay5 k0_pay6) (k0_pay12 V) (View.ld B (Rect.unit ![3, 0, 0] ![1, 128, 1] inb_S8x128x1_S1x128x1_3_0_0))⟩,
  ⟨Rect.unit ![0, 256] ![128, 128] inb_S512x1024_S128x128_0_256,
    k0_pay10 (F := Ideal) V (k0_pay4 X) k0_pay5 k0_pay6 (View.ld B (Rect.unit ![2, 0, 0] ![1, 128, 1] inb_S8x128x1_S1x128x1_2_0_0))⟩,
  ⟨Rect.unit ![0, 128] ![128, 128] inb_S512x1024_S128x128_0_128,
    k0_pay9 (F := Ideal) V (k0_pay4 X) k0_pay5 k0_pay6 (View.ld B (Rect.unit ![1, 0, 0] ![1, 128, 1] inb_S8x128x1_S1x128x1_1_0_0))⟩,
  ⟨Rect.unit ![0, 0] ![128, 128] inb_S512x1024_S128x128_0_0,
    k0_pay8 (F := Ideal) V (k0_pay4 X) k0_pay5 k0_pay6 (View.ld B (Rect.unit ![0, 0, 0] ![1, 128, 1] inb_S8x128x1_S1x128x1_0_0_0))⟩]

/-- The whole tile, read back. -/
abbrev mixRows (V : FVec Ideal S512x1024 .bf16) (X : Vec Ideal S8x128x128 .f32) (B : Vec Ideal S8x128x1 .f32) :
    Vec Ideal S512x1024 .f32 :=
  scM0_1.view.readCov (mixStores V X B)
    (Rect.unit (s := S512x1024) ![0, 0] ![512, 1024] inb_S512x1024_S512x1024_0_0).toLoadRect

theorem whole_load (v : View sig .tc .vmem S512x1024 .f32) (L : List (View.Piece (Elt Ideal) S512x1024 .f32)) (p : Fin 512)
    (c : Fin 1024) :
    v.readCov L (Rect.unit (s := S512x1024) ![0, 0] ![512, 1024] inb_S512x1024_S512x1024_0_0).toLoadRect
      (show Shape.Idx _ from ix2 p c) = View.canon L (ix2 p c) := by
  rw [View.readCov_eq_canon']
  refine congrArg (View.canon L) (funext fun a => Fin.ext ?_)
  match a with
  | 0 => show 0 + 1 * p.val = p.val; omega
  | 1 => show 0 + 1 * c.val = c.val; omega

set_option maxHeartbeats 800000 in
/-- The mixed rows, block by block. -/
theorem mixed_tile {V : FVec Ideal S512x1024 .bf16} {X : Vec Ideal S8x128x128 .f32} {B : Vec Ideal S8x128x1 .f32}
    (hV : Tile τ A.vp V) (hX : ∀ g i j, wm X (ix3 g i j) = A.wm g i j) (hB : ∀ g i, B (ix3 g i 0) = A.bs g i)
    (p : Fin 512) (c : Fin 1024) : View.canon (mixStores V X B) (ix2 p c) = A.mixed (tok τ p) c := by
  unfold mixStores
  unfold wm at hX ⊢
  generalize hM : k0_pay7 (F := Ideal) (k0_pay4 X) k0_pay5 k0_pay6 = M at hX ⊢
  canon_tiles x h
  all_goals
    idx_vars x
    try (unfold k0_pay8; rw [hM])
    try (unfold k0_pay9; rw [hM])
    try (unfold k0_pay10; rw [hM])
    try (unfold k0_pay11; rw [hM])
    unfold_payloads
    pointwise
    simp only [hX, hV _ _, hB]
    refine congrArg₂ (· + ·) (Finset.sum_congr rfl fun j _ => congrArg₂ (· * ·) (congr3 _ ?_ ?_ rfl) (congr2 _ ?_ ?_))
      (congr2 _ ?_ ?_)
    all_goals first
      | simp only [tok, grp, pos, tk, cnk]; omega
      | show 0 = c.val / 128; omega
      | show 1 = c.val / 128; omega
      | show 2 = c.val / 128; omega
      | show 3 = c.val / 128; omega
      | show 4 = c.val / 128; omega
      | show 5 = c.val / 128; omega
      | show 6 = c.val / 128; omega
      | show 7 = c.val / 128; omega

theorem mixed_rows {V : FVec Ideal S512x1024 .bf16} {X : Vec Ideal S8x128x128 .f32} {B : Vec Ideal S8x128x1 .f32}
    (hV : Tile τ A.vp V) (hX : ∀ g i j, X (ix3 g i j) = A.ws g i j) (hB : ∀ g i, B (ix3 g i 0) = A.bs g i) :
    Tile τ A.mixed (mixRows V X B) := fun p c =>
  (whole_load _ _ p c).trans (mixed_tile hV (pay7 hX) hB p c)

theorem pay52 (hx : Tile τ (A.part 0) x) (hy : Tile τ A.mixed y) : Tile τ A.a (k0_pay52 (F := Ideal) x y) := fun p c => by
  unfold_payloads
  pointwise
  rw [hx, hy, named_sqrt_half, ofBits_half]
  rfl

/-! ## The convolution -/

theorem pay56 (hx : Tile τ f x) : Tile τ f (k0_pay56 (F := Ideal) x) := fun p c => by
  unfold_payloads
  pointwise
  exact hx _ _

theorem pay57 (hx : Tile τ (A.part 3) x) (hy : Tile τ (A.part 4) y) : Tile τ A.q (k0_pay57 (F := Ideal) x y) := fun p c => by
  unfold_payloads
  pointwise
  rw [hx, hy]
  rfl

/-- The rows of the tile after the rows before it, `k` rows down. -/
theorem shift_down (hx : Tile τ A.q x) (hC : Carry τ A.q C) (k : ℕ) (hk : 0 < k) (hk' : k ≤ 8) (p : Fin 512) (c : Fin 1024) :
    (if h : (8 + p.val + 520 - k) % 520 < 8 then C (ix2 ⟨(8 + p.val + 520 - k) % 520, h⟩ c)
      else x (ix2 ⟨(8 + p.val + 520 - k) % 520 - 8, by omega⟩ c)) = A.qs k (tok τ p) c := by
  have e : (8 + p.val + 520 - k) % 520 = 8 + p.val - k := by omega
  by_cases h : (8 + p.val + 520 - k) % 520 < 8
  · rw [dif_pos h, hC, Args.qs]
    by_cases ht : τ.val = 0
    · rw [dif_neg (show ¬τ.val ≠ 0 by omega), if_neg (show ¬k ≤ (tok τ p).val by simp only [tok]; omega)]
    · rw [dif_pos (show τ.val ≠ 0 by omega), if_pos (show k ≤ (tok τ p).val by simp only [tok]; omega)]
      exact congrArg (A.q · c) (Fin.ext (by simp only [tok]; omega))
  · rw [dif_neg h, hx, Args.qs, if_pos (show k ≤ (tok τ p).val by simp only [tok]; omega)]
    exact congrArg (A.q · c) (Fin.ext (by simp only [tok]; omega))

theorem pay58 (hx : Tile τ (A.part 3) x) (hy : Tile τ (A.part 4) y) (hC : Carry τ A.q C) (hR : Row (A.conv 0) R) :
    Tile τ (fun t c => A.conv 0 c * A.qs 2 t c) (k0_pay58 (F := Ideal) x y C R) := fun p c => by
  rw [k0_pay58]
  pointwise
  rw [hR]
  exact congrArg (_ * ·) (shift_down (pay57 hx hy) hC 2 (by norm_num) (by norm_num) p c)

theorem pay61 (hx : Tile τ (A.part 2) x) (hy : Tile τ A.q y) (hC : Carry τ A.q C)
    (hz : Tile τ (fun t c => A.conv 0 c * A.qs 2 t c) z) {R1 R2 : S1x1024.Idx → EReal} (h1 : Row (A.conv 1) R1)
    (h2 : Row (A.conv 2) R2) : Tile τ A.c (k0_pay61 (F := Ideal) x y C z (k0_pay59 (F := Ideal) R1) R2) := fun p c => by
  unfold_payloads
  pointwise
  rw [hx, hz, h1, h2, hy]
  exact congrArg (fun r => _ * (_ + _ * r + _)) (shift_down hy hC 1 (by norm_num) (by norm_num) p c)

/-- The last eight rows, for the next tile. -/
theorem pay60 (hx : Tile τ A.q x) (p : Fin 8) (c : Fin 1024) :
    k0_pay60 (F := Ideal) x (ix2 p c) = A.q ⟨512 * τ.val + 504 + p.val, by omega⟩ c := by
  unfold_payloads
  pointwise
  rw [hx]
  exact congrArg (A.q · c) (Fin.ext (by simp only [tok]; omega))

theorem carry_zero : Carry 0 f (k0_pay2 (F := Ideal)) := fun p c => by
  unfold_payloads
  pointwise
  rfl

/-! ## The branches' projections, their gated sum and the residual stream -/

theorem pay53 (hx : Tile τ A.a x) (hW : Mat A.wa W) : Tile τ A.pa (k0_pay53 (F := Ideal) x W) := fun p c => by
  unfold_payloads
  pointwise
  simp only [hx _ _, hW _ _]
  rfl

theorem pay54 (hx : Tile τ A.a x) (hW : Mat A.wa W) : Tile τ A.pa (k0_pay54 (F := Ideal) x W) := fun p c => by
  rw [k0_pay54]
  pointwise
  exact pay53 hx hW p c

theorem pay55 (hx : Tile τ A.a x) (hW : Mat A.wa W) (hy : Tile τ (A.part 5) y) (hR : Row A.ga R) :
    Tile τ (fun t c => A.sa t c * A.pa t c) (k0_pay55 (F := Ideal) x W y R) := fun p c => by
  rw [k0_pay55]
  pointwise
  rw [pay53 hx hW, hy, hR]
  rfl

variable {R1 R2 R3 : S1x1024.Idx → EReal} {v : S512x1024.Idx → EReal}

theorem pay62 (hc : Tile τ A.c (k0_pay61 (F := Ideal) x y C z R1 R2)) (hW : Mat A.wb W) :
    Tile τ A.pb (k0_pay62 (F := Ideal) x y C z R1 R2 W) := fun p c => by
  rw [k0_pay62]
  pointwise
  simp only [hc _ _, hW _ _]
  rfl

theorem pay63 (hc : Tile τ A.c (k0_pay61 (F := Ideal) x y C z R1 R2)) (hW : Mat A.wb W) :
    Tile τ A.pb (k0_pay63 (F := Ideal) x y C z R1 R2 W) := fun p c => by
  rw [k0_pay63]
  pointwise
  exact pay62 hc hW p c

theorem pay64 (hu : Tile τ (fun t c => A.sa t c * A.pa t c) u) (hc : Tile τ A.c (k0_pay61 (F := Ideal) x y C z R1 R2))
    (hW : Mat A.wb W) (hv : Tile τ (A.part 6) v) (hR : Row A.gb R3) :
    Tile τ A.m (k0_pay64 (F := Ideal) u x y C z R1 R2 W v R3) := fun p c => by
  rw [k0_pay64]
  pointwise
  rw [hu, pay62 hc hW, hv, hR]
  rfl

theorem pay1 (hx : Tile τ A.m x) (hy : Tile τ A.x y) (hW : Mat A.wo W) :
    Tile τ A.x1 (k0_pay1 (F := Ideal) x (k0_pay65 (F := Ideal) y) W) := fun p c => by
  unfold_payloads
  pointwise
  simp only [hx _ _, hy _ _, hW _ _]
  rfl

end Cert.MixerValue

end
-- ==== Proof.MixerReference.lean ====
/-
  What the reference of the mixer's forward call computes, element by element.
-/
module

public import proofs.«01_k».proof.Proof.MixerSpec
public import proofs.«01_k».proof.Proof.Gen.MixerRefIdeal.Run
public import proofs.«01_k».proof.Proof.Gen.MixerRefIdeal.Read

@[expose] public section

set_option maxRecDepth 16384

noncomputable section

namespace Cert.MixerValue

open Idealize.ShloMosaic Cert.Reals Cert.MixerRefIdeal Cert.MixerRefIdeal.Read

/-- The ten argument arrays. -/
structure In where
  x0 : FVec Ideal S1x16384x1024 .f32
  x1 : FVec Ideal S1x16384x7168 .f32
  x2 : FVec Ideal S1x2048 .f32
  x3 : FVec Ideal S1x1024 .f32
  x4 : FVec Ideal S1x8x128x128 .f32
  x5 : FVec Ideal S1x8x128 .f32
  x6 : FVec Ideal S1x3x1024 .f32
  x7 : FVec Ideal S1x1024x1024 .f32
  x8 : FVec Ideal S1x1024x1024 .f32
  x9 : FVec Ideal S1x1024x1024 .f32

/-- Their elements. -/
def In.args (X : In) : Args where
  x t c := X.x0 (ix3 (0 : Fin 1) t c)
  proj t j := X.x1 (ix3 (0 : Fin 1) t j)
  gate j := X.x2 (ix2 (0 : Fin 1) j)
  gain c := X.x3 (ix2 (0 : Fin 1) c)
  ws g i j := X.x4 (ix4 (0 : Fin 1) g i j)
  bs g i := X.x5 (ix3 (0 : Fin 1) g i)
  conv k c := X.x6 (ix3 (0 : Fin 1) k c)
  wa c e := X.x7 (ix3 (0 : Fin 1) c e)
  wb c e := X.x8 (ix3 (0 : Fin 1) c e)
  wo c e := X.x9 (ix3 (0 : Fin 1) c e)

variable (X : In)

/-! ## The projection's parts, the gates and GELU -/

theorem proj_part (t : Fin 16384) (k : Fin 7) (c : Fin 1024) (j : Fin 7168) (e : j.val = 1024 * k.val + c.val) :
    X.x1 (ix3 (0 : Fin 1) t j) = X.args.part k t c := by
  have e' : j = ⟨1024 * k.val + c.val, by omega⟩ := Fin.ext e
  rw [e']
  rfl

theorem ref_u (t : Fin 16384) (c : Fin 1024) :
    val_main_v0 (F := Ideal) X.x1 (ix3 (0 : Fin 1) t c) = X.args.part 0 t c := by
  pointwise [val_main_v0]
  exact proj_part X t 0 c _ (by simp)

theorem ref_v (t : Fin 16384) (c : Fin 1024) :
    val_main_v1 (F := Ideal) X.x1 (ix3 (0 : Fin 1) t c) = X.args.part 1 t c := by
  pointwise [val_main_v1]
  exact proj_part X t 1 c _ rfl

theorem ref_bg (t : Fin 16384) (c : Fin 1024) :
    val_main_v2 (F := Ideal) X.x1 (ix3 (0 : Fin 1) t c) = X.args.part 2 t c := by
  pointwise [val_main_v2]
  exact proj_part X t 2 c _ rfl

theorem ref_cg (t : Fin 16384) (c : Fin 1024) :
    val_main_v3 (F := Ideal) X.x1 (ix3 (0 : Fin 1) t c) = X.args.part 3 t c := by
  pointwise [val_main_v3]
  exact proj_part X t 3 c _ rfl

theorem ref_xs (t : Fin 16384) (c : Fin 1024) :
    val_main_v4 (F := Ideal) X.x1 (ix3 (0 : Fin 1) t c) = X.args.part 4 t c := by
  pointwise [val_main_v4]
  exact proj_part X t 4 c _ rfl

theorem ref_sa (t : Fin 16384) (c : Fin 1024) :
    val_main_v103 (F := Ideal) X.x1 X.x2 (ix3 (0 : Fin 1) t c) = X.args.sa t c := by
  pointwise [val_main_v103, val_main_v102, val_main_cst_9, val_main_v101, val_main_v100, val_main_cst_8, val_main_v99,
    val_main_v98, val_main_v11, val_main_v10, val_main_v9, val_main_v8, val_main_v7, val_main_v5]
  rw [proj_part X t 5 c _ rfl]
  rfl

theorem ref_sb (t : Fin 16384) (c : Fin 1024) :
    val_main_v110 (F := Ideal) X.x1 X.x2 (ix3 (0 : Fin 1) t c) = X.args.sb t c := by
  pointwise [val_main_v110, val_main_v109, val_main_cst_11, val_main_v108, val_main_v107, val_main_cst_10, val_main_v106,
    val_main_v105, val_main_v16, val_main_v15, val_main_v14, val_main_v13, val_main_v12, val_main_v6]
  rw [proj_part X t 6 c _ rfl]
  rfl

theorem root_half : Ideal.sqrt (Ideal.ofBits .f32 0x3F000000#32) = sqrtHalf := by
  rw [ofBits_half, Ideal.sqrt_coe, if_neg (by norm_num)]
  rfl

theorem ref_gelu_u (t : Fin 16384) (c : Fin 1024) :
    val_main_v40 (F := Ideal) X.x1 (ix3 (0 : Fin 1) t c) = gelu (X.args.part 0 t c) := by
  pointwise [val_main_v40, val_main_v39, val_main_v38, val_main_v37, val_main_v36, val_main_cst_1, val_main_v35,
    val_main_v34, val_main_v33, val_main_cst_0]
  rw [ref_u, root_half, ofBits_half]
  exact gelu_erfc _

theorem ref_vg (t : Fin 16384) (c : Fin 1024) :
    val_main_v48 (F := Ideal) X.x1 (ix3 (0 : Fin 1) t c) = X.args.vg t c := by
  pointwise [val_main_v48, val_main_v47, val_main_v46, val_main_v45, val_main_v44, val_main_cst_3, val_main_v43,
    val_main_v42, val_main_v41, val_main_cst_2]
  rw [ref_v, root_half, ofBits_half]
  exact gelu_erfc _

/-! ## The norm and the mixing within a chunk -/

theorem ref_rv (t : Fin 16384) :
    val_main_v56 (F := Ideal) X.x1 (ix3 (0 : Fin 1) t (0 : Fin 1)) = rinv (X.args.vg t) := by
  pointwise [val_main_v56, val_main_v55, val_main_v54, val_main_cst_6, val_main_v53, val_main_v52, val_main_cst_5,
    val_main_v51, val_main_v50, val_main_cst_4, val_main_v49]
  simp only [ref_vg]
  rfl

theorem ref_vp (t : Fin 16384) (c : Fin 1024) :
    val_main_v61 (F := Ideal) X.x1 X.x3 (ix3 (0 : Fin 1) t c) = X.args.vp t c := by
  pointwise [val_main_v61, val_main_v60, val_main_v59, val_main_v58, val_main_v57, val_main_v17]
  rw [ref_vg, ref_rv]
  rfl

/-- A half chunk's number: the reference's floor division. -/
theorem ref_half (j : Fin 128) : val_main_v20 (F := Ideal) (ix1 j) = BitVec.ofNat 32 (j.val / 64) := by
  pointwise [val_main_v20, val_main_v19, val_main_call0_v13, val_main_call0_v12, val_main_call0_c_0, val_main_call0_v11,
    val_main_call0_v10, val_main_call0_v9, val_main_call0_c, val_main_call0_v8, val_main_call0_v7, val_main_call0_v6,
    val_main_call0_v5, val_main_call0_v4, val_main_call0_v3, val_main_call0_v2, val_main_call0_v1, val_main_call0_v0,
    val_main_c]
  revert j
  decide +kernel

theorem mask_bit (i j : Fin 128) :
    IntOp.cmpi CmpIPredicate.sle (BitVec.ofNat 32 (j.val / 64)) (BitVec.ofNat 32 (i.val / 64))
      = BitVec.ofBool (decide (j.val < 64 ∨ 64 ≤ i.val)) := by
  have h : ∀ a b : Fin 2, IntOp.cmpi CmpIPredicate.sle (BitVec.ofNat 32 a.val) (BitVec.ofNat 32 b.val)
      = BitVec.ofBool (decide (a.val < 1 ∨ 1 ≤ b.val)) := by decide
  refine (h ⟨j.val / 64, by omega⟩ ⟨i.val / 64, by omega⟩).trans ?_
  congr 2
  simp only [eq_iff_iff]
  omega

theorem ref_wm (g : Fin 8) (i j : Fin 128) : val_main_v28 (F := Ideal) X.x4 (ix3 g i j) = X.args.wm g i j := by
  pointwise [val_main_v28, val_main_v27, val_main_cst, val_main_call1_v0, val_main_v26, val_main_v25, val_main_v18,
    val_main_v23, val_main_v24, val_main_v22, val_main_v21]
  rw [ref_half, ref_half, mask_bit, Args.wm]
  by_cases hm : j.val < 64 ∨ 64 ≤ i.val
  · rw [if_pos hm, decide_eq_true hm]; rfl
  · rw [if_neg hm, decide_eq_false hm]; rfl

theorem ref_mixed (t : Fin 16384) (c : Fin 1024) :
    val_main_v67 (F := Ideal) X.x1 X.x3 X.x4 X.x5 (ix3 (0 : Fin 1) t c) = X.args.mixed t c := by
  pointwise [val_main_v67, val_main_v66, val_main_v65, val_main_v64, val_main_v63, val_main_v62, val_main_v32,
    val_main_v31, val_main_v30, val_main_v29]
  simp only [ref_vp, ref_wm]
  exact congrArg (· + _) (Finset.sum_congr rfl fun j _ => mul_comm _ _)

theorem ref_a (t : Fin 16384) (c : Fin 1024) :
    val_main_v68 (F := Ideal) X.x1 X.x3 X.x4 X.x5 (ix3 (0 : Fin 1) t c) = X.args.a t c := by
  pointwise [val_main_v68]
  rw [ref_gelu_u, ref_mixed]
  rfl

/-! ## The convolution -/

theorem ref_q (t : Fin 16384) (c : Fin 1024) :
    val_main_v69 (F := Ideal) X.x1 (ix3 (0 : Fin 1) t c) = X.args.q t c := by
  pointwise [val_main_v69]
  rw [ref_cg, ref_xs]
  rfl

theorem ref_qs2 (t : Fin 16384) (c : Fin 1024) :
    val_main_v75 (F := Ideal) X.x1 (ix3 (0 : Fin 1) t c) = X.args.qs 2 t c := by
  pointwise [val_main_v75, val_main_v72, val_main_v71, val_main_cst_7]
  unfold Args.qs
  by_cases ht : t.val < 2
  · rw [dif_pos ht, if_neg (show ¬ 2 ≤ t.val by omega)]
  · rw [dif_neg ht, if_pos (show 2 ≤ t.val by omega)]; exact ref_q X _ _

theorem ref_qs1 (t : Fin 16384) (c : Fin 1024) :
    val_main_v81 (F := Ideal) X.x1 (ix3 (0 : Fin 1) t c) = X.args.qs 1 t c := by
  pointwise [val_main_v81, val_main_v72, val_main_v71, val_main_cst_7]
  unfold Args.qs
  by_cases ht : t.val < 1
  · rw [dif_pos (show 1 + t.val < 2 by omega), if_neg (show ¬ 1 ≤ t.val by omega)]
  · rw [dif_neg (show ¬ 1 + t.val < 2 by omega), if_pos (show 1 ≤ t.val by omega)]
    have e : (⟨1 + t.val - 2, by omega⟩ : Fin 16384) = ⟨t.val - 1, by omega⟩ := Fin.ext (by simp only; omega)
    exact (congrArg (fun s => val_main_v69 (F := Ideal) X.x1 (ix3 (0 : Fin 1) s c)) e).trans (ref_q X _ _)

theorem ref_qs0 (t : Fin 16384) (c : Fin 1024) :
    val_main_v88 (F := Ideal) X.x1 (ix3 (0 : Fin 1) t c) = X.args.q t c := by
  pointwise [val_main_v88, val_main_v72, val_main_v71, val_main_cst_7]
  exact ref_q X t c

theorem ref_c (t : Fin 16384) (c : Fin 1024) :
    val_main_v93 (F := Ideal) X.x1 X.x6 (ix3 (0 : Fin 1) t c) = X.args.c t c := by
  pointwise [val_main_v93, val_main_v92, val_main_v91, val_main_v90, val_main_v89, val_main_v87, val_main_v86,
    val_main_v85, val_main_v84, val_main_v83, val_main_v82, val_main_v80, val_main_v79, val_main_v78, val_main_v77,
    val_main_v76, val_main_v74, val_main_v73, val_main_v70]
  rw [ref_bg, ref_qs2, ref_qs1, ref_qs0]
  rfl

/-! ## The branches' projections, their gated sum and the residual stream -/

theorem ref_pa (t : Fin 16384) (e : Fin 1024) :
    val_main_v95 (F := Ideal) X.x1 X.x3 X.x4 X.x5 X.x7 (ix3 (0 : Fin 1) t e) = X.args.pa t e := by
  pointwise [val_main_v95, val_main_v94]
  simp only [ref_a]
  rfl

theorem ref_pb (t : Fin 16384) (e : Fin 1024) :
    val_main_v97 (F := Ideal) X.x1 X.x6 X.x8 (ix3 (0 : Fin 1) t e) = X.args.pb t e := by
  pointwise [val_main_v97, val_main_v96]
  simp only [ref_c]
  rfl

theorem ref_m (t : Fin 16384) (e : Fin 1024) :
    val_main_v112 (F := Ideal) X.x1 X.x2 X.x3 X.x4 X.x5 X.x6 X.x7 X.x8 (ix3 (0 : Fin 1) t e) = X.args.m t e := by
  pointwise [val_main_v112, val_main_v111, val_main_v104]
  rw [ref_sa, ref_sb, ref_pa, ref_pb]
  rfl

/-! ## The four results -/

theorem ref_0 (t : Fin 16384) (j : Fin 3072) :
    val_main_v118 (F := Ideal) X.x1 X.x2 X.x3 X.x4 X.x5 X.x6 X.x7 X.x8 (ix2 t j) = X.args.acm t j := by
  pointwise [val_main_v118, val_main_v117, val_main_v116]
  unfold Args.acm
  split
  next h => exact ref_a X t _
  next h =>
    split
    next h' => rw [dif_pos (show j.val < 2048 by omega)]; exact ref_c X t _
    next h' =>
      rw [dif_neg (show ¬j.val < 2048 by omega)]
      have e : (⟨j.val - 1024 - 1024, by omega⟩ : Fin 1024) = ⟨j.val - 2048, by omega⟩ := Fin.ext (by simp only; omega)
      rw [← e]
      exact ref_m X t _

theorem ref_1 (t : Fin 16384) (e : Fin 1024) :
    val_main_v120 (F := Ideal) X.x1 X.x3 X.x4 X.x5 X.x7 (ix2 t e) = X.args.pa t e := by
  pointwise [val_main_v120, val_main_v119]
  exact ref_pa X t e

theorem ref_2 (t : Fin 16384) (e : Fin 1024) :
    val_main_v122 (F := Ideal) X.x1 X.x6 X.x8 (ix2 t e) = X.args.pb t e := by
  pointwise [val_main_v122, val_main_v121]
  exact ref_pb X t e

theorem ref_3 (t : Fin 16384) (e : Fin 1024) :
    val_main_v123 (F := Ideal) X.x0 X.x1 X.x2 X.x3 X.x4 X.x5 X.x6 X.x7 X.x8 X.x9 (ix2 t e) = X.args.x1 t e := by
  pointwise [val_main_v123, val_main_v115, val_main_v114, val_main_v113]
  simp only [ref_m]
  rfl

end Cert.MixerValue

end
-- ==== Proof.MixerKernel.lean ====
/-
  What the mixer's forward kernel leaves in its four results, element by element: the loads of a grid point, the fields a
  point leaves, and the results as arrays. The points go through the tiles in order; each leaves the last eight rows of
  the convolution's input for the next.
-/
module

public import proofs.«01_k».proof.Proof.MixerTiles
public import proofs.«01_k».proof.Proof.MixerReference
public import proofs.«01_k».proof.Proof.FfnKernel
public import Idealize.ShloMosaic.Lib.StableHlo.RunRead

@[expose] public section

set_option maxRecDepth 16384

noncomputable section

namespace Cert.MixerValue

open Cert.Rows Idealize.ShloMosaic Idealize.ShloMosaic.TcCoe Idealize.SL.Sem Cert.Reals Cert.MixerIdeal Cert.MixerIdeal.Gen
open Cert.FfnValue (canon_cols ld_cols)

/-! ## A tile's loads, and what is made of them -/

/-- The loads of a point: the residual stream, the projection's seven parts, the rows and the weights, and the rows that
    the point before left. -/
structure Loads where
  x : Vec Ideal S512x1024 .f32
  u : Vec Ideal S512x1024 .bf16
  v : Vec Ideal S512x1024 .bf16
  bg : Vec Ideal S512x1024 .bf16
  cg : Vec Ideal S512x1024 .bf16
  xs : Vec Ideal S512x1024 .bf16
  ga : Vec Ideal S512x1024 .bf16
  gb : Vec Ideal S512x1024 .bf16
  ra : Vec Ideal S1x1024 .f32
  rb : Vec Ideal S1x1024 .f32
  gain : Vec Ideal S1x1024 .f32
  ws : Vec Ideal S8x128x128 .f32
  bs : Vec Ideal S8x128x1 .f32
  r0 : Vec Ideal S1x1024 .f32
  r1 : Vec Ideal S1x1024 .f32
  r2 : Vec Ideal S1x1024 .f32
  wa : Vec Ideal S1024x1024 .bf16
  wb : Vec Ideal S1024x1024 .bf16
  wo : Vec Ideal S1024x1024 .bf16
  carry : Vec Ideal S8x1024 .f32

namespace Loads

variable (L : Loads)

abbrev a : FVec Ideal S512x1024 .bf16 := k0_pay52 L.u (mixRows (k0_pay3 L.v L.gain) L.ws L.bs)
abbrev q : FVec Ideal S512x1024 .f32 := k0_pay57 L.cg L.xs
abbrev s2 : FVec Ideal S512x1024 .f32 := k0_pay58 L.cg L.xs L.carry L.r0
abbrev c : FVec Ideal S512x1024 .bf16 := k0_pay61 (k0_pay56 L.bg) L.q L.carry L.s2 (k0_pay59 L.r1) L.r2
abbrev pa : FVec Ideal S512x1024 .bf16 := k0_pay54 L.a L.wa
abbrev pb : FVec Ideal S512x1024 .bf16 := k0_pay63 (k0_pay56 L.bg) L.q L.carry L.s2 (k0_pay59 L.r1) L.r2 L.wb
abbrev m : FVec Ideal S512x1024 .bf16 :=
  k0_pay64 (k0_pay55 L.a L.wa L.ga L.ra) (k0_pay56 L.bg) L.q L.carry L.s2 (k0_pay59 L.r1) L.r2 L.wb L.gb L.rb
abbrev x1 : FVec Ideal S512x1024 .f32 := k0_pay1 L.m (k0_pay65 L.x) L.wo

end Loads

/-- The loads are the arguments' elements. -/
structure Holds (A : Args) (τ : Fin 32) (L : Loads) : Prop where
  x : Tile τ A.x L.x
  u : Tile τ (A.part 0) L.u
  v : Tile τ (A.part 1) L.v
  bg : Tile τ (A.part 2) L.bg
  cg : Tile τ (A.part 3) L.cg
  xs : Tile τ (A.part 4) L.xs
  ga : Tile τ (A.part 5) L.ga
  gb : Tile τ (A.part 6) L.gb
  ra : Row A.ga L.ra
  rb : Row A.gb L.rb
  gain : Row A.gain L.gain
  ws : ∀ g i j, L.ws (ix3 g i j) = A.ws g i j
  bs : ∀ g i, L.bs (ix3 g i 0) = A.bs g i
  r0 : Row (A.conv 0) L.r0
  r1 : Row (A.conv 1) L.r1
  r2 : Row (A.conv 2) L.r2
  wa : Mat A.wa L.wa
  wb : Mat A.wb L.wb
  wo : Mat A.wo L.wo
  carry : Carry τ A.q L.carry

namespace Holds

variable {A : Args} {τ : Fin 32} {L : Loads} (H : Holds A τ L)
include H

theorem a_tile : Tile τ A.a L.a := pay52 H.u (mixed_rows (pay3 H.v H.gain) H.ws H.bs)
theorem q_tile : Tile τ A.q L.q := pay57 H.cg H.xs
theorem c_tile : Tile τ A.c L.c := pay61 (pay56 H.bg) H.q_tile H.carry (pay58 H.cg H.xs H.carry H.r0) H.r1 H.r2
theorem pa_tile : Tile τ A.pa L.pa := pay54 H.a_tile H.wa
theorem pb_tile : Tile τ A.pb L.pb := pay63 H.c_tile H.wb
theorem m_tile : Tile τ A.m L.m := pay64 (pay55 H.a_tile H.wa H.ga H.ra) H.c_tile H.wb H.gb H.rb
theorem x1_tile : Tile τ A.x1 L.x1 := pay1 H.m_tile H.x H.wo

end Holds

/-! ## The blocks at a grid point -/

variable (m : (ℓ : Loc nD τ sig) → Buf (Elt Ideal) ℓ) (c : Dev nD)

/-- The ten arguments. -/
def inp : In where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)

abbrev A : Args := (inp m c).args

theorem tiles : ∀ t : Fin cfg0.N, win0_0.index t = ![t.val, 0] ∧ win0_1.index t = ![t.val, 0]
    ∧ win0_10.index t = ![t.val, 0] ∧ win0_11.index t = ![t.val, 0] ∧ win0_12.index t = ![t.val, 0]
    ∧ win0_13.index t = ![t.val, 0] :=
  (by decide +kernel : ∀ t : Fin grid0.N, _)

theorem wholes : ∀ t : Fin cfg0.N, win0_2.index t = ![0, 0] ∧ win0_3.index t = ![0, 0] ∧ win0_4.index t = ![0, 0, 0]
    ∧ win0_5.index t = ![0, 0, 0] ∧ win0_6.index t = ![0, 0] ∧ win0_7.index t = ![0, 0] ∧ win0_8.index t = ![0, 0]
    ∧ win0_9.index t = ![0, 0] :=
  (by decide +kernel : ∀ t : Fin grid0.N, _)

/-- The tile of a point. -/
def tile (t : Fin cfg0.N) : Fin 32 := ⟨t.val, lt_of_lt_of_eq t.isLt N_0⟩

variable (t : Fin cfg0.N)

theorem blk0 (p : Fin 512) (k : Fin 1024) : iblk m c 0 t (ix2 p k) = (A m c).x (tok (tile t) p) k := by
  blk_ext! [iblk, V, (tiles t).1, tok, tile, A, inp, In.args]

theorem blk1 (p : Fin 512) (j : Fin 7168) : iblk m c 1 t (ix2 p j) = (A m c).proj (tok (tile t) p) j := by
  blk_ext! [iblk, V, (tiles t).2.1, tok, tile, A, inp, In.args]

theorem blk2 (j : Fin 2048) : iblk m c 2 t (ix2 0 j) = (A m c).gate j := by
  blk_ext! [iblk, V, (wholes t).1, A, inp, In.args]

theorem blk3 (k : Fin 1024) : iblk m c 3 t (ix2 0 k) = (A m c).gain k := by
  blk_ext! [iblk, V, (wholes t).2.1, A, inp, In.args]

theorem blk4 (g : Fin 8) (i j : Fin 128) : iblk m c 4 t (ix3 g i j) = (A m c).ws g i j := by
  blk_ext! [iblk, V, (wholes t).2.2.1, A, inp, In.args]

theorem blk5 (g : Fin 8) (i : Fin 128) : iblk m c 5 t (ix3 g i 0) = (A m c).bs g i := by
  blk_ext! [iblk, V, (wholes t).2.2.2.1, A, inp, In.args]

theorem blk6 (r : Fin 3) (k : Fin 1024) : iblk m c 6 t (ix2 (⟨r.val, by omega⟩ : Fin 8) k) = (A m c).conv r k := by
  have g (k : Fin 1024) : V m c main_v2 (ix2 (⟨r.val, by omega⟩ : Fin 8) k) = (A m c).conv r k := by
    after_reads_simp
    pointwise
    rfl
  refine Eq.trans ?_ (g k)
  unfold iblk
  generalize V m c = v
  blk_ext [(wholes t).2.2.2.2.1]

theorem blk7 (k e : Fin 1024) : iblk m c 7 t (ix2 k e) = (A m c).wa k e := by
  blk_ext! [iblk, V, (wholes t).2.2.2.2.2.1, A, inp, In.args]

theorem blk8 (k e : Fin 1024) : iblk m c 8 t (ix2 k e) = (A m c).wb k e := by
  blk_ext! [iblk, V, (wholes t).2.2.2.2.2.2.1, A, inp, In.args]

theorem blk9 (k e : Fin 1024) : iblk m c 9 t (ix2 k e) = (A m c).wo k e := by
  blk_ext! [iblk, V, (wholes t).2.2.2.2.2.2.2, A, inp, In.args]

/-- A part of the projection, in the rectangle that a point loads. -/
abbrev part (o : ℕ) (inb : ∀ a, (![0, o] : Fin 2 → ℕ) a + (![512, 1024] : Fin 2 → ℕ) a ≤ S512x7168.size a) :
    Vec Ideal S512x1024 .bf16 := View.ld (iblk m c 1 t) (Rect.unit ![0, o] ![512, 1024] inb)

/-- The loads at grid point `t` over the rows `C`. -/
def loads (C : Vec Ideal S8x1024 .f32) : Loads where
  x := iblk m c 0 t
  u := part m c t 0 inb_S512x7168_S512x1024_0_0
  v := part m c t 1024 inb_S512x7168_S512x1024_0_1024
  bg := part m c t 2048 inb_S512x7168_S512x1024_0_2048
  cg := part m c t 3072 inb_S512x7168_S512x1024_0_3072
  xs := part m c t 4096 inb_S512x7168_S512x1024_0_4096
  ga := part m c t 5120 inb_S512x7168_S512x1024_0_5120
  gb := part m c t 6144 inb_S512x7168_S512x1024_0_6144
  ra := View.ld (iblk m c 2 t) (Rect.unit ![0, 0] ![1, 1024] inb_S1x2048_S1x1024_0_0)
  rb := View.ld (iblk m c 2 t) (Rect.unit ![0, 1024] ![1, 1024] inb_S1x2048_S1x1024_0_1024)
  gain := iblk m c 3 t
  ws := iblk m c 4 t
  bs := iblk m c 5 t
  r0 := View.ld (iblk m c 6 t) (Rect.unit ![0, 0] ![1, 1024] inb_S8x1024_S1x1024_0_0)
  r1 := View.ld (iblk m c 6 t) (Rect.unit ![1, 0] ![1, 1024] inb_S8x1024_S1x1024_1_0)
  r2 := View.ld (iblk m c 6 t) (Rect.unit ![2, 0] ![1, 1024] inb_S8x1024_S1x1024_2_0)
  wa := iblk m c 7 t
  wb := iblk m c 8 t
  wo := iblk m c 9 t
  carry := C

theorem part_tile (k : Fin 7) (o : ℕ) (ho : o = 1024 * k.val)
    (inb : ∀ a, (![0, o] : Fin 2 → ℕ) a + (![512, 1024] : Fin 2 → ℕ) a ≤ S512x7168.size a) :
    Tile (tile t) ((A m c).part k) (part m c t o inb) := fun p e => by
  subst ho
  exact (ld_cols _ _ (by omega) _ p e).trans (blk1 m c t p _)

theorem ra_row : Row (A m c).ga (View.ld (iblk m c 2 t) (Rect.unit ![0, 0] ![1, 1024] inb_S1x2048_S1x1024_0_0)) := fun k => by
  refine ((ld_cols (iblk m c 2 t) 0 (by decide) inb_S1x2048_S1x1024_0_0 0 k).trans (blk2 m c t _)).trans ?_
  exact congrArg (A m c).gate (Fin.ext (Nat.zero_add _))

theorem rb_row : Row (A m c).gb (View.ld (iblk m c 2 t) (Rect.unit ![0, 1024] ![1, 1024] inb_S1x2048_S1x1024_0_1024)) :=
  fun k => (ld_cols (iblk m c 2 t) 1024 (by decide) inb_S1x2048_S1x1024_0_1024 0 k).trans (blk2 m c t _)

theorem r0_row : Row ((A m c).conv 0) (View.ld (iblk m c 6 t) (Rect.unit ![0, 0] ![1, 1024] inb_S8x1024_S1x1024_0_0)) :=
  fun k => (ld_row (iblk m c 6 t) 0 (by decide) inb_S8x1024_S1x1024_0_0 k).trans (blk6 m c t 0 k)

theorem r1_row : Row ((A m c).conv 1) (View.ld (iblk m c 6 t) (Rect.unit ![1, 0] ![1, 1024] inb_S8x1024_S1x1024_1_0)) :=
  fun k => (ld_row (iblk m c 6 t) 1 (by decide) inb_S8x1024_S1x1024_1_0 k).trans (blk6 m c t 1 k)

theorem r2_row : Row ((A m c).conv 2) (View.ld (iblk m c 6 t) (Rect.unit ![2, 0] ![1, 1024] inb_S8x1024_S1x1024_2_0)) :=
  fun k => (ld_row (iblk m c 6 t) 2 (by decide) inb_S8x1024_S1x1024_2_0 k).trans (blk6 m c t 2 k)

theorem hold {C : Vec Ideal S8x1024 .f32} (hC : Carry (tile t) (A m c).q C) : Holds (A m c) (tile t) (loads m c t C) := by
  constructor <;> dsimp only [loads]
  · exact blk0 m c t
  · exact part_tile m c t 0 0 rfl inb_S512x7168_S512x1024_0_0
  · exact part_tile m c t 1 1024 rfl inb_S512x7168_S512x1024_0_1024
  · exact part_tile m c t 2 2048 rfl inb_S512x7168_S512x1024_0_2048
  · exact part_tile m c t 3 3072 rfl inb_S512x7168_S512x1024_0_3072
  · exact part_tile m c t 4 4096 rfl inb_S512x7168_S512x1024_0_4096
  · exact part_tile m c t 5 5120 rfl inb_S512x7168_S512x1024_0_5120
  · exact part_tile m c t 6 6144 rfl inb_S512x7168_S512x1024_0_6144
  · exact ra_row m c t
  · exact rb_row m c t
  · exact blk3 m c t
  · exact blk4 m c t
  · exact blk5 m c t
  · exact r0_row m c t
  · exact r1_row m c t
  · exact r2_row m c t
  · exact blk7 m c t
  · exact blk8 m c t
  · exact blk9 m c t
  · exact hC

/-! ## What a point leaves -/

/-- The rows for the next tile. -/
theorem point_carry (p : Fin 8) (k : Fin 1024) :
    (outsAt0 m c t.val t.isLt).2.2.2.2 (ix2 p k)
      = (A m c).q ⟨512 * t.val + 504 + p.val, by have := (tile t).isLt; simp only [tile] at this; omega⟩ k := by
  have e := pay60 (pay57 (part_tile m c t 3 3072 rfl inb_S512x7168_S512x1024_0_3072)
    (part_tile m c t 4 4096 rfl inb_S512x7168_S512x1024_0_4096)) p k
  by_cases h0 : t.val % 32 = 0
  all_goals
    first
      | rw [outsAt0_A m c t h0]
      | rw [outsAt0_B m c t h0]
    frame_out
    exact e

/-- What the point before left, or the zeros that the first point writes. -/
theorem carry_first (h0 : t.val % 32 = 0) : Carry (tile t) (A m c).q (k0_pay2 (F := Ideal)) := by
  have e : tile t = 0 := Fin.ext (by have := (tile t).isLt; simp only [tile] at this ⊢; show t.val = 0; omega)
  rw [e]
  exact carry_zero

theorem carry_next (h0 : ¬ t.val % 32 = 0) :
    Carry (tile t) (A m c).q (outsAt0 m c (t.val - 1) (Nat.lt_of_le_of_lt (Nat.sub_le _ _) t.isLt)).2.2.2.2 := fun p k => by
  have ht : (tile t).val ≠ 0 := fun h => h0 (by simp only [tile] at h; rw [h])
  have ht' : t.val ≠ 0 := ht
  rw [dif_pos ht]
  refine (point_carry m c ⟨t.val - 1, Nat.lt_of_le_of_lt (Nat.sub_le _ _) t.isLt⟩ p k).trans ?_
  refine congrArg ((A m c).q · k) (Fin.ext ?_)
  show 512 * (t.val - 1) + 504 + p.val = 512 * t.val - 8 + p.val
  omega

theorem point11 (p : Fin 512) (k : Fin 1024) :
    (outsAt0 m c t.val t.isLt).2.1 (ix2 p k) = (A m c).pa (tok (tile t) p) k := by
  by_cases h0 : t.val % 32 = 0
  · have e := (hold m c t (carry_first m c t h0)).pa_tile p k
    dsimp only [Loads.pa, Loads.a, loads, part] at e
    rw [outsAt0_A m c t h0]
    frame_out
    exact e
  · have e := (hold m c t (carry_next m c t h0)).pa_tile p k
    dsimp only [Loads.pa, Loads.a, loads, part] at e
    rw [outsAt0_B m c t h0]
    frame_out
    exact e

theorem point12 (p : Fin 512) (k : Fin 1024) :
    (outsAt0 m c t.val t.isLt).2.2.1 (ix2 p k) = (A m c).pb (tok (tile t) p) k := by
  by_cases h0 : t.val % 32 = 0
  · have e := (hold m c t (carry_first m c t h0)).pb_tile p k
    dsimp only [Loads.pb, Loads.q, Loads.s2, loads, part] at e
    rw [outsAt0_A m c t h0]
    frame_out
    exact e
  · have e := (hold m c t (carry_next m c t h0)).pb_tile p k
    dsimp only [Loads.pb, Loads.q, Loads.s2, loads, part] at e
    rw [outsAt0_B m c t h0]
    frame_out
    simp only [read_unread_whole]
    exact e

theorem point13 (p : Fin 512) (k : Fin 1024) :
    (outsAt0 m c t.val t.isLt).2.2.2.1 (ix2 p k) = (A m c).x1 (tok (tile t) p) k := by
  by_cases h0 : t.val % 32 = 0
  · have e := (hold m c t (carry_first m c t h0)).x1_tile p k
    dsimp only [Loads.x1, Loads.m, Loads.a, Loads.q, Loads.s2, loads, part] at e
    rw [outsAt0_A m c t h0]
    frame_out
    exact e
  · have e := (hold m c t (carry_next m c t h0)).x1_tile p k
    dsimp only [Loads.x1, Loads.m, Loads.a, Loads.q, Loads.s2, loads, part] at e
    rw [outsAt0_B m c t h0]
    frame_out
    simp only [read_unread_whole]
    exact e

/-- Three blocks of columns, side by side. -/
theorem three {A : Args} {τ : Fin 32} {x y z : FVec Ideal S512x1024 .bf16} (hx : Tile τ A.a x) (hy : Tile τ A.c y)
    (hz : Tile τ A.m z) (p : Fin 512) (j : Fin 3072) :
    View.canon (Val := Elt Ideal) (s := S512x3072) (e := .bf16)
      [⟨Rect.unit ![0, 2048] ![512, 1024] inb_S512x3072_S512x1024_0_2048, z⟩,
       ⟨Rect.unit ![0, 1024] ![512, 1024] inb_S512x3072_S512x1024_0_1024, y⟩,
       ⟨Rect.unit ![0, 0] ![512, 1024] inb_S512x3072_S512x1024_0_0, x⟩] (ix2 p j) = A.acm (tok τ p) j := by
  rw [canon_cols, canon_cols, canon_cols, Args.acm]
  by_cases h2 : 2048 ≤ j.val
  · rw [dif_pos ⟨h2, by omega⟩, dif_neg (by omega), dif_neg (by omega)]
    exact hz p _
  · rw [dif_neg (by omega)]
    by_cases h1 : 1024 ≤ j.val
    · rw [dif_pos ⟨h1, by omega⟩, dif_neg (by omega), dif_pos (by omega)]
      exact hy p _
    · rw [dif_neg (by omega), dif_pos ⟨by omega, by omega⟩, dif_pos (by omega)]
      exact hx p _

theorem point10 (p : Fin 512) (j : Fin 3072) :
    (outsAt0 m c t.val t.isLt).1 (ix2 p j) = (A m c).acm (tok (tile t) p) j := by
  by_cases h0 : t.val % 32 = 0
  · have H := hold m c t (carry_first m c t h0)
    have e := three H.a_tile H.c_tile H.m_tile p j
    dsimp only [Loads.m, Loads.c, Loads.a, Loads.q, Loads.s2, loads, part] at e
    rw [outsAt0_A m c t h0]
    frame_out
    exact e
  · have H := hold m c t (carry_next m c t h0)
    have e := three H.a_tile H.c_tile H.m_tile p j
    dsimp only [Loads.m, Loads.c, Loads.a, Loads.q, Loads.s2, loads, part] at e
    rw [outsAt0_B m c t h0]
    frame_out
    simp only [read_unread_whole]
    exact e

/-! ## The results, as arrays -/

theorem arr10 : (dats m 0 c).arrAt 10 cfg0.N = (fun i : S16384x3072.Idx => (A m c).acm (i 0) (i 1)) := by
  refine (dats m 0 c).arrAt_eq_of_covers 10 _ (by decide +kernel) fun t hf y => ?_
  blk_simp
  rw [after0_10]
  idx_vars y
  have e : ((View.whole main_v14_0).slice (win0_10.rect t)).emb (ix2 y0 y1) = ix2 (tok (tile t) y0) y1 := by
    blk_ext [(tiles t).2.2.1, tok, tile]
  rw [e]
  exact point10 m c t y0 y1

theorem arr11 : (dats m 0 c).arrAt 11 cfg0.N = (fun i : S16384x1024.Idx => (A m c).pa (i 0) (i 1)) := by
  refine (dats m 0 c).arrAt_eq_of_covers 11 _ (by decide +kernel) fun t hf y => ?_
  blk_simp
  rw [after0_11]
  idx_vars y
  have e : ((View.whole main_v14_1).slice (win0_11.rect t)).emb (ix2 y0 y1) = ix2 (tok (tile t) y0) y1 := by
    blk_ext [(tiles t).2.2.2.1, tok, tile]
  rw [e]
  exact point11 m c t y0 y1

theorem arr12 : (dats m 0 c).arrAt 12 cfg0.N = (fun i : S16384x1024.Idx => (A m c).pb (i 0) (i 1)) := by
  refine (dats m 0 c).arrAt_eq_of_covers 12 _ (by decide +kernel) fun t hf y => ?_
  blk_simp
  rw [after0_12]
  idx_vars y
  have e : ((View.whole main_v14_2).slice (win0_12.rect t)).emb (ix2 y0 y1) = ix2 (tok (tile t) y0) y1 := by
    blk_ext [(tiles t).2.2.2.2.1, tok, tile]
  rw [e]
  exact point12 m c t y0 y1

theorem arr13 : (dats m 0 c).arrAt 13 cfg0.N = (fun i : S16384x1024.Idx => (A m c).x1 (i 0) (i 1)) := by
  refine (dats m 0 c).arrAt_eq_of_covers 13 _ (by decide +kernel) fun t hf y => ?_
  blk_simp
  rw [after0_13]
  idx_vars y
  have e : ((View.whole main_v14_3).slice (win0_13.rect t)).emb (ix2 y0 y1) = ix2 (tok (tile t) y0) y1 := by
    blk_ext [(tiles t).2.2.2.2.2, tok, tile]
  rw [e]
  exact point13 m c t y0 y1

end Cert.MixerValue

end
-- ==== Proof.MixerValues.lean ====
/-
  The mixer's forward call and reference.py's lines leave the same four arrays.
-/
module

public import proofs.«01_k».proof.Proof.MixerKernel
public import proofs.«01_k».proof.Defs
public import Idealize.ShloMosaic.Lib.Claim

@[expose] public section

set_option maxRecDepth 16384

noncomputable section

namespace Cert.MixerValue

open Idealize.ShloMosaic Idealize.ShloMosaic.TcCoe Idealize.SL.Sem Cert.Reals

/-- The two programs' results are equal. -/
theorem algebraic : algebraic_MixerIdeal_MixerRefIdeal (hMixerIdeal := Cert.MixerIdeal.Gen.facts)
    (hMixerRefIdeal := Cert.MixerRefIdeal.Gen.facts) := by
  pair_intro
  · run_from Cert.MixerIdeal.Value.run_blocks m g
  · run_from Cert.MixerRefIdeal.Value.run m' g'
    all_goals
      obtain ⟨e0, e1, e2, e3, e4, e5, e6, e7, e8, e9⟩ := hagree c
    · rw [arr10]
      refine (Cert.MixerRefIdeal.Read.val_main_v118_eq m' c).trans ?_
      rw [e1, e2, e3, e4, e5, e6, e7, e8]
      funext i
      idx_vars i
      exact ref_0 (inp m c) i0 i1
    · rw [arr11]
      refine (Cert.MixerRefIdeal.Read.val_main_v120_eq m' c).trans ?_
      rw [e1, e3, e4, e5, e7]
      funext i
      idx_vars i
      exact ref_1 (inp m c) i0 i1
    · rw [arr12, ← e1, ← e6, ← e8]
      refine (Cert.MixerRefIdeal.Read.val_main_v122_eq (m' (c.tc.loc Cert.MixerRefIdeal.main_arg1))
        (m' (c.tc.loc Cert.MixerRefIdeal.main_arg6)) (m' (c.tc.loc Cert.MixerRefIdeal.main_arg8))).trans ?_
      rw [e1, e6, e8]
      funext i
      idx_vars i
      exact ref_2 (inp m c) i0 i1
    · rw [arr13]
      refine (Cert.MixerRefIdeal.Read.val_main_v123_eq m' c).trans ?_
      rw [e0, e1, e2, e3, e4, e5, e6, e7, e8, e9]
      funext i
      idx_vars i
      exact ref_3 (inp m c) i0 i1

end Cert.MixerValue

end
-- ==== Proof.MixFrames.lean ====
module

public import proofs.«01_k».proof.Defs
public import proofs.«01_k».proof.Proof.Gen.Mix
public import proofs.«01_k».proof.Proof.Gen.MixIdeal
public import proofs.«01_k».proof.Proof.MixPoints
public import Idealize.ShloMosaic.Lib.Claim

/-! # The frames of the mixer's backward call

The call and its idealization have one text but for the constants named: the idealization names four of its
floats, the call has their words.  The run is proved for any reading of the names, so it serves both, the call
reading each name as its word. -/

@[expose] public section

set_option maxRecDepth 16384

noncomputable section

namespace Cert.MixRun

open Idealize.ShloMosaic Idealize.SL.Sem Cert.MixIdeal Cert.MixIdeal.Gen

/-- The frame, the names read as `F` reads them. -/
def Frame (F : FTy → Type) [FloatOps F] [Named F] : Prop :=
  ∀ (m : (ℓ : Loc nD τ sig) → Buf (Elt F) ℓ) (g : Dev nD → PrngReg), True →
    θ_run defs (onTc (τ := τ) (main (F := F))) ⟨m, fun _ => 0, g⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0

theorem frame (F : FTy → Type) [FloatOps F] [Named F] : Frame F := fun m g _ =>
  θ_run_and (frame_of m g (dats m) (fun _ _ => rfl) ((θ_run _ _ _).mono (fun _ h => h.1) (run m g)))
    ((θ_run _ _ _).mono (fun _ h => h.2) (run m g))

theorem frame_ideal : Cert.quiescent_MixIdeal (hMixIdeal := Cert.MixIdeal.Gen.facts) := frame Ideal

/-- A name read as the word it stands for. -/
local instance words : Named Bits where named _ _ {φ} bits := Scalar.ofBits φ bits

set_option maxHeartbeats 4000000 in
theorem same : Cert.quiescent_Mix (hMix := Cert.Mix.Gen.facts) = Frame Bits := by
  sl_kernel_rfl

theorem frame_kernel : Cert.quiescent_Mix (hMix := Cert.Mix.Gen.facts) := same.mpr (frame Bits)

end Cert.MixRun
-- ==== Proof.Tokens.lean ====
/-
  A sum over the tokens, by four tiles of 4096 that are added one after another.
-/
module

public import proofs.«01_k».proof.Proof.Rows

@[expose] public section

noncomputable section

namespace Cert.Tokens

/-- The token at place `p` of tile `s`. -/
def tok (s : ℕ) (p : Fin 4096) : Fin 16384 := ⟨(4096 * s + p.val) % 16384, Nat.mod_lt _ (by decide)⟩

/-- The sum over a tile's tokens … -/
def tile (f : Fin 16384 → EReal) (s : ℕ) : EReal := ∑ p, f (tok s p)

/-- … and over the tiles up to `n`. -/
def upTo (f : Fin 16384 → EReal) (n : ℕ) : EReal := ∑ s ∈ Finset.range (n + 1), tile f s

variable (f : Fin 16384 → EReal)

theorem upTo_zero : upTo f 0 = tile f 0 := Finset.sum_range_one _

theorem upTo_succ (n : ℕ) : upTo f (n + 1) = upTo f n + tile f (n + 1) := Finset.sum_range_succ _ _

/-- After the fourth tile it is the whole sum. -/
theorem upTo_all : upTo f 3 = ∑ l, f l := by
  rw [upTo, Finset.sum_range]
  exact Rows.sum_tiles (N := 4) (n := 4096) rfl f (fun s p => tok s.val p) fun s p => by
    simp only [tok]
    omega

/-- A buffer that is started at every fourth point and to which every other point adds a tile holds the sum over the tiles
    walked since. -/
theorem walk {N : ℕ} (f : ℕ → Fin 16384 → EReal) (v : (n : ℕ) → n < N → EReal)
    (first : ∀ n h, n % 4 = 0 → v n h = tile (f (n / 4)) 0)
    (next : ∀ n (h : n + 1 < N), ¬ (n + 1) % 4 = 0 →
      v (n + 1) h = v n (Nat.lt_of_succ_lt h) + tile (f ((n + 1) / 4)) ((n + 1) % 4)) :
    ∀ n h, v n h = upTo (f (n / 4)) (n % 4)
  | 0, h => (first 0 h rfl).trans (upTo_zero _).symm
  | n + 1, h => by
    by_cases h4 : (n + 1) % 4 = 0
    · rw [first _ h h4, h4, upTo_zero]
    · rw [next n h h4, walk f v first next n, show (n + 1) / 4 = n / 4 by omega, show (n + 1) % 4 = n % 4 + 1 by omega,
        upTo_succ]

end Cert.Tokens

end
-- ==== Proof.WeightKernel.lean ====
/-
  A weight's gradient, by the call that takes it in blocks of 1024 columns: for each block the grid walks the tokens in four
  tiles and adds the products up in a scratch buffer, which it writes back after the fourth.
-/
module

public import proofs.«01_k».proof.Proof.Tokens
public import proofs.«01_k».proof.Proof.Gen.WeightIdeal.Value
public import Idealize.ShloMosaic.Lib.StableHlo.RunRead
public import Idealize.ShloMosaic.Lib.Claim

@[expose] public section

set_option maxRecDepth 16384

noncomputable section

namespace Cert.WeightValue

open Idealize.ShloMosaic Idealize.ShloMosaic.TcCoe Idealize.SL.Sem Cert.Tokens Cert.WeightIdeal Cert.WeightIdeal.Gen

/-! ## The payloads -/

theorem pay1 (i j : Fin 1024) : k0_pay1 (F := Ideal) (ix2 i j) = 0 := by
  pointwise [k0_pay1]

theorem pay2 (C : Vec Ideal S1024x1024 .f32) (X Y : Vec Ideal S4096x1024 .bf16) (i j : Fin 1024) :
    k0_pay2 (F := Ideal) C X Y (ix2 i j) = C (ix2 i j) + ∑ p : Fin 4096, X (ix2 p i) * Y (ix2 p j) := by
  pointwise [k0_pay2]

theorem pay3 (C : Vec Ideal S1024x1024 .f32) (i j : Fin 1024) : k0_pay3 (F := Ideal) C (ix2 i j) = C (ix2 i j) := by
  pointwise [k0_pay3]

/-! ## The blocks at a grid point -/

variable (m : (ℓ : Loc nD τ sig) → Buf (Elt Ideal) ℓ) (c : Dev nD)

/-- The activations … -/
def act : S1x16384x1024.Idx → EReal := m ((c.tc : Thread nD τ).loc main_arg0)

/-- … and the cotangent. -/
def cot : S1x16384x7168.Idx → EReal := m ((c.tc : Thread nD τ).loc main_arg1)

theorem index : ∀ t : Fin cfg0.N, win0_0.index t = ![t.val % 4, 0] ∧ win0_1.index t = ![t.val % 4, t.val / 4]
    ∧ win0_2.index t = ![0, t.val / 4] :=
  (by decide +kernel : ∀ t : Fin grid0.N, _)

/-- Column `j` of the columns that block `q` holds. -/
def col (q : ℕ) (j : Fin 1024) : Fin 7168 := ⟨(1024 * q + j.val) % 7168, Nat.mod_lt _ (by decide)⟩

theorem given2 (l : Fin 16384) (i : Fin 1024) : V m c main_v1 (ix2 l i) = act m c (ix3 (0 : Fin 1) l i) := by
  after_reads_simp
  pointwise
  rfl

theorem cot2 (l : Fin 16384) (j : Fin 7168) : V m c main_v3 (ix2 l j) = cot m c (ix3 (0 : Fin 1) l j) := by
  after_reads_simp
  pointwise
  rfl

theorem blk0 (t : Fin cfg0.N) (p : Fin 4096) (i : Fin 1024) :
    iblk m c 0 t (ix2 p i) = act m c (ix3 (0 : Fin 1) (tok (t.val % 4) p) i) := by
  refine Eq.trans ?_ (given2 m c _ i)
  unfold iblk
  blk_ext! [V, (index t).1, tok]

theorem blk1 (t : Fin cfg0.N) (p : Fin 4096) (j : Fin 1024) :
    iblk m c 1 t (ix2 p j) = cot m c (ix3 (0 : Fin 1) (tok (t.val % 4) p) (col (t.val / 4) j)) := by
  refine Eq.trans ?_ (cot2 m c _ _)
  unfold iblk
  blk_ext! [V, (index t).2.1, tok, col]

/-! ## The scratch buffer -/

/-- The product of an activation and a cotangent at a token. -/
def term (i : Fin 1024) (j : Fin 7168) (l : Fin 16384) : EReal := act m c (ix3 (0 : Fin 1) l i) * cot m c (ix3 (0 : Fin 1) l j)

/-- What a point adds: its tile's products. -/
theorem added (C : Vec Ideal S1024x1024 .f32) (t : Fin cfg0.N) (i j : Fin 1024) :
    k0_pay2 (F := Ideal) C (iblk m c 0 t) (iblk m c 1 t) (ix2 i j)
      = C (ix2 i j) + tile (term m c i (col (t.val / 4) j)) (t.val % 4) := by
  rw [pay2]
  simp only [blk0, blk1]
  rfl

/-- A block's first point starts the sum. -/
theorem first (t : Fin cfg0.N) (h : t.val % 4 = 0) (i j : Fin 1024) :
    (outsAt0 m c t.val t.isLt).2 (ix2 i j) = tile (term m c i (col (t.val / 4) j)) 0 := by
  have e := added m c (k0_pay1 (F := Ideal)) t i j
  rw [pay1, zero_add, h] at e
  rw [outsAt0_A m c t h (by omega)]
  frame_out
  exact e

/-- Every other adds to what the one before left, … -/
theorem next (t : Fin cfg0.N) (h : ¬ t.val % 4 = 0) (i j : Fin 1024) :
    (outsAt0 m c t.val t.isLt).2 (ix2 i j)
      = (outsAt0 m c (t.val - 1) (Nat.lt_of_le_of_lt (Nat.sub_le _ _) t.isLt)).2 (ix2 i j)
        + tile (term m c i (col (t.val / 4) j)) (t.val % 4) := by
  have e := added m c (outsAt0 m c (t.val - 1) (Nat.lt_of_le_of_lt (Nat.sub_le _ _) t.isLt)).2 t i j
  by_cases h3 : t.val % 4 = 3
  · rw [outsAt0_C m c t h h3]
    frame_out
    simp only [read_unread_whole]
    exact e
  · rw [outsAt0_B m c t h h3]
    frame_out
    simp only [read_unread_whole]
    exact e

/-- … and the last writes the sum back. -/
theorem written (t : Fin cfg0.N) (h : t.val % 4 = 3) (i j : Fin 1024) :
    (outsAt0 m c t.val t.isLt).1 (ix2 i j) = (outsAt0 m c t.val t.isLt).2 (ix2 i j) := by
  rw [next m c t (by omega), outsAt0_C m c t (by omega) h]
  have e := added m c (outsAt0 m c (t.val - 1) (Nat.lt_of_le_of_lt (Nat.sub_le _ _) t.isLt)).2 t i j
  frame_out
  simp only [read_unread_whole]
  exact (pay3 _ i j).trans e

/-- The scratch buffer after a point: the sum over the tiles walked so far. -/
theorem sum_at (t : Fin cfg0.N) (i j : Fin 1024) :
    (outsAt0 m c t.val t.isLt).2 (ix2 i j) = upTo (term m c i (col (t.val / 4) j)) (t.val % 4) :=
  walk (N := cfg0.N) (fun q => term m c i (col q j)) (fun n h => (outsAt0 m c n h).2 (ix2 i j))
    (fun n h h4 => first m c ⟨n, h⟩ h4 i j) (fun n h h4 => next m c ⟨n + 1, h⟩ h4 i j) t.val t.isLt

/-- The result, as an array. -/
theorem arr2 : (dats m 0 c).arrAt 2 cfg0.N = (fun i : S1024x7168.Idx => ∑ l, term m c (i 0) (i 1) l) := by
  refine (dats m 0 c).arrAt_eq_of_covers 2 _ (by decide +kernel) fun t hf y => ?_
  have h3 : t.val % 4 = 3 := (flush0_2 t).mp hf
  blk_simp
  rw [after0_2]
  idx_vars y
  have e : ((View.whole main_v4).slice (win0_2.rect t)).emb (ix2 y0 y1) = ix2 y0 (col (t.val / 4) y1) := by
    blk_ext [(index t).2.2, col]
  rw [e]
  refine (written m c t h3 y0 y1).trans ?_
  rw [sum_at, h3, upTo_all]
  rfl

end Cert.WeightValue

end
-- ==== Proof.WeightValues.lean ====
/-
  The call that takes a weight's gradient, and the derivative of the product, leave the same array.
-/
module

public import proofs.«01_k».proof.Proof.WeightKernel
public import proofs.«01_k».proof.Proof.Gen.WeightRefIdeal.Run
public import proofs.«01_k».proof.Proof.Gen.WeightRefIdeal.Read
public import proofs.«01_k».proof.Defs
public import Idealize.ShloMosaic.Lib.Claim

@[expose] public section

set_option maxRecDepth 16384

noncomputable section

namespace Cert.WeightValue

open Idealize.ShloMosaic Idealize.ShloMosaic.TcCoe Idealize.SL.Sem Cert.WeightRefIdeal Cert.WeightRefIdeal.Read

/-- The reference's result. -/
theorem ref (x : S1x16384x1024.Idx → EReal) (y : S1x16384x7168.Idx → EReal) (i : Fin 1024) (j : Fin 7168) :
    val_main_v4 (F := Ideal) x y (ix2 i j) = ∑ l, x (ix3 (0 : Fin 1) l i) * y (ix3 (0 : Fin 1) l j) := by
  pointwise [val_main_v4, val_main_v3, val_main_v2]
  rw [Fin.sum_univ_one]
  simp only [mul_comm]

/-- The two programs' results are equal. -/
theorem algebraic : algebraic_WeightIdeal_WeightRefIdeal (hWeightIdeal := Cert.WeightIdeal.Gen.facts)
    (hWeightRefIdeal := Cert.WeightRefIdeal.Gen.facts) := by
  pair_intro
  · run_from Cert.WeightIdeal.Value.run_blocks m g
  · refine (θ_run defs _ _).mono (fun r h c => ?_) (Cert.WeightRefIdeal.Value.run m' g')
    obtain ⟨e0, e1⟩ := hagree c
    refine ⟨(h c).1.trans ?_, (h c).2⟩
    rw [e0, e1, arr2]
    refine (val_main_v4_eq _ _).trans ?_
    funext i
    idx_vars i
    exact ref (act m c) (cot m c) i0 i1

end Cert.WeightValue

end
-- ==== Proof.StackKernel.lean ====
/-
  Three projections' gradients, by the call that stacks them: for each projection the grid walks the tokens in four tiles
  and adds the products up in a scratch buffer, which it writes back after the fourth.
-/
module

public import proofs.«01_k».proof.Proof.Tokens
public import proofs.«01_k».proof.Proof.Gen.StackIdeal.Value
public import Idealize.ShloMosaic.Lib.StableHlo.RunRead
public import Idealize.ShloMosaic.Lib.Claim

@[expose] public section

set_option maxRecDepth 16384

noncomputable section

namespace Cert.StackValue

open Idealize.ShloMosaic Idealize.ShloMosaic.TcCoe Idealize.SL.Sem Cert.Tokens Cert.StackIdeal Cert.StackIdeal.Gen

/-! ## The payloads -/

theorem pay1 (i j : Fin 1024) : k0_pay1 (F := Ideal) (ix2 i j) = 0 := by
  pointwise [k0_pay1]

theorem pay2 (C : Vec Ideal S1024x1024 .f32) (X Y : Vec Ideal S4096x1024 .bf16) (i j : Fin 1024) :
    k0_pay2 (F := Ideal) C X Y (ix2 i j) = C (ix2 i j) + ∑ p : Fin 4096, X (ix2 p i) * Y (ix2 p j) := by
  pointwise [k0_pay2]

theorem pay3 (C : Vec Ideal S1024x1024 .f32) (i j : Fin 1024) : k0_pay3 (F := Ideal) C (ix3 (0 : Fin 1) i j) = C (ix2 i j) := by
  pointwise [k0_pay3]

/-! ## The blocks at a grid point -/

variable (m : (ℓ : Loc nD τ sig) → Buf (Elt Ideal) ℓ) (c : Dev nD)

/-- The three projections' activations, side by side … -/
def act : S1x16384x3072.Idx → EReal := m ((c.tc : Thread nD τ).loc main_arg0)

/-- … and their cotangents. -/
def cot : S1x16384x3072.Idx → EReal := m ((c.tc : Thread nD τ).loc main_arg1)

theorem index : ∀ t : Fin cfg0.N, win0_0.index t = ![t.val % 4, t.val / 4] ∧ win0_1.index t = ![t.val % 4, t.val / 4]
    ∧ win0_2.index t = ![t.val / 4, 0, 0] :=
  (by decide +kernel : ∀ t : Fin grid0.N, _)

/-- Column `j` of projection `q`. -/
def col (q : ℕ) (j : Fin 1024) : Fin 3072 := ⟨(1024 * q + j.val) % 3072, Nat.mod_lt _ (by decide)⟩

theorem given2 (l : Fin 16384) (i : Fin 3072) : V m c main_v1 (ix2 l i) = act m c (ix3 (0 : Fin 1) l i) := by
  after_reads_simp
  pointwise
  rfl

theorem cot2 (l : Fin 16384) (j : Fin 3072) : V m c main_v3 (ix2 l j) = cot m c (ix3 (0 : Fin 1) l j) := by
  after_reads_simp
  pointwise
  rfl

theorem blk0 (t : Fin cfg0.N) (p : Fin 4096) (i : Fin 1024) :
    iblk m c 0 t (ix2 p i) = act m c (ix3 (0 : Fin 1) (tok (t.val % 4) p) (col (t.val / 4) i)) := by
  refine Eq.trans ?_ (given2 m c _ _)
  unfold iblk
  blk_ext! [V, (index t).1, tok, col]

theorem blk1 (t : Fin cfg0.N) (p : Fin 4096) (j : Fin 1024) :
    iblk m c 1 t (ix2 p j) = cot m c (ix3 (0 : Fin 1) (tok (t.val % 4) p) (col (t.val / 4) j)) := by
  refine Eq.trans ?_ (cot2 m c _ _)
  unfold iblk
  blk_ext! [V, (index t).2.1, tok, col]

/-! ## The scratch buffer -/

/-- The product of an activation and a cotangent at a token. -/
def term (i j : Fin 3072) (l : Fin 16384) : EReal := act m c (ix3 (0 : Fin 1) l i) * cot m c (ix3 (0 : Fin 1) l j)

/-- What a point adds: its tile's products. -/
theorem added (C : Vec Ideal S1024x1024 .f32) (t : Fin cfg0.N) (i j : Fin 1024) :
    k0_pay2 (F := Ideal) C (iblk m c 0 t) (iblk m c 1 t) (ix2 i j)
      = C (ix2 i j) + tile (term m c (col (t.val / 4) i) (col (t.val / 4) j)) (t.val % 4) := by
  rw [pay2]
  simp only [blk0, blk1]
  rfl

/-- A block's first point starts the sum. -/
theorem first (t : Fin cfg0.N) (h : t.val % 4 = 0) (i j : Fin 1024) :
    (outsAt0 m c t.val t.isLt).2 (ix2 i j) = tile (term m c (col (t.val / 4) i) (col (t.val / 4) j)) 0 := by
  have e := added m c (k0_pay1 (F := Ideal)) t i j
  rw [pay1, zero_add, h] at e
  rw [outsAt0_A m c t h (by omega)]
  frame_out
  exact e

/-- Every other adds to what the one before left, … -/
theorem next (t : Fin cfg0.N) (h : ¬ t.val % 4 = 0) (i j : Fin 1024) :
    (outsAt0 m c t.val t.isLt).2 (ix2 i j)
      = (outsAt0 m c (t.val - 1) (Nat.lt_of_le_of_lt (Nat.sub_le _ _) t.isLt)).2 (ix2 i j)
        + tile (term m c (col (t.val / 4) i) (col (t.val / 4) j)) (t.val % 4) := by
  have e := added m c (outsAt0 m c (t.val - 1) (Nat.lt_of_le_of_lt (Nat.sub_le _ _) t.isLt)).2 t i j
  by_cases h3 : t.val % 4 = 3
  · rw [outsAt0_C m c t h h3]
    frame_out
    simp only [read_unread_whole]
    exact e
  · rw [outsAt0_B m c t h h3]
    frame_out
    simp only [read_unread_whole]
    exact e

/-- … and the last writes the sum back. -/
theorem written (t : Fin cfg0.N) (h : t.val % 4 = 3) (i j : Fin 1024) :
    (outsAt0 m c t.val t.isLt).1 (ix3 (0 : Fin 1) i j) = (outsAt0 m c t.val t.isLt).2 (ix2 i j) := by
  rw [next m c t (by omega), outsAt0_C m c t (by omega) h]
  have e := added m c (outsAt0 m c (t.val - 1) (Nat.lt_of_le_of_lt (Nat.sub_le _ _) t.isLt)).2 t i j
  frame_out
  simp only [read_unread_whole]
  exact (pay3 _ i j).trans e

/-- The scratch buffer after a point: the sum over the tiles walked so far. -/
theorem sum_at (t : Fin cfg0.N) (i j : Fin 1024) :
    (outsAt0 m c t.val t.isLt).2 (ix2 i j) = upTo (term m c (col (t.val / 4) i) (col (t.val / 4) j)) (t.val % 4) :=
  walk (N := cfg0.N) (fun q => term m c (col q i) (col q j)) (fun n h => (outsAt0 m c n h).2 (ix2 i j))
    (fun n h h4 => first m c ⟨n, h⟩ h4 i j) (fun n h h4 => next m c ⟨n + 1, h⟩ h4 i j) t.val t.isLt

/-- The result, as an array. -/
theorem arr2 : (dats m 0 c).arrAt 2 cfg0.N
    = (fun i : S3x1024x1024.Idx => ∑ l, term m c (col (i 0).val (i 1)) (col (i 0).val (i 2)) l) := by
  refine (dats m 0 c).arrAt_eq_of_covers 2 _ (by decide +kernel) fun t hf y => ?_
  have h3 : t.val % 4 = 3 := (flush0_2 t).mp hf
  have ht : t.val < 12 := lt_of_lt_of_eq t.isLt N_0
  blk_simp
  rw [after0_2]
  idx_vars y
  have e : ((View.whole main_v4).slice (win0_2.rect t)).emb (ix3 y0 y1 y2)
      = ix3 (⟨t.val / 4, by omega⟩ : Fin 3) y1 y2 := by
    blk_ext [(index t).2.2]
  obtain rfl : y0 = (0 : Fin 1) := Subsingleton.elim _ _
  rw [e]
  refine (written m c t h3 y1 y2).trans ?_
  rw [sum_at, h3, upTo_all, (index t).2.2]
  rfl

end Cert.StackValue

end
-- ==== Proof.StackValues.lean ====
/-
  The call that stacks three projections' gradients, and the three products' derivatives stacked, leave the same array.
-/
module

public import proofs.«01_k».proof.Proof.StackKernel
public import proofs.«01_k».proof.Proof.Gen.StackRefIdeal.Run
public import proofs.«01_k».proof.Proof.Gen.StackRefIdeal.Read
public import proofs.«01_k».proof.Defs
public import Idealize.ShloMosaic.Lib.Claim

@[expose] public section

set_option maxRecDepth 16384

noncomputable section

namespace Cert.StackValue

open Idealize.ShloMosaic Idealize.ShloMosaic.TcCoe Idealize.SL.Sem Cert.StackRefIdeal Cert.StackRefIdeal.Read

/-- Its factors are the other way round. -/
theorem swap (x y : S1x16384x3072.Idx → EReal) (w : Fin 3) (i j : Fin 1024) (l : Fin 16384) (a b : Fin 3072)
    (ha : a.val = 1024 * w.val + i.val) (hb : b.val = 1024 * w.val + j.val) :
    y (ix3 (0 : Fin 1) l b) * x (ix3 (0 : Fin 1) l a)
      = x (ix3 (0 : Fin 1) l (col w.val i)) * y (ix3 (0 : Fin 1) l (col w.val j)) := by
  obtain rfl : a = col w.val i := Fin.ext (by simp only [col]; omega)
  obtain rfl : b = col w.val j := Fin.ext (by simp only [col]; omega)
  exact mul_comm _ _

/-- The reference's result: the products of the slices. -/
theorem ref (x y : S1x16384x3072.Idx → EReal) (w : Fin 3) (i j : Fin 1024) :
    val_main_v20 (F := Ideal) x y (ix3 w i j)
      = ∑ l, x (ix3 (0 : Fin 1) l (col w.val i)) * y (ix3 (0 : Fin 1) l (col w.val j)) := by
  match w with
  | 0 =>
    pointwise [val_main_v20, val_main_v19, val_main_v16, val_main_v15, val_main_v14, val_main_v3, val_main_v0]
    rw [Fin.sum_univ_one]
    exact Finset.sum_congr rfl fun l _ => swap x y 0 i j l _ _ (by dsimp only; omega) (by dsimp only; omega)
  | 1 =>
    pointwise [val_main_v20, val_main_v19, val_main_v17, val_main_v13, val_main_v12, val_main_v4, val_main_v1]
    rw [Fin.sum_univ_one]
    exact Finset.sum_congr rfl fun l _ => swap x y 1 i j l _ _ (by dsimp only; omega) (by dsimp only; omega)
  | 2 =>
    pointwise [val_main_v20, val_main_v19, val_main_v18, val_main_v11, val_main_v10, val_main_v5, val_main_v2]
    rw [Fin.sum_univ_one]
    exact Finset.sum_congr rfl fun l _ => swap x y 2 i j l _ _ (by dsimp only; omega) (by dsimp only; omega)

/-- The two programs' results are equal. -/
theorem algebraic : algebraic_StackIdeal_StackRefIdeal (hStackIdeal := Cert.StackIdeal.Gen.facts)
    (hStackRefIdeal := Cert.StackRefIdeal.Gen.facts) := by
  pair_intro
  · run_from Cert.StackIdeal.Value.run_blocks m g
  · refine (θ_run defs _ _).mono (fun r h c => ?_) (Cert.StackRefIdeal.Value.run m' g')
    obtain ⟨e0, e1⟩ := hagree c
    refine ⟨(h c).1.trans ?_, (h c).2⟩
    rw [e0, e1, arr2]
    refine (val_main_v20_eq _ _).trans ?_
    funext i
    idx_vars i
    exact ref (act m c) (cot m c) i0 i1 i2

end Cert.StackValue

end
-- ==== Proof.PackValues.lean ====
/-
  The packing call lays out the small gradients as plain slices and a sum over a group's channels do.
-/
module

public import proofs.«01_k».proof.Proof.Gen.PackIdeal.Value
public import proofs.«01_k».proof.Proof.Gen.PackRefIdeal.Run
public import proofs.«01_k».proof.Proof.Gen.PackRefIdeal.Read
public import proofs.«01_k».proof.Proof.Slabs
public import proofs.«01_k».proof.Defs
public import Idealize.ShloMosaic.Lib.StableHlo.RunRead
public import Idealize.ShloMosaic.Lib.Claim

@[expose] public section

set_option maxRecDepth 16384

noncomputable section

namespace Cert.PackValue

open Idealize.ShloMosaic Idealize.ShloMosaic.TcCoe Idealize.SL.Sem Cert.PackIdeal Cert.PackIdeal.Gen Cert.PackRefIdeal.Read

variable (m : (ℓ : Loc nD τ sig) → Buf (Elt Ideal) ℓ) (c : Dev nD)

/-- The eight rows of the packed small gradients. -/
def small (x0 x1 x2 : Vec Ideal S8x1024 .f32) (x3 : Vec Ideal S8x2048 .f32) (x4 : Vec Ideal S8x128x128 .f32)
    (r : Fin 8) (k : Fin 1024) : EReal :=
  ![x2 (ix2 (0 : Fin 8) k), x1 (ix2 (0 : Fin 8) k), x0 (ix2 (1 : Fin 8) k), x0 (ix2 (0 : Fin 8) k),
    x0 (ix2 (2 : Fin 8) k), x3 (ix2 (0 : Fin 8) (⟨k.val, by omega⟩ : Fin 2048)),
    x3 (ix2 (0 : Fin 8) (⟨1024 + k.val, by omega⟩ : Fin 2048)),
    ∑ d : Fin 128, x4 (ix3 (⟨k.val / 128, by omega⟩ : Fin 8) (⟨k.val % 128, by omega⟩ : Fin 128) d)] r

/-- The reference's first result. -/
theorem ref5 (x0 x1 x2 : Vec Ideal S8x1024 .f32) (x3 : Vec Ideal S8x2048 .f32) (x4 : Vec Ideal S8x128x128 .f32)
    (r : Fin 8) (k : Fin 1024) :
    val_main_v10 (F := Ideal) x0 x1 x2 x3 x4 (ix2 r k) = small x0 x1 x2 x3 x4 r k := by
  pointwise [val_main_v10]
  obtain ⟨r, hr⟩ := r
  interval_cases r <;> simp [small] <;>
    pointwise [val_main_v0, val_main_v1, val_main_v2, val_main_v3, val_main_v4, val_main_v5, val_main_v6,
      val_main_v7, val_main_v8, val_main_v9, val_main_cst]

/-- The last row, a sum along the channels of a group. -/
theorem small_sum (x0 x1 x2 : Vec Ideal S8x1024 .f32) (x3 : Vec Ideal S8x2048 .f32) (x4 : Vec Ideal S8x128x128 .f32)
    (r : Fin 8) (k : Fin 1024) (g : ℕ) (hg : g < 8) (l : Fin 128) (hr : r.val = 7) (hk : k.val = 128 * g + l.val) :
    ∑ d, x4 (ix3 (⟨g, hg⟩ : Fin 8) l d) = small x0 x1 x2 x3 x4 r k := by
  obtain rfl : r = 7 := Fin.ext hr
  obtain rfl : g = k.val / 128 := by omega
  have hl : l = ⟨k.val % 128, by omega⟩ := Fin.ext (by show l.val = k.val % 128; omega)
  rw [hl]
  rfl

/-- What the call stores of the first result. -/
theorem point5 (t : Fin cfg0.N) (r : Fin 8) (k : Fin 1024) :
    (outsAt0 m c t).1 (ix2 r k) = small (iblk m c 0 t) (iblk m c 1 t) (iblk m c 2 t) (iblk m c 3 t) (iblk m c 4 t) r k := by
  unfold outsAt0
  frame_out
  canon_tiles x h using cover0_A_5 (c := c) (arg5 := ms0_5 t) (harg5 := hs0_5 t) (arg6 := ms0_6 t) (harg6 := hs0_6 t) ..
  all_goals
    idx_vars x
    simp only [read_unread_whole]
  all_goals try pointwise [k0_pay1, k0_pay2, k0_pay3, k0_pay4, k0_pay5, k0_pay6, k0_pay7, k0_pay8, k0_pay9]
  case piece0 => exact small_sum _ _ _ _ _ r k 7 (by omega) x1 (by omega) (by omega)
  case piece1 => exact small_sum _ _ _ _ _ r k 6 (by omega) x1 (by omega) (by omega)
  case piece2 => exact small_sum _ _ _ _ _ r k 5 (by omega) x1 (by omega) (by omega)
  case piece3 => exact small_sum _ _ _ _ _ r k 4 (by omega) x1 (by omega) (by omega)
  case piece4 => exact small_sum _ _ _ _ _ r k 3 (by omega) x1 (by omega) (by omega)
  case piece5 => exact small_sum _ _ _ _ _ r k 2 (by omega) x1 (by omega) (by omega)
  case piece6 => exact small_sum _ _ _ _ _ r k 1 (by omega) x1 (by omega) (by omega)
  case piece7 => exact small_sum _ _ _ _ _ r k 0 (by omega) x1 (by omega) (by omega)
  all_goals obtain rfl : x1 = k := Fin.ext h1.symm
  case piece8 => obtain rfl : r = 6 := Fin.ext (show r.val = 6 by omega); rfl
  case piece9 => obtain rfl : r = 5 := Fin.ext (show r.val = 5 by omega); rfl
  case piece10 => obtain rfl : r = 4 := Fin.ext (show r.val = 4 by omega); rfl
  case piece11 => obtain rfl : r = 3 := Fin.ext (show r.val = 3 by omega); rfl
  case piece12 => obtain rfl : r = 2 := Fin.ext (show r.val = 2 by omega); rfl
  case piece13 => obtain rfl : r = 1 := Fin.ext (show r.val = 1 by omega); rfl
  case piece14 => obtain rfl : r = 0 := Fin.ext (show r.val = 0 by omega); rfl

/-- The taps' gradients, a shard's lanes by three rows, and five rows of zeros. -/
def taps (x1 : Vec Ideal S8x1024 .f32) (p q : Fin 8) (l : Fin 128) : EReal :=
  if h : q.val < 3 then x1 (ix2 (⟨1 + q.val, by omega⟩ : Fin 8) (⟨p.val * 128 + l.val, by omega⟩ : Fin 1024)) else 0

/-- The reference's second result. -/
theorem ref6 (x1 : Vec Ideal S8x1024 .f32) (p q : Fin 8) (l : Fin 128) :
    val_main_v15 (F := Ideal) x1 (ix3 p q l) = taps x1 p q l := by
  pointwise [val_main_v15, val_main_v14, val_main_v13, val_main_v12, val_main_v11, val_main_cst_0]
  rfl

/-- A tap's gradient, wherever it is named. -/
theorem taps_at (x1 : Vec Ideal S8x1024 .f32) (p q : Fin 8) (l : Fin 128) (a : Fin 8) (k : Fin 1024) (h : q.val < 3)
    (ha : a.val = 1 + q.val) (hk : k.val = p.val * 128 + l.val) : x1 (ix2 a k) = taps x1 p q l := by
  have ea : a = ⟨1 + q.val, by omega⟩ := Fin.ext ha
  have ek : k = ⟨p.val * 128 + l.val, by omega⟩ := Fin.ext hk
  unfold taps
  rw [ea, ek, dif_pos h]

/-- A list whose first piece is the first rows of a slab, read at an index: from the piece where it holds the index,
from the rest where it doesn't. -/
theorem canon_rows3 {Val : EltTy → Type} {e : EltTy} [∀ e, Nonempty (Val e)] {n a b k : ℕ} (r : ℕ)
    (inb : ∀ i, (![r, 0, 0] : Fin 3 → ℕ) i + (![1, a, k] : Fin 3 → ℕ) i ≤ (⟨3, ![n, b, k]⟩ : Shape).size i)
    (w : (Rect.unit (s := ⟨3, ![n, b, k]⟩) ![r, 0, 0] ![1, a, k] inb).shape.Idx → Val e)
    (L : List (View.Piece Val (⟨3, ![n, b, k]⟩ : Shape) e)) (p : Fin n) (q : Fin b) (l : Fin k) (v : Val e)
    (hw : p.val = r → ∀ h : q.val < a, w (ix3 (0 : Fin 1) (⟨q.val, h⟩ : Fin a) l) = v)
    (hL : ¬ (p.val = r ∧ q.val < a) → View.canon L (ix3 p q l) = v) :
    View.canon (⟨Rect.unit (s := ⟨3, ![n, b, k]⟩) ![r, 0, 0] ![1, a, k] inb, w⟩ :: L) (ix3 p q l) = v := by
  by_cases h : p.val = r ∧ q.val < a
  · have : ix3 p q l = (Rect.unit (s := ⟨3, ![n, b, k]⟩) ![r, 0, 0] ![1, a, k] inb).emb
        (ix3 (0 : Fin 1) (⟨q.val, h.2⟩ : Fin a) l) := by
      funext i
      refine Fin.ext ?_
      rw [Rect.emb_apply]
      match i with
      | 0 => simpa using h.1
      | 1 => simp [Rect.unit]
      | 2 => simp [Rect.unit]
    rw [this]
    exact (View.canon_cons_emb _ _ _ _).trans (hw h.1 h.2)
  · refine (View.canon_cons_of_not_mem _ _ fun hm => h ?_).trans (hL h)
    have h0 := (Rect.mem_set_unit (inb := inb) |>.mp hm) 0
    have h1 := (Rect.mem_set_unit (inb := inb) |>.mp hm) 1
    have e0 : r ≤ p.val ∧ p.val < r + 1 := h0
    have e1 : 0 ≤ q.val ∧ q.val < 0 + a := h1
    omega

/-- What it stores of the second: three rows of each slab, over zeros. -/
theorem point6 (t : Fin cfg0.N) (p q : Fin 8) (l : Fin 128) :
    (outsAt0 m c t).2 (ix3 p q l) = taps (iblk m c 1 t) p q l := by
  unfold outsAt0
  frame_out
  simp only [read_unread_whole]
  refine canon_rows3 7 _ _ _ p q l _ (fun hp hq => ?_) fun h7 => ?_
  · pointwise [k0_pay18]; exact taps_at _ p q l _ _ hq (by dsimp) (by dsimp; omega)
  refine canon_rows3 6 _ _ _ p q l _ (fun hp hq => ?_) fun h6 => ?_
  · pointwise [k0_pay17]; exact taps_at _ p q l _ _ hq (by dsimp) (by dsimp; omega)
  refine canon_rows3 5 _ _ _ p q l _ (fun hp hq => ?_) fun h5 => ?_
  · pointwise [k0_pay16]; exact taps_at _ p q l _ _ hq (by dsimp) (by dsimp; omega)
  refine canon_rows3 4 _ _ _ p q l _ (fun hp hq => ?_) fun h4 => ?_
  · pointwise [k0_pay15]; exact taps_at _ p q l _ _ hq (by dsimp) (by dsimp; omega)
  refine canon_rows3 3 _ _ _ p q l _ (fun hp hq => ?_) fun h3 => ?_
  · pointwise [k0_pay14]; exact taps_at _ p q l _ _ hq (by dsimp) (by dsimp; omega)
  refine canon_rows3 2 _ _ _ p q l _ (fun hp hq => ?_) fun h2 => ?_
  · pointwise [k0_pay13]; exact taps_at _ p q l _ _ hq (by dsimp) (by dsimp; omega)
  refine canon_rows3 1 _ _ _ p q l _ (fun hp hq => ?_) fun h1 => ?_
  · pointwise [k0_pay12]; exact taps_at _ p q l _ _ hq (by dsimp) (by dsimp; omega)
  refine canon_rows3 0 _ _ _ p q l _ (fun hp hq => ?_) fun h0 => ?_
  · pointwise [k0_pay11]; exact taps_at _ p q l _ _ hq (by dsimp) (by dsimp; omega)
  refine (Cert.Rows.canon_fill3 _ _ _ p q l).trans ?_
  unfold taps
  rw [dif_neg (by omega)]
  pointwise [k0_pay10]

/-! ## The arrays -/

/-- Every window is its whole array. -/
theorem index : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0)
    ∧ (∀ a, win0_6.index t a = 0) := by
  decide +kernel

/-- So a point is given the arguments whole. -/
theorem whole0 (t : Fin cfg0.N) : (iblk m c 0 t : Vec Ideal S8x1024 .f32) = m ((c.tc : Thread nD τ).loc main_arg0) := by
  funext i
  unfold iblk
  blk_ext! [V, (index t).1]

theorem whole1 (t : Fin cfg0.N) : (iblk m c 1 t : Vec Ideal S8x1024 .f32) = m ((c.tc : Thread nD τ).loc main_arg1) := by
  funext i
  unfold iblk
  blk_ext! [V, (index t).2.1]

theorem whole2 (t : Fin cfg0.N) : (iblk m c 2 t : Vec Ideal S8x1024 .f32) = m ((c.tc : Thread nD τ).loc main_arg2) := by
  funext i
  unfold iblk
  blk_ext! [V, (index t).2.2.1]

theorem whole3 (t : Fin cfg0.N) : (iblk m c 3 t : Vec Ideal S8x2048 .f32) = m ((c.tc : Thread nD τ).loc main_arg3) := by
  funext i
  unfold iblk
  blk_ext! [V, (index t).2.2.2.1]

theorem whole4 (t : Fin cfg0.N) : (iblk m c 4 t : Vec Ideal S8x128x128 .f32) = m ((c.tc : Thread nD τ).loc main_arg4) := by
  funext i
  unfold iblk
  blk_ext! [V, (index t).2.2.2.2.1]

/-- The results, as arrays. -/
theorem arr5 : (dats m 0 c).arrAt 5 cfg0.N
    = (fun i : S8x1024.Idx => small (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (i 0) (i 1)) := by
  refine (dats m 0 c).arrAt_eq_of_covers 5 _ (by decide +kernel) fun t hf y => ?_
  blk_simp
  rw [after0_5]
  idx_vars y
  have e : ((View.whole main_v0_0).slice (win0_5.rect t)).emb (ix2 y0 y1) = ix2 y0 y1 := by
    blk_ext [(index t).2.2.2.2.2.1]
  rw [e]
  refine (point5 m c t y0 y1).trans ?_
  rw [whole0, whole1, whole2, whole3, whole4]
  rfl

theorem arr6 : (dats m 0 c).arrAt 6 cfg0.N
    = (fun i : S8x8x128.Idx => taps (m ((c.tc : Thread nD τ).loc main_arg1)) (i 0) (i 1) (i 2)) := by
  refine (dats m 0 c).arrAt_eq_of_covers 6 _ (by decide +kernel) fun t hf y => ?_
  blk_simp
  rw [after0_6]
  idx_vars y
  have e : ((View.whole main_v0_1).slice (win0_6.rect t)).emb (ix3 y0 y1 y2) = ix3 y0 y1 y2 := by
    blk_ext [(index t).2.2.2.2.2.2]
  rw [e]
  refine (point6 m c t y0 y1 y2).trans ?_
  rw [whole1]
  rfl

/-- The two programs' results are equal. -/
theorem algebraic : algebraic_PackIdeal_PackRefIdeal (hPackIdeal := Cert.PackIdeal.Gen.facts)
    (hPackRefIdeal := Cert.PackRefIdeal.Gen.facts) := by
  pair_intro
  · run_from Cert.PackIdeal.Value.run_blocks m g
  · refine (θ_run Cert.PackRefIdeal.defs _ _).mono (fun r h c => ?_) (Cert.PackRefIdeal.Value.run m' g')
    obtain ⟨e0, e1, e2, e3, e4⟩ := hagree c
    refine ⟨(h c).1.trans ?_, (h c).2.1.trans ?_, (h c).2.2⟩
    · rw [e0, e1, e2, e3, e4, arr5]
      refine (val_main_v10_eq _ _ _ _ _).trans ?_
      funext i
      idx_vars i
      exact ref5 _ _ _ _ _ i0 i1
    · rw [e1, arr6]
      refine (val_main_v15_eq _).trans ?_
      funext i
      idx_vars i
      exact ref6 _ i0 i1 i2

end Cert.PackValue

end
-- ==== Proof.AdamwRun.lean ====
/- The reduction of a matrix's gradient with its AdamW update runs, for both number formats, and leaves its arguments as they
   were. The kernel reads its own part of the gradient at the block that the word `me` names, so the proof first shows that a
   word the precondition admits is below eight. -/
module

public import proofs.«01_k».proof.Defs
public import proofs.«01_k».proof.Proof.Gen.Adamw
public import proofs.«01_k».proof.Proof.Gen.AdamwIdeal.Frame
public import proofs.«01_k».proof.Proof.Gen.AdamwRefIdeal
public import proofs.«01_k».proof.Proof.Gen.Pre_me_on_mesh
public import proofs.«01_k».proof.Proof.Reals
public import Idealize.ShloMosaic.Lib.Claim

@[expose] public section

set_option maxRecDepth 16384

namespace Cert.AdamwRun

open Idealize.ShloMosaic Idealize.ShloMosaic.TcCoe Idealize.SL.Sem
open Cert.AdamwIdeal Cert.AdamwIdeal.Gen

variable {F : FTy → Type} [FloatOps F]

/-- A word at least zero and less than eight is below eight without its sign. -/
theorem word_lt {s : Shape} (x a b : IVec s 32) (i : s.Idx) (ha : a i = 0#32) (hb : b i = 8#32)
    (h : andi (cmpi .sge x a) (cmpi .slt x b) i = 1#1) : (x i).toNat < 8 := by
  have h1 : BitVec.ofBool ((a i).sle (x i)) &&& BitVec.ofBool ((x i).slt (b i)) = 1#1 := h
  rw [ha, hb] at h1
  generalize x i = w at h1 ⊢
  rcases e1 : (0#32).sle w with _ | _ <;> rcases e2 : w.slt 8#32 with _ | _ <;> rw [e1, e2] at h1 <;> try exact absurd h1 (by decide)
  rw [BitVec.sle, decide_eq_true_eq] at e1
  rw [BitVec.slt, decide_eq_true_eq] at e2
  have e3 := BitVec.toInt_eq_toNat_cond w
  have e4 := w.isLt
  have e5 : (0#32).toInt = 0 := rfl
  have e6 : (8#32).toInt = 8 := rfl
  split at e3 <;> omega

/-- The precondition says of the word `me` that it is below eight. -/
theorem me_lt (x0 : IVec Cert.Pre_me_on_mesh.S1 32) (x1 : FVec F Cert.Pre_me_on_mesh.S1024x7168 .bf16)
    (x2 : FVec F Cert.Pre_me_on_mesh.S7x1024x896 .bf16) (x3 x4 x5 : FVec F Cert.Pre_me_on_mesh.S1024x896 .f32)
    (i : Cert.Pre_me_on_mesh.S1.Idx) (h : Cert.Pre_me_on_mesh.fn x0 x1 x2 x3 x4 x5 = fun _ => 1#1) : (x0 i).toNat < 8 := by
  haveI : Subsingleton Cert.Pre_me_on_mesh.S_.Idx := ⟨fun a b => funext fun k => k.elim0⟩
  have e := Host.reduce_andi_all _ _ _ _ (fun k => k.elim0) (congrFun h fun k => k.elim0) i
  exact word_lt _ _ _ i rfl rfl e

variable (m : (ℓ : Loc nD τ sig) → Buf (Elt F) ℓ)

/-- The block of the first window at a word below eight lies in the array and starts and ends at whole words. -/
theorem block_ok : ∀ i k : Fin 8, ∃ h : ∀ a, ((![i.val, k.val] : Fin 2 → Nat) a + 1) * S128x896.size a ≤ S1024x7168.size a,
    EltTy.bits .bf16 = 32 ∨ (Rect.block (s := S1024x7168) S128x896.size ![i.val, k.val] h).WholeWords (EltTy.packing .bf16) := by
  decide +kernel

/-- The block numbers of the first window: the point's number, and the word. -/
theorem transform (pf : pre0.Contents (Elt F)) (i : grid0.Coords) :
    cc0_transform_0 inb_S1_S1_0 numel1_S1 pf i = ![(i 0).val, BitVec.toNat (pf 0 (ix1 0))] := by
  have e1 : (BitVec.ofNat 32 (i 0).val).toNat = (i 0).val := by
    rw [BitVec.toNat_ofNat]
    exact Nat.mod_eq_of_lt (lt_trans (i 0).isLt (by decide))
  have e2 : pf.at 0 (Rect.unit (s := S1) ![0] S1.size inb_S1_S1_0) numel1_S1 = pf 0 (ix1 0) :=
    congrArg (pf 0) (funext fun k => match k with | ⟨0, _⟩ => Subsingleton.elim (α := Fin 1) _ _)
  unfold cc0_transform_0
  rw [e2]
  exact congrArg (fun n => (![n, BitVec.toNat (pf 0 (ix1 0))] : Fin 2 → Nat)) e1

/-- So the first window's blocks lie in the array, at a word below eight. -/
theorem ok_of_lt (h : BitVec.toNat (tbl m 0 (ix1 0)) < 8) : Ok m := fun i => by
  have e := transform (tbl m) i
  rw [e]
  exact block_ok (i 0) ⟨_, h⟩

/-- The precondition on the memory of one device of the mesh. -/
def Pre : Prop := ∀ c : Dev nD, Cert.Pre_me_on_mesh.fn (F := F) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) = fun _ => 1#1

theorem lt_of_pre (h : Pre m) : BitVec.toNat (tbl m 0 (ix1 0)) < 8 := me_lt _ _ _ _ _ _ (ix1 0) (h 0)

theorem ok_of_pre (h : Pre m) : Ok m := ok_of_lt m (lt_of_pre m h)

theorem frame_ideal : Cert.quiescent_AdamwIdeal (hAdamwIdeal := Cert.AdamwIdeal.Gen.facts) (hPre_me_on_mesh := Cert.Pre_me_on_mesh.Gen.facts) :=
  fun m ρ h => Cert.AdamwIdeal.Gen.frame m ρ (ok_of_pre m h)

/-- The frame, for either number format. -/
def Frame (F : FTy → Type) [FloatOps F] : Prop :=
  ∀ (m : (ℓ : Loc nD τ sig) → Buf (Elt F) ℓ) (g : Dev nD → PrngReg), Pre m →
    θ_run defs (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0

theorem frame (F : FTy → Type) [FloatOps F] : Frame F := fun m ρ h => Cert.AdamwIdeal.Gen.frame m ρ (ok_of_pre m h)

/-- The call and its idealization have one text. -/
theorem same : Cert.quiescent_Adamw (hAdamw := Cert.Adamw.Gen.facts) (hPre_me_on_mesh := Cert.Pre_me_on_mesh.Gen.facts)
    = Frame Bits := by
  sl_kernel_rfl

theorem frame_kernel : Cert.quiescent_Adamw (hAdamw := Cert.Adamw.Gen.facts) (hPre_me_on_mesh := Cert.Pre_me_on_mesh.Gen.facts) :=
  same.mpr (frame Bits)

end Cert.AdamwRun

end
-- ==== Proof.AdamwValues.lean ====
/-
  The reduction with its AdamW update adds the device's own part of a gradient and the seven parts sent to it, and computes the
  new moments and the weight's step, as the reference does with a choice of the device's part and a sum.
-/
module

public import proofs.«01_k».proof.Proof.AdamwRun
public import proofs.«01_k».proof.Proof.Gen.AdamwRefIdeal.Run
public import proofs.«01_k».proof.Proof.Gen.AdamwRefIdeal.Read
public import proofs.«01_k».proof.Proof.Rows
public import Idealize.ShloMosaic.Lib.Pipeline.ValueKit
public import Idealize.ShloMosaic.Lib.StableHlo.RunRead
public import Idealize.ShloMosaic.Lib.StableHlo.Predicate
public import Idealize.ShloMosaic.Lib.Claim

@[expose] public section

set_option maxRecDepth 16384

noncomputable section

namespace Cert.AdamwValue

open Idealize.ShloMosaic Idealize.ShloMosaic.TcCoe Idealize.SL.Sem Cert.AdamwIdeal Cert.AdamwIdeal.Gen Cert.AdamwRefIdeal.Read

/-! ## The update of one element -/

/-- The new first moment. -/
def mom (g m : Ideal .f32) : Ideal .f32 :=
  FloatOps.addf (FloatOps.mulf (FloatOps.ofBits .f32 0x3F666666#32) m) (FloatOps.mulf (FloatOps.ofBits .f32 0x3DCCCCCD#32) g)

/-- The new second moment. -/
def sec (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The step of the weight. -/
def step (g w m v : Ideal .f32) : Ideal .f32 :=
  FloatOps.mulf (FloatOps.ofBits .f32 0xBA83126F#32)
    (FloatOps.addf
      (FloatOps.divf (FloatOps.divf (mom g m) (FloatOps.ofBits .f32 0x3F26BD02#32))
        (FloatOps.addf (FloatOps.sqrt (FloatOps.divf (sec g v) (FloatOps.ofBits .f32 0x3C231ACC#32)))
          (FloatOps.ofBits .f32 0x322BCC77#32)))
      (FloatOps.mulf (FloatOps.ofBits .f32 0x3C23D70A#32) w))

theorem pay1 (g : FVec Ideal S128x896 .f32) (m : Vec Ideal S128x896 .f32) (i : S128x896.Idx) :
    k0_pay1 g m i = mom (g i) (m i) := rfl

theorem pay2 (g : FVec Ideal S128x896 .f32) (v : Vec Ideal S128x896 .f32) (i : S128x896.Idx) :
    k0_pay2 g v i = sec (g i) (v i) := rfl

theorem pay3 (g : FVec Ideal S128x896 .f32) (w m v : Vec Ideal S128x896 .f32) (i : S128x896.Idx) :
    k0_pay3 g w m v i = step (g i) (w i) (m i) (v i) := rfl

section
variable (x0 : IVec S1 32) (x1 : Vec Ideal S1024x7168 .bf16) (x2 : Vec Ideal S7x1024x896 .bf16) (x3 x4 x5 : Vec Ideal S1024x896 .f32)

theorem ref_mom (i : S1024x896.Idx) :
    val_main_v16 (F := Ideal) x0 x1 x2 x4 i = mom (val_main_v11 (F := Ideal) x0 x1 x2 i) (x4 i) := rfl

theorem ref_sec (i : S1024x896.Idx) :
    val_main_v22 (F := Ideal) x0 x1 x2 x5 i = sec (val_main_v11 (F := Ideal) x0 x1 x2 i) (x5 i) := rfl

theorem ref_step (i : S1024x896.Idx) :
    val_main_v35 (F := Ideal) x0 x1 x2 x3 x4 x5 i = step (val_main_v11 (F := Ideal) x0 x1 x2 i) (x3 i) (x4 i) (x5 i) := rfl

/-- An element of the gradient: the device's own part, and the sum of those sent to it. -/
def grad (k : Fin 8) (r : Fin 1024) (q : Fin 896) : EReal :=
  x1 (ix2 r (⟨k.val * 896 + q.val, by omega⟩ : Fin 7168)) + ∑ d : Fin 7, x2 (ix3 d r q)

/-- The choice of the part of device `me`. -/
theorem ref_own (h : (x0 (ix1 0)).toNat < 8) (r : Fin 1024) (d : Fin 8) (q : Fin 896) :
    val_main_v7 (F := Ideal) x0 x1 (ix3 r d q)
      = if d = ⟨_, h⟩ then x1 (ix2 r (⟨d.val * 896 + q.val, by omega⟩ : Fin 7168)) else 0 := by
  pointwise [val_main_v7, val_main_call0_v1, val_main_call0_v2, val_main_cst, val_main_v6, val_main_v5, val_main_v4, val_main_v3, val_main_v2, val_main_v1, val_main_v0]
  have e0 : val_main_call0_v0 (F := Ideal) Idealize.ShloMosaic.ix0 = (0 : EReal) := Ideal.ofBits_zero_f32
  rw [e0]
  by_cases e : BitVec.ofNat 32 d.val = x0 (ix1 0)
  · have e1 : d = ⟨_, h⟩ := Fin.ext (by
      show d.val = (x0 (ix1 0)).toNat
      rw [← e, BitVec.toNat_ofNat]
      exact (Nat.mod_eq_of_lt (by omega)).symm)
    rw [if_pos e1, StableHlo.Predicate.cmpi_eq_iff.mpr e]
    rfl
  · have e1 : d ≠ ⟨_, h⟩ := fun e1 => e (by
      rw [e1]
      exact BitVec.ofNat_toNat .. |>.trans (BitVec.setWidth_eq _))
    have e2 : IntOp.cmpi .eq (BitVec.ofNat 32 d.val) (x0 (ix1 0)) = 0#1 := by
      have := mt StableHlo.Predicate.cmpi_eq_iff.mp e
      generalize IntOp.cmpi .eq (BitVec.ofNat 32 d.val) (x0 (ix1 0)) = b at this ⊢
      revert b; decide
    rw [if_neg e1, e2]
    rfl

theorem ref_grad (h : (x0 (ix1 0)).toNat < 8) (r : Fin 1024) (q : Fin 896) :
    val_main_v11 (F := Ideal) x0 x1 x2 (ix2 r q) = grad x1 x2 ⟨_, h⟩ r q := by
  have e (d : Fin 8) : idx_main_v8 (ix2 r q) d = ix3 r d q := by
    funext a; match a with | ⟨0, _⟩ => rfl | ⟨1, _⟩ => rfl | ⟨2, _⟩ => rfl
  have e' (d : Fin 7) : idx_main_v10 (ix2 r q) d = ix3 d r q := by
    funext a; match a with | ⟨0, _⟩ => rfl | ⟨1, _⟩ => rfl | ⟨2, _⟩ => rfl
  rw [val_main_v11_apply, val_main_v8_apply, val_main_v10_apply]
  simp only [e, e', ref_own x0 x1 h, Finset.sum_ite_eq', Finset.mem_univ, if_true]
  have e0 : (FloatOps.ofBits .f32 0x00000000#32 : Ideal .f32) = (0 : EReal) := Ideal.ofBits_zero_f32
  rw [val_main_cst_0_apply, val_main_cst_1_apply, e0]
  show (0 + _ : EReal) + (0 + _) = _
  rw [zero_add, zero_add]
  rfl

end

variable (m : (ℓ : Loc nD τ sig) → Buf (Elt Ideal) ℓ) (hO : Ok m) (c : Dev nD)

/-- An element of the gradient from a point's blocks. -/
def bgrad (x : Vec Ideal S128x896 .bf16) (s : Vec Ideal S7x128x896 .bf16) (r : Fin 128) (q : Fin 896) : EReal :=
  x (ix2 r q) + ∑ d : Fin 7, s (ix3 d r q)

/-- The sum of the eight parts, added one after the other. -/
theorem pay4 (x : Vec Ideal S128x896 .bf16) (s : Vec Ideal S7x128x896 .bf16) (r : Fin 128) (q : Fin 896) :
    k0_pay4 x
      (View.ld s (Rect.unit ![0, 0, 0] ![1, 128, 896] inb_S7x128x896_S1x128x896_0_0_0))
      (View.ld s (Rect.unit ![1, 0, 0] ![1, 128, 896] inb_S7x128x896_S1x128x896_1_0_0))
      (View.ld s (Rect.unit ![2, 0, 0] ![1, 128, 896] inb_S7x128x896_S1x128x896_2_0_0))
      (View.ld s (Rect.unit ![3, 0, 0] ![1, 128, 896] inb_S7x128x896_S1x128x896_3_0_0))
      (View.ld s (Rect.unit ![4, 0, 0] ![1, 128, 896] inb_S7x128x896_S1x128x896_4_0_0))
      (View.ld s (Rect.unit ![5, 0, 0] ![1, 128, 896] inb_S7x128x896_S1x128x896_5_0_0))
      (View.ld s (Rect.unit ![6, 0, 0] ![1, 128, 896] inb_S7x128x896_S1x128x896_6_0_0)) (ix2 r q) = bgrad x s r q := by
  pointwise [k0_pay4]
  unfold bgrad
  simp only [Fin.sum_univ_succ, Fin.sum_univ_zero]
  simp only [add_zero, add_assoc]
  rfl

section
variable (i : grid0.Coords)
  (a2 : Memref sig .tc .vmem S128x896 .bf16) (h2 : a2.IsWhole) (a3 : Memref sig .tc .vmem S7x128x896 .bf16) (h3 : a3.IsWhole)
  (a4 : Memref sig .tc .vmem S128x896 .f32) (h4 : a4.IsWhole) (a5 : Memref sig .tc .vmem S128x896 .f32) (h5 : a5.IsWhole)
  (a6 : Memref sig .tc .vmem S128x896 .f32) (h6 : a6.IsWhole) (a7 : Memref sig .tc .vmem S128x896 .f32) (h7 : a7.IsWhole)
  (a8 : Memref sig .tc .vmem S128x896 .f32) (h8 : a8.IsWhole) (a9 : Memref sig .tc .vmem S128x896 .f32) (h9 : a9.IsWhole)
  (a10 : Memref sig .tc .vmem S128x896 .f32) (h10 : a10.IsWhole)
  (x : Vec Ideal S128x896 .bf16) (s : Vec Ideal S7x128x896 .bf16) (w mo se : Vec Ideal S128x896 .f32)
  (tb : TbBuf0 (F := Ideal) c tbM0_0) (r : Fin 128) (q : Fin 896)

theorem out5 : out0_A_5 c i a2 h2 a3 h3 a4 h4 a5 h5 a6 h6 a7 h7 a8 h8 a9 h9 a10 h10 x s w mo se tb (ix2 r q) = bgrad x s r q := by
  frame_out
  exact pay4 x s r q

theorem out6 : out0_A_6 c i a2 h2 a3 h3 a4 h4 a5 h5 a6 h6 a7 h7 a8 h8 a9 h9 a10 h10 x s w mo se tb (ix2 r q)
    = step (bgrad x s r q) (w (ix2 r q)) (mo (ix2 r q)) (se (ix2 r q)) := by
  frame_out
  rw [pay3, pay4]

theorem out7 : out0_A_7 c i a2 h2 a3 h3 a4 h4 a5 h5 a6 h6 a7 h7 a8 h8 a9 h9 a10 h10 x s w mo se tb (ix2 r q) = mom (bgrad x s r q) (mo (ix2 r q)) := by
  frame_out
  rw [pay1, pay4]

theorem out8 : out0_A_8 c i a2 h2 a3 h3 a4 h4 a5 h5 a6 h6 a7 h7 a8 h8 a9 h9 a10 h10 x s w mo se tb (ix2 r q) = sec (bgrad x s r q) (se (ix2 r q)) := by
  frame_out
  rw [pay2, pay4]

end

/-! ## The blocks -/

/-- The row of the array that a row of a point's block is. -/
def row (t : Fin (cfgM m hO).N) (r : Fin 128) : Fin 1024 :=
  ⟨t.val * 128 + r.val, by have : t.val < 8 := t.isLt; omega⟩

/-- The block numbers at a point. -/
theorem numbers : ∀ t : Fin grid0.N, ((grid0.coords t) 0).val = t.val ∧ cc0_transform_1 (grid0.coords t) = ![0, t.val, 0]
    ∧ cc0_transform_2 (grid0.coords t) = ![t.val, 0] := by
  decide +kernel

theorem index0 (t : Fin (cfgM m hO).N) :
    (pcfg0.win (adm m hO) 0).index t = ![t.val, BitVec.toNat (tbl m 0 (ix1 0))] := by
  have e := Cert.AdamwRun.transform (tbl m) (grid0.coords t)
  rw [(numbers t).1] at e
  exact e

theorem index1 (t : Fin (cfgM m hO).N) : (pcfg0.win (adm m hO) 1).index t = ![0, t.val, 0] := (numbers t).2.1

/-- The other windows are blocks of rows, in order. -/
theorem index2 (t : Fin (cfgM m hO).N) : (pcfg0.win (adm m hO) 2).index t = ![t.val, 0] := (numbers t).2.2
theorem index3 (t : Fin (cfgM m hO).N) : (pcfg0.win (adm m hO) 3).index t = ![t.val, 0] := (numbers t).2.2
theorem index4 (t : Fin (cfgM m hO).N) : (pcfg0.win (adm m hO) 4).index t = ![t.val, 0] := (numbers t).2.2
theorem index5 (t : Fin (cfgM m hO).N) : (pcfg0.win (adm m hO) 5).index t = ![t.val, 0] := (numbers t).2.2
theorem index6 (t : Fin (cfgM m hO).N) : (pcfg0.win (adm m hO) 6).index t = ![t.val, 0] := (numbers t).2.2
theorem index7 (t : Fin (cfgM m hO).N) : (pcfg0.win (adm m hO) 7).index t = ![t.val, 0] := (numbers t).2.2
theorem index8 (t : Fin (cfgM m hO).N) : (pcfg0.win (adm m hO) 8).index t = ![t.val, 0] := (numbers t).2.2

theorem blk0 (t : Fin (cfgM m hO).N) (r : Fin 128) (q : Fin 896) (h : BitVec.toNat (tbl m 0 (ix1 0)) < 8) :
    (iblk m hO c 0 t : Vec Ideal S128x896 .bf16) (ix2 r q)
      = m ((c.tc : Thread nD τ).loc main_arg1) (ix2 (row m hO t r)
        (⟨BitVec.toNat (tbl m 0 (ix1 0)) * 896 + q.val, by omega⟩ : Fin 7168)) := by
  unfold iblk
  blk_ext! [V, row]
  all_goals rw [index0]; simp

theorem blk1 (t : Fin (cfgM m hO).N) (d : Fin 7) (r : Fin 128) (q : Fin 896) :
    (iblk m hO c 1 t : Vec Ideal S7x128x896 .bf16) (ix3 d r q)
      = m ((c.tc : Thread nD τ).loc main_arg2) (ix3 d (row m hO t r) q) := by
  unfold iblk
  blk_ext! [V, row]
  all_goals rw [index1]; simp

theorem blk2 (t : Fin (cfgM m hO).N) (r : Fin 128) (q : Fin 896) :
    (iblk m hO c 2 t : Vec Ideal S128x896 .f32) (ix2 r q) = m ((c.tc : Thread nD τ).loc main_arg3) (ix2 (row m hO t r) q) := by
  unfold iblk
  blk_ext! [V, row]
  all_goals rw [index2]; simp

theorem blk3 (t : Fin (cfgM m hO).N) (r : Fin 128) (q : Fin 896) :
    (iblk m hO c 3 t : Vec Ideal S128x896 .f32) (ix2 r q) = m ((c.tc : Thread nD τ).loc main_arg4) (ix2 (row m hO t r) q) := by
  unfold iblk
  blk_ext! [V, row]
  all_goals rw [index3]; simp

theorem blk4 (t : Fin (cfgM m hO).N) (r : Fin 128) (q : Fin 896) :
    (iblk m hO c 4 t : Vec Ideal S128x896 .f32) (ix2 r q) = m ((c.tc : Thread nD τ).loc main_arg5) (ix2 (row m hO t r) q) := by
  unfold iblk
  blk_ext! [V, row]
  all_goals rw [index4]; simp

/-- A sum of parts of blocks is one of parts of arrays, where the blocks hold the arrays' elements. -/
theorem bgrad_eq (x : Vec Ideal S128x896 .bf16) (s : Vec Ideal S7x128x896 .bf16) (x1 : Vec Ideal S1024x7168 .bf16)
    (x2 : Vec Ideal S7x1024x896 .bf16) (k : Fin 8) (r : Fin 128) (r' : Fin 1024) (q : Fin 896)
    (hx : x (ix2 r q) = x1 (ix2 r' (⟨k.val * 896 + q.val, by omega⟩ : Fin 7168)))
    (hs : ∀ d, s (ix3 d r q) = x2 (ix3 d r' q)) : bgrad x s r q = grad x1 x2 k r' q := by
  unfold bgrad grad
  rw [hx]
  simp only [hs]

/-- A point's gradient is the gradient's block. -/
theorem bgrad_blk (t : Fin (cfgM m hO).N) (r : Fin 128) (q : Fin 896) (h : BitVec.toNat (tbl m 0 (ix1 0)) < 8) :
    bgrad (iblk m hO c 0 t) (iblk m hO c 1 t) r q
      = grad (m ((c.tc : Thread nD τ).loc main_arg1)) (m ((c.tc : Thread nD τ).loc main_arg2)) ⟨_, h⟩ (row m hO t r) q :=
  bgrad_eq _ _ _ _ ⟨_, h⟩ r _ q (blk0 m hO c t r q h) fun d => blk1 m hO c t d r q

/-! ## The arrays -/

/-- The gradient as an array. -/
def grads (x1 : Vec Ideal S1024x7168 .bf16) (x2 : Vec Ideal S7x1024x896 .bf16) (k : Fin 8) : Vec Ideal S1024x896 .f32 :=
  fun i => grad x1 x2 k (i 0) (i 1)

theorem grads_at (x1 : Vec Ideal S1024x7168 .bf16) (x2 : Vec Ideal S7x1024x896 .bf16) (k : Fin 8) (r : Fin 1024) (q : Fin 896) :
    grads x1 x2 k (ix2 r q) = grad x1 x2 k r q := rfl

/-- What a point leaves of the gradient. -/
theorem point5 (t : Fin (cfgM m hO).N) (r : Fin 128) (q : Fin 896) (h : BitVec.toNat (tbl m 0 (ix1 0)) < 8) :
    (outsAt0 m hO c t).1 (ix2 r q)
      = grads (m ((c.tc : Thread nD τ).loc main_arg1)) (m ((c.tc : Thread nD τ).loc main_arg2)) ⟨_, h⟩ (ix2 (row m hO t r) q) := by
  have e := out5 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t)
    (iblk m hO c 0 t) (iblk m hO c 1 t) (iblk m hO c 2 t) (iblk m hO c 3 t) (iblk m hO c 4 t) (tbl m 0) r q
  have e2 := bgrad_blk m hO c t r q h
  have e3 := e.trans e2
  unfold outsAt0
  dsimp only
  refine e3.trans ?_
  exact (grads_at ..).symm

/-- The blocks of rows cover an array. -/
theorem covers5 : ((cfgM m hO).win 5).Covers := by
  refine ⟨fun a => ?_, fun β => ⟨⟨(β (0 : Fin 2)).val, ?_⟩, flush0_5 (adm m hO) _, fun a => ⟨?_, .inl rfl⟩⟩⟩
  · match a with
    | ⟨0, _⟩ => exact (by decide : 0 < 128)
    | ⟨1, _⟩ => exact (by decide : 0 < 896)
  · have h : (β (0 : Fin 2)).val < (1024 + 128 - 1) / 128 := (β (0 : Fin 2)).isLt
    exact lt_of_lt_of_eq h N_0.symm
  · refine (congrFun (index5 m hO _) a).trans ?_
    match a with
    | ⟨0, _⟩ => rfl
    | ⟨1, _⟩ =>
      have h : (β (1 : Fin 2)).val < (896 + 896 - 1) / 896 := (β (1 : Fin 2)).isLt
      exact (Nat.lt_one_iff.mp h).symm

theorem emb5 (t : Fin (cfgM m hO).N) (r : Fin 128) (q : Fin 896) :
    ((View.whole main_v0_0).slice (((cfgM m hO).win 5).rect t)).emb (ix2 r q) = ix2 (row m hO t r) q := by
  blk_ext [row]
  all_goals rw [index5]; simp

/-- The array of the gradient after the call. -/
theorem arr5 (h : BitVec.toNat (tbl m 0 (ix1 0)) < 8) : (dats m hO 0 c).arrAt 5 (cfgM m hO).N
    = grads (m ((c.tc : Thread nD τ).loc main_arg1)) (m ((c.tc : Thread nD τ).loc main_arg2)) ⟨_, h⟩ := by
  refine (dats m hO 0 c).arrAt_eq_of_covers 5 _ (covers5 m hO) fun t hf (y : S128x896.Idx) => ?_
  blk_simp
  rw [after0_5]
  idx_vars y
  refine (point5 m hO c t y0 y1 h).trans ?_
  generalize grads (m ((c.tc : Thread nD τ).loc main_arg1)) (m ((c.tc : Thread nD τ).loc main_arg2)) ⟨_, h⟩ = G
  exact (congrArg G (emb5 m hO t y0 y1)).symm

/-- The steps of the weights, the new first moments and the new second moments as arrays. -/
def steps (x1 : Vec Ideal S1024x7168 .bf16) (x2 : Vec Ideal S7x1024x896 .bf16) (k : Fin 8) (x3 x4 x5 : Vec Ideal S1024x896 .f32) :
    Vec Ideal S1024x896 .f32 := fun i => step (grads x1 x2 k i) (x3 i) (x4 i) (x5 i)

def moms (x1 : Vec Ideal S1024x7168 .bf16) (x2 : Vec Ideal S7x1024x896 .bf16) (k : Fin 8) (x4 : Vec Ideal S1024x896 .f32) :
    Vec Ideal S1024x896 .f32 := fun i => mom (grads x1 x2 k i) (x4 i)

def secs (x1 : Vec Ideal S1024x7168 .bf16) (x2 : Vec Ideal S7x1024x896 .bf16) (k : Fin 8) (x5 : Vec Ideal S1024x896 .f32) :
    Vec Ideal S1024x896 .f32 := fun i => sec (grads x1 x2 k i) (x5 i)

theorem steps_at (x1 : Vec Ideal S1024x7168 .bf16) (x2 : Vec Ideal S7x1024x896 .bf16) (k : Fin 8)
    (x3 x4 x5 : Vec Ideal S1024x896 .f32) (r : Fin 1024) (q : Fin 896) : steps x1 x2 k x3 x4 x5 (ix2 r q)
      = step (grad x1 x2 k r q) (x3 (ix2 r q)) (x4 (ix2 r q)) (x5 (ix2 r q)) := rfl

theorem moms_at (x1 : Vec Ideal S1024x7168 .bf16) (x2 : Vec Ideal S7x1024x896 .bf16) (k : Fin 8) (x4 : Vec Ideal S1024x896 .f32)
    (r : Fin 1024) (q : Fin 896) : moms x1 x2 k x4 (ix2 r q) = mom (grad x1 x2 k r q) (x4 (ix2 r q)) := rfl

theorem secs_at (x1 : Vec Ideal S1024x7168 .bf16) (x2 : Vec Ideal S7x1024x896 .bf16) (k : Fin 8) (x5 : Vec Ideal S1024x896 .f32)
    (r : Fin 1024) (q : Fin 896) : secs x1 x2 k x5 (ix2 r q) = sec (grad x1 x2 k r q) (x5 (ix2 r q)) := rfl

/-- What a point leaves of the weight's step. -/
theorem point6 (t : Fin (cfgM m hO).N) (r : Fin 128) (q : Fin 896) (h : BitVec.toNat (tbl m 0 (ix1 0)) < 8) :
    (outsAt0 m hO c t).2.1 (ix2 r q)
      = steps (m ((c.tc : Thread nD τ).loc main_arg1)) (m ((c.tc : Thread nD τ).loc main_arg2)) ⟨_, h⟩ (m ((c.tc : Thread nD τ).loc main_arg3)) (m ((c.tc : Thread nD τ).loc main_arg4)) (m ((c.tc : Thread nD τ).loc main_arg5))
        (ix2 (row m hO t r) q) := by
  have e := out6 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t)
    (iblk m hO c 0 t) (iblk m hO c 1 t) (iblk m hO c 2 t) (iblk m hO c 3 t) (iblk m hO c 4 t) (tbl m 0) r q
  rw [bgrad_blk m hO c t r q h, blk2 m hO c t r q, blk3 m hO c t r q, blk4 m hO c t r q] at e
  unfold outsAt0
  dsimp only
  refine e.trans ?_
  exact (steps_at ..).symm

theorem covers6 : ((cfgM m hO).win 6).Covers := covers5 m hO

theorem emb6 (t : Fin (cfgM m hO).N) (r : Fin 128) (q : Fin 896) :
    ((View.whole main_v0_1).slice (((cfgM m hO).win 6).rect t)).emb (ix2 r q) = ix2 (row m hO t r) q := by
  blk_ext [row]
  all_goals rw [index6]; simp

/-- The array of the weight's step after the call. -/
theorem arr6 (h : BitVec.toNat (tbl m 0 (ix1 0)) < 8) : (dats m hO 0 c).arrAt 6 (cfgM m hO).N
    = steps (m ((c.tc : Thread nD τ).loc main_arg1)) (m ((c.tc : Thread nD τ).loc main_arg2)) ⟨_, h⟩ (m ((c.tc : Thread nD τ).loc main_arg3)) (m ((c.tc : Thread nD τ).loc main_arg4)) (m ((c.tc : Thread nD τ).loc main_arg5)) := by
  refine (dats m hO 0 c).arrAt_eq_of_covers 6 _ (covers6 m hO) fun t hf (y : S128x896.Idx) => ?_
  blk_simp
  rw [after0_6]
  idx_vars y
  refine (point6 m hO c t y0 y1 h).trans ?_
  generalize steps (m ((c.tc : Thread nD τ).loc main_arg1)) (m ((c.tc : Thread nD τ).loc main_arg2)) ⟨_, h⟩ (m ((c.tc : Thread nD τ).loc main_arg3)) (m ((c.tc : Thread nD τ).loc main_arg4)) (m ((c.tc : Thread nD τ).loc main_arg5)) = G
  exact (congrArg G (emb6 m hO t y0 y1)).symm

/-- What a point leaves of the new first moment. -/
theorem point7 (t : Fin (cfgM m hO).N) (r : Fin 128) (q : Fin 896) (h : BitVec.toNat (tbl m 0 (ix1 0)) < 8) :
    (outsAt0 m hO c t).2.2.1 (ix2 r q)
      = moms (m ((c.tc : Thread nD τ).loc main_arg1)) (m ((c.tc : Thread nD τ).loc main_arg2)) ⟨_, h⟩ (m ((c.tc : Thread nD τ).loc main_arg4))
        (ix2 (row m hO t r) q) := by
  have e := out7 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t)
    (iblk m hO c 0 t) (iblk m hO c 1 t) (iblk m hO c 2 t) (iblk m hO c 3 t) (iblk m hO c 4 t) (tbl m 0) r q
  rw [bgrad_blk m hO c t r q h, blk3 m hO c t r q] at e
  unfold outsAt0
  dsimp only
  refine e.trans ?_
  exact (moms_at ..).symm

theorem covers7 : ((cfgM m hO).win 7).Covers := covers5 m hO

theorem emb7 (t : Fin (cfgM m hO).N) (r : Fin 128) (q : Fin 896) :
    ((View.whole main_v0_2).slice (((cfgM m hO).win 7).rect t)).emb (ix2 r q) = ix2 (row m hO t r) q := by
  blk_ext [row]
  all_goals rw [index7]; simp

/-- The array of the new first moment after the call. -/
theorem arr7 (h : BitVec.toNat (tbl m 0 (ix1 0)) < 8) : (dats m hO 0 c).arrAt 7 (cfgM m hO).N
    = moms (m ((c.tc : Thread nD τ).loc main_arg1)) (m ((c.tc : Thread nD τ).loc main_arg2)) ⟨_, h⟩ (m ((c.tc : Thread nD τ).loc main_arg4)) := by
  refine (dats m hO 0 c).arrAt_eq_of_covers 7 _ (covers7 m hO) fun t hf (y : S128x896.Idx) => ?_
  blk_simp
  rw [after0_7]
  idx_vars y
  refine (point7 m hO c t y0 y1 h).trans ?_
  generalize moms (m ((c.tc : Thread nD τ).loc main_arg1)) (m ((c.tc : Thread nD τ).loc main_arg2)) ⟨_, h⟩ (m ((c.tc : Thread nD τ).loc main_arg4)) = G
  exact (congrArg G (emb7 m hO t y0 y1)).symm

/-- What a point leaves of the new second moment. -/
theorem point8 (t : Fin (cfgM m hO).N) (r : Fin 128) (q : Fin 896) (h : BitVec.toNat (tbl m 0 (ix1 0)) < 8) :
    (outsAt0 m hO c t).2.2.2 (ix2 r q)
      = secs (m ((c.tc : Thread nD τ).loc main_arg1)) (m ((c.tc : Thread nD τ).loc main_arg2)) ⟨_, h⟩ (m ((c.tc : Thread nD τ).loc main_arg5))
        (ix2 (row m hO t r) q) := by
  have e := out8 c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6 m hO t)
    (ms0_7 m hO t) (hs0_7 m hO t) (ms0_8 m hO t) (hs0_8 m hO t)
    (iblk m hO c 0 t) (iblk m hO c 1 t) (iblk m hO c 2 t) (iblk m hO c 3 t) (iblk m hO c 4 t) (tbl m 0) r q
  rw [bgrad_blk m hO c t r q h, blk4 m hO c t r q] at e
  unfold outsAt0
  dsimp only
  refine e.trans ?_
  exact (secs_at ..).symm

theorem covers8 : ((cfgM m hO).win 8).Covers := covers5 m hO

theorem emb8 (t : Fin (cfgM m hO).N) (r : Fin 128) (q : Fin 896) :
    ((View.whole main_v0_3).slice (((cfgM m hO).win 8).rect t)).emb (ix2 r q) = ix2 (row m hO t r) q := by
  blk_ext [row]
  all_goals rw [index8]; simp

/-- The array of the new second moment after the call. -/
theorem arr8 (h : BitVec.toNat (tbl m 0 (ix1 0)) < 8) : (dats m hO 0 c).arrAt 8 (cfgM m hO).N
    = secs (m ((c.tc : Thread nD τ).loc main_arg1)) (m ((c.tc : Thread nD τ).loc main_arg2)) ⟨_, h⟩ (m ((c.tc : Thread nD τ).loc main_arg5)) := by
  refine (dats m hO 0 c).arrAt_eq_of_covers 8 _ (covers8 m hO) fun t hf (y : S128x896.Idx) => ?_
  blk_simp
  rw [after0_8]
  idx_vars y
  refine (point8 m hO c t y0 y1 h).trans ?_
  generalize secs (m ((c.tc : Thread nD τ).loc main_arg1)) (m ((c.tc : Thread nD τ).loc main_arg2)) ⟨_, h⟩ (m ((c.tc : Thread nD τ).loc main_arg5)) = G
  exact (congrArg G (emb8 m hO t y0 y1)).symm

/-! ## The pair -/

/-- The run of the call, its results named. -/
theorem run (ρ : Dev nD → PrngReg) (h : BitVec.toNat (tbl m 0 (ix1 0)) < 8) :
    θ_run defs (onTc (τ := τ) (main (F := Ideal))) ⟨m, fun _ => 0, ρ⟩ fun r =>
      (∀ c : Dev nD, r.2.mem ((c.tc : Thread nD τ).loc main_v0_0) = grads (m ((c.tc : Thread nD τ).loc main_arg1)) (m ((c.tc : Thread nD τ).loc main_arg2)) ⟨_, h⟩
        ∧ r.2.mem ((c.tc : Thread nD τ).loc main_v0_1) = steps (m ((c.tc : Thread nD τ).loc main_arg1)) (m ((c.tc : Thread nD τ).loc main_arg2)) ⟨_, h⟩
          (m ((c.tc : Thread nD τ).loc main_arg3)) (m ((c.tc : Thread nD τ).loc main_arg4)) (m ((c.tc : Thread nD τ).loc main_arg5))
        ∧ r.2.mem ((c.tc : Thread nD τ).loc main_v0_2) = moms (m ((c.tc : Thread nD τ).loc main_arg1)) (m ((c.tc : Thread nD τ).loc main_arg2)) ⟨_, h⟩ (m ((c.tc : Thread nD τ).loc main_arg4))
        ∧ r.2.mem ((c.tc : Thread nD τ).loc main_v0_3) = secs (m ((c.tc : Thread nD τ).loc main_arg1)) (m ((c.tc : Thread nD τ).loc main_arg2)) ⟨_, h⟩ (m ((c.tc : Thread nD τ).loc main_arg5)))
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) := by
  have hO := Cert.AdamwRun.ok_of_lt m h
  refine θ_run_and ((θ_run defs _ _).mono (fun r hr c => ?_) (run_main m ρ hO)) (unchanged m ρ hO)
  exact ⟨((hr c).1 5).trans (arr5 m hO c h), ((hr c).1 6).trans (arr6 m hO c h), ((hr c).1 7).trans (arr7 m hO c h),
    ((hr c).1 8).trans (arr8 m hO c h)⟩

/-- The reference's gradient. -/
theorem ref_grads (x0 : IVec S1 32) (x1 : Vec Ideal S1024x7168 .bf16) (x2 : Vec Ideal S7x1024x896 .bf16) (h : (x0 (ix1 0)).toNat < 8) :
    val_main_v11 (F := Ideal) x0 x1 x2 = grads x1 x2 ⟨_, h⟩ := by
  funext i
  idx_vars i
  exact ref_grad x0 x1 x2 h i0 i1

/-- The step and the new moments of the reference. -/
theorem ref_results (x0 : IVec S1 32) (x1 : Vec Ideal S1024x7168 .bf16) (x2 : Vec Ideal S7x1024x896 .bf16)
    (x3 x4 x5 : Vec Ideal S1024x896 .f32) (h : (x0 (ix1 0)).toNat < 8) :
    val_main_v35 (F := Ideal) x0 x1 x2 x3 x4 x5 = steps x1 x2 ⟨_, h⟩ x3 x4 x5
      ∧ val_main_v16 (F := Ideal) x0 x1 x2 x4 = moms x1 x2 ⟨_, h⟩ x4
      ∧ val_main_v22 (F := Ideal) x0 x1 x2 x5 = secs x1 x2 ⟨_, h⟩ x5 := by
  refine ⟨funext fun i => (ref_step _ _ _ _ _ _ i).trans ?_, funext fun i => (ref_mom _ _ _ _ i).trans ?_,
    funext fun i => (ref_sec _ _ _ _ i).trans ?_⟩
  all_goals rw [ref_grads _ _ _ h]; rfl

/-- The call and the reference leave the same gradient, step and moments, at a word below eight. -/
theorem algebraic : algebraic_AdamwIdeal_AdamwRefIdeal (hAdamwIdeal := Cert.AdamwIdeal.Gen.facts)
    (hAdamwRefIdeal := Cert.AdamwRefIdeal.Gen.facts) (hPre_me_on_mesh := Cert.Pre_me_on_mesh.Gen.facts) := by
  intro m g m' g' hpre hagree
  have h := Cert.AdamwRun.lt_of_pre m hpre
  refine ⟨_, _, _, _, (θ_run _ _ _).mono (fun r hr c => ⟨(hr.1 c).1, (hr.1 c).2.1, (hr.1 c).2.2.1, (hr.1 c).2.2.2, hr.2 c⟩)
    (run m g h), (θ_run _ _ _).mono (fun r hr c => ?_) (Cert.AdamwRefIdeal.Value.run m' g')⟩
  obtain ⟨e0, e1, e2, e3, e4, e5⟩ := hagree c
  obtain rfl : c = 0 := Subsingleton.elim _ _
  refine ⟨(hr 0).1.trans ?_, (hr 0).2.1.trans ?_, (hr 0).2.2.1.trans ?_, (hr 0).2.2.2.1.trans ?_, (hr 0).2.2.2.2⟩
  · rw [e0, e1, e2]
    exact (val_main_v11_eq _ _ _).trans (ref_grads _ _ _ h)
  · rw [e0, e1, e2, e3, e4, e5]
    exact (val_main_v35_eq _ _ _ _ _ _).trans (ref_results _ _ _ _ _ _ h).1
  · rw [e0, e1, e2, e4]
    exact (val_main_v16_eq _ _ _ _).trans (ref_results _ _ _ (m ((Dev.tc 0).loc main_arg3)) _ (m ((Dev.tc 0).loc main_arg5)) h).2.1
  · rw [e0, e1, e2, e5]
    exact (val_main_v22_eq _ _ _ _).trans (ref_results _ _ _ (m ((Dev.tc 0).loc main_arg3)) (m ((Dev.tc 0).loc main_arg4)) _ h).2.2

end Cert.AdamwValue

end
-- ==== Proof.lean ====
/-
  The claims of this certificate, each from the module that proves it.
-/
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.MixIdeal
public import proofs.«01_k».proof.Proof.Gen.MixIdeal.Frame.RunB
public import proofs.«01_k».proof.Proof.Gen.MixRefIdeal
public import proofs.«01_k».proof.Proof.Gen.MixRefIdeal.Run
public import proofs.«01_k».proof.Proof.Gen.MixRefIdeal.Read
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Weight
public import proofs.«01_k».proof.Proof.Gen.Weight.Frame
public import proofs.«01_k».proof.Proof.Gen.WeightIdeal
public import proofs.«01_k».proof.Proof.Gen.WeightIdeal.Frame
public import proofs.«01_k».proof.Proof.Gen.WeightIdeal.Value
public import proofs.«01_k».proof.Proof.Gen.WeightRefIdeal
public import proofs.«01_k».proof.Proof.Gen.WeightRefIdeal.Run
public import proofs.«01_k».proof.Proof.Gen.WeightRefIdeal.Read
public import proofs.«01_k».proof.Proof.Gen.Stack
public import proofs.«01_k».proof.Proof.Gen.Stack.Frame
public import proofs.«01_k».proof.Proof.Gen.StackIdeal
public import proofs.«01_k».proof.Proof.Gen.StackIdeal.Frame
public import proofs.«01_k».proof.Proof.Gen.StackIdeal.Value
public import proofs.«01_k».proof.Proof.Gen.StackRefIdeal
public import proofs.«01_k».proof.Proof.Gen.StackRefIdeal.Run
public import proofs.«01_k».proof.Proof.Gen.StackRefIdeal.Read
public import proofs.«01_k».proof.Proof.Gen.Pack
public import proofs.«01_k».proof.Proof.Gen.Pack.Frame
public import proofs.«01_k».proof.Proof.Gen.PackIdeal
public import proofs.«01_k».proof.Proof.Gen.PackIdeal.Frame
public import proofs.«01_k».proof.Proof.Gen.PackIdeal.Value
public import proofs.«01_k».proof.Proof.Gen.PackRefIdeal
public import proofs.«01_k».proof.Proof.Gen.PackRefIdeal.Run
public import proofs.«01_k».proof.Proof.Gen.PackRefIdeal.Read
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Gen.Pre_in_proj_finite
public import proofs.«01_k».proof.Proof.Gen.Pre_ffn_finite
public import proofs.«01_k».proof.Proof.Gen.Pre_mix_finite
public import proofs.«01_k».proof.Proof.Gen.Pre_me_on_mesh
public import proofs.«01_k».proof.Proof.InProj
public import proofs.«01_k».proof.Proof.FfnValues
public import proofs.«01_k».proof.Proof.MixValues
public import proofs.«01_k».proof.Proof.MixerValues
public import proofs.«01_k».proof.Proof.MixFrames
public import proofs.«01_k».proof.Proof.WeightValues
public import proofs.«01_k».proof.Proof.StackValues
public import proofs.«01_k».proof.Proof.PackValues
public import proofs.«01_k».proof.Proof.AdamwRun
public import proofs.«01_k».proof.Proof.AdamwValues
public import Idealize.ShloMosaic.Adequacy
public import Idealize.ShloMosaic.Init

@[expose] public section

noncomputable section

namespace Cert.Proof

open Idealize.ShloMosaic Idealize.SL.Sem

/-- The input projection's reference ends, keeps its arguments, and has no semaphore to leave raised. -/
theorem frame_in_proj_ref : Cert.quiescent_InProjRefIdeal (hInProjRefIdeal := Cert.InProjRefIdeal.Gen.facts) := by
  intro m ρ _
  exact (θ_run Cert.InProjRefIdeal.defs _ _).mono (fun r h => ⟨fun c => (h c).2.2, sem_eq_zero_of_no_sems (by decide) r.2⟩)
    (Cert.InProjRefIdeal.Value.run m ρ)

/-- So does the feed-forward's reference. -/
theorem frame_ffn_ref : Cert.quiescent_FfnRefIdeal (hFfnRefIdeal := Cert.FfnRefIdeal.Gen.facts) := by
  intro m ρ _
  exact (θ_run Cert.FfnRefIdeal.defs _ _).mono
    (fun r h => ⟨fun c => (h c).2.2.2.2.2.2, sem_eq_zero_of_no_sems (by decide) r.2⟩) (Cert.FfnRefIdeal.Value.run m ρ)

/-- So does the mixer's reference. -/
theorem frame_mix_ref : Cert.quiescent_MixRefIdeal (hMixRefIdeal := Cert.MixRefIdeal.Gen.facts) := by
  intro m ρ _
  exact (θ_run Cert.MixRefIdeal.defs _ _).mono
    (fun r h => ⟨fun c => (h c).2.2.2.2.2.2, sem_eq_zero_of_no_sems (by decide) r.2⟩) (Cert.MixRefIdeal.Value.run m ρ)

/-- The constants the mixer's idealization names are the words the call has. -/
theorem preserves_mix : Cert.preserves_Mix_MixIdeal :=
  ⟨IdealRules.named_const.statement Cert.MixIdeal.κ "sqrt_half" .f32 0x3F3504F3#32 _ rfl,
    IdealRules.named_const.statement Cert.MixIdeal.κ "pdf_scale" .f32 0xBF38AA3B#32 _ rfl,
    IdealRules.named_const.statement Cert.MixIdeal.κ "pdf_shift" .f32 0xBFA9B21D#32 _ rfl⟩

/-- So does the reference of the mixer's forward call. -/
theorem frame_mixer_ref : Cert.quiescent_MixerRefIdeal (hMixerRefIdeal := Cert.MixerRefIdeal.Gen.facts) := by
  intro m ρ _
  exact (θ_run Cert.MixerRefIdeal.defs _ _).mono
    (fun r h => ⟨fun c => (h c).2.2.2.2, sem_eq_zero_of_no_sems (by decide) r.2⟩) (Cert.MixerRefIdeal.Value.run m ρ)

/-- So is the constant that the forward call's idealization names. -/
theorem preserves_mixer : Cert.preserves_Mixer_MixerIdeal :=
  IdealRules.named_const.statement Cert.MixerIdeal.κ "sqrt_half" .f32 0x3F3504F3#32 _ rfl

/-- So does the reference of the weights' gradient. -/
theorem frame_weight_ref : Cert.quiescent_WeightRefIdeal (hWeightRefIdeal := Cert.WeightRefIdeal.Gen.facts) := by
  intro m ρ _
  exact (θ_run Cert.WeightRefIdeal.defs _ _).mono
    (fun r h => ⟨fun c => (h c).2, sem_eq_zero_of_no_sems (by decide) r.2⟩) (Cert.WeightRefIdeal.Value.run m ρ)

/-- So does that of the stacked gradients. -/
theorem frame_stack_ref : Cert.quiescent_StackRefIdeal (hStackRefIdeal := Cert.StackRefIdeal.Gen.facts) := by
  intro m ρ _
  exact (θ_run Cert.StackRefIdeal.defs _ _).mono
    (fun r h => ⟨fun c => (h c).2, sem_eq_zero_of_no_sems (by decide) r.2⟩) (Cert.StackRefIdeal.Value.run m ρ)

/-- So does that of the packing. -/
theorem frame_pack_ref : Cert.quiescent_PackRefIdeal (hPackRefIdeal := Cert.PackRefIdeal.Gen.facts) := by
  intro m ρ _
  exact (θ_run Cert.PackRefIdeal.defs _ _).mono
    (fun r h => ⟨fun c => (h c).2.2, sem_eq_zero_of_no_sems (by decide) r.2⟩) (Cert.PackRefIdeal.Value.run m ρ)

/-- So does that of the optimiser's call, at any word `me`. -/
theorem frame_adamw_ref : Cert.quiescent_AdamwRefIdeal (hAdamwRefIdeal := Cert.AdamwRefIdeal.Gen.facts) := by
  intro m ρ _
  exact (θ_run Cert.AdamwRefIdeal.defs _ _).mono
    (fun r h => ⟨fun c => (h c).2.2.2.2, sem_eq_zero_of_no_sems (by decide) r.2⟩) (Cert.AdamwRefIdeal.Value.run m ρ)

theorem claim : Cert.Claim :=
  ⟨Cert.InProj.Gen.facts, Cert.InProjIdeal.Gen.facts, Cert.InProjRefIdeal.Gen.facts,
    Cert.Ffn.Gen.facts, Cert.FfnIdeal.Gen.facts, Cert.FfnRefIdeal.Gen.facts,
    Cert.Mix.Gen.facts, Cert.MixIdeal.Gen.facts, Cert.MixRefIdeal.Gen.facts,
    Cert.Mixer.Gen.facts, Cert.MixerIdeal.Gen.facts, Cert.MixerRefIdeal.Gen.facts,
    Cert.Weight.Gen.facts, Cert.WeightIdeal.Gen.facts, Cert.WeightRefIdeal.Gen.facts,
    Cert.Stack.Gen.facts, Cert.StackIdeal.Gen.facts, Cert.StackRefIdeal.Gen.facts,
    Cert.Pack.Gen.facts, Cert.PackIdeal.Gen.facts, Cert.PackRefIdeal.Gen.facts,
    Cert.Adamw.Gen.facts, Cert.AdamwIdeal.Gen.facts, Cert.AdamwRefIdeal.Gen.facts, Cert.Pre_in_proj_finite.Gen.facts,
    Cert.Pre_ffn_finite.Gen.facts, Cert.Pre_mix_finite.Gen.facts, Cert.Pre_me_on_mesh.Gen.facts,
    fun m ρ _ => Cert.InProj.Gen.frame m ρ, fun m ρ _ => Cert.InProjIdeal.Gen.frame m ρ,
    fun m ρ _ => Cert.InProjIdeal.Gen.frame m ρ, frame_in_proj_ref, fun m ρ _ => frame_in_proj_ref m ρ trivial,
    fun m ρ _ => Cert.Ffn.Gen.frame m ρ, fun m ρ _ => Cert.FfnIdeal.Gen.frame m ρ,
    fun m ρ _ => Cert.FfnIdeal.Gen.frame m ρ, frame_ffn_ref, fun m ρ _ => frame_ffn_ref m ρ trivial,
    Cert.MixRun.frame_kernel, Cert.MixRun.frame_ideal, fun m ρ _ => Cert.MixRun.frame_ideal m ρ trivial, frame_mix_ref,
    fun m ρ _ => frame_mix_ref m ρ trivial,
    fun m ρ _ => Cert.Mixer.Gen.frame m ρ, fun m ρ _ => Cert.MixerIdeal.Gen.frame m ρ, frame_mixer_ref,
    fun m ρ _ => Cert.Weight.Gen.frame m ρ, fun m ρ _ => Cert.WeightIdeal.Gen.frame m ρ, frame_weight_ref,
    fun m ρ _ => Cert.Stack.Gen.frame m ρ, fun m ρ _ => Cert.StackIdeal.Gen.frame m ρ, frame_stack_ref,
    fun m ρ _ => Cert.Pack.Gen.frame m ρ, fun m ρ _ => Cert.PackIdeal.Gen.frame m ρ, frame_pack_ref,
    Cert.AdamwRun.frame_kernel, Cert.AdamwRun.frame_ideal, frame_adamw_ref, fun m ρ _ => frame_adamw_ref m ρ trivial,
    trivial, Cert.InProjValue.algebraic, trivial, Cert.FfnValue.algebraic, preserves_mix, Cert.MixValue.algebraic,
    preserves_mixer, Cert.MixerValue.algebraic, trivial, Cert.WeightValue.algebraic, trivial,
    Cert.StackValue.algebraic, trivial, Cert.PackValue.algebraic,
    trivial, Cert.AdamwValue.algebraic⟩

end Cert.Proof
